-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_ones [hPre_finite_and_ones : Cert.Pre_finite_and_ones.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_ones [hPre_finite_and_ones : Cert.Pre_finite_and_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_and_ones6 [hPre_finite_and_ones6 : Cert.Pre_finite_and_ones6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_and_ones6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_and_ones6 [hPre_finite_and_ones6 : Cert.Pre_finite_and_ones6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_and_ones6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_ones [hKernelIdeal : Cert.KernelIdeal.Facts] [hPre_finite_and_ones : Cert.Pre_finite_and_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_ones [hReferenceIdeal : Cert.ReferenceIdeal.Facts] [hPre_finite_and_ones : Cert.Pre_finite_and_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite_and_ones6 [hKernel6Ideal : Cert.Kernel6Ideal.Facts] [hPre_finite_and_ones6 : Cert.Pre_finite_and_ones6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_and_ones6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite_and_ones6 [hReference6Ideal : Cert.Reference6Ideal.Facts] [hPre_finite_and_ones6 : Cert.Pre_finite_and_ones6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_and_ones6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal_pre_finite_and_ones [hKernelIdeal : Cert.KernelIdeal.Facts] [hReferenceIdeal : Cert.ReferenceIdeal.Facts] [hPre_finite_and_ones : Cert.Pre_finite_and_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  IdealRules.named_const.Statement Cert.Kernel3Ideal.κ "gelu_cubic" .f32 0x3D122279#32 ((80338380498831 / 2251799813685248 : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v50_0)) (v1 : (c : Dev Cert.Kernel3Ideal.nD) → Buf (Elt Ideal) ((c.tc : Thread Cert.Kernel3Ideal.nD Cert.Kernel3Ideal.τ).loc Cert.Kernel3Ideal.main_v50_1)) (v2 : (c : Dev Cert.Kernel3Ideal.nD) → Buf (Elt Ideal) ((c.tc : Thread Cert.Kernel3Ideal.nD Cert.Kernel3Ideal.τ).loc Cert.Kernel3Ideal.main_v50_2)) (v3 : (c : Dev Cert.Kernel3Ideal.nD) → Buf (Elt Ideal) ((c.tc : Thread Cert.Kernel3Ideal.nD Cert.Kernel3Ideal.τ).loc Cert.Kernel3Ideal.main_v50_3)) (v4 : (c : Dev Cert.Kernel3Ideal.nD) → Buf (Elt Ideal) ((c.tc : Thread Cert.Kernel3Ideal.nD Cert.Kernel3Ideal.τ).loc Cert.Kernel3Ideal.main_v50_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v50_0) = v0 c
          ∧ r.2.mem ((c.tc : Thread Cert.Kernel3Ideal.nD Cert.Kernel3Ideal.τ).loc Cert.Kernel3Ideal.main_v50_1) = v1 c
          ∧ r.2.mem ((c.tc : Thread Cert.Kernel3Ideal.nD Cert.Kernel3Ideal.τ).loc Cert.Kernel3Ideal.main_v50_2) = v2 c
          ∧ r.2.mem ((c.tc : Thread Cert.Kernel3Ideal.nD Cert.Kernel3Ideal.τ).loc Cert.Kernel3Ideal.main_v50_3) = v3 c
          ∧ r.2.mem ((c.tc : Thread Cert.Kernel3Ideal.nD Cert.Kernel3Ideal.τ).loc Cert.Kernel3Ideal.main_v50_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v157) = v0 c
          ∧ r.2.mem ((c.tc : Thread Cert.Reference3Ideal.nD Cert.Reference3Ideal.τ).loc Cert.Reference3Ideal.main_v158) = v1 c
          ∧ r.2.mem ((c.tc : Thread Cert.Reference3Ideal.nD Cert.Reference3Ideal.τ).loc Cert.Reference3Ideal.main_v159) = v2 c
          ∧ r.2.mem ((c.tc : Thread Cert.Reference3Ideal.nD Cert.Reference3Ideal.τ).loc Cert.Reference3Ideal.main_v160) = v3 c
          ∧ r.2.mem ((c.tc : Thread Cert.Reference3Ideal.nD Cert.Reference3Ideal.τ).loc Cert.Reference3Ideal.main_v161) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  IdealRules.named_const.Statement Cert.Kernel5Ideal.κ "gelu_cubic" .f32 0x3D122279#32 ((80338380498831 / 2251799813685248 : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v50_0)) (v1 : (c : Dev Cert.Kernel5Ideal.nD) → Buf (Elt Ideal) ((c.tc : Thread Cert.Kernel5Ideal.nD Cert.Kernel5Ideal.τ).loc Cert.Kernel5Ideal.main_v50_1)) (v2 : (c : Dev Cert.Kernel5Ideal.nD) → Buf (Elt Ideal) ((c.tc : Thread Cert.Kernel5Ideal.nD Cert.Kernel5Ideal.τ).loc Cert.Kernel5Ideal.main_v50_2)) (v3 : (c : Dev Cert.Kernel5Ideal.nD) → Buf (Elt Ideal) ((c.tc : Thread Cert.Kernel5Ideal.nD Cert.Kernel5Ideal.τ).loc Cert.Kernel5Ideal.main_v50_3)) (v4 : (c : Dev Cert.Kernel5Ideal.nD) → Buf (Elt Ideal) ((c.tc : Thread Cert.Kernel5Ideal.nD Cert.Kernel5Ideal.τ).loc Cert.Kernel5Ideal.main_v50_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v50_0) = v0 c
          ∧ r.2.mem ((c.tc : Thread Cert.Kernel5Ideal.nD Cert.Kernel5Ideal.τ).loc Cert.Kernel5Ideal.main_v50_1) = v1 c
          ∧ r.2.mem ((c.tc : Thread Cert.Kernel5Ideal.nD Cert.Kernel5Ideal.τ).loc Cert.Kernel5Ideal.main_v50_2) = v2 c
          ∧ r.2.mem ((c.tc : Thread Cert.Kernel5Ideal.nD Cert.Kernel5Ideal.τ).loc Cert.Kernel5Ideal.main_v50_3) = v3 c
          ∧ r.2.mem ((c.tc : Thread Cert.Kernel5Ideal.nD Cert.Kernel5Ideal.τ).loc Cert.Kernel5Ideal.main_v50_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v165) = v0 c
          ∧ r.2.mem ((c.tc : Thread Cert.Reference5Ideal.nD Cert.Reference5Ideal.τ).loc Cert.Reference5Ideal.main_v166) = v1 c
          ∧ r.2.mem ((c.tc : Thread Cert.Reference5Ideal.nD Cert.Reference5Ideal.τ).loc Cert.Reference5Ideal.main_v167) = v2 c
          ∧ r.2.mem ((c.tc : Thread Cert.Reference5Ideal.nD Cert.Reference5Ideal.τ).loc Cert.Reference5Ideal.main_v168) = v3 c
          ∧ r.2.mem ((c.tc : Thread Cert.Reference5Ideal.nD Cert.Reference5Ideal.τ).loc Cert.Reference5Ideal.main_v169) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal_pre_finite_and_ones6 [hKernel6Ideal : Cert.Kernel6Ideal.Facts] [hReference6Ideal : Cert.Reference6Ideal.Facts] [hPre_finite_and_ones6 : Cert.Pre_finite_and_ones6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_and_ones6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v27) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_and_ones : Cert.Pre_finite_and_ones.Facts) (hPre_finite_and_ones6 : Cert.Pre_finite_and_ones6.Facts),
    quiescent_Kernel (hKernel := hKernel)
    ∧ quiescent_KernelIdeal (hKernelIdeal := hKernelIdeal)
    ∧ quiescent_KernelIdeal_pre_finite_and_ones (hKernelIdeal := hKernelIdeal) (hPre_finite_and_ones := hPre_finite_and_ones)
    ∧ quiescent_ReferenceIdeal (hReferenceIdeal := hReferenceIdeal)
    ∧ quiescent_ReferenceIdeal_pre_finite_and_ones (hReferenceIdeal := hReferenceIdeal) (hPre_finite_and_ones := hPre_finite_and_ones)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_and_ones6 (hKernel6Ideal := hKernel6Ideal) (hPre_finite_and_ones6 := hPre_finite_and_ones6)
    ∧ quiescent_Reference6Ideal (hReference6Ideal := hReference6Ideal)
    ∧ quiescent_Reference6Ideal_pre_finite_and_ones6 (hReference6Ideal := hReference6Ideal) (hPre_finite_and_ones6 := hPre_finite_and_ones6)
    ∧ preserves_Kernel_KernelIdeal
    ∧ algebraic_KernelIdeal_ReferenceIdeal_pre_finite_and_ones (hKernelIdeal := hKernelIdeal) (hReferenceIdeal := hReferenceIdeal) (hPre_finite_and_ones := hPre_finite_and_ones)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_and_ones6 (hKernel6Ideal := hKernel6Ideal) (hReference6Ideal := hReference6Ideal) (hPre_finite_and_ones6 := hPre_finite_and_ones6)
-- ==== Pre_finite_and_ones.lean ====
abbrev S8x32x256x512 : Shape := ⟨4, ![8, 32, 256, 512]⟩
abbrev S8x16384x256 : Shape := ⟨3, ![8, 16384, 256]⟩
abbrev S8x32x144x512 : Shape := ⟨4, ![8, 32, 144, 512]⟩
abbrev S_ : Shape := ⟨0, ![]⟩
abbrev S8x32x1x512 : Shape := ⟨4, ![8, 32, 1, 512]⟩
abbrev S8x32x512 : Shape := ⟨3, ![8, 32, 512]⟩

class Facts : Prop where
  bitsLt_bf16_f32 : FTy.bits .bf16 < FTy.bits .f32
  bcast_S_S8x32x256x512 : S_.BroadcastsInDim S8x32x256x512 (![] : Fin 0 → Fin S8x32x256x512.rank)
  reducesTo_S8x32x256x512_S_d0_1_2_3 : S8x32x256x512.ReducesTo [0, 1, 2, 3] S_
  h_S_ : 0 < S_.numel
  bcast_S_S8x16384x256 : S_.BroadcastsInDim S8x16384x256 (![] : Fin 0 → Fin S8x16384x256.rank)
  reducesTo_S8x16384x256_S_d0_1_2 : S8x16384x256.ReducesTo [0, 1, 2] S_
  slices_S8x32x144x512_S8x32x1x512_0_0_128_0 : S8x32x144x512.Slices ![0, 0, 128, 0] S8x32x1x512
  shapeCasts_S8x32x1x512_S8x32x512 : S8x32x1x512.ShapeCasts S8x32x512
  bcast_S_S8x32x512 : S_.BroadcastsInDim S8x32x512 (![] : Fin 0 → Fin S8x32x512.rank)
  reducesTo_S8x32x512_S_d0_1_2 : S8x32x512.ReducesTo [0, 1, 2] S_

variable [Facts]

def fn {F : FTy → Type} [FloatOps F] (main_arg0 : FVec F S8x32x256x512 .bf16) (main_arg1 : FVec F S8x16384x256 .bf16) (main_arg2 : FVec F S8x32x144x512 .bf16) : IVec S_ 1 :=
  let main_v0 : FVec F S8x32x256x512 .f32 := (extf .f32 · bitsLt_bf16_f32) main_arg0
  let main_v1 : FVec F S8x32x256x512 .f32 := Host.absf main_v0
  let main_cst : FVec F S_ .f32 := constant S_ .f32 0x7F800000#32
  let main_v2 : FVec F S8x32x256x512 .f32 := broadcastInDim S8x32x256x512 ![] bcast_S_S8x32x256x512 main_cst
  let main_v3 : IVec S8x32x256x512 1 := cmpf .olt main_v1 main_v2
  let main_c : IVec S_ 1 := constantI S_ 1 1#1
  let main_v4 : IVec S_ 1 := (fun x v => Host.reduce IntOp.andi x v reducesTo_S8x32x256x512_S_d0_1_2_3 h_S_) main_v3 main_c
  let main_v5 : FVec F S8x16384x256 .f32 := (extf .f32 · bitsLt_bf16_f32) main_arg1
  let main_v6 : FVec F S8x16384x256 .f32 := Host.absf main_v5
  let main_cst_0 : FVec F S_ .f32 := constant S_ .f32 0x7F800000#32
  let main_v7 : FVec F S8x16384x256 .f32 := broadcastInDim S8x16384x256 ![] bcast_S_S8x16384x256 main_cst_0
  let main_v8 : IVec S8x16384x256 1 := cmpf .olt main_v6 main_v7
  let main_c_1 : IVec S_ 1 := constantI S_ 1 1#1
  let main_v9 : IVec S_ 1 := (fun x v => Host.reduce IntOp.andi x v reducesTo_S8x16384x256_S_d0_1_2 h_S_) main_v8 main_c_1
  let main_v10 : IVec S_ 1 := andi main_v4 main_v9
  let main_v11 : FVec F S8x32x1x512 .bf16 := (extractStridedSlice S8x32x1x512 ![0, 0, 128, 0] · slices_S8x32x144x512_S8x32x1x512_0_0_128_0) main_arg2
  let main_v12 : FVec F S8x32x512 .bf16 := shapeCast S8x32x512 main_v11 shapeCasts_S8x32x1x512_S8x32x512
  let main_v13 : FVec F S8x32x512 .f32 := (extf .f32 · bitsLt_bf16_f32) main_v12
  let main_cst_2 : FVec F S_ .f32 := constant S_ .f32 0x3F800000#32
  let main_v14 : FVec F S8x32x512 .f32 := broadcastInDim S8x32x512 ![] bcast_S_S8x32x512 main_cst_2
  let main_v15 : IVec S8x32x512 1 := cmpf .oeq main_v13 main_v14
  let main_c_3 : IVec S_ 1 := constantI S_ 1 1#1
  let main_v16 : IVec S_ 1 := (fun x v => Host.reduce IntOp.andi x v reducesTo_S8x32x512_S_d0_1_2 h_S_) main_v15 main_c_3
  let main_v17 : IVec S_ 1 := andi main_v10 main_v16
  main_v17
-- ==== Pre_finite_and_ones6.lean ====
abbrev S8x128x256x512 : Shape := ⟨4, ![8, 128, 256, 512]⟩
abbrev S8x65536x256 : Shape := ⟨3, ![8, 65536, 256]⟩
abbrev S8x128x144x512 : Shape := ⟨4, ![8, 128, 144, 512]⟩
abbrev S_ : Shape := ⟨0, ![]⟩
abbrev S8x128x1x512 : Shape := ⟨4, ![8, 128, 1, 512]⟩
abbrev S8x128x512 : Shape := ⟨3, ![8, 128, 512]⟩

class Facts : Prop where
  bitsLt_bf16_f32 : FTy.bits .bf16 < FTy.bits .f32
  bcast_S_S8x128x256x512 : S_.BroadcastsInDim S8x128x256x512 (![] : Fin 0 → Fin S8x128x256x512.rank)
  reducesTo_S8x128x256x512_S_d0_1_2_3 : S8x128x256x512.ReducesTo [0, 1, 2, 3] S_
  h_S_ : 0 < S_.numel
  bcast_S_S8x65536x256 : S_.BroadcastsInDim S8x65536x256 (![] : Fin 0 → Fin S8x65536x256.rank)
  reducesTo_S8x65536x256_S_d0_1_2 : S8x65536x256.ReducesTo [0, 1, 2] S_
  slices_S8x128x144x512_S8x128x1x512_0_0_128_0 : S8x128x144x512.Slices ![0, 0, 128, 0] S8x128x1x512
  shapeCasts_S8x128x1x512_S8x128x512 : S8x128x1x512.ShapeCasts S8x128x512
  bcast_S_S8x128x512 : S_.BroadcastsInDim S8x128x512 (![] : Fin 0 → Fin S8x128x512.rank)
  reducesTo_S8x128x512_S_d0_1_2 : S8x128x512.ReducesTo [0, 1, 2] S_

variable [Facts]

def fn {F : FTy → Type} [FloatOps F] (main_arg0 : FVec F S8x128x256x512 .bf16) (main_arg1 : FVec F S8x65536x256 .bf16) (main_arg2 : FVec F S8x128x144x512 .bf16) : IVec S_ 1 :=
  let main_v0 : FVec F S8x128x256x512 .f32 := (extf .f32 · bitsLt_bf16_f32) main_arg0
  let main_v1 : FVec F S8x128x256x512 .f32 := Host.absf main_v0
  let main_cst : FVec F S_ .f32 := constant S_ .f32 0x7F800000#32
  let main_v2 : FVec F S8x128x256x512 .f32 := broadcastInDim S8x128x256x512 ![] bcast_S_S8x128x256x512 main_cst
  let main_v3 : IVec S8x128x256x512 1 := cmpf .olt main_v1 main_v2
  let main_c : IVec S_ 1 := constantI S_ 1 1#1
  let main_v4 : IVec S_ 1 := (fun x v => Host.reduce IntOp.andi x v reducesTo_S8x128x256x512_S_d0_1_2_3 h_S_) main_v3 main_c
  let main_v5 : FVec F S8x65536x256 .f32 := (extf .f32 · bitsLt_bf16_f32) main_arg1
  let main_v6 : FVec F S8x65536x256 .f32 := Host.absf main_v5
  let main_cst_0 : FVec F S_ .f32 := constant S_ .f32 0x7F800000#32
  let main_v7 : FVec F S8x65536x256 .f32 := broadcastInDim S8x65536x256 ![] bcast_S_S8x65536x256 main_cst_0
  let main_v8 : IVec S8x65536x256 1 := cmpf .olt main_v6 main_v7
  let main_c_1 : IVec S_ 1 := constantI S_ 1 1#1
  let main_v9 : IVec S_ 1 := (fun x v => Host.reduce IntOp.andi x v reducesTo_S8x65536x256_S_d0_1_2 h_S_) main_v8 main_c_1
  let main_v10 : IVec S_ 1 := andi main_v4 main_v9
  let main_v11 : FVec F S8x128x1x512 .bf16 := (extractStridedSlice S8x128x1x512 ![0, 0, 128, 0] · slices_S8x128x144x512_S8x128x1x512_0_0_128_0) main_arg2
  let main_v12 : FVec F S8x128x512 .bf16 := shapeCast S8x128x512 main_v11 shapeCasts_S8x128x1x512_S8x128x512
  let main_v13 : FVec F S8x128x512 .f32 := (extf .f32 · bitsLt_bf16_f32) main_v12
  let main_cst_2 : FVec F S_ .f32 := constant S_ .f32 0x3F800000#32
  let main_v14 : FVec F S8x128x512 .f32 := broadcastInDim S8x128x512 ![] bcast_S_S8x128x512 main_cst_2
  let main_v15 : IVec S8x128x512 1 := cmpf .oeq main_v13 main_v14
  let main_c_3 : IVec S_ 1 := constantI S_ 1 1#1
  let main_v16 : IVec S_ 1 := (fun x v => Host.reduce IntOp.andi x v reducesTo_S8x128x512_S_d0_1_2 h_S_) main_v15 main_c_3
  let main_v17 : IVec S_ 1 := andi main_v10 main_v16
  main_v17
-- ==== Kernel.lean ====
abbrev S8x32x256x512 : Shape := ⟨4, ![8, 32, 256, 512]⟩
abbrev S8x16384x256 : Shape := ⟨3, ![8, 16384, 256]⟩
abbrev S8x32x144x512 : Shape := ⟨4, ![8, 32, 144, 512]⟩
abbrev S16384x1024 : Shape := ⟨2, ![16384, 1024]⟩
abbrev S1x16x256x512 : Shape := ⟨4, ![1, 16, 256, 512]⟩
abbrev S1x16384x256 : Shape := ⟨3, ![1, 16384, 256]⟩
abbrev S1x32x144x512 : Shape := ⟨4, ![1, 32, 144, 512]⟩
abbrev S8192x128 : Shape := ⟨2, ![8192, 128]⟩
abbrev S1024x512 : Shape := ⟨2, ![1024, 512]⟩
abbrev S8x512 : Shape := ⟨2, ![8, 512]⟩
abbrev S16x1x512 : Shape := ⟨3, ![16, 1, 512]⟩
abbrev S16x144x512 : Shape := ⟨3, ![16, 144, 512]⟩
abbrev S1x256x256 : Shape := ⟨3, ![1, 256, 256]⟩
abbrev S256x256 : Shape := ⟨2, ![256, 256]⟩
abbrev S1x1x256x512 : Shape := ⟨4, ![1, 1, 256, 512]⟩
abbrev S256x512 : Shape := ⟨2, ![256, 512]⟩
abbrev S32x8x512 : Shape := ⟨3, ![32, 8, 512]⟩
abbrev S1x1x512 : Shape := ⟨3, ![1, 1, 512]⟩
abbrev S1x512 : Shape := ⟨2, ![1, 512]⟩
abbrev S512 : Shape := ⟨1, ![512]⟩
abbrev S1x144x512 : Shape := ⟨3, ![1, 144, 512]⟩
abbrev S144x512 : Shape := ⟨2, ![144, 512]⟩
abbrev S1x1x144x512 : Shape := ⟨4, ![1, 1, 144, 512]⟩
abbrev S144x1024 : Shape := ⟨2, ![144, 1024]⟩
abbrev S144x256 : Shape := ⟨2, ![144, 256]⟩
abbrev S128x512 : Shape := ⟨2, ![128, 512]⟩
abbrev S512x128 : Shape := ⟨2, ![512, 128]⟩

abbrev nBuf : Space → Nat
  | .hbm => 4
  | .vmem => 18
  | .smem => 0
  | _ => 0

abbrev bufTy : (tb : Table) → Fin (tcTables nBuf tb) → BufTy
  | .hbm, ⟨0, _⟩ => ⟨S8x32x256x512, .bf16⟩
  | .hbm, ⟨1, _⟩ => ⟨S8x16384x256, .bf16⟩
  | .hbm, ⟨2, _⟩ => ⟨S8x32x144x512, .bf16⟩
  | .hbm, ⟨3, _⟩ => ⟨S16384x1024, .bf16⟩
  | .local _ .vmem, ⟨0, _⟩ => ⟨S1x16x256x512, .bf16⟩
  | .local _ .vmem, ⟨1, _⟩ => ⟨S1x16x256x512, .bf16⟩
  | .local _ .vmem, ⟨2, _⟩ => ⟨S1x16384x256, .bf16⟩
  | .local _ .vmem, ⟨3, _⟩ => ⟨S1x16384x256, .bf16⟩
  | .local _ .vmem, ⟨4, _⟩ => ⟨S1x32x144x512, .bf16⟩
  | .local _ .vmem, ⟨5, _⟩ => ⟨S1x32x144x512, .bf16⟩
  | .local _ .vmem, ⟨6, _⟩ => ⟨S8192x128, .bf16⟩
  | .local _ .vmem, ⟨7, _⟩ => ⟨S8192x128, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | .local _ .vmem, ⟨16, _⟩ => ⟨S16x1x512, .f32⟩
  | .local _ .vmem, ⟨17, _⟩ => ⟨S16x144x512, .f32⟩
  | _, _ => ⟨S8x32x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 8, 2], ![false, false, false]⟩

def k0_mult1 : BitVec 32 :=
  let c0_i32 : BitVec 32 := 0#32
  c0_i32
def k0_mult2 : BitVec 32 :=
  let c256_i32 : BitVec 32 := 256#32
  c256_i32
def k0_mult3 : BitVec 32 :=
  let c512_i32 : BitVec 32 := 512#32
  c512_i32
def k0_mult4 : BitVec 32 :=
  let c768_i32 : BitVec 32 := 768#32
  c768_i32
def k0_mult5 : BitVec 32 :=
  let c1024_i32 : BitVec 32 := 1024#32
  c1024_i32
def k0_mult6 : BitVec 32 :=
  let c1280_i32 : BitVec 32 := 1280#32
  c1280_i32
def k0_mult7 : BitVec 32 :=
  let c1536_i32 : BitVec 32 := 1536#32
  c1536_i32
def k0_mult8 : BitVec 32 :=
  let c1792_i32 : BitVec 32 := 1792#32
  c1792_i32
def k0_mult9 : BitVec 32 :=
  let c2048_i32 : BitVec 32 := 2048#32
  c2048_i32
def k0_mult10 : BitVec 32 :=
  let c2304_i32 : BitVec 32 := 2304#32
  c2304_i32
def k0_mult11 : BitVec 32 :=
  let c2560_i32 : BitVec 32 := 2560#32
  c2560_i32
def k0_mult12 : BitVec 32 :=
  let c2816_i32 : BitVec 32 := 2816#32
  c2816_i32
def k0_mult13 : BitVec 32 :=
  let c3072_i32 : BitVec 32 := 3072#32
  c3072_i32
def k0_mult14 : BitVec 32 :=
  let c3328_i32 : BitVec 32 := 3328#32
  c3328_i32
def k0_mult15 : BitVec 32 :=
  let c3584_i32 : BitVec 32 := 3584#32
  c3584_i32
def k0_mult16 : BitVec 32 :=
  let c3840_i32 : BitVec 32 := 3840#32
  c3840_i32
@[reducible] def k0_t1_loop : Scf.Loop 32 :=
  let c0_i32_171 : BitVec 32 := 0#32
  let c63_i32 : BitVec 32 := 63#32
  let v224 : BitVec 32 := Scalar.addi c0_i32_171 c63_i32
  let c1_i32 : BitVec 32 := 1#32
  ⟨c0_i32_171, v224, c1_i32⟩
def k0_off1 (k0_t1 : Fin k0_t1_loop.trips) (c0_i32_356 : BitVec 32) : Fin 3 → Nat :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let v590 : BitVec 32 := Scalar.addi v589 c0_i32_356
  let c4_i32_359 : BitVec 32 := 4#32
  let v593 : BitVec 32 := Scalar.shrui v590 c4_i32_359
  let v596 : Index := Scalar.indexCast v593
  let c0_361 : Index := 0#32
  let c0_362 : Index := 0#32
  ![v596.toNat, 0, 0]
def k0_off2 (k0_t1 : Fin k0_t1_loop.trips) (c0_i32_356 : BitVec 32) : Fin 3 → Nat :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let v590 : BitVec 32 := Scalar.addi v589 c0_i32_356
  let c4_i32_359 : BitVec 32 := 4#32
  let v593 : BitVec 32 := Scalar.shrui v590 c4_i32_359
  let v609 : Index := Scalar.indexCast v593
  let c0_368 : Index := 0#32
  let c0_369 : Index := 0#32
  ![v609.toNat, 0, 0]
def k0_off3 (k0_t1 : Fin k0_t1_loop.trips) (c0_i32_356 : BitVec 32) (c0_i32_370 : BitVec 32) : Fin 4 → Nat :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let v590 : BitVec 32 := Scalar.addi v589 c0_i32_356
  let c4_i32_359 : BitVec 32 := 4#32
  let v593 : BitVec 32 := Scalar.shrui v590 c4_i32_359
  let c4_i32_360 : BitVec 32 := 4#32
  let v595 : BitVec 32 := Scalar.shrui v593 c4_i32_360
  let v616 : Index := Scalar.indexCast v595
  let c2_i32 : BitVec 32 := 2#32
  let c15_i32 : BitVec 32 := 15#32
  let v594 : BitVec 32 := Scalar.andi v590 c15_i32
  let v614 : BitVec 32 := Scalar.muli c2_i32 v594
  let v615 : BitVec 32 := Scalar.addi v614 c0_i32_370
  let v617 : Index := Scalar.indexCast v615
  let c0_371 : Index := 0#32
  let c0_372 : Index := 0#32
  ![v616.toNat, v617.toNat, 0, 0]
def k0_mult17 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_357 : BitVec 32 := 4#32
  let v591 : BitVec 32 := Scalar.addi v589 c4_i32_357
  let c0_i32_358 : BitVec 32 := 0#32
  let v592 : BitVec 32 := Scalar.addi v591 c0_i32_358
  let c15_i32_381 : BitVec 32 := 15#32
  let v636 : BitVec 32 := Scalar.andi v592 c15_i32_381
  let c1024_i32_384 : BitVec 32 := 1024#32
  let v639 : BitVec 32 := Scalar.muli v636 c1024_i32_384
  let c0_i32_385 : BitVec 32 := 0#32
  let v640 : BitVec 32 := Scalar.addi v639 c0_i32_385
  v640
def k0_off4 (k0_t1 : Fin k0_t1_loop.trips) (c0_i32_358 : BitVec 32) (c0_i32_385 : BitVec 32) : Fin 3 → Nat :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_357 : BitVec 32 := 4#32
  let v591 : BitVec 32 := Scalar.addi v589 c4_i32_357
  let v592 : BitVec 32 := Scalar.addi v591 c0_i32_358
  let c4_i32_380 : BitVec 32 := 4#32
  let v635 : BitVec 32 := Scalar.shrui v592 c4_i32_380
  let c4_i32_382 : BitVec 32 := 4#32
  let v637 : BitVec 32 := Scalar.shrui v635 c4_i32_382
  let v642 : Index := Scalar.indexCast v637
  let c15_i32_381 : BitVec 32 := 15#32
  let v636 : BitVec 32 := Scalar.andi v592 c15_i32_381
  let c1024_i32_384 : BitVec 32 := 1024#32
  let v639 : BitVec 32 := Scalar.muli v636 c1024_i32_384
  let v640 : BitVec 32 := Scalar.addi v639 c0_i32_385
  let v641 : BitVec 32 := v640
  let v643 : Index := Scalar.indexCast v641
  let c0_386 : Index := 0#32
  ![v642.toNat, v643.toNat, 0]
def k0_off5 (k0_t1 : Fin k0_t1_loop.trips) (c0_i32_358 : BitVec 32) : Fin 4 → Nat :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_357 : BitVec 32 := 4#32
  let v591 : BitVec 32 := Scalar.addi v589 c4_i32_357
  let v592 : BitVec 32 := Scalar.addi v591 c0_i32_358
  let c4_i32_380 : BitVec 32 := 4#32
  let v635 : BitVec 32 := Scalar.shrui v592 c4_i32_380
  let c4_i32_382 : BitVec 32 := 4#32
  let v637 : BitVec 32 := Scalar.shrui v635 c4_i32_382
  let v646 : Index := Scalar.indexCast v637
  let c15_i32_383 : BitVec 32 := 15#32
  let v638 : BitVec 32 := Scalar.andi v635 c15_i32_383
  let v647 : Index := Scalar.indexCast v638
  let c0_387 : Index := 0#32
  let c0_388 : Index := 0#32
  ![v646.toNat, v647.toNat, 0, 0]
def k0_mult18 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_357 : BitVec 32 := 4#32
  let v591 : BitVec 32 := Scalar.addi v589 c4_i32_357
  let c0_i32_358 : BitVec 32 := 0#32
  let v592 : BitVec 32 := Scalar.addi v591 c0_i32_358
  let c15_i32_381 : BitVec 32 := 15#32
  let v636 : BitVec 32 := Scalar.andi v592 c15_i32_381
  let c1024_i32_396 : BitVec 32 := 1024#32
  let v664 : BitVec 32 := Scalar.muli v636 c1024_i32_396
  let c256_i32_397 : BitVec 32 := 256#32
  let v665 : BitVec 32 := Scalar.addi v664 c256_i32_397
  v665
def k0_mult19 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_357 : BitVec 32 := 4#32
  let v591 : BitVec 32 := Scalar.addi v589 c4_i32_357
  let c0_i32_358 : BitVec 32 := 0#32
  let v592 : BitVec 32 := Scalar.addi v591 c0_i32_358
  let c15_i32_381 : BitVec 32 := 15#32
  let v636 : BitVec 32 := Scalar.andi v592 c15_i32_381
  let c1024_i32_408 : BitVec 32 := 1024#32
  let v690 : BitVec 32 := Scalar.muli v636 c1024_i32_408
  let c512_i32_409 : BitVec 32 := 512#32
  let v691 : BitVec 32 := Scalar.addi v690 c512_i32_409
  v691
def k0_mult20 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_357 : BitVec 32 := 4#32
  let v591 : BitVec 32 := Scalar.addi v589 c4_i32_357
  let c0_i32_358 : BitVec 32 := 0#32
  let v592 : BitVec 32 := Scalar.addi v591 c0_i32_358
  let c15_i32_381 : BitVec 32 := 15#32
  let v636 : BitVec 32 := Scalar.andi v592 c15_i32_381
  let c1024_i32_422 : BitVec 32 := 1024#32
  let v720 : BitVec 32 := Scalar.muli v636 c1024_i32_422
  let c768_i32_423 : BitVec 32 := 768#32
  let v721 : BitVec 32 := Scalar.addi v720 c768_i32_423
  v721
def k0_mult21 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_434 : BitVec 32 := 4#32
  let v742 : BitVec 32 := Scalar.addi v589 c4_i32_434
  let c1_i32_435 : BitVec 32 := 1#32
  let v743 : BitVec 32 := Scalar.addi v742 c1_i32_435
  let c15_i32_460 : BitVec 32 := 15#32
  let v787 : BitVec 32 := Scalar.andi v743 c15_i32_460
  let c1024_i32_463 : BitVec 32 := 1024#32
  let v790 : BitVec 32 := Scalar.muli v787 c1024_i32_463
  let c0_i32_464 : BitVec 32 := 0#32
  let v791 : BitVec 32 := Scalar.addi v790 c0_i32_464
  v791
def k0_mult22 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_434 : BitVec 32 := 4#32
  let v742 : BitVec 32 := Scalar.addi v589 c4_i32_434
  let c1_i32_435 : BitVec 32 := 1#32
  let v743 : BitVec 32 := Scalar.addi v742 c1_i32_435
  let c15_i32_460 : BitVec 32 := 15#32
  let v787 : BitVec 32 := Scalar.andi v743 c15_i32_460
  let c1024_i32_475 : BitVec 32 := 1024#32
  let v815 : BitVec 32 := Scalar.muli v787 c1024_i32_475
  let c256_i32_476 : BitVec 32 := 256#32
  let v816 : BitVec 32 := Scalar.addi v815 c256_i32_476
  v816
def k0_mult23 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_434 : BitVec 32 := 4#32
  let v742 : BitVec 32 := Scalar.addi v589 c4_i32_434
  let c1_i32_435 : BitVec 32 := 1#32
  let v743 : BitVec 32 := Scalar.addi v742 c1_i32_435
  let c15_i32_460 : BitVec 32 := 15#32
  let v787 : BitVec 32 := Scalar.andi v743 c15_i32_460
  let c1024_i32_487 : BitVec 32 := 1024#32
  let v841 : BitVec 32 := Scalar.muli v787 c1024_i32_487
  let c512_i32_488 : BitVec 32 := 512#32
  let v842 : BitVec 32 := Scalar.addi v841 c512_i32_488
  v842
def k0_mult24 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_434 : BitVec 32 := 4#32
  let v742 : BitVec 32 := Scalar.addi v589 c4_i32_434
  let c1_i32_435 : BitVec 32 := 1#32
  let v743 : BitVec 32 := Scalar.addi v742 c1_i32_435
  let c15_i32_460 : BitVec 32 := 15#32
  let v787 : BitVec 32 := Scalar.andi v743 c15_i32_460
  let c1024_i32_501 : BitVec 32 := 1024#32
  let v871 : BitVec 32 := Scalar.muli v787 c1024_i32_501
  let c768_i32_502 : BitVec 32 := 768#32
  let v872 : BitVec 32 := Scalar.addi v871 c768_i32_502
  v872
def k0_mult25 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_513 : BitVec 32 := 4#32
  let v893 : BitVec 32 := Scalar.addi v589 c4_i32_513
  let c2_i32_514 : BitVec 32 := 2#32
  let v894 : BitVec 32 := Scalar.addi v893 c2_i32_514
  let c15_i32_539 : BitVec 32 := 15#32
  let v938 : BitVec 32 := Scalar.andi v894 c15_i32_539
  let c1024_i32_542 : BitVec 32 := 1024#32
  let v941 : BitVec 32 := Scalar.muli v938 c1024_i32_542
  let c0_i32_543 : BitVec 32 := 0#32
  let v942 : BitVec 32 := Scalar.addi v941 c0_i32_543
  v942
def k0_mult26 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_513 : BitVec 32 := 4#32
  let v893 : BitVec 32 := Scalar.addi v589 c4_i32_513
  let c2_i32_514 : BitVec 32 := 2#32
  let v894 : BitVec 32 := Scalar.addi v893 c2_i32_514
  let c15_i32_539 : BitVec 32 := 15#32
  let v938 : BitVec 32 := Scalar.andi v894 c15_i32_539
  let c1024_i32_554 : BitVec 32 := 1024#32
  let v966 : BitVec 32 := Scalar.muli v938 c1024_i32_554
  let c256_i32_555 : BitVec 32 := 256#32
  let v967 : BitVec 32 := Scalar.addi v966 c256_i32_555
  v967
def k0_mult27 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_513 : BitVec 32 := 4#32
  let v893 : BitVec 32 := Scalar.addi v589 c4_i32_513
  let c2_i32_514 : BitVec 32 := 2#32
  let v894 : BitVec 32 := Scalar.addi v893 c2_i32_514
  let c15_i32_539 : BitVec 32 := 15#32
  let v938 : BitVec 32 := Scalar.andi v894 c15_i32_539
  let c1024_i32_566 : BitVec 32 := 1024#32
  let v992 : BitVec 32 := Scalar.muli v938 c1024_i32_566
  let c512_i32_567 : BitVec 32 := 512#32
  let v993 : BitVec 32 := Scalar.addi v992 c512_i32_567
  v993
def k0_mult28 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_513 : BitVec 32 := 4#32
  let v893 : BitVec 32 := Scalar.addi v589 c4_i32_513
  let c2_i32_514 : BitVec 32 := 2#32
  let v894 : BitVec 32 := Scalar.addi v893 c2_i32_514
  let c15_i32_539 : BitVec 32 := 15#32
  let v938 : BitVec 32 := Scalar.andi v894 c15_i32_539
  let c1024_i32_580 : BitVec 32 := 1024#32
  let v1022 : BitVec 32 := Scalar.muli v938 c1024_i32_580
  let c768_i32_581 : BitVec 32 := 768#32
  let v1023 : BitVec 32 := Scalar.addi v1022 c768_i32_581
  v1023
def k0_mult29 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_591 : BitVec 32 := 4#32
  let v1044 : BitVec 32 := Scalar.addi v589 c4_i32_591
  let c3_i32_592 : BitVec 32 := 3#32
  let v1045 : BitVec 32 := Scalar.addi v1044 c3_i32_592
  let c15_i32_617 : BitVec 32 := 15#32
  let v1089 : BitVec 32 := Scalar.andi v1045 c15_i32_617
  let c1024_i32_620 : BitVec 32 := 1024#32
  let v1092 : BitVec 32 := Scalar.muli v1089 c1024_i32_620
  let c0_i32_621 : BitVec 32 := 0#32
  let v1093 : BitVec 32 := Scalar.addi v1092 c0_i32_621
  v1093
def k0_mult30 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_591 : BitVec 32 := 4#32
  let v1044 : BitVec 32 := Scalar.addi v589 c4_i32_591
  let c3_i32_592 : BitVec 32 := 3#32
  let v1045 : BitVec 32 := Scalar.addi v1044 c3_i32_592
  let c15_i32_617 : BitVec 32 := 15#32
  let v1089 : BitVec 32 := Scalar.andi v1045 c15_i32_617
  let c1024_i32_632 : BitVec 32 := 1024#32
  let v1117 : BitVec 32 := Scalar.muli v1089 c1024_i32_632
  let c256_i32_633 : BitVec 32 := 256#32
  let v1118 : BitVec 32 := Scalar.addi v1117 c256_i32_633
  v1118
def k0_mult31 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_591 : BitVec 32 := 4#32
  let v1044 : BitVec 32 := Scalar.addi v589 c4_i32_591
  let c3_i32_592 : BitVec 32 := 3#32
  let v1045 : BitVec 32 := Scalar.addi v1044 c3_i32_592
  let c15_i32_617 : BitVec 32 := 15#32
  let v1089 : BitVec 32 := Scalar.andi v1045 c15_i32_617
  let c1024_i32_644 : BitVec 32 := 1024#32
  let v1143 : BitVec 32 := Scalar.muli v1089 c1024_i32_644
  let c512_i32_645 : BitVec 32 := 512#32
  let v1144 : BitVec 32 := Scalar.addi v1143 c512_i32_645
  v1144
def k0_mult32 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_591 : BitVec 32 := 4#32
  let v1044 : BitVec 32 := Scalar.addi v589 c4_i32_591
  let c3_i32_592 : BitVec 32 := 3#32
  let v1045 : BitVec 32 := Scalar.addi v1044 c3_i32_592
  let c15_i32_617 : BitVec 32 := 15#32
  let v1089 : BitVec 32 := Scalar.andi v1045 c15_i32_617
  let c1024_i32_658 : BitVec 32 := 1024#32
  let v1173 : BitVec 32 := Scalar.muli v1089 c1024_i32_658
  let c768_i32_659 : BitVec 32 := 768#32
  let v1174 : BitVec 32 := Scalar.addi v1173 c768_i32_659
  v1174
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  let c0_i32_1 : BitVec 32 := 0#32
  ![arg1.toNat, v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S1x16x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x32x144x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x32x256x512 : Shape := ⟨4, ![8, 32, 256, 512]⟩
abbrev S8x16384x256 : Shape := ⟨3, ![8, 16384, 256]⟩
abbrev S8x32x144x512 : Shape := ⟨4, ![8, 32, 144, 512]⟩
abbrev S32x512x8x256 : Shape := ⟨4, ![32, 512, 8, 256]⟩
abbrev S16384x8x256 : Shape := ⟨3, ![16384, 8, 256]⟩
abbrev S8x32x128x512 : Shape := ⟨4, ![8, 32, 128, 512]⟩
abbrev S32x512x8x128 : Shape := ⟨4, ![32, 512, 8, 128]⟩
abbrev S16384x8x128 : Shape := ⟨3, ![16384, 8, 128]⟩
abbrev S8x16384x16384 : Shape := ⟨3, ![8, 16384, 16384]⟩
abbrev S_ : Shape := ⟨0, ![]⟩
abbrev S8x16384 : Shape := ⟨2, ![8, 16384]⟩
abbrev S8x16384x1 : Shape := ⟨3, ![8, 16384, 1]⟩
abbrev S8x128x16384 : Shape := ⟨3, ![8, 128, 16384]⟩
abbrev S16384x1024 : Shape := ⟨2, ![16384, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8x32x256x512, .bf16⟩
  | .hbm, ⟨1, _⟩ => ⟨S8x16384x256, .bf16⟩
  | .hbm, ⟨2, _⟩ => ⟨S8x32x144x512, .bf16⟩
  | .hbm, ⟨3, _⟩ => ⟨S8x32x256x512, .f32⟩
  | .hbm, ⟨4, _⟩ => ⟨S32x512x8x256, .f32⟩
  | .hbm, ⟨5, _⟩ => ⟨S16384x8x256, .f32⟩
  | .hbm, ⟨6, _⟩ => ⟨S8x32x128x512, .bf16⟩
  | .hbm, ⟨7, _⟩ => ⟨S8x32x128x512, .f32⟩
  | .hbm, ⟨8, _⟩ => ⟨S32x512x8x128, .f32⟩
  | .hbm, ⟨9, _⟩ => ⟨S16384x8x128, .f32⟩
  | .hbm, ⟨10, _⟩ => ⟨S8x16384x256, .f32⟩
  | .hbm, ⟨11, _⟩ => ⟨S8x16384x16384, .f32⟩
  | .hbm, ⟨12, _⟩ => ⟨S_, .f32⟩
  | .hbm, ⟨13, _⟩ => ⟨S_, .f32⟩
  | .hbm, ⟨14, _⟩ => ⟨S8x16384x16384, .f32⟩
  | .hbm, ⟨15, _⟩ => ⟨S8x16384x16384, .f32⟩
  | .hbm, ⟨16, _⟩ => ⟨S_, .f32⟩
  | .hbm, ⟨17, _⟩ => ⟨S8x16384, .f32⟩
  | .hbm, ⟨18, _⟩ => ⟨S_, .f32⟩
  | .hbm, ⟨19, _⟩ => ⟨S8x16384, .f32⟩
  | .hbm, ⟨20, _⟩ => ⟨S8x16384, .f32⟩
  | .hbm, ⟨21, _⟩ => ⟨S8x16384x1, .f32⟩
  | .hbm, ⟨22, _⟩ => ⟨S8x16384x16384, .f32⟩
  | .hbm, ⟨23, _⟩ => ⟨S8x16384x16384, .f32⟩
  | .hbm, ⟨24, _⟩ => ⟨S8x16384x16384, .f32⟩
  | .hbm, ⟨25, _⟩ => ⟨S_, .f32⟩
  | .hbm, ⟨26, _⟩ => ⟨S8x16384, .f32⟩
  | .hbm, ⟨27, _⟩ => ⟨S8x16384x1, .f32⟩
  | .hbm, ⟨28, _⟩ => ⟨S8x16384x16384, .f32⟩
  | .hbm, ⟨29, _⟩ => ⟨S8x16384x16384, .f32⟩
  | .hbm, ⟨30, _⟩ => ⟨S8x128x16384, .f32⟩
  | .hbm, ⟨31, _⟩ => ⟨S16384x8x128, .f32⟩
  | .hbm, ⟨32, _⟩ => ⟨S16384x1024, .f32⟩
  | .hbm, ⟨33, _⟩ => ⟨S16384x1024, .bf16⟩
  | _, _ => ⟨S8x32x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Kernel2.lean ====
abbrev S1x16384x1024 : Shape := ⟨3, ![1, 16384, 1024]⟩
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x4096 : Shape := ⟨2, ![512, 4096]⟩

abbrev nBuf : Space → Nat
  | .hbm => 16
  | .vmem => 15
  | .smem => 0
  | _ => 0

abbrev bufTy : (tb : Table) → Fin (tcTables nBuf tb) → BufTy
  | .hbm, ⟨0, _⟩ => ⟨S1x16384x1024, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S16384x1024, .f32⟩
  | .hbm, ⟨10, _⟩ => ⟨S1024x1024, .bf16⟩
  | .hbm, ⟨11, _⟩ => ⟨S1x1024, .f32⟩
  | .hbm, ⟨12, _⟩ => ⟨S1024x4096, .bf16⟩
  | .hbm, ⟨13, _⟩ => ⟨S4096x1024, .bf16⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel2Ideal.lean ====
abbrev S1x16384x1024 : Shape := ⟨3, ![1, 16384, 1024]⟩
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x4096 : Shape := ⟨2, ![512, 4096]⟩

abbrev nBuf : Space → Nat
  | .hbm => 16
  | .vmem => 15
  | .smem => 0
  | _ => 0

abbrev bufTy : (tb : Table) → Fin (tcTables nBuf tb) → BufTy
  | .hbm, ⟨0, _⟩ => ⟨S1x16384x1024, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S16384x1024, .f32⟩
  | .hbm, ⟨10, _⟩ => ⟨S1024x1024, .bf16⟩
  | .hbm, ⟨11, _⟩ => ⟨S1x1024, .f32⟩
  | .hbm, ⟨12, _⟩ => ⟨S1024x4096, .bf16⟩
  | .hbm, ⟨13, _⟩ => ⟨S4096x1024, .bf16⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S1x16384x1024 : Shape := ⟨3, ![1, 16384, 1024]⟩
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 56
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S16384x4096, .f32⟩
  | .hbm, ⟨34, _⟩ => ⟨S_, .f32⟩
  | .hbm, ⟨35, _⟩ => ⟨S16384x4096, .f32⟩
  | .hbm, ⟨36, _⟩ => ⟨S16384x4096, .f32⟩
  | .hbm, ⟨37, _⟩ => ⟨S16384x4096, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_cst : Ref sig .tc := ⟨.hbm, 34, rfl⟩
abbrev main_call0_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Kernel3.lean ====
abbrev S1x16384x1024 : Shape := ⟨3, ![1, 16384, 1024]⟩
abbrev S1024 : Shape := ⟨1, ![1024]⟩
abbrev S1024x4800 : Shape := ⟨2, ![1024, 4800]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S8x128x128 : Shape := ⟨3, ![8, 128, 128]⟩
abbrev S8x128 : Shape := ⟨2, ![8, 128]⟩
abbrev S1024x704 : Shape := ⟨2, ![1024, 704]⟩
abbrev S_ : Shape := ⟨0, ![]⟩
abbrev S1024x64 : Shape := ⟨2, ![1024, 64]⟩
abbrev S1024x4096 : Shape := ⟨2, ![1024, 4096]⟩
abbrev S1024x4864 : Shape := ⟨2, ![1024, 4864]⟩
abbrev S1536x384 : Shape := ⟨2, ![1536, 384]⟩
abbrev S256x8x256 : Shape := ⟨3, ![256, 8, 256]⟩
abbrev S256x8x128 : Shape := ⟨3, ![256, 8, 128]⟩
abbrev S256x1024 : Shape := ⟨2, ![256, 1024]⟩
abbrev S1024x256 : Shape := ⟨2, ![1024, 256]⟩
abbrev S128x8 : Shape := ⟨2, ![128, 8]⟩
abbrev S128x8x128 : Shape := ⟨3, ![128, 8, 128]⟩
abbrev S128x1024 : Shape := ⟨2, ![128, 1024]⟩
abbrev S1x1024 : Shape := ⟨2, ![1, 1024]⟩
abbrev S1x384 : Shape := ⟨2, ![1, 384]⟩
abbrev S1x256 : Shape := ⟨2, ![1, 256]⟩
abbrev S16384x1024 : Shape := ⟨2, ![16384, 1024]⟩
abbrev S16384 : Shape := ⟨1, ![16384]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S16384x128 : Shape := ⟨2, ![16384, 128]⟩
abbrev S32x16384 : Shape := ⟨2, ![32, 16384]⟩
abbrev S8x32x256x512 : Shape := ⟨4, ![8, 32, 256, 512]⟩
abbrev S8x16384x256 : Shape := ⟨3, ![8, 16384, 256]⟩
abbrev S8x32x144x512 : Shape := ⟨4, ![8, 32, 144, 512]⟩
abbrev S512x1024 : Shape := ⟨2, ![512, 1024]⟩
abbrev S512x128 : Shape := ⟨2, ![512, 128]⟩
abbrev S32x512 : Shape := ⟨2, ![32, 512]⟩
abbrev S8x1x256x512 : Shape := ⟨4, ![8, 1, 256, 512]⟩
abbrev S8x512x256 : Shape := ⟨3, ![8, 512, 256]⟩
abbrev S8x1x144x512 : Shape := ⟨4, ![8, 1, 144, 512]⟩
abbrev S256x1 : Shape := ⟨2, ![256, 1]⟩
abbrev S1024x384 : Shape := ⟨2, ![1024, 384]⟩
abbrev S256x384 : Shape := ⟨2, ![256, 384]⟩
abbrev S512x384 : Shape := ⟨2, ![512, 384]⟩
abbrev S256x256 : Shape := ⟨2, ![256, 256]⟩
abbrev S512x256 : Shape := ⟨2, ![512, 256]⟩
abbrev S1024x128 : Shape := ⟨2, ![1024, 128]⟩
abbrev S256x128 : Shape := ⟨2, ![256, 128]⟩
abbrev S1024x1024 : Shape := ⟨2, ![1024, 1024]⟩
abbrev S512 : Shape := ⟨1, ![512]⟩
abbrev S512x1 : Shape := ⟨2, ![512, 1]⟩
abbrev S384x512 : Shape := ⟨2, ![384, 512]⟩
abbrev S256x512 : Shape := ⟨2, ![256, 512]⟩
abbrev S128x128 : Shape := ⟨2, ![128, 128]⟩
abbrev S128x512 : Shape := ⟨2, ![128, 512]⟩
abbrev S1x128x128 : Shape := ⟨3, ![1, 128, 128]⟩
abbrev S1536x512 : Shape := ⟨2, ![1536, 512]⟩
abbrev S1x1x128x512 : Shape := ⟨4, ![1, 1, 128, 512]⟩
abbrev S1x1x32x512 : Shape := ⟨4, ![1, 1, 32, 512]⟩
abbrev S64x512 : Shape := ⟨2, ![64, 512]⟩
abbrev S1x1x64x512 : Shape := ⟨4, ![1, 1, 64, 512]⟩
abbrev S1024x512 : Shape := ⟨2, ![1024, 512]⟩
abbrev S1x512x128 : Shape := ⟨3, ![1, 512, 128]⟩
abbrev S16x512 : Shape := ⟨2, ![16, 512]⟩
abbrev S1x1x16x512 : Shape := ⟨4, ![1, 1, 16, 512]⟩

abbrev nBuf : Space → Nat
  | .hbm => 72
  | .vmem => 32
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1024x4800, .f32⟩
  | .hbm, ⟨3, _⟩ => ⟨S384, .f32⟩
  | .hbm, ⟨4, _⟩ => ⟨S384x1536, .f32⟩
  | .hbm, ⟨5, _⟩ => ⟨S256, .f32⟩
  | .hbm, ⟨6, _⟩ => ⟨S256x2048, .f32⟩
  | .hbm, ⟨7, _⟩ => ⟨S1024, .f32⟩
  | .hbm, ⟨8, _⟩ => ⟨S8x128x128, .f32⟩
  | .hbm, ⟨9, _⟩ => ⟨S8x128, .f32⟩
  | .hbm, ⟨10, _⟩ => ⟨S1024x704, .f32⟩
  | .hbm, ⟨11, _⟩ => ⟨S_, .f32⟩
  | .hbm, ⟨12, _⟩ => ⟨S1024x64, .f32⟩
  | .hbm, ⟨13, _⟩ => ⟨S1024x4096, .f32⟩
  | .hbm, ⟨14, _⟩ => ⟨S1024x4864, .f32⟩
  | .hbm, ⟨15, _⟩ => ⟨S1024x4864, .bf16⟩
  | .hbm, ⟨16, _⟩ => ⟨S1536x384, .f32⟩
  | .hbm, ⟨17, _⟩ => ⟨S1536x384, .bf16⟩
  | .hbm, ⟨18, _⟩ => ⟨S256x8x256, .f32⟩
  | .hbm, ⟨19, _⟩ => ⟨S256x8x128, .f32⟩
  | .hbm, ⟨20, _⟩ => ⟨S256x1024, .f32⟩
  | .hbm, ⟨21, _⟩ => ⟨S256x1024, .bf16⟩
  | .hbm, ⟨22, _⟩ => ⟨S256x8x128, .f32⟩
  | .hbm, ⟨23, _⟩ => ⟨S256x1024, .f32⟩
  | .hbm, ⟨24, _⟩ => ⟨S1024x256, .f32⟩
  | .hbm, ⟨25, _⟩ => ⟨S1024x256, .bf16⟩
  | .hbm, ⟨26, _⟩ => ⟨S128x8, .f32⟩
  | .hbm, ⟨27, _⟩ => ⟨S128x8x128, .f32⟩
  | .hbm, ⟨28, _⟩ => ⟨S128x1024, .f32⟩
  | .hbm, ⟨29, _⟩ => ⟨S1x1024, .f32⟩
  | .hbm, ⟨30, _⟩ => ⟨S1x384, .f32⟩
  | .hbm, ⟨31, _⟩ => ⟨S1x256, .f32⟩
  | .hbm, ⟨32, _⟩ => ⟨S1x1024, .f32⟩
  | .hbm, ⟨33, _⟩ => ⟨S8x128x128, .bf16⟩
  | .hbm, ⟨34, _⟩ => ⟨S16384x1024, .f32⟩
  | .hbm, ⟨35, _⟩ => ⟨S16384, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S16384x1, .f32⟩
  | .hbm, ⟨51, _⟩ => ⟨S1x32, .f32⟩
  | .hbm, ⟨52, _⟩ => ⟨S16384x32, .f32⟩
  | .hbm, ⟨53, _⟩ => ⟨S16384x32, .f32⟩
  | .hbm, ⟨54, _⟩ => ⟨S16384x32, .f32⟩
  | .hbm, ⟨55, _⟩ => ⟨S16384x32, .f32⟩
  | .hbm, ⟨56, _⟩ => ⟨S16384x32, .f32⟩
  | .hbm, ⟨57, _⟩ => ⟨S_, .f32⟩
  | .hbm, ⟨58, _⟩ => ⟨S16384x32, .f32⟩
  | .hbm, ⟨59, _⟩ => ⟨S_, .f32⟩
  | .hbm, ⟨60, _⟩ => ⟨S16384x64, .f32⟩
  | .hbm, ⟨61, _⟩ => ⟨S16384x128, .f32⟩
  | .hbm, ⟨62, _⟩ => ⟨S16384x32, .f32⟩
  | .hbm, ⟨63, _⟩ => ⟨S16384x128, .f32⟩
  | .hbm, ⟨64, _⟩ => ⟨S16384x128, .f32⟩
  | .hbm, ⟨65, _⟩ => ⟨S32x16384, .f32⟩
  | .hbm, ⟨66, _⟩ => ⟨S32x16384, .f32⟩
  | .hbm, ⟨67, _⟩ => ⟨S8x32x256x512, .bf16⟩
  | .hbm, ⟨68, _⟩ => ⟨S8x16384x256, .bf16⟩
  | .hbm, ⟨69, _⟩ => ⟨S8x32x144x512, .bf16⟩
  | .hbm, ⟨70, _⟩ => ⟨S16384x1024, .bf16⟩
  | .hbm, ⟨71, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4864, .bf16⟩
  | .local _ .vmem, ⟨4, _⟩ => ⟨S1x384, .f32⟩
  | .local _ .vmem, ⟨5, _⟩ => ⟨S1536x384, .bf16⟩
  | .local _ .vmem, ⟨6, _⟩ => ⟨S1x256, .f32⟩
  | .local _ .vmem, ⟨7, _⟩ => ⟨S256x1024, .bf16⟩
  | .local _ .vmem, ⟨8, _⟩ => ⟨S1024x256, .bf16⟩
  | .local _ .vmem, ⟨9, _⟩ => ⟨S1x1024, .f32⟩
  | .local _ .vmem, ⟨10, _⟩ => ⟨S8x128x128, .bf16⟩
  | .local _ .vmem, ⟨11, _⟩ => ⟨S128x1024, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S32x512, .f32⟩
  | .local _ .vmem, ⟨19, _⟩ => ⟨S32x512, .f32⟩
  | .local _ .vmem, ⟨20, _⟩ => ⟨S32x512, .f32⟩
  | .local _ .vmem, ⟨21, _⟩ => ⟨S32x512, .f32⟩
  | .local _ .vmem, ⟨22, _⟩ => ⟨S8x1x256x512, .bf16⟩
  | .local _ .vmem, ⟨23, _⟩ => ⟨S8x1x256x512, .bf16⟩
  | .local _ .vmem, ⟨24, _⟩ => ⟨S8x512x256, .bf16⟩
  | .local _ .vmem, ⟨25, _⟩ => ⟨S8x512x256, .bf16⟩
  | .local _ .vmem, ⟨26, _⟩ => ⟨S8x1x144x512, .bf16⟩
  | .local _ .vmem, ⟨27, _⟩ => ⟨S8x1x144x512, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_0 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50_0 : Ref sig .tc := ⟨.hbm, 67, rfl⟩
abbrev main_v50_1 : Ref sig .tc := ⟨.hbm, 68, rfl⟩
abbrev main_v50_2 : Ref sig .tc := ⟨.hbm, 69, rfl⟩
abbrev main_v50_3 : Ref sig .tc := ⟨.hbm, 70, rfl⟩
abbrev main_v50_4 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_14 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_15 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4864 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x1x256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x1x144x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Kernel3Ideal.lean ====
abbrev S1x16384x1024 : Shape := ⟨3, ![1, 16384, 1024]⟩
abbrev S1024 : Shape := ⟨1, ![1024]⟩
abbrev S1024x4800 : Shape := ⟨2, ![1024, 4800]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S8x128x128 : Shape := ⟨3, ![8, 128, 128]⟩
abbrev S8x128 : Shape := ⟨2, ![8, 128]⟩
abbrev S1024x704 : Shape := ⟨2, ![1024, 704]⟩
abbrev S_ : Shape := ⟨0, ![]⟩
abbrev S1024x64 : Shape := ⟨2, ![1024, 64]⟩
abbrev S1024x4096 : Shape := ⟨2, ![1024, 4096]⟩
abbrev S1024x4864 : Shape := ⟨2, ![1024, 4864]⟩
abbrev S1536x384 : Shape := ⟨2, ![1536, 384]⟩
abbrev S256x8x256 : Shape := ⟨3, ![256, 8, 256]⟩
abbrev S256x8x128 : Shape := ⟨3, ![256, 8, 128]⟩
abbrev S256x1024 : Shape := ⟨2, ![256, 1024]⟩
abbrev S1024x256 : Shape := ⟨2, ![1024, 256]⟩
abbrev S128x8 : Shape := ⟨2, ![128, 8]⟩
abbrev S128x8x128 : Shape := ⟨3, ![128, 8, 128]⟩
abbrev S128x1024 : Shape := ⟨2, ![128, 1024]⟩
abbrev S1x1024 : Shape := ⟨2, ![1, 1024]⟩
abbrev S1x384 : Shape := ⟨2, ![1, 384]⟩
abbrev S1x256 : Shape := ⟨2, ![1, 256]⟩
abbrev S16384x1024 : Shape := ⟨2, ![16384, 1024]⟩
abbrev S16384 : Shape := ⟨1, ![16384]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S16384x128 : Shape := ⟨2, ![16384, 128]⟩
abbrev S32x16384 : Shape := ⟨2, ![32, 16384]⟩
abbrev S8x32x256x512 : Shape := ⟨4, ![8, 32, 256, 512]⟩
abbrev S8x16384x256 : Shape := ⟨3, ![8, 16384, 256]⟩
abbrev S8x32x144x512 : Shape := ⟨4, ![8, 32, 144, 512]⟩
abbrev S512x1024 : Shape := ⟨2, ![512, 1024]⟩
abbrev S512x128 : Shape := ⟨2, ![512, 128]⟩
abbrev S32x512 : Shape := ⟨2, ![32, 512]⟩
abbrev S8x1x256x512 : Shape := ⟨4, ![8, 1, 256, 512]⟩
abbrev S8x512x256 : Shape := ⟨3, ![8, 512, 256]⟩
abbrev S8x1x144x512 : Shape := ⟨4, ![8, 1, 144, 512]⟩
abbrev S256x1 : Shape := ⟨2, ![256, 1]⟩
abbrev S1024x384 : Shape := ⟨2, ![1024, 384]⟩
abbrev S256x384 : Shape := ⟨2, ![256, 384]⟩
abbrev S512x384 : Shape := ⟨2, ![512, 384]⟩
abbrev S256x256 : Shape := ⟨2, ![256, 256]⟩
abbrev S512x256 : Shape := ⟨2, ![512, 256]⟩
abbrev S1024x128 : Shape := ⟨2, ![1024, 128]⟩
abbrev S256x128 : Shape := ⟨2, ![256, 128]⟩
abbrev S1024x1024 : Shape := ⟨2, ![1024, 1024]⟩
abbrev S512 : Shape := ⟨1, ![512]⟩
abbrev S512x1 : Shape := ⟨2, ![512, 1]⟩
abbrev S384x512 : Shape := ⟨2, ![384, 512]⟩
abbrev S256x512 : Shape := ⟨2, ![256, 512]⟩
abbrev S128x128 : Shape := ⟨2, ![128, 128]⟩
abbrev S128x512 : Shape := ⟨2, ![128, 512]⟩
abbrev S1x128x128 : Shape := ⟨3, ![1, 128, 128]⟩
abbrev S1536x512 : Shape := ⟨2, ![1536, 512]⟩
abbrev S1x1x128x512 : Shape := ⟨4, ![1, 1, 128, 512]⟩
abbrev S1x1x32x512 : Shape := ⟨4, ![1, 1, 32, 512]⟩
abbrev S64x512 : Shape := ⟨2, ![64, 512]⟩
abbrev S1x1x64x512 : Shape := ⟨4, ![1, 1, 64, 512]⟩
abbrev S1024x512 : Shape := ⟨2, ![1024, 512]⟩
abbrev S1x512x128 : Shape := ⟨3, ![1, 512, 128]⟩
abbrev S16x512 : Shape := ⟨2, ![16, 512]⟩
abbrev S1x1x16x512 : Shape := ⟨4, ![1, 1, 16, 512]⟩

abbrev nBuf : Space → Nat
  | .hbm => 72
  | .vmem => 32
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1024x4800, .f32⟩
  | .hbm, ⟨3, _⟩ => ⟨S384, .f32⟩
  | .hbm, ⟨4, _⟩ => ⟨S384x1536, .f32⟩
  | .hbm, ⟨5, _⟩ => ⟨S256, .f32⟩
  | .hbm, ⟨6, _⟩ => ⟨S256x2048, .f32⟩
  | .hbm, ⟨7, _⟩ => ⟨S1024, .f32⟩
  | .hbm, ⟨8, _⟩ => ⟨S8x128x128, .f32⟩
  | .hbm, ⟨9, _⟩ => ⟨S8x128, .f32⟩
  | .hbm, ⟨10, _⟩ => ⟨S1024x704, .f32⟩
  | .hbm, ⟨11, _⟩ => ⟨S_, .f32⟩
  | .hbm, ⟨12, _⟩ => ⟨S1024x64, .f32⟩
  | .hbm, ⟨13, _⟩ => ⟨S1024x4096, .f32⟩
  | .hbm, ⟨14, _⟩ => ⟨S1024x4864, .f32⟩
  | .hbm, ⟨15, _⟩ => ⟨S1024x4864, .bf16⟩
  | .hbm, ⟨16, _⟩ => ⟨S1536x384, .f32⟩
  | .hbm, ⟨17, _⟩ => ⟨S1536x384, .bf16⟩
  | .hbm, ⟨18, _⟩ => ⟨S256x8x256, .f32⟩
  | .hbm, ⟨19, _⟩ => ⟨S256x8x128, .f32⟩
  | .hbm, ⟨20, _⟩ => ⟨S256x1024, .f32⟩
  | .hbm, ⟨21, _⟩ => ⟨S256x1024, .bf16⟩
  | .hbm, ⟨22, _⟩ => ⟨S256x8x128, .f32⟩
  | .hbm, ⟨23, _⟩ => ⟨S256x1024, .f32⟩
  | .hbm, ⟨24, _⟩ => ⟨S1024x256, .f32⟩
  | .hbm, ⟨25, _⟩ => ⟨S1024x256, .bf16⟩
  | .hbm, ⟨26, _⟩ => ⟨S128x8, .f32⟩
  | .hbm, ⟨27, _⟩ => ⟨S128x8x128, .f32⟩
  | .hbm, ⟨28, _⟩ => ⟨S128x1024, .f32⟩
  | .hbm, ⟨29, _⟩ => ⟨S1x1024, .f32⟩
  | .hbm, ⟨30, _⟩ => ⟨S1x384, .f32⟩
  | .hbm, ⟨31, _⟩ => ⟨S1x256, .f32⟩
  | .hbm, ⟨32, _⟩ => ⟨S1x1024, .f32⟩
  | .hbm, ⟨33, _⟩ => ⟨S8x128x128, .bf16⟩
  | .hbm, ⟨34, _⟩ => ⟨S16384x1024, .f32⟩
  | .hbm, ⟨35, _⟩ => ⟨S16384, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S16384x1, .f32⟩
  | .hbm, ⟨51, _⟩ => ⟨S1x32, .f32⟩
  | .hbm, ⟨52, _⟩ => ⟨S16384x32, .f32⟩
  | .hbm, ⟨53, _⟩ => ⟨S16384x32, .f32⟩
  | .hbm, ⟨54, _⟩ => ⟨S16384x32, .f32⟩
  | .hbm, ⟨55, _⟩ => ⟨S16384x32, .f32⟩
  | .hbm, ⟨56, _⟩ => ⟨S16384x32, .f32⟩
  | .hbm, ⟨57, _⟩ => ⟨S_, .f32⟩
  | .hbm, ⟨58, _⟩ => ⟨S16384x32, .f32⟩
  | .hbm, ⟨59, _⟩ => ⟨S_, .f32⟩
  | .hbm, ⟨60, _⟩ => ⟨S16384x64, .f32⟩
  | .hbm, ⟨61, _⟩ => ⟨S16384x128, .f32⟩
  | .hbm, ⟨62, _⟩ => ⟨S16384x32, .f32⟩
  | .hbm, ⟨63, _⟩ => ⟨S16384x128, .f32⟩
  | .hbm, ⟨64, _⟩ => ⟨S16384x128, .f32⟩
  | .hbm, ⟨65, _⟩ => ⟨S32x16384, .f32⟩
  | .hbm, ⟨66, _⟩ => ⟨S32x16384, .f32⟩
  | .hbm, ⟨67, _⟩ => ⟨S8x32x256x512, .bf16⟩
  | .hbm, ⟨68, _⟩ => ⟨S8x16384x256, .bf16⟩
  | .hbm, ⟨69, _⟩ => ⟨S8x32x144x512, .bf16⟩
  | .hbm, ⟨70, _⟩ => ⟨S16384x1024, .bf16⟩
  | .hbm, ⟨71, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4864, .bf16⟩
  | .local _ .vmem, ⟨4, _⟩ => ⟨S1x384, .f32⟩
  | .local _ .vmem, ⟨5, _⟩ => ⟨S1536x384, .bf16⟩
  | .local _ .vmem, ⟨6, _⟩ => ⟨S1x256, .f32⟩
  | .local _ .vmem, ⟨7, _⟩ => ⟨S256x1024, .bf16⟩
  | .local _ .vmem, ⟨8, _⟩ => ⟨S1024x256, .bf16⟩
  | .local _ .vmem, ⟨9, _⟩ => ⟨S1x1024, .f32⟩
  | .local _ .vmem, ⟨10, _⟩ => ⟨S8x128x128, .bf16⟩
  | .local _ .vmem, ⟨11, _⟩ => ⟨S128x1024, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S32x512, .f32⟩
  | .local _ .vmem, ⟨19, _⟩ => ⟨S32x512, .f32⟩
  | .local _ .vmem, ⟨20, _⟩ => ⟨S32x512, .f32⟩
  | .local _ .vmem, ⟨21, _⟩ => ⟨S32x512, .f32⟩
  | .local _ .vmem, ⟨22, _⟩ => ⟨S8x1x256x512, .bf16⟩
  | .local _ .vmem, ⟨23, _⟩ => ⟨S8x1x256x512, .bf16⟩
  | .local _ .vmem, ⟨24, _⟩ => ⟨S8x512x256, .bf16⟩
  | .local _ .vmem, ⟨25, _⟩ => ⟨S8x512x256, .bf16⟩
  | .local _ .vmem, ⟨26, _⟩ => ⟨S8x1x144x512, .bf16⟩
  | .local _ .vmem, ⟨27, _⟩ => ⟨S8x1x144x512, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_0 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50_0 : Ref sig .tc := ⟨.hbm, 67, rfl⟩
abbrev main_v50_1 : Ref sig .tc := ⟨.hbm, 68, rfl⟩
abbrev main_v50_2 : Ref sig .tc := ⟨.hbm, 69, rfl⟩
abbrev main_v50_3 : Ref sig .tc := ⟨.hbm, 70, rfl⟩
abbrev main_v50_4 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31

abbrev nD : Nat := 1
abbrev τ : Topo := Topo.v7x

variable {F : FTy → Type} [FloatOps F] [Named F]

def κ : String → Option EReal := fun
  | "gelu_cubic" => some ((80338380498831 / 2251799813685248 : ℝ) : EReal)
  | _ => none

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_14 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_15 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4864 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x1x256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x1x144x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference3Ideal.lean ====
abbrev S1x16384x1024 : Shape := ⟨3, ![1, 16384, 1024]⟩
abbrev S1024 : Shape := ⟨1, ![1024]⟩
abbrev S1024x4800 : Shape := ⟨2, ![1024, 4800]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S8x128x128 : Shape := ⟨3, ![8, 128, 128]⟩
abbrev S8x128 : Shape := ⟨2, ![8, 128]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4800 : Shape := ⟨2, ![16384, 4800]⟩
abbrev S16384x384 : Shape := ⟨2, ![16384, 384]⟩
abbrev S16384x256 : Shape := ⟨2, ![16384, 256]⟩
abbrev S16384x64 : Shape := ⟨2, ![16384, 64]⟩
abbrev S16384x2048 : Shape := ⟨2, ![16384, 2048]⟩
abbrev S32 : Shape := ⟨1, ![32]⟩
abbrev S1x32 : Shape := ⟨2, ![1, 32]⟩
abbrev S16384x32 : Shape := ⟨2, ![16384, 32]⟩
abbrev S1x384 : Shape := ⟨2, ![1, 384]⟩
abbrev S16384x1536 : Shape := ⟨2, ![16384, 1536]⟩
abbrev S16384x8x192 : Shape := ⟨3, ![16384, 8, 192]⟩
abbrev S16384x8x64 : Shape := ⟨3, ![16384, 8, 64]⟩
abbrev S16384x1x64 : Shape := ⟨3, ![16384, 1, 64]⟩
abbrev S16384x8x32 : Shape := ⟨3, ![16384, 8, 32]⟩
abbrev S1x256 : Shape := ⟨2, ![1, 256]⟩
abbrev S16384x8x256 : Shape := ⟨3, ![16384, 8, 256]⟩
abbrev S16384x8x128 : Shape := ⟨3, ![16384, 8, 128]⟩
abbrev S16384x8x16 : Shape := ⟨3, ![16384, 8, 16]⟩
abbrev S16384x8x144 : Shape := ⟨3, ![16384, 8, 144]⟩
abbrev S32x512x8x256 : Shape := ⟨4, ![32, 512, 8, 256]⟩
abbrev S8x32x256x512 : Shape := ⟨4, ![8, 32, 256, 512]⟩
abbrev S32x512x8x144 : Shape := ⟨4, ![32, 512, 8, 144]⟩
abbrev S8x32x144x512 : Shape := ⟨4, ![8, 32, 144, 512]⟩
abbrev S8x16384x256 : Shape := ⟨3, ![8, 16384, 256]⟩
abbrev S128x128x8x128 : Shape := ⟨4, ![128, 128, 8, 128]⟩
abbrev S8x128x128x128 : Shape := ⟨4, ![8, 128, 128, 128]⟩
abbrev S128x8 : Shape := ⟨2, ![128, 8]⟩
abbrev S1x128x8x1 : Shape := ⟨4, ![1, 128, 8, 1]⟩

abbrev nBuf : Space → Nat
  | .hbm => 199
  | .vmem => 0
  | .smem => 0
  | _ => 0

abbrev hbmTy0_0 (i : Nat) : BufTy := match i % 128 with
  | 0 => ⟨S1x16384x1024, .f32⟩
  | 1 => ⟨S1024, .f32⟩
  | 2 => ⟨S1024x4800, .f32⟩
  | 3 => ⟨S384, .f32⟩
  | 4 => ⟨S384x1536, .f32⟩
  | 5 => ⟨S256, .f32⟩
  | 6 => ⟨S256x2048, .f32⟩
  | 7 => ⟨S1024, .f32⟩
  | 8 => ⟨S8x128x128, .f32⟩
  | 9 => ⟨S8x128, .f32⟩
  | 10 => ⟨S16384x1024, .f32⟩
  | 11 => ⟨S16384x1024, .f32⟩
  | 12 => ⟨S_, .f32⟩
  | 13 => ⟨S16384, .f32⟩
  | 14 => ⟨S16384x1, .f32⟩
  | 15 => ⟨S_, .f32⟩
  | 16 => ⟨S16384x1, .f32⟩
  | 17 => ⟨S16384x1, .f32⟩
  | 18 => ⟨S_, .f32⟩
  | 19 => ⟨S16384x1, .f32⟩
  | 20 => ⟨S16384x1, .f32⟩
  | 21 => ⟨S16384x1, .f32⟩
  | 22 => ⟨S16384x1024, .f32⟩
  | 23 => ⟨S16384x1024, .f32⟩
  | 24 => ⟨S1x1024, .f32⟩
  | 25 => ⟨S16384x1024, .f32⟩
  | 26 => ⟨S16384x1024, .f32⟩
  | 27 => ⟨S16384x4800, .f32⟩
  | 28 => ⟨S16384x384, .f32⟩
  | 29 => ⟨S16384x256, .f32⟩
  | 30 => ⟨S16384x64, .f32⟩
  | 31 => ⟨S16384x2048, .f32⟩
  | 32 => ⟨S16384x2048, .f32⟩
  | 33 => ⟨S16384, .f32⟩
  | 34 => ⟨S32, .f32⟩
  | 35 => ⟨S_, .f32⟩
  | 36 => ⟨S32, .f32⟩
  | 37 => ⟨S32, .f32⟩
  | 38 => ⟨S_, .f32⟩
  | 39 => ⟨S32, .f32⟩
  | 40 => ⟨S32, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S16384x1, .f32⟩
  | 49 => ⟨S1x32, .f32⟩
  | 50 => ⟨S16384x32, .f32⟩
  | 51 => ⟨S16384x32, .f32⟩
  | 52 => ⟨S16384x32, .f32⟩
  | 53 => ⟨S16384x64, .f32⟩
  | 54 => ⟨S16384x64, .f32⟩
  | 55 => ⟨S16384x64, .f32⟩
  | 56 => ⟨S16384x384, .f32⟩
  | 57 => ⟨S_, .f32⟩
  | 58 => ⟨S16384, .f32⟩
  | 59 => ⟨S16384x1, .f32⟩
  | 60 => ⟨S_, .f32⟩
  | 61 => ⟨S16384x1, .f32⟩
  | 62 => ⟨S16384x1, .f32⟩
  | 63 => ⟨S_, .f32⟩
  | 64 => ⟨S16384x1, .f32⟩
  | 65 => ⟨S16384x1, .f32⟩
  | 66 => ⟨S16384x1, .f32⟩
  | 67 => ⟨S16384x384, .f32⟩
  | 68 => ⟨S16384x384, .f32⟩
  | 69 => ⟨S1x384, .f32⟩
  | 70 => ⟨S16384x384, .f32⟩
  | 71 => ⟨S16384x384, .f32⟩
  | 72 => ⟨S16384x1536, .f32⟩
  | 73 => ⟨S16384x8x192, .f32⟩
  | 74 => ⟨S16384x8x64, .f32⟩
  | 75 => ⟨S16384x1x64, .f32⟩
  | 76 => ⟨S16384x1x64, .f32⟩
  | 77 => ⟨S16384x8x32, .f32⟩
  | 78 => ⟨S16384x8x32, .f32⟩
  | 79 => ⟨S16384x8x32, .f32⟩
  | 80 => ⟨S16384x8x64, .f32⟩
  | 81 => ⟨S16384x8x64, .f32⟩
  | 82 => ⟨S16384x8x64, .f32⟩
  | 83 => ⟨S16384x8x64, .f32⟩
  | 84 => ⟨S16384x8x64, .f32⟩
  | 85 => ⟨S16384x8x64, .f32⟩
  | 86 => ⟨S16384x256, .f32⟩
  | 87 => ⟨S_, .f32⟩
  | 88 => ⟨S16384, .f32⟩
  | 89 => ⟨S16384x1, .f32⟩
  | 90 => ⟨S_, .f32⟩
  | 91 => ⟨S16384x1, .f32⟩
  | 92 => ⟨S16384x1, .f32⟩
  | 93 => ⟨S_, .f32⟩
  | 94 => ⟨S16384x1, .f32⟩
  | 95 => ⟨S16384x1, .f32⟩
  | 96 => ⟨S16384x1, .f32⟩
  | 97 => ⟨S16384x256, .f32⟩
  | 98 => ⟨S16384x256, .f32⟩
  | 99 => ⟨S1x256, .f32⟩
  | 100 => ⟨S16384x256, .f32⟩
  | 101 => ⟨S16384x256, .f32⟩
  | 102 => ⟨S16384x2048, .f32⟩
  | 103 => ⟨S16384x8x256, .f32⟩
  | 104 => ⟨S16384x32, .f32⟩
  | 105 => ⟨S16384x32, .f32⟩
  | 106 => ⟨S16384x32, .f32⟩
  | 107 => ⟨S16384x64, .f32⟩
  | 108 => ⟨S16384x64, .f32⟩
  | 109 => ⟨S16384x64, .f32⟩
  | 110 => ⟨S16384x64, .f32⟩
  | 111 => ⟨S_, .f32⟩
  | 112 => ⟨S16384x8x64, .f32⟩
  | 113 => ⟨S16384x8x128, .f32⟩
  | 114 => ⟨S16384x8x256, .f32⟩
  | 115 => ⟨S_, .f32⟩
  | 116 => ⟨S16384x8x256, .f32⟩
  | 117 => ⟨S16384x8x256, .f32⟩
  | 118 => ⟨S16384x8x128, .f32⟩
  | 119 => ⟨S16384x1x64, .f32⟩
  | 120 => ⟨S16384x8x64, .f32⟩
  | 121 => ⟨S16384x8x256, .f32⟩
  | 122 => ⟨S16384x8x128, .f32⟩
  | 123 => ⟨S_, .f32⟩
  | 124 => ⟨S16384x8x16, .f32⟩
  | 125 => ⟨S16384x8x144, .f32⟩
  | 126 => ⟨S32x512x8x256, .f32⟩
  | 127 => ⟨S8x32x256x512, .f32⟩
  | _ => ⟨S1x16384x1024, .f32⟩

abbrev hbmTy0_1 (i : Nat) : BufTy := match i % 128 with
  | 0 => ⟨S32x512x8x144, .f32⟩
  | 1 => ⟨S8x32x144x512, .f32⟩
  | 2 => ⟨S8x16384x256, .f32⟩
  | 3 => ⟨S16384x2048, .f32⟩
  | 4 => ⟨S16384x2048, .f32⟩
  | 5 => ⟨S_, .f32⟩
  | 6 => ⟨S16384x2048, .f32⟩
  | 7 => ⟨S16384x2048, .f32⟩
  | 8 => ⟨S16384x2048, .f32⟩
  | 9 => ⟨S_, .f32⟩
  | 10 => ⟨S16384x2048, .f32⟩
  | 11 => ⟨S16384x2048, .f32⟩
  | 12 => ⟨S16384x2048, .f32⟩
  | 13 => ⟨S_, .f32⟩
  | 14 => ⟨S16384x2048, .f32⟩
  | 15 => ⟨S16384x2048, .f32⟩
  | 16 => ⟨S_, .f32⟩
  | 17 => ⟨S16384x2048, .f32⟩
  | 18 => ⟨S16384x2048, .f32⟩
  | 19 => ⟨S16384x2048, .f32⟩
  | 20 => ⟨S16384x1024, .f32⟩
  | 21 => ⟨S16384x1024, .f32⟩
  | 22 => ⟨S16384x1024, .f32⟩
  | 23 => ⟨S_, .f32⟩
  | 24 => ⟨S16384, .f32⟩
  | 25 => ⟨S16384x1, .f32⟩
  | 26 => ⟨S_, .f32⟩
  | 27 => ⟨S16384x1, .f32⟩
  | 28 => ⟨S16384x1, .f32⟩
  | 29 => ⟨S_, .f32⟩
  | 30 => ⟨S16384x1, .f32⟩
  | 31 => ⟨S16384x1, .f32⟩
  | 32 => ⟨S16384x1, .f32⟩
  | 33 => ⟨S16384x1024, .f32⟩
  | 34 => ⟨S16384x1024, .f32⟩
  | 35 => ⟨S1x1024, .f32⟩
  | 36 => ⟨S16384x1024, .f32⟩
  | 37 => ⟨S16384x1024, .f32⟩
  | 38 => ⟨S128x128x8x128, .f32⟩
  | 39 => ⟨S8x128x128x128, .f32⟩
  | 40 => ⟨S128x128x8x128, .f32⟩
  | 41 => ⟨S128x8, .f32⟩
  | 42 => ⟨S1x128x8x1, .f32⟩
  | 43 => ⟨S128x128x8x128, .f32⟩
  | 44 => ⟨S128x128x8x128, .f32⟩
  | 45 => ⟨S16384x1024, .f32⟩
  | 46 => ⟨S16384x1024, .f32⟩
  | 47 => ⟨S16384x1024, .f32⟩
  | 48 => ⟨S16384x1024, .f32⟩
  | 49 => ⟨S16384x1024, .f32⟩
  | 50 => ⟨S16384x1024, .f32⟩
  | 51 => ⟨S_, .f32⟩
  | 52 => ⟨S16384x1024, .f32⟩
  | 53 => ⟨S16384x1024, .f32⟩
  | 54 => ⟨S_, .f32⟩
  | 55 => ⟨S16384x1024, .f32⟩
  | 56 => ⟨S16384x1024, .f32⟩
  | 57 => ⟨S16384x1024, .f32⟩
  | 58 => ⟨S16384x1024, .f32⟩
  | 59 => ⟨S_, .f32⟩
  | 60 => ⟨S16384x1024, .f32⟩
  | 61 => ⟨S16384x1024, .f32⟩
  | 62 => ⟨S_, .f32⟩
  | 63 => ⟨S16384x1024, .f32⟩
  | 64 => ⟨S16384x1024, .f32⟩
  | 65 => ⟨S16384x1024, .f32⟩
  | 66 => ⟨S8x32x256x512, .bf16⟩
  | 67 => ⟨S8x16384x256, .bf16⟩
  | 68 => ⟨S8x32x144x512, .bf16⟩
  | 69 => ⟨S16384x1024, .bf16⟩
  | 70 => ⟨S16384x1024, .bf16⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_9 : Ref sig .tc := ⟨.hbm, 87, rfl⟩
abbrev main_v67 : Ref sig .tc := ⟨.hbm, 88, rfl⟩
abbrev main_v68 : Ref sig .tc := ⟨.hbm, 89, rfl⟩
abbrev main_cst_10 : Ref sig .tc := ⟨.hbm, 90, rfl⟩
abbrev main_v69 : Ref sig .tc := ⟨.hbm, 91, rfl⟩
abbrev main_v70 : Ref sig .tc := ⟨.hbm, 92, rfl⟩
abbrev main_cst_11 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_12 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_13 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_14 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_cst_15 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_cst_16 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_17 : Ref sig .tc := ⟨.hbm, 141, rfl⟩
abbrev main_v113 : Ref sig .tc := ⟨.hbm, 142, rfl⟩
abbrev main_v114 : Ref sig .tc := ⟨.hbm, 143, rfl⟩
abbrev main_cst_18 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_cst_19 : Ref sig .tc := ⟨.hbm, 151, rfl⟩
abbrev main_v121 : Ref sig .tc := ⟨.hbm, 152, rfl⟩
abbrev main_v122 : Ref sig .tc := ⟨.hbm, 153, rfl⟩
abbrev main_cst_20 : Ref sig .tc := ⟨.hbm, 154, rfl⟩
abbrev main_v123 : Ref sig .tc := ⟨.hbm, 155, rfl⟩
abbrev main_v124 : Ref sig .tc := ⟨.hbm, 156, rfl⟩
abbrev main_cst_21 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_cst_22 : Ref sig .tc := ⟨.hbm, 179, rfl⟩
abbrev main_v146 : Ref sig .tc := ⟨.hbm, 180, rfl⟩
abbrev main_v147 : Ref sig .tc := ⟨.hbm, 181, rfl⟩
abbrev main_cst_23 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_cst_24 : Ref sig .tc := ⟨.hbm, 187, rfl⟩
abbrev main_v152 : Ref sig .tc := ⟨.hbm, 188, rfl⟩
abbrev main_v153 : Ref sig .tc := ⟨.hbm, 189, rfl⟩
abbrev main_cst_25 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩

abbrev nD : Nat := 1
abbrev τ : Topo := Topo.v7x

variable {F : FTy → Type} [FloatOps F]
-- ==== Kernel4.lean ====
abbrev S16x4096x1024 : Shape := ⟨3, ![16, 4096, 1024]⟩
abbrev S65536x1024 : Shape := ⟨2, ![65536, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x4096 : Shape := ⟨2, ![512, 4096]⟩

abbrev nBuf : Space → Nat
  | .hbm => 16
  | .vmem => 15
  | .smem => 0
  | _ => 0

abbrev bufTy : (tb : Table) → Fin (tcTables nBuf tb) → BufTy
  | .hbm, ⟨0, _⟩ => ⟨S16x4096x1024, .f32⟩
  | .hbm, ⟨1, _⟩ => ⟨S65536x1024, .bf16⟩
  | .hbm, ⟨2, _⟩ => ⟨S65536x1024, .bf16⟩
  | .hbm, ⟨3, _⟩ => ⟨S65536x1024, .bf16⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S65536x1024, .f32⟩
  | .hbm, ⟨10, _⟩ => ⟨S1024x1024, .bf16⟩
  | .hbm, ⟨11, _⟩ => ⟨S1x1024, .f32⟩
  | .hbm, ⟨12, _⟩ => ⟨S1024x4096, .bf16⟩
  | .hbm, ⟨13, _⟩ => ⟨S4096x1024, .bf16⟩
  | .hbm, ⟨14, _⟩ => ⟨S1x1024, .f32⟩
  | .hbm, ⟨15, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S16x4096x1024 : Shape := ⟨3, ![16, 4096, 1024]⟩
abbrev S65536x1024 : Shape := ⟨2, ![65536, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x4096 : Shape := ⟨2, ![65536, 4096]⟩

abbrev nBuf : Space → Nat
  | .hbm => 56
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S65536x1024, .bf16⟩
  | .hbm, ⟨2, _⟩ => ⟨S65536x1024, .bf16⟩
  | .hbm, ⟨3, _⟩ => ⟨S65536x1024, .bf16⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S65536x1024, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S_, .f32⟩
  | .hbm, ⟨19, _⟩ => ⟨S65536, .f32⟩
  | .hbm, ⟨20, _⟩ => ⟨S65536x1, .f32⟩
  | .hbm, ⟨21, _⟩ => ⟨S_, .f32⟩
  | .hbm, ⟨22, _⟩ => ⟨S65536x1, .f32⟩
  | .hbm, ⟨23, _⟩ => ⟨S65536x1, .f32⟩
  | .hbm, ⟨24, _⟩ => ⟨S_, .f32⟩
  | .hbm, ⟨25, _⟩ => ⟨S65536x1, .f32⟩
  | .hbm, ⟨26, _⟩ => ⟨S65536x1, .f32⟩
  | .hbm, ⟨27, _⟩ => ⟨S65536x1, .f32⟩
  | .hbm, ⟨28, _⟩ => ⟨S65536x1024, .f32⟩
  | .hbm, ⟨29, _⟩ => ⟨S65536x1024, .f32⟩
  | .hbm, ⟨30, _⟩ => ⟨S1x1024, .f32⟩
  | .hbm, ⟨31, _⟩ => ⟨S65536x1024, .f32⟩
  | .hbm, ⟨32, _⟩ => ⟨S65536x1024, .f32⟩
  | .hbm, ⟨33, _⟩ => ⟨S65536x4096, .f32⟩
  | .hbm, ⟨34, _⟩ => ⟨S_, .f32⟩
  | .hbm, ⟨35, _⟩ => ⟨S65536x4096, .f32⟩
  | .hbm, ⟨36, _⟩ => ⟨S65536x4096, .f32⟩
  | .hbm, ⟨37, _⟩ => ⟨S65536x4096, .f32⟩
  | .hbm, ⟨38, _⟩ => ⟨S65536x1024, .f32⟩
  | .hbm, ⟨39, _⟩ => ⟨S65536x1024, .f32⟩
  | .hbm, ⟨40, _⟩ => ⟨S65536x1024, .f32⟩
  | .hbm, ⟨41, _⟩ => ⟨S_, .f32⟩
  | .hbm, ⟨42, _⟩ => ⟨S65536, .f32⟩
  | .hbm, ⟨43, _⟩ => ⟨S65536x1, .f32⟩
  | .hbm, ⟨44, _⟩ => ⟨S_, .f32⟩
  | .hbm, ⟨45, _⟩ => ⟨S65536x1, .f32⟩
  | .hbm, ⟨46, _⟩ => ⟨S65536x1, .f32⟩
  | .hbm, ⟨47, _⟩ => ⟨S_, .f32⟩
  | .hbm, ⟨48, _⟩ => ⟨S65536x1, .f32⟩
  | .hbm, ⟨49, _⟩ => ⟨S65536x1, .f32⟩
  | .hbm, ⟨50, _⟩ => ⟨S65536x1, .f32⟩
  | .hbm, ⟨51, _⟩ => ⟨S65536x1024, .f32⟩
  | .hbm, ⟨52, _⟩ => ⟨S65536x1024, .f32⟩
  | .hbm, ⟨53, _⟩ => ⟨S1x1024, .f32⟩
  | .hbm, ⟨54, _⟩ => ⟨S65536x1024, .f32⟩
  | .hbm, ⟨55, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_cst : Ref sig .tc := ⟨.hbm, 34, rfl⟩
abbrev main_call0_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Kernel5.lean ====
abbrev S16x4096x1024 : Shape := ⟨3, ![16, 4096, 1024]⟩
abbrev S1024 : Shape := ⟨1, ![1024]⟩
abbrev S1024x4800 : Shape := ⟨2, ![1024, 4800]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S8x128x128 : Shape := ⟨3, ![8, 128, 128]⟩
abbrev S8x128 : Shape := ⟨2, ![8, 128]⟩
abbrev S1024x704 : Shape := ⟨2, ![1024, 704]⟩
abbrev S_ : Shape := ⟨0, ![]⟩
abbrev S1024x64 : Shape := ⟨2, ![1024, 64]⟩
abbrev S1024x4096 : Shape := ⟨2, ![1024, 4096]⟩
abbrev S1024x4864 : Shape := ⟨2, ![1024, 4864]⟩
abbrev S1536x384 : Shape := ⟨2, ![1536, 384]⟩
abbrev S256x8x256 : Shape := ⟨3, ![256, 8, 256]⟩
abbrev S256x8x128 : Shape := ⟨3, ![256, 8, 128]⟩
abbrev S256x1024 : Shape := ⟨2, ![256, 1024]⟩
abbrev S1024x256 : Shape := ⟨2, ![1024, 256]⟩
abbrev S128x8 : Shape := ⟨2, ![128, 8]⟩
abbrev S128x8x128 : Shape := ⟨3, ![128, 8, 128]⟩
abbrev S128x1024 : Shape := ⟨2, ![128, 1024]⟩
abbrev S1x1024 : Shape := ⟨2, ![1, 1024]⟩
abbrev S1x384 : Shape := ⟨2, ![1, 384]⟩
abbrev S1x256 : Shape := ⟨2, ![1, 256]⟩
abbrev S65536x1024 : Shape := ⟨2, ![65536, 1024]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S32x4096 : Shape := ⟨2, ![32, 4096]⟩
abbrev S8x128x256x512 : Shape := ⟨4, ![8, 128, 256, 512]⟩
abbrev S8x65536x256 : Shape := ⟨3, ![8, 65536, 256]⟩
abbrev S8x128x144x512 : Shape := ⟨4, ![8, 128, 144, 512]⟩
abbrev S512x1024 : Shape := ⟨2, ![512, 1024]⟩
abbrev S512x128 : Shape := ⟨2, ![512, 128]⟩
abbrev S32x512 : Shape := ⟨2, ![32, 512]⟩
abbrev S8x1x256x512 : Shape := ⟨4, ![8, 1, 256, 512]⟩
abbrev S8x512x256 : Shape := ⟨3, ![8, 512, 256]⟩
abbrev S8x1x144x512 : Shape := ⟨4, ![8, 1, 144, 512]⟩
abbrev S256x1 : Shape := ⟨2, ![256, 1]⟩
abbrev S1024x384 : Shape := ⟨2, ![1024, 384]⟩
abbrev S256x384 : Shape := ⟨2, ![256, 384]⟩
abbrev S512x384 : Shape := ⟨2, ![512, 384]⟩
abbrev S256x256 : Shape := ⟨2, ![256, 256]⟩
abbrev S512x256 : Shape := ⟨2, ![512, 256]⟩
abbrev S1024x128 : Shape := ⟨2, ![1024, 128]⟩
abbrev S256x128 : Shape := ⟨2, ![256, 128]⟩
abbrev S1024x1024 : Shape := ⟨2, ![1024, 1024]⟩
abbrev S512 : Shape := ⟨1, ![512]⟩
abbrev S512x1 : Shape := ⟨2, ![512, 1]⟩
abbrev S384x512 : Shape := ⟨2, ![384, 512]⟩
abbrev S256x512 : Shape := ⟨2, ![256, 512]⟩
abbrev S128x128 : Shape := ⟨2, ![128, 128]⟩
abbrev S128x512 : Shape := ⟨2, ![128, 512]⟩
abbrev S1x128x128 : Shape := ⟨3, ![1, 128, 128]⟩
abbrev S1536x512 : Shape := ⟨2, ![1536, 512]⟩
abbrev S1x1x128x512 : Shape := ⟨4, ![1, 1, 128, 512]⟩
abbrev S1x1x32x512 : Shape := ⟨4, ![1, 1, 32, 512]⟩
abbrev S64x512 : Shape := ⟨2, ![64, 512]⟩
abbrev S1x1x64x512 : Shape := ⟨4, ![1, 1, 64, 512]⟩
abbrev S1024x512 : Shape := ⟨2, ![1024, 512]⟩
abbrev S1x512x128 : Shape := ⟨3, ![1, 512, 128]⟩
abbrev S16x512 : Shape := ⟨2, ![16, 512]⟩
abbrev S1x1x16x512 : Shape := ⟨4, ![1, 1, 16, 512]⟩

abbrev nBuf : Space → Nat
  | .hbm => 72
  | .vmem => 32
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x4800, .f32⟩
  | .hbm, ⟨3, _⟩ => ⟨S384, .f32⟩
  | .hbm, ⟨4, _⟩ => ⟨S384x1536, .f32⟩
  | .hbm, ⟨5, _⟩ => ⟨S256, .f32⟩
  | .hbm, ⟨6, _⟩ => ⟨S256x2048, .f32⟩
  | .hbm, ⟨7, _⟩ => ⟨S1024, .f32⟩
  | .hbm, ⟨8, _⟩ => ⟨S8x128x128, .f32⟩
  | .hbm, ⟨9, _⟩ => ⟨S8x128, .f32⟩
  | .hbm, ⟨10, _⟩ => ⟨S1024x704, .f32⟩
  | .hbm, ⟨11, _⟩ => ⟨S_, .f32⟩
  | .hbm, ⟨12, _⟩ => ⟨S1024x64, .f32⟩
  | .hbm, ⟨13, _⟩ => ⟨S1024x4096, .f32⟩
  | .hbm, ⟨14, _⟩ => ⟨S1024x4864, .f32⟩
  | .hbm, ⟨15, _⟩ => ⟨S1024x4864, .bf16⟩
  | .hbm, ⟨16, _⟩ => ⟨S1536x384, .f32⟩
  | .hbm, ⟨17, _⟩ => ⟨S1536x384, .bf16⟩
  | .hbm, ⟨18, _⟩ => ⟨S256x8x256, .f32⟩
  | .hbm, ⟨19, _⟩ => ⟨S256x8x128, .f32⟩
  | .hbm, ⟨20, _⟩ => ⟨S256x1024, .f32⟩
  | .hbm, ⟨21, _⟩ => ⟨S256x1024, .bf16⟩
  | .hbm, ⟨22, _⟩ => ⟨S256x8x128, .f32⟩
  | .hbm, ⟨23, _⟩ => ⟨S256x1024, .f32⟩
  | .hbm, ⟨24, _⟩ => ⟨S1024x256, .f32⟩
  | .hbm, ⟨25, _⟩ => ⟨S1024x256, .bf16⟩
  | .hbm, ⟨26, _⟩ => ⟨S128x8, .f32⟩
  | .hbm, ⟨27, _⟩ => ⟨S128x8x128, .f32⟩
  | .hbm, ⟨28, _⟩ => ⟨S128x1024, .f32⟩
  | .hbm, ⟨29, _⟩ => ⟨S1x1024, .f32⟩
  | .hbm, ⟨30, _⟩ => ⟨S1x384, .f32⟩
  | .hbm, ⟨31, _⟩ => ⟨S1x256, .f32⟩
  | .hbm, ⟨32, _⟩ => ⟨S1x1024, .f32⟩
  | .hbm, ⟨33, _⟩ => ⟨S8x128x128, .bf16⟩
  | .hbm, ⟨34, _⟩ => ⟨S65536x1024, .f32⟩
  | .hbm, ⟨35, _⟩ => ⟨S4096, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S4096x1, .f32⟩
  | .hbm, ⟨51, _⟩ => ⟨S1x32, .f32⟩
  | .hbm, ⟨52, _⟩ => ⟨S4096x32, .f32⟩
  | .hbm, ⟨53, _⟩ => ⟨S4096x32, .f32⟩
  | .hbm, ⟨54, _⟩ => ⟨S4096x32, .f32⟩
  | .hbm, ⟨55, _⟩ => ⟨S4096x32, .f32⟩
  | .hbm, ⟨56, _⟩ => ⟨S4096x32, .f32⟩
  | .hbm, ⟨57, _⟩ => ⟨S_, .f32⟩
  | .hbm, ⟨58, _⟩ => ⟨S4096x32, .f32⟩
  | .hbm, ⟨59, _⟩ => ⟨S_, .f32⟩
  | .hbm, ⟨60, _⟩ => ⟨S4096x64, .f32⟩
  | .hbm, ⟨61, _⟩ => ⟨S4096x128, .f32⟩
  | .hbm, ⟨62, _⟩ => ⟨S4096x32, .f32⟩
  | .hbm, ⟨63, _⟩ => ⟨S4096x128, .f32⟩
  | .hbm, ⟨64, _⟩ => ⟨S4096x128, .f32⟩
  | .hbm, ⟨65, _⟩ => ⟨S32x4096, .f32⟩
  | .hbm, ⟨66, _⟩ => ⟨S32x4096, .f32⟩
  | .hbm, ⟨67, _⟩ => ⟨S8x128x256x512, .bf16⟩
  | .hbm, ⟨68, _⟩ => ⟨S8x65536x256, .bf16⟩
  | .hbm, ⟨69, _⟩ => ⟨S8x128x144x512, .bf16⟩
  | .hbm, ⟨70, _⟩ => ⟨S65536x1024, .bf16⟩
  | .hbm, ⟨71, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4864, .bf16⟩
  | .local _ .vmem, ⟨4, _⟩ => ⟨S1x384, .f32⟩
  | .local _ .vmem, ⟨5, _⟩ => ⟨S1536x384, .bf16⟩
  | .local _ .vmem, ⟨6, _⟩ => ⟨S1x256, .f32⟩
  | .local _ .vmem, ⟨7, _⟩ => ⟨S256x1024, .bf16⟩
  | .local _ .vmem, ⟨8, _⟩ => ⟨S1024x256, .bf16⟩
  | .local _ .vmem, ⟨9, _⟩ => ⟨S1x1024, .f32⟩
  | .local _ .vmem, ⟨10, _⟩ => ⟨S8x128x128, .bf16⟩
  | .local _ .vmem, ⟨11, _⟩ => ⟨S128x1024, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S32x512, .f32⟩
  | .local _ .vmem, ⟨19, _⟩ => ⟨S32x512, .f32⟩
  | .local _ .vmem, ⟨20, _⟩ => ⟨S32x512, .f32⟩
  | .local _ .vmem, ⟨21, _⟩ => ⟨S32x512, .f32⟩
  | .local _ .vmem, ⟨22, _⟩ => ⟨S8x1x256x512, .bf16⟩
  | .local _ .vmem, ⟨23, _⟩ => ⟨S8x1x256x512, .bf16⟩
  | .local _ .vmem, ⟨24, _⟩ => ⟨S8x512x256, .bf16⟩
  | .local _ .vmem, ⟨25, _⟩ => ⟨S8x512x256, .bf16⟩
  | .local _ .vmem, ⟨26, _⟩ => ⟨S8x1x144x512, .bf16⟩
  | .local _ .vmem, ⟨27, _⟩ => ⟨S8x1x144x512, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_0 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50_0 : Ref sig .tc := ⟨.hbm, 67, rfl⟩
abbrev main_v50_1 : Ref sig .tc := ⟨.hbm, 68, rfl⟩
abbrev main_v50_2 : Ref sig .tc := ⟨.hbm, 69, rfl⟩
abbrev main_v50_3 : Ref sig .tc := ⟨.hbm, 70, rfl⟩
abbrev main_v50_4 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_14 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_15 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4864 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x1x256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x1x144x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Kernel5Ideal.lean ====
variable {F : FTy → Type} [FloatOps F] [Named F]
def κ : String → Option EReal := fun
  | "gelu_cubic" => some ((80338380498831 / 2251799813685248 : ℝ) : EReal)
  | _ => none
-- ==== Reference5Ideal.lean ====
abbrev S16x4096x1024 : Shape := ⟨3, ![16, 4096, 1024]⟩
abbrev S1024 : Shape := ⟨1, ![1024]⟩
abbrev S1024x4800 : Shape := ⟨2, ![1024, 4800]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S8x128x128 : Shape := ⟨3, ![8, 128, 128]⟩
abbrev S8x128 : Shape := ⟨2, ![8, 128]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x4800 : Shape := ⟨3, ![16, 4096, 4800]⟩
abbrev S16x4096x384 : Shape := ⟨3, ![16, 4096, 384]⟩
abbrev S16x4096x256 : Shape := ⟨3, ![16, 4096, 256]⟩
abbrev S16x4096x64 : Shape := ⟨3, ![16, 4096, 64]⟩
abbrev S16x4096x2048 : Shape := ⟨3, ![16, 4096, 2048]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x1x384 : Shape := ⟨3, ![1, 1, 384]⟩
abbrev S16x4096x1536 : Shape := ⟨3, ![16, 4096, 1536]⟩
abbrev S16x4096x8x192 : Shape := ⟨4, ![16, 4096, 8, 192]⟩
abbrev S16x4096x8x64 : Shape := ⟨4, ![16, 4096, 8, 64]⟩
abbrev S4096x1x64 : Shape := ⟨3, ![4096, 1, 64]⟩
abbrev S16x4096x8x32 : Shape := ⟨4, ![16, 4096, 8, 32]⟩
abbrev S1x4096x1x64 : Shape := ⟨4, ![1, 4096, 1, 64]⟩
abbrev S1x1x256 : Shape := ⟨3, ![1, 1, 256]⟩
abbrev S16x4096x8x256 : Shape := ⟨4, ![16, 4096, 8, 256]⟩
abbrev S16x4096x32 : Shape := ⟨3, ![16, 4096, 32]⟩
abbrev S1x4096x64 : Shape := ⟨3, ![1, 4096, 64]⟩
abbrev S16x4096x8x128 : Shape := ⟨4, ![16, 4096, 8, 128]⟩
abbrev S16x4096x1x64 : Shape := ⟨4, ![16, 4096, 1, 64]⟩
abbrev S16x4096x8x16 : Shape := ⟨4, ![16, 4096, 8, 16]⟩
abbrev S16x4096x8x144 : Shape := ⟨4, ![16, 4096, 8, 144]⟩
abbrev S128x512x8x256 : Shape := ⟨4, ![128, 512, 8, 256]⟩
abbrev S8x128x256x512 : Shape := ⟨4, ![8, 128, 256, 512]⟩
abbrev S128x512x8x144 : Shape := ⟨4, ![128, 512, 8, 144]⟩
abbrev S8x128x144x512 : Shape := ⟨4, ![8, 128, 144, 512]⟩
abbrev S65536x8x256 : Shape := ⟨3, ![65536, 8, 256]⟩
abbrev S8x65536x256 : Shape := ⟨3, ![8, 65536, 256]⟩
abbrev S16x32x128x8x128 : Shape := ⟨5, ![16, 32, 128, 8, 128]⟩
abbrev S8x16x32x128x128 : Shape := ⟨5, ![8, 16, 32, 128, 128]⟩
abbrev S128x8 : Shape := ⟨2, ![128, 8]⟩
abbrev S1x1x128x8x1 : Shape := ⟨5, ![1, 1, 128, 8, 1]⟩
abbrev S65536x1024 : Shape := ⟨2, ![65536, 1024]⟩

abbrev nBuf : Space → Nat
  | .hbm => 207
  | .vmem => 0
  | .smem => 0
  | _ => 0

abbrev hbmTy0_0 (i : Nat) : BufTy := match i % 128 with
  | 0 => ⟨S16x4096x1024, .f32⟩
  | 1 => ⟨S1024, .f32⟩
  | 2 => ⟨S1024x4800, .f32⟩
  | 3 => ⟨S384, .f32⟩
  | 4 => ⟨S384x1536, .f32⟩
  | 5 => ⟨S256, .f32⟩
  | 6 => ⟨S256x2048, .f32⟩
  | 7 => ⟨S1024, .f32⟩
  | 8 => ⟨S8x128x128, .f32⟩
  | 9 => ⟨S8x128, .f32⟩
  | 10 => ⟨S16x4096x1024, .f32⟩
  | 11 => ⟨S_, .f32⟩
  | 12 => ⟨S16x4096, .f32⟩
  | 13 => ⟨S16x4096x1, .f32⟩
  | 14 => ⟨S_, .f32⟩
  | 15 => ⟨S16x4096x1, .f32⟩
  | 16 => ⟨S16x4096x1, .f32⟩
  | 17 => ⟨S_, .f32⟩
  | 18 => ⟨S16x4096x1, .f32⟩
  | 19 => ⟨S16x4096x1, .f32⟩
  | 20 => ⟨S16x4096x1, .f32⟩
  | 21 => ⟨S16x4096x1024, .f32⟩
  | 22 => ⟨S16x4096x1024, .f32⟩
  | 23 => ⟨S1x1x1024, .f32⟩
  | 24 => ⟨S16x4096x1024, .f32⟩
  | 25 => ⟨S16x4096x1024, .f32⟩
  | 26 => ⟨S16x4096x4800, .f32⟩
  | 27 => ⟨S16x4096x384, .f32⟩
  | 28 => ⟨S16x4096x256, .f32⟩
  | 29 => ⟨S16x4096x64, .f32⟩
  | 30 => ⟨S16x4096x2048, .f32⟩
  | 31 => ⟨S16x4096x2048, .f32⟩
  | 32 => ⟨S4096, .f32⟩
  | 33 => ⟨S32, .f32⟩
  | 34 => ⟨S_, .f32⟩
  | 35 => ⟨S32, .f32⟩
  | 36 => ⟨S32, .f32⟩
  | 37 => ⟨S_, .f32⟩
  | 38 => ⟨S32, .f32⟩
  | 39 => ⟨S32, .f32⟩
  | 40 => ⟨S32, .f32⟩
  | 41 => ⟨S_, .f32⟩
  | 42 => ⟨S32, .f32⟩
  | 43 => ⟨S32, .f32⟩
  | 44 => ⟨S_, .f32⟩
  | 45 => ⟨S32, .f32⟩
  | 46 => ⟨S32, .f32⟩
  | 47 => ⟨S4096x1, .f32⟩
  | 48 => ⟨S1x32, .f32⟩
  | 49 => ⟨S4096x32, .f32⟩
  | 50 => ⟨S4096x32, .f32⟩
  | 51 => ⟨S4096x32, .f32⟩
  | 52 => ⟨S4096x64, .f32⟩
  | 53 => ⟨S4096x64, .f32⟩
  | 54 => ⟨S4096x64, .f32⟩
  | 55 => ⟨S16x4096x384, .f32⟩
  | 56 => ⟨S_, .f32⟩
  | 57 => ⟨S16x4096, .f32⟩
  | 58 => ⟨S16x4096x1, .f32⟩
  | 59 => ⟨S_, .f32⟩
  | 60 => ⟨S16x4096x1, .f32⟩
  | 61 => ⟨S16x4096x1, .f32⟩
  | 62 => ⟨S_, .f32⟩
  | 63 => ⟨S16x4096x1, .f32⟩
  | 64 => ⟨S16x4096x1, .f32⟩
  | 65 => ⟨S16x4096x1, .f32⟩
  | 66 => ⟨S16x4096x384, .f32⟩
  | 67 => ⟨S16x4096x384, .f32⟩
  | 68 => ⟨S1x1x384, .f32⟩
  | 69 => ⟨S16x4096x384, .f32⟩
  | 70 => ⟨S16x4096x384, .f32⟩
  | 71 => ⟨S16x4096x1536, .f32⟩
  | 72 => ⟨S16x4096x8x192, .f32⟩
  | 73 => ⟨S16x4096x8x64, .f32⟩
  | 74 => ⟨S4096x1x64, .f32⟩
  | 75 => ⟨S4096x1x64, .f32⟩
  | 76 => ⟨S16x4096x8x32, .f32⟩
  | 77 => ⟨S16x4096x8x32, .f32⟩
  | 78 => ⟨S16x4096x8x32, .f32⟩
  | 79 => ⟨S16x4096x8x64, .f32⟩
  | 80 => ⟨S1x4096x1x64, .f32⟩
  | 81 => ⟨S16x4096x8x64, .f32⟩
  | 82 => ⟨S16x4096x8x64, .f32⟩
  | 83 => ⟨S1x4096x1x64, .f32⟩
  | 84 => ⟨S16x4096x8x64, .f32⟩
  | 85 => ⟨S16x4096x8x64, .f32⟩
  | 86 => ⟨S16x4096x8x64, .f32⟩
  | 87 => ⟨S16x4096x256, .f32⟩
  | 88 => ⟨S_, .f32⟩
  | 89 => ⟨S16x4096, .f32⟩
  | 90 => ⟨S16x4096x1, .f32⟩
  | 91 => ⟨S_, .f32⟩
  | 92 => ⟨S16x4096x1, .f32⟩
  | 93 => ⟨S16x4096x1, .f32⟩
  | 94 => ⟨S_, .f32⟩
  | 95 => ⟨S16x4096x1, .f32⟩
  | 96 => ⟨S16x4096x1, .f32⟩
  | 97 => ⟨S16x4096x1, .f32⟩
  | 98 => ⟨S16x4096x256, .f32⟩
  | 99 => ⟨S16x4096x256, .f32⟩
  | 100 => ⟨S1x1x256, .f32⟩
  | 101 => ⟨S16x4096x256, .f32⟩
  | 102 => ⟨S16x4096x256, .f32⟩
  | 103 => ⟨S16x4096x2048, .f32⟩
  | 104 => ⟨S16x4096x8x256, .f32⟩
  | 105 => ⟨S16x4096x32, .f32⟩
  | 106 => ⟨S16x4096x32, .f32⟩
  | 107 => ⟨S16x4096x32, .f32⟩
  | 108 => ⟨S16x4096x64, .f32⟩
  | 109 => ⟨S1x4096x64, .f32⟩
  | 110 => ⟨S16x4096x64, .f32⟩
  | 111 => ⟨S16x4096x64, .f32⟩
  | 112 => ⟨S1x4096x64, .f32⟩
  | 113 => ⟨S16x4096x64, .f32⟩
  | 114 => ⟨S16x4096x64, .f32⟩
  | 115 => ⟨S16x4096x64, .f32⟩
  | 116 => ⟨S_, .f32⟩
  | 117 => ⟨S16x4096x8x64, .f32⟩
  | 118 => ⟨S16x4096x8x128, .f32⟩
  | 119 => ⟨S16x4096x8x256, .f32⟩
  | 120 => ⟨S_, .f32⟩
  | 121 => ⟨S16x4096x8x256, .f32⟩
  | 122 => ⟨S16x4096x8x256, .f32⟩
  | 123 => ⟨S16x4096x8x128, .f32⟩
  | 124 => ⟨S16x4096x1x64, .f32⟩
  | 125 => ⟨S16x4096x8x64, .f32⟩
  | 126 => ⟨S16x4096x8x256, .f32⟩
  | 127 => ⟨S16x4096x8x128, .f32⟩
  | _ => ⟨S16x4096x1024, .f32⟩

abbrev hbmTy0_1 (i : Nat) : BufTy := match i % 128 with
  | 0 => ⟨S_, .f32⟩
  | 1 => ⟨S16x4096x8x16, .f32⟩
  | 2 => ⟨S16x4096x8x144, .f32⟩
  | 3 => ⟨S128x512x8x256, .f32⟩
  | 4 => ⟨S8x128x256x512, .f32⟩
  | 5 => ⟨S128x512x8x144, .f32⟩
  | 6 => ⟨S8x128x144x512, .f32⟩
  | 7 => ⟨S65536x8x256, .f32⟩
  | 8 => ⟨S8x65536x256, .f32⟩
  | 9 => ⟨S16x4096x2048, .f32⟩
  | 10 => ⟨S16x4096x2048, .f32⟩
  | 11 => ⟨S_, .f32⟩
  | 12 => ⟨S16x4096x2048, .f32⟩
  | 13 => ⟨S16x4096x2048, .f32⟩
  | 14 => ⟨S16x4096x2048, .f32⟩
  | 15 => ⟨S_, .f32⟩
  | 16 => ⟨S16x4096x2048, .f32⟩
  | 17 => ⟨S16x4096x2048, .f32⟩
  | 18 => ⟨S16x4096x2048, .f32⟩
  | 19 => ⟨S_, .f32⟩
  | 20 => ⟨S16x4096x2048, .f32⟩
  | 21 => ⟨S16x4096x2048, .f32⟩
  | 22 => ⟨S_, .f32⟩
  | 23 => ⟨S16x4096x2048, .f32⟩
  | 24 => ⟨S16x4096x2048, .f32⟩
  | 25 => ⟨S16x4096x2048, .f32⟩
  | 26 => ⟨S16x4096x1024, .f32⟩
  | 27 => ⟨S16x4096x1024, .f32⟩
  | 28 => ⟨S16x4096x1024, .f32⟩
  | 29 => ⟨S_, .f32⟩
  | 30 => ⟨S16x4096, .f32⟩
  | 31 => ⟨S16x4096x1, .f32⟩
  | 32 => ⟨S_, .f32⟩
  | 33 => ⟨S16x4096x1, .f32⟩
  | 34 => ⟨S16x4096x1, .f32⟩
  | 35 => ⟨S_, .f32⟩
  | 36 => ⟨S16x4096x1, .f32⟩
  | 37 => ⟨S16x4096x1, .f32⟩
  | 38 => ⟨S16x4096x1, .f32⟩
  | 39 => ⟨S16x4096x1024, .f32⟩
  | 40 => ⟨S16x4096x1024, .f32⟩
  | 41 => ⟨S1x1x1024, .f32⟩
  | 42 => ⟨S16x4096x1024, .f32⟩
  | 43 => ⟨S16x4096x1024, .f32⟩
  | 44 => ⟨S16x32x128x8x128, .f32⟩
  | 45 => ⟨S8x16x32x128x128, .f32⟩
  | 46 => ⟨S16x32x128x8x128, .f32⟩
  | 47 => ⟨S128x8, .f32⟩
  | 48 => ⟨S1x1x128x8x1, .f32⟩
  | 49 => ⟨S16x32x128x8x128, .f32⟩
  | 50 => ⟨S16x32x128x8x128, .f32⟩
  | 51 => ⟨S16x4096x1024, .f32⟩
  | 52 => ⟨S16x4096x1024, .f32⟩
  | 53 => ⟨S16x4096x1024, .f32⟩
  | 54 => ⟨S16x4096x1024, .f32⟩
  | 55 => ⟨S16x4096x1024, .f32⟩
  | 56 => ⟨S16x4096x1024, .f32⟩
  | 57 => ⟨S_, .f32⟩
  | 58 => ⟨S16x4096x1024, .f32⟩
  | 59 => ⟨S16x4096x1024, .f32⟩
  | 60 => ⟨S_, .f32⟩
  | 61 => ⟨S16x4096x1024, .f32⟩
  | 62 => ⟨S16x4096x1024, .f32⟩
  | 63 => ⟨S65536x1024, .f32⟩
  | 64 => ⟨S16x4096x1024, .f32⟩
  | 65 => ⟨S16x4096x1024, .f32⟩
  | 66 => ⟨S_, .f32⟩
  | 67 => ⟨S16x4096x1024, .f32⟩
  | 68 => ⟨S16x4096x1024, .f32⟩
  | 69 => ⟨S_, .f32⟩
  | 70 => ⟨S16x4096x1024, .f32⟩
  | 71 => ⟨S16x4096x1024, .f32⟩
  | 72 => ⟨S16x4096x1024, .f32⟩
  | 73 => ⟨S65536x1024, .f32⟩
  | 74 => ⟨S8x128x256x512, .bf16⟩
  | 75 => ⟨S8x65536x256, .bf16⟩
  | 76 => ⟨S8x128x144x512, .bf16⟩
  | 77 => ⟨S65536x1024, .bf16⟩
  | 78 => ⟨S65536x1024, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_9 : Ref sig .tc := ⟨.hbm, 88, rfl⟩
abbrev main_v68 : Ref sig .tc := ⟨.hbm, 89, rfl⟩
abbrev main_v69 : Ref sig .tc := ⟨.hbm, 90, rfl⟩
abbrev main_cst_10 : Ref sig .tc := ⟨.hbm, 91, rfl⟩
abbrev main_v70 : Ref sig .tc := ⟨.hbm, 92, rfl⟩
abbrev main_v71 : Ref sig .tc := ⟨.hbm, 93, rfl⟩
abbrev main_cst_11 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst_12 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_cst_13 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_cst_14 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_cst_15 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_cst_16 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_cst_17 : Ref sig .tc := ⟨.hbm, 147, rfl⟩
abbrev main_v119 : Ref sig .tc := ⟨.hbm, 148, rfl⟩
abbrev main_v120 : Ref sig .tc := ⟨.hbm, 149, rfl⟩
abbrev main_cst_18 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_cst_19 : Ref sig .tc := ⟨.hbm, 157, rfl⟩
abbrev main_v127 : Ref sig .tc := ⟨.hbm, 158, rfl⟩
abbrev main_v128 : Ref sig .tc := ⟨.hbm, 159, rfl⟩
abbrev main_cst_20 : Ref sig .tc := ⟨.hbm, 160, rfl⟩
abbrev main_v129 : Ref sig .tc := ⟨.hbm, 161, rfl⟩
abbrev main_v130 : Ref sig .tc := ⟨.hbm, 162, rfl⟩
abbrev main_cst_21 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_cst_22 : Ref sig .tc := ⟨.hbm, 185, rfl⟩
abbrev main_v152 : Ref sig .tc := ⟨.hbm, 186, rfl⟩
abbrev main_v153 : Ref sig .tc := ⟨.hbm, 187, rfl⟩
abbrev main_cst_23 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_cst_24 : Ref sig .tc := ⟨.hbm, 194, rfl⟩
abbrev main_v159 : Ref sig .tc := ⟨.hbm, 195, rfl⟩
abbrev main_v160 : Ref sig .tc := ⟨.hbm, 196, rfl⟩
abbrev main_cst_25 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩

abbrev nD : Nat := 1
abbrev τ : Topo := Topo.v7x

variable {F : FTy → Type} [FloatOps F]
-- ==== Kernel6.lean ====
abbrev S8x128x256x512 : Shape := ⟨4, ![8, 128, 256, 512]⟩
abbrev S8x65536x256 : Shape := ⟨3, ![8, 65536, 256]⟩
abbrev S8x128x144x512 : Shape := ⟨4, ![8, 128, 144, 512]⟩
abbrev S65536x1024 : Shape := ⟨2, ![65536, 1024]⟩
abbrev S2x8x256x512 : Shape := ⟨4, ![2, 8, 256, 512]⟩
abbrev S2x4096x256 : Shape := ⟨3, ![2, 4096, 256]⟩
abbrev S2x8x144x512 : Shape := ⟨4, ![2, 8, 144, 512]⟩
abbrev S4096x256 : Shape := ⟨2, ![4096, 256]⟩
abbrev S1024x512 : Shape := ⟨2, ![1024, 512]⟩
abbrev S8x512 : Shape := ⟨2, ![8, 512]⟩
abbrev S16x1x512 : Shape := ⟨3, ![16, 1, 512]⟩
abbrev S16x144x512 : Shape := ⟨3, ![16, 144, 512]⟩
abbrev S1x256x256 : Shape := ⟨3, ![1, 256, 256]⟩
abbrev S256x256 : Shape := ⟨2, ![256, 256]⟩
abbrev S1x1x256x512 : Shape := ⟨4, ![1, 1, 256, 512]⟩
abbrev S256x512 : Shape := ⟨2, ![256, 512]⟩
abbrev S32x8x512 : Shape := ⟨3, ![32, 8, 512]⟩
abbrev S1x1x512 : Shape := ⟨3, ![1, 1, 512]⟩
abbrev S1x512 : Shape := ⟨2, ![1, 512]⟩
abbrev S512 : Shape := ⟨1, ![512]⟩
abbrev S1x144x512 : Shape := ⟨3, ![1, 144, 512]⟩
abbrev S144x512 : Shape := ⟨2, ![144, 512]⟩
abbrev S1x1x144x512 : Shape := ⟨4, ![1, 1, 144, 512]⟩
abbrev S144x1024 : Shape := ⟨2, ![144, 1024]⟩
abbrev S144x256 : Shape := ⟨2, ![144, 256]⟩
abbrev S128x512 : Shape := ⟨2, ![128, 512]⟩
abbrev S512x128 : Shape := ⟨2, ![512, 128]⟩

abbrev nBuf : Space → Nat
  | .hbm => 4
  | .vmem => 18
  | .smem => 0
  | _ => 0

abbrev bufTy : (tb : Table) → Fin (tcTables nBuf tb) → BufTy
  | .hbm, ⟨0, _⟩ => ⟨S8x128x256x512, .bf16⟩
  | .hbm, ⟨1, _⟩ => ⟨S8x65536x256, .bf16⟩
  | .hbm, ⟨2, _⟩ => ⟨S8x128x144x512, .bf16⟩
  | .hbm, ⟨3, _⟩ => ⟨S65536x1024, .bf16⟩
  | .local _ .vmem, ⟨0, _⟩ => ⟨S2x8x256x512, .bf16⟩
  | .local _ .vmem, ⟨1, _⟩ => ⟨S2x8x256x512, .bf16⟩
  | .local _ .vmem, ⟨2, _⟩ => ⟨S2x4096x256, .bf16⟩
  | .local _ .vmem, ⟨3, _⟩ => ⟨S2x4096x256, .bf16⟩
  | .local _ .vmem, ⟨4, _⟩ => ⟨S2x8x144x512, .bf16⟩
  | .local _ .vmem, ⟨5, _⟩ => ⟨S2x8x144x512, .bf16⟩
  | .local _ .vmem, ⟨6, _⟩ => ⟨S4096x256, .bf16⟩
  | .local _ .vmem, ⟨7, _⟩ => ⟨S4096x256, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | .local _ .vmem, ⟨16, _⟩ => ⟨S16x1x512, .f32⟩
  | .local _ .vmem, ⟨17, _⟩ => ⟨S16x144x512, .f32⟩
  | _, _ => ⟨S8x128x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 1], ![false, false, false]⟩

def k0_mult1 : BitVec 32 :=
  let c0_i32 : BitVec 32 := 0#32
  c0_i32
def k0_mult2 : BitVec 32 :=
  let c256_i32 : BitVec 32 := 256#32
  c256_i32
def k0_mult3 : BitVec 32 :=
  let c512_i32 : BitVec 32 := 512#32
  c512_i32
def k0_mult4 : BitVec 32 :=
  let c768_i32 : BitVec 32 := 768#32
  c768_i32
def k0_mult5 : BitVec 32 :=
  let c1024_i32 : BitVec 32 := 1024#32
  c1024_i32
def k0_mult6 : BitVec 32 :=
  let c1280_i32 : BitVec 32 := 1280#32
  c1280_i32
def k0_mult7 : BitVec 32 :=
  let c1536_i32 : BitVec 32 := 1536#32
  c1536_i32
def k0_mult8 : BitVec 32 :=
  let c1792_i32 : BitVec 32 := 1792#32
  c1792_i32
def k0_mult9 : BitVec 32 :=
  let c2048_i32 : BitVec 32 := 2048#32
  c2048_i32
def k0_mult10 : BitVec 32 :=
  let c2304_i32 : BitVec 32 := 2304#32
  c2304_i32
def k0_mult11 : BitVec 32 :=
  let c2560_i32 : BitVec 32 := 2560#32
  c2560_i32
def k0_mult12 : BitVec 32 :=
  let c2816_i32 : BitVec 32 := 2816#32
  c2816_i32
def k0_mult13 : BitVec 32 :=
  let c3072_i32 : BitVec 32 := 3072#32
  c3072_i32
def k0_mult14 : BitVec 32 :=
  let c3328_i32 : BitVec 32 := 3328#32
  c3328_i32
def k0_mult15 : BitVec 32 :=
  let c3584_i32 : BitVec 32 := 3584#32
  c3584_i32
def k0_mult16 : BitVec 32 :=
  let c3840_i32 : BitVec 32 := 3840#32
  c3840_i32
@[reducible] def k0_t1_loop : Scf.Loop 32 :=
  let c0_i32_171 : BitVec 32 := 0#32
  let c15_i32 : BitVec 32 := 15#32
  let v224 : BitVec 32 := Scalar.addi c0_i32_171 c15_i32
  let c1_i32 : BitVec 32 := 1#32
  ⟨c0_i32_171, v224, c1_i32⟩
def k0_off1 (k0_t1 : Fin k0_t1_loop.trips) (c0_i32_371 : BitVec 32) : Fin 3 → Nat :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let v590 : BitVec 32 := Scalar.addi v589 c0_i32_371
  let c2_i32 : BitVec 32 := 2#32
  let v593 : BitVec 32 := Scalar.shrui v590 c2_i32
  let v596 : Index := Scalar.indexCast v593
  let c0_375 : Index := 0#32
  let c0_376 : Index := 0#32
  ![v596.toNat, 0, 0]
def k0_off2 (k0_t1 : Fin k0_t1_loop.trips) (c0_i32_371 : BitVec 32) : Fin 3 → Nat :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let v590 : BitVec 32 := Scalar.addi v589 c0_i32_371
  let c2_i32 : BitVec 32 := 2#32
  let v593 : BitVec 32 := Scalar.shrui v590 c2_i32
  let v609 : Index := Scalar.indexCast v593
  let c0_382 : Index := 0#32
  let c0_383 : Index := 0#32
  ![v609.toNat, 0, 0]
def k0_off3 (k0_t1 : Fin k0_t1_loop.trips) (c0_i32_371 : BitVec 32) (c0_i32_385 : BitVec 32) : Fin 4 → Nat :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let v590 : BitVec 32 := Scalar.addi v589 c0_i32_371
  let c2_i32 : BitVec 32 := 2#32
  let v593 : BitVec 32 := Scalar.shrui v590 c2_i32
  let c3_i32_374 : BitVec 32 := 3#32
  let v595 : BitVec 32 := Scalar.shrui v593 c3_i32_374
  let v616 : Index := Scalar.indexCast v595
  let c2_i32_384 : BitVec 32 := 2#32
  let c3_i32 : BitVec 32 := 3#32
  let v594 : BitVec 32 := Scalar.andi v590 c3_i32
  let v614 : BitVec 32 := Scalar.muli c2_i32_384 v594
  let v615 : BitVec 32 := Scalar.addi v614 c0_i32_385
  let v617 : Index := Scalar.indexCast v615
  let c0_386 : Index := 0#32
  let c0_387 : Index := 0#32
  ![v616.toNat, v617.toNat, 0, 0]
def k0_mult17 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_372 : BitVec 32 := 4#32
  let v591 : BitVec 32 := Scalar.addi v589 c4_i32_372
  let c0_i32_373 : BitVec 32 := 0#32
  let v592 : BitVec 32 := Scalar.addi v591 c0_i32_373
  let c3_i32_396 : BitVec 32 := 3#32
  let v636 : BitVec 32 := Scalar.andi v592 c3_i32_396
  let c1024_i32_398 : BitVec 32 := 1024#32
  let v639 : BitVec 32 := Scalar.muli v636 c1024_i32_398
  let c0_i32_399 : BitVec 32 := 0#32
  let v640 : BitVec 32 := Scalar.addi v639 c0_i32_399
  v640
def k0_off4 (k0_t1 : Fin k0_t1_loop.trips) (c0_i32_373 : BitVec 32) (c0_i32_399 : BitVec 32) : Fin 3 → Nat :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_372 : BitVec 32 := 4#32
  let v591 : BitVec 32 := Scalar.addi v589 c4_i32_372
  let v592 : BitVec 32 := Scalar.addi v591 c0_i32_373
  let c2_i32_395 : BitVec 32 := 2#32
  let v635 : BitVec 32 := Scalar.shrui v592 c2_i32_395
  let c3_i32_397 : BitVec 32 := 3#32
  let v637 : BitVec 32 := Scalar.shrui v635 c3_i32_397
  let v642 : Index := Scalar.indexCast v637
  let c3_i32_396 : BitVec 32 := 3#32
  let v636 : BitVec 32 := Scalar.andi v592 c3_i32_396
  let c1024_i32_398 : BitVec 32 := 1024#32
  let v639 : BitVec 32 := Scalar.muli v636 c1024_i32_398
  let v640 : BitVec 32 := Scalar.addi v639 c0_i32_399
  let v641 : BitVec 32 := v640
  let v643 : Index := Scalar.indexCast v641
  let c0_400 : Index := 0#32
  ![v642.toNat, v643.toNat, 0]
def k0_off5 (k0_t1 : Fin k0_t1_loop.trips) (c0_i32_373 : BitVec 32) : Fin 4 → Nat :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_372 : BitVec 32 := 4#32
  let v591 : BitVec 32 := Scalar.addi v589 c4_i32_372
  let v592 : BitVec 32 := Scalar.addi v591 c0_i32_373
  let c2_i32_395 : BitVec 32 := 2#32
  let v635 : BitVec 32 := Scalar.shrui v592 c2_i32_395
  let c3_i32_397 : BitVec 32 := 3#32
  let v637 : BitVec 32 := Scalar.shrui v635 c3_i32_397
  let v646 : Index := Scalar.indexCast v637
  let c7_i32 : BitVec 32 := 7#32
  let v638 : BitVec 32 := Scalar.andi v635 c7_i32
  let v647 : Index := Scalar.indexCast v638
  let c0_401 : Index := 0#32
  let c0_402 : Index := 0#32
  ![v646.toNat, v647.toNat, 0, 0]
def k0_mult18 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_372 : BitVec 32 := 4#32
  let v591 : BitVec 32 := Scalar.addi v589 c4_i32_372
  let c0_i32_373 : BitVec 32 := 0#32
  let v592 : BitVec 32 := Scalar.addi v591 c0_i32_373
  let c3_i32_396 : BitVec 32 := 3#32
  let v636 : BitVec 32 := Scalar.andi v592 c3_i32_396
  let c1024_i32_410 : BitVec 32 := 1024#32
  let v664 : BitVec 32 := Scalar.muli v636 c1024_i32_410
  let c256_i32_411 : BitVec 32 := 256#32
  let v665 : BitVec 32 := Scalar.addi v664 c256_i32_411
  v665
def k0_mult19 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_372 : BitVec 32 := 4#32
  let v591 : BitVec 32 := Scalar.addi v589 c4_i32_372
  let c0_i32_373 : BitVec 32 := 0#32
  let v592 : BitVec 32 := Scalar.addi v591 c0_i32_373
  let c3_i32_396 : BitVec 32 := 3#32
  let v636 : BitVec 32 := Scalar.andi v592 c3_i32_396
  let c1024_i32_422 : BitVec 32 := 1024#32
  let v690 : BitVec 32 := Scalar.muli v636 c1024_i32_422
  let c512_i32_423 : BitVec 32 := 512#32
  let v691 : BitVec 32 := Scalar.addi v690 c512_i32_423
  v691
def k0_mult20 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_372 : BitVec 32 := 4#32
  let v591 : BitVec 32 := Scalar.addi v589 c4_i32_372
  let c0_i32_373 : BitVec 32 := 0#32
  let v592 : BitVec 32 := Scalar.addi v591 c0_i32_373
  let c3_i32_396 : BitVec 32 := 3#32
  let v636 : BitVec 32 := Scalar.andi v592 c3_i32_396
  let c1024_i32_436 : BitVec 32 := 1024#32
  let v720 : BitVec 32 := Scalar.muli v636 c1024_i32_436
  let c768_i32_437 : BitVec 32 := 768#32
  let v721 : BitVec 32 := Scalar.addi v720 c768_i32_437
  v721
def k0_mult21 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_448 : BitVec 32 := 4#32
  let v742 : BitVec 32 := Scalar.addi v589 c4_i32_448
  let c1_i32_449 : BitVec 32 := 1#32
  let v743 : BitVec 32 := Scalar.addi v742 c1_i32_449
  let c3_i32_474 : BitVec 32 := 3#32
  let v787 : BitVec 32 := Scalar.andi v743 c3_i32_474
  let c1024_i32_477 : BitVec 32 := 1024#32
  let v790 : BitVec 32 := Scalar.muli v787 c1024_i32_477
  let c0_i32_478 : BitVec 32 := 0#32
  let v791 : BitVec 32 := Scalar.addi v790 c0_i32_478
  v791
def k0_mult22 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_448 : BitVec 32 := 4#32
  let v742 : BitVec 32 := Scalar.addi v589 c4_i32_448
  let c1_i32_449 : BitVec 32 := 1#32
  let v743 : BitVec 32 := Scalar.addi v742 c1_i32_449
  let c3_i32_474 : BitVec 32 := 3#32
  let v787 : BitVec 32 := Scalar.andi v743 c3_i32_474
  let c1024_i32_489 : BitVec 32 := 1024#32
  let v815 : BitVec 32 := Scalar.muli v787 c1024_i32_489
  let c256_i32_490 : BitVec 32 := 256#32
  let v816 : BitVec 32 := Scalar.addi v815 c256_i32_490
  v816
def k0_mult23 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_448 : BitVec 32 := 4#32
  let v742 : BitVec 32 := Scalar.addi v589 c4_i32_448
  let c1_i32_449 : BitVec 32 := 1#32
  let v743 : BitVec 32 := Scalar.addi v742 c1_i32_449
  let c3_i32_474 : BitVec 32 := 3#32
  let v787 : BitVec 32 := Scalar.andi v743 c3_i32_474
  let c1024_i32_501 : BitVec 32 := 1024#32
  let v841 : BitVec 32 := Scalar.muli v787 c1024_i32_501
  let c512_i32_502 : BitVec 32 := 512#32
  let v842 : BitVec 32 := Scalar.addi v841 c512_i32_502
  v842
def k0_mult24 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_448 : BitVec 32 := 4#32
  let v742 : BitVec 32 := Scalar.addi v589 c4_i32_448
  let c1_i32_449 : BitVec 32 := 1#32
  let v743 : BitVec 32 := Scalar.addi v742 c1_i32_449
  let c3_i32_474 : BitVec 32 := 3#32
  let v787 : BitVec 32 := Scalar.andi v743 c3_i32_474
  let c1024_i32_515 : BitVec 32 := 1024#32
  let v871 : BitVec 32 := Scalar.muli v787 c1024_i32_515
  let c768_i32_516 : BitVec 32 := 768#32
  let v872 : BitVec 32 := Scalar.addi v871 c768_i32_516
  v872
def k0_mult25 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_527 : BitVec 32 := 4#32
  let v893 : BitVec 32 := Scalar.addi v589 c4_i32_527
  let c2_i32_528 : BitVec 32 := 2#32
  let v894 : BitVec 32 := Scalar.addi v893 c2_i32_528
  let c3_i32_553 : BitVec 32 := 3#32
  let v938 : BitVec 32 := Scalar.andi v894 c3_i32_553
  let c1024_i32_556 : BitVec 32 := 1024#32
  let v941 : BitVec 32 := Scalar.muli v938 c1024_i32_556
  let c0_i32_557 : BitVec 32 := 0#32
  let v942 : BitVec 32 := Scalar.addi v941 c0_i32_557
  v942
def k0_mult26 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_527 : BitVec 32 := 4#32
  let v893 : BitVec 32 := Scalar.addi v589 c4_i32_527
  let c2_i32_528 : BitVec 32 := 2#32
  let v894 : BitVec 32 := Scalar.addi v893 c2_i32_528
  let c3_i32_553 : BitVec 32 := 3#32
  let v938 : BitVec 32 := Scalar.andi v894 c3_i32_553
  let c1024_i32_568 : BitVec 32 := 1024#32
  let v966 : BitVec 32 := Scalar.muli v938 c1024_i32_568
  let c256_i32_569 : BitVec 32 := 256#32
  let v967 : BitVec 32 := Scalar.addi v966 c256_i32_569
  v967
def k0_mult27 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_527 : BitVec 32 := 4#32
  let v893 : BitVec 32 := Scalar.addi v589 c4_i32_527
  let c2_i32_528 : BitVec 32 := 2#32
  let v894 : BitVec 32 := Scalar.addi v893 c2_i32_528
  let c3_i32_553 : BitVec 32 := 3#32
  let v938 : BitVec 32 := Scalar.andi v894 c3_i32_553
  let c1024_i32_580 : BitVec 32 := 1024#32
  let v992 : BitVec 32 := Scalar.muli v938 c1024_i32_580
  let c512_i32_581 : BitVec 32 := 512#32
  let v993 : BitVec 32 := Scalar.addi v992 c512_i32_581
  v993
def k0_mult28 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_527 : BitVec 32 := 4#32
  let v893 : BitVec 32 := Scalar.addi v589 c4_i32_527
  let c2_i32_528 : BitVec 32 := 2#32
  let v894 : BitVec 32 := Scalar.addi v893 c2_i32_528
  let c3_i32_553 : BitVec 32 := 3#32
  let v938 : BitVec 32 := Scalar.andi v894 c3_i32_553
  let c1024_i32_594 : BitVec 32 := 1024#32
  let v1022 : BitVec 32 := Scalar.muli v938 c1024_i32_594
  let c768_i32_595 : BitVec 32 := 768#32
  let v1023 : BitVec 32 := Scalar.addi v1022 c768_i32_595
  v1023
def k0_mult29 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_606 : BitVec 32 := 4#32
  let v1044 : BitVec 32 := Scalar.addi v589 c4_i32_606
  let c3_i32_607 : BitVec 32 := 3#32
  let v1045 : BitVec 32 := Scalar.addi v1044 c3_i32_607
  let c3_i32_632 : BitVec 32 := 3#32
  let v1089 : BitVec 32 := Scalar.andi v1045 c3_i32_632
  let c1024_i32_635 : BitVec 32 := 1024#32
  let v1092 : BitVec 32 := Scalar.muli v1089 c1024_i32_635
  let c0_i32_636 : BitVec 32 := 0#32
  let v1093 : BitVec 32 := Scalar.addi v1092 c0_i32_636
  v1093
def k0_mult30 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_606 : BitVec 32 := 4#32
  let v1044 : BitVec 32 := Scalar.addi v589 c4_i32_606
  let c3_i32_607 : BitVec 32 := 3#32
  let v1045 : BitVec 32 := Scalar.addi v1044 c3_i32_607
  let c3_i32_632 : BitVec 32 := 3#32
  let v1089 : BitVec 32 := Scalar.andi v1045 c3_i32_632
  let c1024_i32_647 : BitVec 32 := 1024#32
  let v1117 : BitVec 32 := Scalar.muli v1089 c1024_i32_647
  let c256_i32_648 : BitVec 32 := 256#32
  let v1118 : BitVec 32 := Scalar.addi v1117 c256_i32_648
  v1118
def k0_mult31 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_606 : BitVec 32 := 4#32
  let v1044 : BitVec 32 := Scalar.addi v589 c4_i32_606
  let c3_i32_607 : BitVec 32 := 3#32
  let v1045 : BitVec 32 := Scalar.addi v1044 c3_i32_607
  let c3_i32_632 : BitVec 32 := 3#32
  let v1089 : BitVec 32 := Scalar.andi v1045 c3_i32_632
  let c1024_i32_659 : BitVec 32 := 1024#32
  let v1143 : BitVec 32 := Scalar.muli v1089 c1024_i32_659
  let c512_i32_660 : BitVec 32 := 512#32
  let v1144 : BitVec 32 := Scalar.addi v1143 c512_i32_660
  v1144
def k0_mult32 (k0_t1 : Fin k0_t1_loop.trips) : BitVec 32 :=
  let c4_i32 : BitVec 32 := 4#32
  let c0_i32_171 : BitVec 32 := 0#32
  let c1_i32 : BitVec 32 := 1#32
  let arg17 : BitVec 32 := Scf.iv c0_i32_171 c1_i32 k0_t1
  let v589 : BitVec 32 := Scalar.muli c4_i32 arg17
  let c4_i32_606 : BitVec 32 := 4#32
  let v1044 : BitVec 32 := Scalar.addi v589 c4_i32_606
  let c3_i32_607 : BitVec 32 := 3#32
  let v1045 : BitVec 32 := Scalar.addi v1044 c3_i32_607
  let c3_i32_632 : BitVec 32 := 3#32
  let v1089 : BitVec 32 := Scalar.andi v1045 c3_i32_632
  let c1024_i32_673 : BitVec 32 := 1024#32
  let v1173 : BitVec 32 := Scalar.muli v1089 c1024_i32_673
  let c768_i32_674 : BitVec 32 := 768#32
  let v1174 : BitVec 32 := Scalar.addi v1173 c768_i32_674
  v1174
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  let c0_i32_1 : BitVec 32 := 0#32
  ![arg1.toNat, v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S2x8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2x8x144x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference6Ideal.lean ====
abbrev S8x128x256x512 : Shape := ⟨4, ![8, 128, 256, 512]⟩
abbrev S8x65536x256 : Shape := ⟨3, ![8, 65536, 256]⟩
abbrev S8x128x144x512 : Shape := ⟨4, ![8, 128, 144, 512]⟩
abbrev S128x512x8x256 : Shape := ⟨4, ![128, 512, 8, 256]⟩
abbrev S16x4096x8x256 : Shape := ⟨4, ![16, 4096, 8, 256]⟩
abbrev S8x16x4096x256 : Shape := ⟨4, ![8, 16, 4096, 256]⟩
abbrev S8x128x128x512 : Shape := ⟨4, ![8, 128, 128, 512]⟩
abbrev S128x512x8x128 : Shape := ⟨4, ![128, 512, 8, 128]⟩
abbrev S16x4096x8x128 : Shape := ⟨4, ![16, 4096, 8, 128]⟩
abbrev S16x8x4096x4096 : Shape := ⟨4, ![16, 8, 4096, 4096]⟩
abbrev S_ : Shape := ⟨0, ![]⟩
abbrev S16x8x4096 : Shape := ⟨3, ![16, 8, 4096]⟩
abbrev S16x8x4096x1 : Shape := ⟨4, ![16, 8, 4096, 1]⟩
abbrev S16x8x128x4096 : Shape := ⟨4, ![16, 8, 128, 4096]⟩
abbrev S65536x1024 : Shape := ⟨2, ![65536, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8x128x256x512, .bf16⟩
  | .hbm, ⟨1, _⟩ => ⟨S8x65536x256, .bf16⟩
  | .hbm, ⟨2, _⟩ => ⟨S8x128x144x512, .bf16⟩
  | .hbm, ⟨3, _⟩ => ⟨S8x128x256x512, .f32⟩
  | .hbm, ⟨4, _⟩ => ⟨S128x512x8x256, .f32⟩
  | .hbm, ⟨5, _⟩ => ⟨S16x4096x8x256, .f32⟩
  | .hbm, ⟨6, _⟩ => ⟨S8x65536x256, .f32⟩
  | .hbm, ⟨7, _⟩ => ⟨S8x16x4096x256, .f32⟩
  | .hbm, ⟨8, _⟩ => ⟨S8x128x128x512, .bf16⟩
  | .hbm, ⟨9, _⟩ => ⟨S8x128x128x512, .f32⟩
  | .hbm, ⟨10, _⟩ => ⟨S128x512x8x128, .f32⟩
  | .hbm, ⟨11, _⟩ => ⟨S16x4096x8x128, .f32⟩
  | .hbm, ⟨12, _⟩ => ⟨S16x8x4096x4096, .f32⟩
  | .hbm, ⟨13, _⟩ => ⟨S_, .f32⟩
  | .hbm, ⟨14, _⟩ => ⟨S_, .f32⟩
  | .hbm, ⟨15, _⟩ => ⟨S16x8x4096x4096, .f32⟩
  | .hbm, ⟨16, _⟩ => ⟨S16x8x4096x4096, .f32⟩
  | .hbm, ⟨17, _⟩ => ⟨S_, .f32⟩
  | .hbm, ⟨18, _⟩ => ⟨S16x8x4096, .f32⟩
  | .hbm, ⟨19, _⟩ => ⟨S_, .f32⟩
  | .hbm, ⟨20, _⟩ => ⟨S16x8x4096, .f32⟩
  | .hbm, ⟨21, _⟩ => ⟨S16x8x4096, .f32⟩
  | .hbm, ⟨22, _⟩ => ⟨S16x8x4096x1, .f32⟩
  | .hbm, ⟨23, _⟩ => ⟨S16x8x4096x4096, .f32⟩
  | .hbm, ⟨24, _⟩ => ⟨S16x8x4096x4096, .f32⟩
  | .hbm, ⟨25, _⟩ => ⟨S16x8x4096x4096, .f32⟩
  | .hbm, ⟨26, _⟩ => ⟨S_, .f32⟩
  | .hbm, ⟨27, _⟩ => ⟨S16x8x4096, .f32⟩
  | .hbm, ⟨28, _⟩ => ⟨S16x8x4096x1, .f32⟩
  | .hbm, ⟨29, _⟩ => ⟨S16x8x4096x4096, .f32⟩
  | .hbm, ⟨30, _⟩ => ⟨S16x8x4096x4096, .f32⟩
  | .hbm, ⟨31, _⟩ => ⟨S16x8x128x4096, .f32⟩
  | .hbm, ⟨32, _⟩ => ⟨S16x4096x8x128, .f32⟩
  | .hbm, ⟨33, _⟩ => ⟨S65536x1024, .f32⟩
  | .hbm, ⟨34, _⟩ => ⟨S65536x1024, .bf16⟩
  | _, _ => ⟨S8x128x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Proof.Offsets.lean ====
/-
  Where the loop's accesses lie. Trip `k` performs the steps `4k … 4k+3` of the online softmax: they all belong to the
  row (query tile) `k / 4`, and it prepares the scores of the steps `4k+4 … 4k+7`, of the row `(k+1) / 4`.
-/
module

public import proofs.«01_k».proof.Proof.Gen.KernelIdeal.Loops
public import Idealize.ShloMosaic.Lib.Tactic

@[expose] public section

noncomputable section

namespace Cert.KernelIdeal.Att

open Cert.KernelIdeal
open Idealize.ShloMosaic Idealize.ShloMosaic.TcCoe Idealize.ShloMosaic.Tactic

/-- The step `4k+u` updates the row maximum of row `k / 4`. -/
theorem off1_eq : ∀ (k : Fin k0_t1_loop.trips) (u : Fin 4), k0_off1 k (BitVec.ofNat 32 u.val) = ![k.val / 4, 0, 0] := by
  decide +kernel

/-- The step `4k+u` updates the accumulator of row `k / 4`. -/
theorem off2_eq : ∀ (k : Fin k0_t1_loop.trips) (u : Fin 4), k0_off2 k (BitVec.ofNat 32 u.val) = ![k.val / 4, 0, 0] := by
  decide +kernel

/-- The step `4k+u` reads the two value blocks `2 · ((4k+u) mod 16)` and the next. -/
theorem off3_eq : ∀ (k : Fin k0_t1_loop.trips) (u : Fin 4) (r : Fin 2),
    k0_off3 k (BitVec.ofNat 32 u.val) (BitVec.ofNat 32 r.val) = ![0, 2 * ((4 * k.val + u.val) % 16) + r.val, 0, 0] := by
  decide +kernel

/-- The scores of step `4k+4+u` read keys from `1024 · ((4k+4+u) mod 16)` on. -/
theorem off4_eq : ∀ (k : Fin k0_t1_loop.trips) (u : Fin 4) (r : Fin 4),
    k0_off4 k (BitVec.ofNat 32 u.val) (BitVec.ofNat 32 (256 * r.val))
      = ![0, 1024 * ((4 * k.val + 4 + u.val) % 16) + 256 * r.val, 0] := by
  decide +kernel

/-- The scores of step `4k+4+u` read the query tile `(k+1) / 4`. -/
theorem off5_eq : ∀ (k : Fin k0_t1_loop.trips) (u : Fin 4), k0_off5 k (BitVec.ofNat 32 u.val) = ![0, (k.val + 1) / 4, 0, 0] := by
  decide +kernel

instance (k : Fin k0_t1_loop.trips) : ClosedOff (k0_off1 k 0#32) := ⟨_, off1_eq k 0⟩
instance (k : Fin k0_t1_loop.trips) : ClosedOff (k0_off1 k 1#32) := ⟨_, off1_eq k 1⟩
instance (k : Fin k0_t1_loop.trips) : ClosedOff (k0_off1 k 2#32) := ⟨_, off1_eq k 2⟩
instance (k : Fin k0_t1_loop.trips) : ClosedOff (k0_off1 k 3#32) := ⟨_, off1_eq k 3⟩
instance (k : Fin k0_t1_loop.trips) : ClosedOff (k0_off2 k 0#32) := ⟨_, off2_eq k 0⟩
instance (k : Fin k0_t1_loop.trips) : ClosedOff (k0_off2 k 1#32) := ⟨_, off2_eq k 1⟩
instance (k : Fin k0_t1_loop.trips) : ClosedOff (k0_off2 k 2#32) := ⟨_, off2_eq k 2⟩
instance (k : Fin k0_t1_loop.trips) : ClosedOff (k0_off2 k 3#32) := ⟨_, off2_eq k 3⟩

end Cert.KernelIdeal.Att

end
-- ==== Proof.Trip.lean ====
/-
  One trip of the online-softmax loop, run symbolically: four updates, each beside the scores of four steps later.
-/
module

public import proofs.«01_k».proof.Proof.Offsets
public import Idealize.ShloMosaic.Lib.Pipeline.Kit

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A memref's buffer on core `c`: its contents' type, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What one trip leaves in each buffer that it writes, as the lists of its stores. -/
@[irreducible] def tripRun (c : Dev nD) (i : grid0.Coords) (arg3 : Memref sig .tc .vmem S1x16x256x512 .bf16) (harg3 : arg3.IsWhole) (arg4 : Memref sig .tc .vmem S1x16384x256 .bf16) (harg4 : arg4.IsWhole) (arg5 : Memref sig .tc .vmem S1x32x144x512 .bf16) (harg5 : arg5.IsWhole) (arg6 : Memref sig .tc .vmem S8192x128 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S8x512 .f32) (harg13 : arg13.IsWhole) (arg14 : Memref sig .tc .vmem S8x512 .f32) (harg14 : arg14.IsWhole) (arg15 : Memref sig .tc .vmem S16x1x512 .f32) (harg15 : arg15.IsWhole) (arg16 : Memref sig .tc .vmem S16x144x512 .f32) (harg16 : arg16.IsWhole) (v207 : FVec F S8x512 .f32) (v211 : FVec F S256x256 .bf16)
    (k : Fin k0_t1_loop.trips)
    (f3 : Bf (F := F) c arg3) (f4 : Bf (F := F) c arg4) (f5 : Bf (F := F) c arg5)
    (f7 : Bf (F := F) c arg7) (f8 : Bf (F := F) c arg8) (f9 : Bf (F := F) c arg9) (f10 : Bf (F := F) c arg10)
    (f11 : Bf (F := F) c arg11) (f12 : Bf (F := F) c arg12) (f13 : Bf (F := F) c arg13) (f14 : Bf (F := F) c arg14)
    (f15 : Bf (F := F) c arg15) (f16 : Bf (F := F) c arg16) :
    Σ' (L7 L8 L9 L10 : List (View.Piece (Elt F) S1024x512 .f32)) (L11 L12 L13 L14 : List (View.Piece (Elt F) S8x512 .f32))
      (L15 : List (View.Piece (Elt F) S16x1x512 .f32)),
      { L16 : List (View.Piece (Elt F) S16x144x512 .f32) //
        iprop(pt c arg3 f3 ∗ pt c arg4 f4 ∗ pt c arg5 f5 ∗ pt c arg7 f7 ∗ pt c arg8 f8 ∗ pt c arg9 f9 ∗ pt c arg10 f10
          ∗ pt c arg11 f11 ∗ pt c arg12 f12 ∗ pt c arg13 f13 ∗ pt c arg14 f14 ∗ pt c arg15 f15 ∗ pt c arg16 f16)
        ⊢ wp frame (wpE (defs₀ (F := F)) Variants.none (c : Thread nD τ) none) Set.univ
            (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 v207 v211 k ())
            (fun _ => iprop(pt c arg3 f3 ∗ pt c arg4 f4 ∗ pt c arg5 f5
              ∗ pt c arg7 (arg7.view.writes (Elt F) f7 L7) ∗ pt c arg8 (arg8.view.writes (Elt F) f8 L8)
              ∗ pt c arg9 (arg9.view.writes (Elt F) f9 L9) ∗ pt c arg10 (arg10.view.writes (Elt F) f10 L10)
              ∗ pt c arg11 (arg11.view.writes (Elt F) f11 L11) ∗ pt c arg12 (arg12.view.writes (Elt F) f12 L12)
              ∗ pt c arg13 (arg13.view.writes (Elt F) f13 L13) ∗ pt c arg14 (arg14.view.writes (Elt F) f14 L14)
              ∗ pt c arg15 (arg15.view.writes (Elt F) f15 L15) ∗ pt c arg16 (arg16.view.writes (Elt F) f16 L16))) } := by
  refine ⟨?_, ?_, ?_, ?_, ?_, ?_, ?_, ?_, ?_, ?_, ?run⟩
  case run =>
    unfold k0_t1_body
    iintro ⟨H3, H4, H5, H7, H8, H9, H10, H11, H12, H13, H14, H15, H16⟩
    sl_exec
    sl_step
    isplitl [H3]; · iexact H3
    isplitl [H4]; · iexact H4
    isplitl [H5]; · iexact H5
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.KernelIdeal.Att

end
-- ==== Proof.Body.lean ====
/-
  The kernel's body, run symbolically: the prologue, the loop by its invariant, the tail and the sixteen output tiles.
-/
module

public import proofs.«01_k».proof.Proof.Trip
public import proofs.«01_k».proof.Proof.Gen.KernelIdeal.Loops

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg3 : Memref sig .tc .vmem S1x16x256x512 .bf16) (harg3 : arg3.IsWhole) (arg4 : Memref sig .tc .vmem S1x16384x256 .bf16) (harg4 : arg4.IsWhole) (arg5 : Memref sig .tc .vmem S1x32x144x512 .bf16) (harg5 : arg5.IsWhole) (arg6 : Memref sig .tc .vmem S8192x128 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S8x512 .f32) (harg13 : arg13.IsWhole) (arg14 : Memref sig .tc .vmem S8x512 .f32) (harg14 : arg14.IsWhole) (arg15 : Memref sig .tc .vmem S16x1x512 .f32) (harg15 : arg15.IsWhole) (arg16 : Memref sig .tc .vmem S16x144x512 .f32) (harg16 : arg16.IsWhole) (v207 : FVec F S8x512 .f32) (v211 : FVec F S256x256 .bf16)
  (f3 : Bf (F := F) c arg3) (f4 : Bf (F := F) c arg4) (f5 : Bf (F := F) c arg5)

/-- The contents of the scratch buffers between trips: four score slots, their maxima, the running maxima and the
    accumulators. -/
structure St where
  s7 : Bf (F := F) c arg7
  s8 : Bf (F := F) c arg8
  s9 : Bf (F := F) c arg9
  s10 : Bf (F := F) c arg10
  s11 : Bf (F := F) c arg11
  s12 : Bf (F := F) c arg12
  s13 : Bf (F := F) c arg13
  s14 : Bf (F := F) c arg14
  s15 : Bf (F := F) c arg15
  s16 : Bf (F := F) c arg16

/-- The run of trip `k` from the contents `s`. -/
abbrev runAt (k : Fin k0_t1_loop.trips) (s : St (F := F) c arg7 arg8 arg9 arg10 arg11 arg12 arg13 arg14 arg15 arg16) :=
  tripRun c i arg3 harg3 arg4 harg4 arg5 harg5 arg6 harg6 arg7 harg7 arg8 harg8 arg9 harg9 arg10 harg10 arg11 harg11 arg12 harg12 arg13 harg13 arg14 harg14 arg15 harg15 arg16 harg16 v207 v211 k f3 f4 f5 s.s7 s.s8 s.s9 s.s10 s.s11 s.s12 s.s13 s.s14 s.s15 s.s16

/-- The contents after trip `k` from the contents `s`. -/
def step (k : Fin k0_t1_loop.trips) (s : St (F := F) c arg7 arg8 arg9 arg10 arg11 arg12 arg13 arg14 arg15 arg16) :
    St (F := F) c arg7 arg8 arg9 arg10 arg11 arg12 arg13 arg14 arg15 arg16 :=
  have R := runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s
  ⟨arg7.view.writes (Elt F) s.s7 R.1, arg8.view.writes (Elt F) s.s8 R.2.1, arg9.view.writes (Elt F) s.s9 R.2.2.1,
   arg10.view.writes (Elt F) s.s10 R.2.2.2.1, arg11.view.writes (Elt F) s.s11 R.2.2.2.2.1,
   arg12.view.writes (Elt F) s.s12 R.2.2.2.2.2.1, arg13.view.writes (Elt F) s.s13 R.2.2.2.2.2.2.1,
   arg14.view.writes (Elt F) s.s14 R.2.2.2.2.2.2.2.1, arg15.view.writes (Elt F) s.s15 R.2.2.2.2.2.2.2.2.1,
   arg16.view.writes (Elt F) s.s16 R.2.2.2.2.2.2.2.2.2.1⟩

/-- The contents before trip `k`, from the contents before the loop. -/
def iter (g : St (F := F) c arg7 arg8 arg9 arg10 arg11 arg12 arg13 arg14 arg15 arg16) :
    ℕ → St (F := F) c arg7 arg8 arg9 arg10 arg11 arg12 arg13 arg14 arg15 arg16
  | 0 => g
  | k + 1 =>
    if h : k < k0_t1_loop.trips then
      step c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 ⟨k, h⟩ (iter g k)
    else iter g k

theorem iter_succ (g : St (F := F) c arg7 arg8 arg9 arg10 arg11 arg12 arg13 arg14 arg15 arg16) (k : Fin k0_t1_loop.trips) :
    iter c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 g (k.val + 1)
      = step c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k
          (iter c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 g k.val) := by
  rw [iter, dif_pos k.isLt]

/-- The buffers that the loop touches, at the contents `s`. -/
abbrev resAt (s : St (F := F) c arg7 arg8 arg9 arg10 arg11 arg12 arg13 arg14 arg15 arg16) : sProp 𝕄 :=
  iprop(pt c arg3 f3 ∗ pt c arg4 f4 ∗ pt c arg5 f5 ∗ pt c arg7 s.s7 ∗ pt c arg8 s.s8 ∗ pt c arg9 s.s9 ∗ pt c arg10 s.s10
    ∗ pt c arg11 s.s11 ∗ pt c arg12 s.s12 ∗ pt c arg13 s.s13 ∗ pt c arg14 s.s14 ∗ pt c arg15 s.s15 ∗ pt c arg16 s.s16)

/-- One trip, from the contents `s` to the contents `step k s`. -/
theorem step_run (k : Fin k0_t1_loop.trips) (s : St (F := F) c arg7 arg8 arg9 arg10 arg11 arg12 arg13 arg14 arg15 arg16) :
    resAt c arg3 arg4 arg5 arg7 arg8 arg9 arg10 arg11 arg12 arg13 arg14 arg15 arg16 f3 f4 f5 s
      ⊢ wp frame (wpE (defs₀ (F := F)) Variants.none (c : Thread nD τ) none) Set.univ (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 v207 v211 k ())
        (fun _ => resAt c arg3 arg4 arg5 arg7 arg8 arg9 arg10 arg11 arg12 arg13 arg14 arg15 arg16 f3 f4 f5
          (step c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s)) := by
  unfold step
  exact (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).2.2.2.2.2.2.2.2.2.2

set_option warn.classDefReducibility false in
/-- The loop's invariant: the scratch buffers hold the contents of `iter`. -/
@[sl_loop] def loopInv (g7 : Bf (F := F) c arg7) (g8 : Bf (F := F) c arg8) (g9 : Bf (F := F) c arg9) (g10 : Bf (F := F) c arg10)
    (g11 : Bf (F := F) c arg11) (g12 : Bf (F := F) c arg12) (g13 : Bf (F := F) c arg13) (g14 : Bf (F := F) c arg14)
    (g15 : Bf (F := F) c arg15) (g16 : Bf (F := F) c arg16) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 v207 v211 where
  inv k _ := match k with
    | 0 => iprop(pt c arg3 f3 ∗ pt c arg4 f4 ∗ pt c arg5 f5 ∗ pt c arg7 g7 ∗ pt c arg8 g8 ∗ pt c arg9 g9 ∗ pt c arg10 g10
        ∗ pt c arg11 g11 ∗ pt c arg12 g12 ∗ pt c arg13 g13 ∗ pt c arg14 g14 ∗ pt c arg15 g15 ∗ pt c arg16 g16)
    | k + 1 => resAt c arg3 arg4 arg5 arg7 arg8 arg9 arg10 arg11 arg12 arg13 arg14 arg15 arg16 f3 f4 f5 (iter c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 ⟨g7, g8, g9, g10, g11, g12, g13, g14, g15, g16⟩ (k + 1))
  step k _ := by
    obtain ⟨k, hk⟩ := k
    have h := step_run c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 ⟨k, hk⟩ (iter c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 ⟨g7, g8, g9, g10, g11, g12, g13, g14, g15, g16⟩ k)
    rw [← iter_succ c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 ⟨g7, g8, g9, g10, g11, g12, g13, g14, g15, g16⟩ ⟨k, hk⟩] at h
    cases k with
    | zero => exact h
    | succ k => exact h

end Cert.KernelIdeal.Att

end
-- ==== Proof.BodyRun.lean ====
/-
  The kernel's body, run symbolically: the prologue, the loop by its invariant, the tail and the sixteen output tiles.
-/
module

public import proofs.«01_k».proof.Proof.Body

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg3 : Memref sig .tc .vmem S1x16x256x512 .bf16) (harg3 : arg3.IsWhole) (arg4 : Memref sig .tc .vmem S1x16384x256 .bf16) (harg4 : arg4.IsWhole) (arg5 : Memref sig .tc .vmem S1x32x144x512 .bf16) (harg5 : arg5.IsWhole) (arg6 : Memref sig .tc .vmem S8192x128 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S8x512 .f32) (harg13 : arg13.IsWhole) (arg14 : Memref sig .tc .vmem S8x512 .f32) (harg14 : arg14.IsWhole) (arg15 : Memref sig .tc .vmem S16x1x512 .f32) (harg15 : arg15.IsWhole) (arg16 : Memref sig .tc .vmem S16x144x512 .f32) (harg16 : arg16.IsWhole)
  (f3 : Bf (F := F) c arg3) (f4 : Bf (F := F) c arg4) (f5 : Bf (F := F) c arg5)

/-- The ten scratch buffers, at some contents. -/
abbrev scratchAny : sProp 𝕄 :=
  iprop((∃ f, pt (F := F) c arg7 f) ∗ (∃ f, pt (F := F) c arg8 f) ∗ (∃ f, pt (F := F) c arg9 f) ∗ (∃ f, pt (F := F) c arg10 f)
    ∗ (∃ f, pt (F := F) c arg11 f) ∗ (∃ f, pt (F := F) c arg12 f) ∗ (∃ f, pt (F := F) c arg13 f) ∗ (∃ f, pt (F := F) c arg14 f)
    ∗ (∃ f, pt (F := F) c arg15 f) ∗ (∃ f, pt (F := F) c arg16 f))

/-- The stores that the body makes into the output block, from any contents of the scratch and of the block. -/
@[irreducible] def bodyRun : { L6 : List (View.Piece (Elt F) S8192x128 .bf16) //
    ∀ f6, iprop(pt c arg3 f3 ∗ pt c arg4 f4 ∗ pt c arg5 f5 ∗ pt c arg6 f6
        ∗ scratchAny c arg7 arg8 arg9 arg10 arg11 arg12 arg13 arg14 arg15 arg16)
      ⊢ wp frame (wpE (defs₀ (F := F)) Variants.none (c : Thread nD τ) none) Set.univ
          (cc0_mla_attention (F := F) i arg3 harg3 arg4 harg4 arg5 harg5 arg6 harg6 arg7 harg7 arg8 harg8 arg9 harg9 arg10 harg10 arg11 harg11 arg12 harg12 arg13 harg13 arg14 harg14 arg15 harg15 arg16 harg16)
          (fun _ => iprop(pt c arg3 f3 ∗ pt c arg4 f4 ∗ pt c arg5 f5 ∗ pt c arg6 (arg6.view.writes (Elt F) f6 L6)
            ∗ scratchAny c arg7 arg8 arg9 arg10 arg11 arg12 arg13 arg14 arg15 arg16)) } := by
  refine ⟨?_, fun f6 => ?run⟩
  case run =>
    unfold cc0_mla_attention scratchAny
    iintro ⟨H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
    sl_exec
    sl_step
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

end Cert.KernelIdeal.Att

end
-- ==== Proof.Run.lean ====
/-
  The call's run: the proof data of the pipeline, the body's obligation at each grid point, and the launch.
-/
module

public import proofs.«01_k».proof.Proof.BodyRun
public import proofs.«01_k».proof.Proof.Gen.KernelIdeal.Frame

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- A whole memref owned at what it reads is its buffer held at the contents that read so. -/
theorem owns_eq_pt (c : Dev nD) {sp : Space} {S : Shape} {e : EltTy} (M : Memref sig .tc sp S e) (h : M.IsWhole) (X : S.Idx → Elt F e) :
    (owns (c : Thread nD τ) M fullShare X : sProp 𝕄) = pt c M (h.unread X) := by
  have hr := h.read_unread X
  generalize h.unread X = f at hr
  subst hr
  obtain ⟨b, rfl, rfl, rfl, hm⟩ := h
  cases hm
  rw [owns_whole]; rfl

variable (m : (ℓ : Loc nD τ sig) → Buf (Elt F) ℓ) (ρ : Dev nD → PrngReg)

/-- The stores into the output block at point `t`. -/
def outRun (c : Dev nD) (t : Fin cfg0.N) :=
  bodyRun (F := F) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) (Memref.whole cc0_scratch9) (Memref.isWhole_whole _)
    ((hstage0_0 ((cfg0.slots t 0).cast nbuf0_0)).unread (iblk m c 0 t))
    ((hstage0_1 ((cfg0.slots t 1).cast nbuf0_1)).unread (iblk m c 1 t))
    ((hstage0_2 ((cfg0.slots t 2).cast nbuf0_2)).unread (iblk m c 2 t))

/-- The proof data: the arrays as launched, the inputs left in place, the output block at what the body stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => View.canon (outRun m c t).1
  Φ _ := Pipeline.ΦA spec0 c
  q _ := fullShare
  owed _ := 0

theorem A_eq (c : Dev nD) (w : Fin cfg0.W) : (dats m 0 c).A w = V m c (Pipeline.arrRef spec0 w) := by dsimp only [dats]

/-- The sixteen output tiles cover the block. -/
theorem cover (c : Dev nD) (t : Fin cfg0.N) : ∀ y, ∃ p ∈ (outRun m c t).1, y ∈ p.1.set := by
  unfold outRun bodyRun
  exact View.cover_of_tiledL _ S512x128.size (by rfl)

theorem body_obligation (c : Dev nD) : BodyObligation (dats (F := F) m 0 c) (defs₀ (F := F)) Variants.none () Set.univ := fun t => by
  rw [bigSep_W0, bigSep_W0]
  have e0 := before0_0_of m (dats m 0 c) (A_eq m c 0) (fun _ => rfl) t
  have e1 := before0_1_of m (dats m 0 c) (A_eq m c 1) (fun _ => rfl) t
  have e2 := before0_2_of m (dats m 0 c) (A_eq m c 2) (fun _ => rfl) t
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl]
  unfold Pipeline.ΦA
  rw [scopedRest0_eq]
  dsimp only
  simp only [e0, e1, e2, owns_eq_pt c (stage0_0 (cfg0.slots t 0)) (hstage0_0 ((cfg0.slots t 0).cast nbuf0_0)),
    owns_eq_pt c (stage0_1 (cfg0.slots t 1)) (hstage0_1 ((cfg0.slots t 1).cast nbuf0_1)),
    owns_eq_pt c (stage0_2 (cfg0.slots t 2)) (hstage0_2 ((cfg0.slots t 2).cast nbuf0_2)),
    owns_eq_pt c (stage0_3 (cfg0.slots t 3)) (hstage0_3 ((cfg0.slots t 3).cast nbuf0_3))]
  iintro ⟨⟨Hs, Hr⟩, HO, ⟨%d0, H0⟩, ⟨%d1, H1⟩, ⟨%d2, H2⟩, ⟨%d3, H3⟩⟩
  iapply (wp_wand_r Idealize.ShloMosaic.frame (wpE (defs₀ (F := F)) Variants.none (c : Thread nD τ) none) Set.univ)
  isplitl [Hs H0 H1 H2 H3]
  · iapply ((outRun m c t).2 _)
    isplitl [H0]; · iexact H0
    isplitl [H1]; · iexact H1
    isplitl [H2]; · iexact H2
    isplitl [H3]; · iexact H3
    iexact Hs
  · iintro %_ ⟨H0, H1, H2, H3, Hs⟩
    isplitl [Hs Hr]
    · isplitl [Hs]; · iexact Hs
      iexact Hr
    isplitl [HO]; · iexact HO
    isplitl [H0]; · iexact H0
    isplitl [H1]; · iexact H1
    isplitl [H2]; · iexact H2
    rw [(hstage0_3 ((cfg0.slots t 3).cast nbuf0_3)).eq_unread (View.read_writes_eq_canon (st0_3 t).view _ _ (cover m c t))]
    iexact H3

/-- The run: every argument as launched, the result's array at the proof data's account, every counter at zero. -/
theorem run_main :
    θ_run defs (onTc (τ := τ) (main (F := F))) (s₀ m ρ)
      (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments' arrays end as launched, and every counter ends at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2))⟩, h.2⟩) (run_main m ρ)

end Cert.KernelIdeal.Att

end
-- ==== Proof.Twin.lean ====
module

public import proofs.«01_k».proof.Defs
public import proofs.«01_k».proof.Proof.Run
public import proofs.«01_k».proof.Proof.Gen.Kernel

@[expose] public section

set_option maxRecDepth 16384

noncomputable section

open Idealize.ShloMosaic Idealize.ShloMosaic.TcCoe
namespace Cert

variable {F : FTy → Type} [FloatOps F]

/-- The printed program and its reading at the ideal instance have the same bodies. -/
theorem defs₀_eq : (Cert.Kernel.defs₀ (F := F)) = (Cert.KernelIdeal.defs₀ (F := F)) := by
  unfold Cert.Kernel.defs₀ Cert.KernelIdeal.defs₀
  refine congrArg Defs.onTc (funext fun l => ?_)
  match l with
  | 0 => exact funext fun ⟨_, _⟩ => rfl

theorem defs_eq : (Cert.Kernel.defs (F := F)) = (Cert.KernelIdeal.defs (F := F)) := by
  unfold Cert.Kernel.defs Cert.KernelIdeal.defs
  exact congrArg (Pipeline.defs Cert.KernelIdeal.pcfgs) defs₀_eq

theorem quiescent_kernelIdeal : quiescent_KernelIdeal (hKernelIdeal := Cert.KernelIdeal.Gen.facts) :=
  fun m g _ => Cert.KernelIdeal.Att.frame_run (F := Ideal) m g

theorem quiescent_kernel : quiescent_Kernel (hKernel := Cert.Kernel.Gen.facts) := by
  intro m g _
  rw [defs_eq]
  exact Cert.KernelIdeal.Att.frame_run (F := Bits) m g

end Cert
end
-- ==== Proof.Online.lean ====
/-
  The running softmax in the extended reals, apart from any program: scores `s 0, s 1, …` (all finite), values
  `v 0, v 1, …` (any), the maximum of a prefix and the sum of its values weighted by powers of two below that maximum.
-/
module

public import Idealize.ShloMosaic.PureOps.Ideal

@[expose] public section

noncomputable section

namespace Online

open Idealize.ShloMosaic

/-- The maximum of the first `n` scores (`⊥` of none). -/
def top (s : ℕ → EReal) (n : ℕ) : EReal := (Finset.range n).sup s

/-- The first `n` values, each weighted by two to its score's distance from the maximum. -/
def acc (s v : ℕ → EReal) (n : ℕ) : EReal := ∑ j ∈ Finset.range n, v j * Ideal.exp2 (s j - top s n)

theorem top_le {s : ℕ → EReal} {n : ℕ} {c : EReal} : top s n ≤ c ↔ ∀ j < n, s j ≤ c := by
  simp [top, Finset.sup_le_iff]

/-- A bound on the first `n` scores and on the next `k` is one on all of them. -/
theorem top_add {s : ℕ → EReal} {n k : ℕ} {x : EReal} (h : ∀ c, x ≤ c ↔ ∀ j < k, s (n + j) ≤ c) :
    max (top s n) x = top s (n + k) := by
  refine eq_of_forall_ge_iff fun c => ?_
  rw [max_le_iff, top_le, top_le, h]
  constructor
  · rintro ⟨h₁, h₂⟩ j hj
    by_cases hjn : j < n
    · exact h₁ j hjn
    · have := h₂ (j - n) (by omega)
      rwa [Nat.add_sub_cancel' (by omega)] at this
  · exact fun h => ⟨fun j hj => h j (by omega), fun j hj => h (n + j) (by omega)⟩

/-- Finite scores have a finite maximum. -/
theorem top_coe {s : ℕ → EReal} (hs : ∀ j, ∃ x : ℝ, s j = x) {n : ℕ} (hn : 0 < n) : ∃ x : ℝ, top s n = x := by
  obtain ⟨j, _, hj⟩ := Finset.exists_mem_eq_sup (Finset.range n) ⟨0, Finset.mem_range.mpr hn⟩ s
  exact (hs j).imp fun x hx => hj.trans hx

/-- A finite factor that is not negative distributes over any sum. -/
theorem coe_mul_sum {ι : Type*} (t : Finset ι) (f : ι → EReal) {r : ℝ} (hr : 0 ≤ r) :
    (r : EReal) * ∑ i ∈ t, f i = ∑ i ∈ t, (r : EReal) * f i := by
  classical
  induction t using Finset.induction with
  | empty => simp
  | insert a t ha ih =>
    rw [Finset.sum_insert ha, Finset.sum_insert ha,
      EReal.left_distrib_of_nonneg_of_ne_top (EReal.coe_nonneg.mpr hr) (EReal.coe_ne_top r), ih]

/-- Moving the reference point of the powers from `a` to `b`. -/
theorem exp2_shift (x a b : ℝ) :
    Ideal.exp2 ((a : EReal) - b) * Ideal.exp2 ((x : EReal) - a) = Ideal.exp2 ((x : EReal) - b) := by
  rw [← EReal.coe_sub, ← EReal.coe_sub, ← EReal.coe_sub, Ideal.exp2_coe, Ideal.exp2_coe, Ideal.exp2_coe, ← EReal.coe_mul]
  congr 1
  simp only [Real.rpow_eq_pow]
  rw [← Real.rpow_add (by norm_num)]
  congr 1
  ring

/-- The update: the old sum rescaled to the new maximum, and the new values. -/
theorem acc_add {s v : ℕ → EReal} (hs : ∀ j, ∃ x : ℝ, s j = x) (n k : ℕ) :
    Ideal.exp2 (top s n - top s (n + k)) * acc s v n
        + ∑ j ∈ Finset.range k, v (n + j) * Ideal.exp2 (s (n + j) - top s (n + k))
      = acc s v (n + k) := by
  unfold acc
  rw [Finset.sum_range_add]
  congr 1
  rcases Nat.eq_zero_or_pos n with rfl | hn
  · simp
  · obtain ⟨a, ha⟩ := top_coe hs hn
    obtain ⟨b, hb⟩ := top_coe hs (show 0 < n + k by omega)
    rw [ha, hb]
    obtain ⟨p, hp, e⟩ : ∃ p : ℝ, 0 ≤ p ∧ Ideal.exp2 ((a : EReal) - b) = p :=
      ⟨Real.rpow 2 (a - b), Real.rpow_nonneg (by norm_num) _, by rw [← EReal.coe_sub, Ideal.exp2_coe]⟩
    rw [e, coe_mul_sum _ _ hp]
    refine Finset.sum_congr rfl fun j _ => ?_
    obtain ⟨x, hx⟩ := hs j
    rw [← e, mul_left_comm, hx, exp2_shift]

/-- Four chunks of 256 are one of 1024. -/
theorem sum_chunks (f : ℕ → EReal) (x : EReal) :
    x + (∑ i : Fin 256, f i.val) + (∑ i : Fin 256, f (256 + i.val)) + (∑ i : Fin 256, f (512 + i.val))
        + (∑ i : Fin 256, f (768 + i.val)) = x + ∑ j ∈ Finset.range 1024, f j := by
  rw [Fin.sum_univ_eq_sum_range (fun i => f i) 256, Fin.sum_univ_eq_sum_range (fun i => f (256 + i)) 256,
    Fin.sum_univ_eq_sum_range (fun i => f (512 + i)) 256, Fin.sum_univ_eq_sum_range (fun i => f (768 + i)) 256,
    show 1024 = 256 + 256 + 256 + 256 from rfl, Finset.sum_range_add, Finset.sum_range_add, Finset.sum_range_add]
  simp only [Nat.reduceAdd, ← add_assoc]

end Online

end
-- ==== Proof.Step.lean ====
/-
  One step of the online softmax, as functions of what it loads, and what these compute over the reals. The kernel
  prints the same step many times (four times in the loop's body, and before and after the loop): every copy is one of
  these functions.
-/
module

public import proofs.«01_k».proof.Proof.Gen.KernelIdeal
public import proofs.«01_k».proof.Proof.Gen.KernelIdeal.Skeleton
public import proofs.«01_k».proof.Proof.Online
public import Idealize.ShloMosaic.Lib.Pointwise
public import Idealize.ShloMosaic.Lib.Writes

@[expose] public section

set_option maxRecDepth 16384

noncomputable section

namespace Cert.KernelIdeal.Att

open Cert.KernelIdeal Cert.KernelIdeal.Gen
open Idealize.ShloMosaic Idealize.ShloMosaic.TcCoe Idealize.ShloMosaic.Pointwise

variable {F : FTy → Type} [FloatOps F]

/-- 256 keys' scores of 512 queries. -/
def scF (kb : Vec F S1x256x256 .bf16) (q : Vec F S1x1x256x512 .bf16) : FVec F S256x512 .f32 := k0_pay12 kb q

/-- The maxima of 1024 keys' scores by key modulo eight. -/
def mxF (k0 k1 k2 k3 : Vec F S1x256x256 .bf16) (q : Vec F S1x1x256x512 .bf16) : FVec F S8x512 .f32 :=
  k0_pay24 (k0_pay17 (k0_pay13 k0 q) k1 q) (k0_pay19 k2 q) k3 q

/-- The new running maximum. -/
def mF (m : Vec F S1x1x512 .f32) (x : Vec F S8x512 .f32) : FVec F S1x1x512 .f32 := k0_pay6 m x

/-- The new accumulator. -/
def aF (m : Vec F S1x1x512 .f32) (x : Vec F S8x512 .f32) (a : Vec F S1x144x512 .f32) (v0 v1 : Vec F S1x1x144x512 .bf16)
    (s0 s1 s2 s3 : Vec F S256x512 .f32) : FVec F S1x144x512 .f32 :=
  k0_pay21 (k0_pay5 m x) (k0_pay9 (k0_pay8 v0) v1)
    (k0_pay18 (k0_pay5 m x) (k0_pay9 (k0_pay8 v0) v1)
      (k0_pay10 (k0_pay5 m x) (k0_pay7 m x a) (k0_pay8 v0) v1 s0)
      (k0_pay14 (k0_pay5 m x) (k0_pay8 v0) v1 s1) s2) s3

/-- The four stores of a step's scores, newest first. -/
def scL (k0 k1 k2 k3 : Vec F S1x256x256 .bf16) (q : Vec F S1x1x256x512 .bf16) : List (View.Piece (Elt F) S1024x512 .f32) :=
  [⟨Rect.unit ![768, 0] S256x512.size inb_S1024x512_S256x512_768_0, scF k3 q⟩,
   ⟨Rect.unit ![512, 0] S256x512.size inb_S1024x512_S256x512_512_0, scF k2 q⟩,
   ⟨Rect.unit ![256, 0] S256x512.size inb_S1024x512_S256x512_256_0, scF k1 q⟩,
   ⟨Rect.unit ![0, 0] S256x512.size inb_S1024x512_S256x512_0_0, scF k0 q⟩]

/-- The store of a step's maxima. -/
def mxL (k0 k1 k2 k3 : Vec F S1x256x256 .bf16) (q : Vec F S1x1x256x512 .bf16) : List (View.Piece (Elt F) S8x512 .f32) :=
  [⟨Rect.unit ![0, 0] S8x512.size inb_S8x512_S8x512_0_0, mxF k0 k1 k2 k3 q⟩]

/-! ## At the ideal instance -/

theorem negInf : Ideal.ofBits .f32 4286578688#32 = ⊥ := by
  simp [Ideal.ofBits, Ideal.ieee]

theorem scF_apply (kb : Vec Ideal S1x256x256 .bf16) (q : Vec Ideal S1x1x256x512 .bf16) (i : Fin 256) (r : Fin 512) :
    scF kb q (ix2 i r) = ∑ d : Fin 256, kb (ix3 0 i d) * q (ix4 0 0 d r) := by
  pointwise [scF, k0_pay12, k0_pay11]

theorem mxF_apply (k0 k1 k2 k3 : Vec Ideal S1x256x256 .bf16) (q : Vec Ideal S1x1x256x512 .bf16) (a : Fin 8) (r : Fin 512) :
    mxF k0 k1 k2 k3 q (ix2 a r)
      = max (max (max
          (Finset.univ.fold max ⊥ fun y : Fin 32 => scF k0 q (ix2 (⟨y.val * 8 + a.val, by omega⟩ : Fin 256) r))
          (Finset.univ.fold max ⊥ fun y : Fin 32 => scF k1 q (ix2 (⟨y.val * 8 + a.val, by omega⟩ : Fin 256) r)))
          (Finset.univ.fold max ⊥ fun y : Fin 32 => scF k2 q (ix2 (⟨y.val * 8 + a.val, by omega⟩ : Fin 256) r)))
          (Finset.univ.fold max ⊥ fun y : Fin 32 => scF k3 q (ix2 (⟨y.val * 8 + a.val, by omega⟩ : Fin 256) r)) := by
  simp only [scF_apply]
  pointwise [mxF, k0_pay24, k0_pay17, k0_pay13, k0_pay19, k0_pay22, k0_pay15, k0_pay11]
  rw [negInf]

theorem mF_apply (m : Vec Ideal S1x1x512 .f32) (x : Vec Ideal S8x512 .f32) (r : Fin 512) :
    mF m x (ix3 0 0 r) = max (m (ix3 0 0 r)) (Finset.univ.fold max ⊥ fun a : Fin 8 => x (ix2 a r)) := by
  pointwise [mF, k0_pay6, k0_pay5, k0_pay4]
  rw [negInf]

theorem aF_apply (m : Vec Ideal S1x1x512 .f32) (x : Vec Ideal S8x512 .f32) (a : Vec Ideal S1x144x512 .f32)
    (v0 v1 : Vec Ideal S1x1x144x512 .bf16) (s0 s1 s2 s3 : Vec Ideal S256x512 .f32) (e : Fin 144) (r : Fin 512) :
    aF m x a v0 v1 s0 s1 s2 s3 (ix3 0 e r)
      = Ideal.exp2 (m (ix3 0 0 r) - mF m x (ix3 0 0 r)) * a (ix3 0 e r)
        + (∑ i : Fin 256, v0 (ix4 0 0 e (⟨i.val, by omega⟩ : Fin 512)) * Ideal.exp2 (s0 (ix2 i r) - mF m x (ix3 0 0 r)))
        + (∑ i : Fin 256, v0 (ix4 0 0 e (⟨256 + i.val, by omega⟩ : Fin 512)) * Ideal.exp2 (s1 (ix2 i r) - mF m x (ix3 0 0 r)))
        + (∑ i : Fin 256, v1 (ix4 0 0 e (⟨i.val, by omega⟩ : Fin 512)) * Ideal.exp2 (s2 (ix2 i r) - mF m x (ix3 0 0 r)))
        + (∑ i : Fin 256, v1 (ix4 0 0 e (⟨256 + i.val, by omega⟩ : Fin 512)) * Ideal.exp2 (s3 (ix2 i r) - mF m x (ix3 0 0 r))) := by
  rw [mF_apply]
  pointwise [aF, k0_pay21, k0_pay18, k0_pay10, k0_pay14, k0_pay5, k0_pay4, k0_pay7, k0_pay8, k0_pay9]
  rw [negInf]
  generalize max (m (ix3 0 0 r)) _ = c
  refine congrArg₂ (· + ·) (congrArg₂ (· + ·) (congrArg₂ (· + ·) (congrArg₂ (· + ·) rfl ?_) ?_) rfl) ?_
  · exact Finset.sum_congr rfl fun i _ => by rw [dif_pos (by omega)]; rfl
  · exact Finset.sum_congr rfl fun i _ => by rw [dif_pos (by omega)]; rfl
  · refine Finset.sum_congr rfl fun i _ => ?_
    rw [dif_neg (by omega)]
    exact congrArg (· * _) (congrArg (fun l => v1 (ix4 0 0 e l)) (Fin.ext (by show 768 + i.val - 512 = 256 + i.val; omega)))

/-! ## The steps' meaning

`N` steps make a row; `S ρ r j` is the score of key `j` for query `r` of row `ρ`, and `V ρ e j` entry `e` of the key's value. -/

variable (N : ℕ) (S : ℕ → Fin 512 → ℕ → EReal) (V : ℕ → Fin 144 → ℕ → EReal)

/-- The array holds the scores of step `t`. -/
def SlotAt (f : S1024x512.Idx → EReal) (t : ℕ) : Prop :=
  ∀ (i : Fin 1024) (r : Fin 512), f (ix2 i r) = S (t / N) r (1024 * (t % N) + i.val)

/-- The array holds the maxima of step `t`'s scores, by key modulo eight. -/
def MaxAt (f : S8x512.Idx → EReal) (t : ℕ) : Prop :=
  ∀ (a : Fin 8) (r : Fin 512) (c : EReal),
    f (ix2 a r) ≤ c ↔ ∀ y : Fin 128, S (t / N) r (1024 * (t % N) + (y.val * 8 + a.val)) ≤ c

/-- A block of keys and a tile of queries give the scores of step `t` from key `256 w` of its keys on. -/
def ScoreAt (kb : Vec Ideal S1x256x256 .bf16) (q : Vec Ideal S1x1x256x512 .bf16) (t w : ℕ) : Prop :=
  ∀ (i : Fin 256) (r : Fin 512), scF kb q (ix2 i r) = S (t / N) r (1024 * (t % N) + (256 * w + i.val))

/-- The value block `w` (of two) of step `t`. -/
def ValAt (v : S1x1x144x512.Idx → EReal) (t w : ℕ) : Prop :=
  ∀ (e : Fin 144) (l : Fin 512), v (ix4 0 0 e l) = V (t / N) e (1024 * (t % N) + (512 * w + l.val))

variable {N S V}

/-- The score stores leave the scores, in any buffer. -/
theorem slotAt_store {sig' : RefSig} {κ : _} {sp : Space} (v : View sig' κ sp S1024x512 .f32) (f : v.ty.Contents (Elt Ideal))
    {k0 k1 k2 k3 : Vec Ideal S1x256x256 .bf16} {q : Vec Ideal S1x1x256x512 .bf16} {t : ℕ}
    (h0 : ScoreAt N S k0 q t 0) (h1 : ScoreAt N S k1 q t 1) (h2 : ScoreAt N S k2 q t 2) (h3 : ScoreAt N S k3 q t 3) :
    SlotAt N S (v.read (Elt Ideal) (v.writes (Elt Ideal) f (scL k0 k1 k2 k3 q))) t := by
  intro i r
  have piece : ∀ (kb : Vec Ideal S1x256x256 .bf16) (w : ℕ) (inb) (L : List (View.Piece (Elt Ideal) S1024x512 .f32)), ScoreAt N S kb q t w →
      256 * w ≤ i.val → i.val < 256 * w + 256 →
      v.read (Elt Ideal) (v.writes (Elt Ideal) f (⟨Rect.unit ![256 * w, 0] S256x512.size inb, scF kb q⟩ :: L)) (ix2 i r)
        = S (t / N) r (1024 * (t % N) + i.val) := by
    intro kb w inb L hk hl hu
    rw [View.read_writes_cons_hit_of_coords v f _ _ L (ix2 (⟨i.val - 256 * w, by omega⟩ : Fin 256) r) (ix2 i r) ?_, hk]
    · exact congrArg (fun j => S (t / N) r (1024 * (t % N) + j)) (Nat.add_sub_cancel' hl)
    · intro a
      match a with
      | 0 => show i.val = 256 * w + 1 * (i.val - 256 * w); omega
      | 1 => show r.val = 0 + 1 * r.val; omega
  have miss : ∀ (x : S256x512.Idx → EReal) (o : ℕ) (inb) (L : List (View.Piece (Elt Ideal) S1024x512 .f32)), i.val < o →
      v.read (Elt Ideal) (v.writes (Elt Ideal) f (⟨Rect.unit ![o, 0] S256x512.size inb, x⟩ :: L)) (ix2 i r)
        = v.read (Elt Ideal) (v.writes (Elt Ideal) f L) (ix2 i r) := fun x o inb L h =>
    View.read_writes_cons_miss_of_axis v f _ L _ 0 o 256 rfl rfl rfl (.inl h)
  unfold scL
  by_cases c3 : 768 ≤ i.val
  · exact piece k3 3 _ _ h3 c3 (by omega)
  rw [miss _ _ _ _ (by omega)]
  by_cases c2 : 512 ≤ i.val
  · exact piece k2 2 _ _ h2 c2 (by omega)
  rw [miss _ _ _ _ (by omega)]
  by_cases c1 : 256 ≤ i.val
  · exact piece k1 1 _ _ h1 c1 (by omega)
  rw [miss _ _ _ _ (by omega)]
  exact piece k0 0 _ _ h0 (by omega) (by omega)

theorem fold_le {n : ℕ} {f : Fin n → EReal} {c : EReal} : Finset.univ.fold max ⊥ f ≤ c ↔ ∀ y, f y ≤ c := by
  simp [Finset.fold_max_le]

/-- The store of the maxima leaves the maxima, in any buffer. -/
theorem maxAt_store {sig' : RefSig} {κ : _} {sp : Space} (v : View sig' κ sp S8x512 .f32) (f : v.ty.Contents (Elt Ideal))
    {k0 k1 k2 k3 : Vec Ideal S1x256x256 .bf16} {q : Vec Ideal S1x1x256x512 .bf16} {t : ℕ}
    (h0 : ScoreAt N S k0 q t 0) (h1 : ScoreAt N S k1 q t 1) (h2 : ScoreAt N S k2 q t 2) (h3 : ScoreAt N S k3 q t 3) :
    MaxAt N S (v.read (Elt Ideal) (v.writes (Elt Ideal) f (mxL k0 k1 k2 k3 q))) t := by
  intro a r c
  unfold mxL
  rw [View.read_writes_cons_hit_of_coords v f _ _ _ (ix2 a r) (ix2 a r) ?_, mxF_apply, max_le_iff, max_le_iff, max_le_iff,
    fold_le, fold_le, fold_le, fold_le]
  · have e0 := fun i => h0 i r
    have e1 := fun i => h1 i r
    have e2 := fun i => h2 i r
    have e3 := fun i => h3 i r
    simp only [e0, e1, e2, e3]
    constructor
    · rintro ⟨⟨⟨g0, g1⟩, g2⟩, g3⟩ y
      have pick : ∀ (w : ℕ), (∀ y : Fin 32, S (t / N) r (1024 * (t % N) + (256 * w + (y.val * 8 + a.val))) ≤ c) →
          32 * w ≤ y.val → y.val < 32 * w + 32 → S (t / N) r (1024 * (t % N) + (y.val * 8 + a.val)) ≤ c := by
        intro w g hl hu
        have := g ⟨y.val - 32 * w, by omega⟩
        rwa [show 256 * w + ((y.val - 32 * w) * 8 + a.val) = y.val * 8 + a.val by omega] at this
      rcases (by omega : y.val < 32 ∨ (32 ≤ y.val ∧ y.val < 64) ∨ (64 ≤ y.val ∧ y.val < 96) ∨ 96 ≤ y.val) with h | h | h | h
      · exact pick 0 g0 (by omega) (by omega)
      · exact pick 1 g1 (by omega) (by omega)
      · exact pick 2 g2 (by omega) (by omega)
      · exact pick 3 g3 (by omega) (by omega)
    · intro g
      have put : ∀ (w : ℕ), w < 4 → ∀ y : Fin 32, S (t / N) r (1024 * (t % N) + (256 * w + (y.val * 8 + a.val))) ≤ c := by
        intro w hw y
        have := g ⟨32 * w + y.val, by omega⟩
        rwa [show (32 * w + y.val) * 8 + a.val = 256 * w + (y.val * 8 + a.val) by omega] at this
      exact ⟨⟨⟨put 0 (by omega), put 1 (by omega)⟩, put 2 (by omega)⟩, put 3 (by omega)⟩
  · intro a'
    match a' with
    | 0 => show a.val = 0 + 1 * a.val; omega
    | 1 => show r.val = 0 + 1 * r.val; omega

/-- The new running maximum, over the keys before the step and its own. -/
theorem mF_at {m : Vec Ideal S1x1x512 .f32} {x : Vec Ideal S8x512 .f32} {t : ℕ} (r : Fin 512)
    (hm : m (ix3 0 0 r) = Online.top (S (t / N) r) (1024 * (t % N))) (hx : MaxAt N S x t) :
    mF m x (ix3 0 0 r) = Online.top (S (t / N) r) (1024 * (t % N) + 1024) := by
  rw [mF_apply, hm]
  refine Online.top_add fun c => ?_
  rw [fold_le]
  simp only [hx _ r c]
  constructor
  · intro g j hj
    have := g ⟨j % 8, Nat.mod_lt _ (by norm_num)⟩ ⟨j / 8, by omega⟩
    rwa [show j / 8 * 8 + j % 8 = j by omega] at this
  · exact fun g a y => g _ (by omega)

/-- The new accumulator likewise. -/
theorem aF_at {m : Vec Ideal S1x1x512 .f32} {x : Vec Ideal S8x512 .f32} {a : Vec Ideal S1x144x512 .f32}
    {v0 v1 : Vec Ideal S1x1x144x512 .bf16} {s0 s1 s2 s3 : Vec Ideal S256x512 .f32} {t : ℕ}
    (hs : ∀ row r j, ∃ y : ℝ, S row r j = y) (e : Fin 144) (r : Fin 512)
    (hm : m (ix3 0 0 r) = Online.top (S (t / N) r) (1024 * (t % N))) (hx : MaxAt N S x t)
    (ha : a (ix3 0 e r) = Online.acc (S (t / N) r) (V (t / N) e) (1024 * (t % N)))
    (hv0 : ValAt N V v0 t 0) (hv1 : ValAt N V v1 t 1)
    (h0 : ∀ i : Fin 256, s0 (ix2 i r) = S (t / N) r (1024 * (t % N) + i.val))
    (h1 : ∀ i : Fin 256, s1 (ix2 i r) = S (t / N) r (1024 * (t % N) + (256 + i.val)))
    (h2 : ∀ i : Fin 256, s2 (ix2 i r) = S (t / N) r (1024 * (t % N) + (512 + i.val)))
    (h3 : ∀ i : Fin 256, s3 (ix2 i r) = S (t / N) r (1024 * (t % N) + (768 + i.val))) :
    aF m x a v0 v1 s0 s1 s2 s3 (ix3 0 e r)
      = Online.acc (S (t / N) r) (V (t / N) e) (1024 * (t % N) + 1024) := by
  rw [aF_apply, mF_at r hm hx, hm, ha, ← Online.acc_add (hs _ _), ← Online.sum_chunks]
  refine congrArg₂ (· + ·) (congrArg₂ (· + ·) (congrArg₂ (· + ·) (congrArg₂ (· + ·) rfl ?_) ?_) ?_) ?_ <;>
    refine Finset.sum_congr rfl fun i _ => ?_
  · rw [hv0, h0]
    exact congrArg (fun j => V (t / N) e (1024 * (t % N) + j) * _) (by show 512 * 0 + i.val = i.val; omega)
  · rw [hv0, h1]
    exact congrArg (fun j => V (t / N) e (1024 * (t % N) + j) * _) (by show 512 * 0 + (256 + i.val) = 256 + i.val; omega)
  · rw [hv1, h2]
  · rw [hv1, h3]
    exact congrArg (fun j => V (t / N) e (1024 * (t % N) + j) * _) (by show 512 * 1 + (256 + i.val) = 768 + i.val; omega)

end Cert.KernelIdeal.Att

end
-- ==== Proof.Chain.lean ====
/-
  Four steps of the online softmax in a row, and what the loads of a step read: the chain that a trip of the loop runs,
  and the tail after it, whatever buffers they lie in and however many steps a row has.
-/
module

public import proofs.«01_k».proof.Proof.Step
public import Idealize.ShloMosaic.Lib.Pipeline.Kit

@[expose] public section

set_option maxRecDepth 16384

noncomputable section

namespace Cert.KernelIdeal.Att

open Cert.KernelIdeal Cert.KernelIdeal.Gen
open Idealize.ShloMosaic Idealize.ShloMosaic.TcCoe Idealize.ShloMosaic.Pointwise

variable {F : FTy → Type} [FloatOps F]

/-! ## Loads -/

section Loads
variable {sig' : RefSig} {κ : _} {sp : Space}

/-- A chunk of a score slot. -/
theorem slot_load (v : View sig' κ sp S1024x512 .f32) (f : v.ty.Contents (Elt Ideal)) {N S} {t : ℕ} (o : ℕ) (inb)
    (h : SlotAt N S (v.read (Elt Ideal) f) t) (r : Fin 512) (i : Fin 256) :
    v.readAt (Elt Ideal) (Rect.unit (s := S1024x512) ![o, 0] S256x512.size inb).toLoadRect f (ix2 i r)
      = S (t / N) r (1024 * (t % N) + (o + i.val)) := by
  have ho : o + 256 ≤ 1024 := inb 0
  refine Eq.trans ?_ (h ⟨o + i.val, by omega⟩ r)
  rw [View.readAt_apply]
  refine congrArg _ (funext fun a => Fin.ext ?_)
  match a with
  | 0 => show o + 1 * i.val = o + i.val; omega
  | 1 => show 0 + 1 * r.val = r.val; omega

/-- A load of a whole array of maxima. -/
theorem max_load (v : View sig' κ sp S8x512 .f32) (f : v.ty.Contents (Elt Ideal)) {N S} {t : ℕ} (inb)
    (h : MaxAt N S (v.read (Elt Ideal) f) t) :
    MaxAt N S (v.readAt (Elt Ideal) (Rect.unit (s := S8x512) ![0, 0] S8x512.size inb).toLoadRect f) t := by
  intro a r c
  rw [← h a r c, View.readAt_apply]
  refine iff_of_eq (congrArg (· ≤ c) (congrArg _ (funext fun b => Fin.ext ?_)))
  match b with
  | 0 => show 0 + 1 * a.val = a.val; omega
  | 1 => show 0 + 1 * r.val = r.val; omega

/-- A load of one row of the running maxima. -/
theorem top_load (v : View sig' κ sp S16x1x512 .f32) (f : v.ty.Contents (Elt Ideal)) {off : Fin 3 → ℕ} (inb) (row : Fin 16)
    (ho : off = ![row.val, 0, 0]) (r : Fin 512) :
    v.readAt (Elt Ideal) (Rect.unit (s := S16x1x512) off S1x1x512.size inb).toLoadRect f (ix3 0 0 r)
      = v.read (Elt Ideal) f (ix3 row 0 r) := by
  subst ho
  rw [View.readAt_apply]
  refine congrArg _ (funext fun a => Fin.ext ?_)
  match a with
  | 0 => show row.val + 1 * 0 = row.val; omega
  | 1 => rfl
  | 2 => show 0 + 1 * r.val = r.val; omega

/-- A load of one row of the accumulators. -/
theorem acc_load (v : View sig' κ sp S16x144x512 .f32) (f : v.ty.Contents (Elt Ideal)) {off : Fin 3 → ℕ} (inb) (row : Fin 16)
    (ho : off = ![row.val, 0, 0]) (e : Fin 144) (r : Fin 512) :
    v.readAt (Elt Ideal) (Rect.unit (s := S16x144x512) off S1x144x512.size inb).toLoadRect f (ix3 0 e r)
      = v.read (Elt Ideal) f (ix3 row e r) := by
  subst ho
  rw [View.readAt_apply]
  refine congrArg _ (funext fun a => Fin.ext ?_)
  match a with
  | 0 => show row.val + 1 * 0 = row.val; omega
  | 1 => show 0 + 1 * e.val = e.val; omega
  | 2 => show 0 + 1 * r.val = r.val; omega

/-- A load of what was stored last, at offsets written in another way. -/
theorem readCov_head {s : Shape} {e : EltTy} (v : View sig' κ sp s e) {o o' : Fin s.rank → ℕ} {n : Fin s.rank → ℕ} (h : o' = o)
    (inb inb') (w : (Rect.unit (s := s) o n inb).shape.Idx → Elt F e) (L : List (View.Piece (Elt F) s e)) :
    v.readCov (⟨Rect.unit o n inb, w⟩ :: L) (Rect.unit (s := s) o' n inb').toLoadRect = w := by
  subst h
  exact View.readCov_cons_toLoadRect v _ w L

end Loads

/-! ## Four steps in a row -/

/-- The running maximum of a row after `u` of the four steps. -/
def tM (m0 : Vec F S1x1x512 .f32) (x : ℕ → Vec F S8x512 .f32) : ℕ → Vec F S1x1x512 .f32
  | 0 => m0
  | u + 1 => mF (tM m0 x u) (x u)

/-- The accumulator of a row after `u` of the four steps. -/
def tA (m0 : Vec F S1x1x512 .f32) (x : ℕ → Vec F S8x512 .f32) (a0 : Vec F S1x144x512 .f32) (v : ℕ → ℕ → Vec F S1x1x144x512 .bf16)
    (sc : ℕ → ℕ → Vec F S256x512 .f32) : ℕ → Vec F S1x144x512 .f32
  | 0 => a0
  | u + 1 => aF (tM m0 x u) (x u) (tA m0 x a0 v sc u) (v u 0) (v u 1) (sc u 0) (sc u 1) (sc u 2) (sc u 3)

theorem tM_at {N : ℕ} {S : ℕ → Fin 512 → ℕ → EReal} {m0 : Vec Ideal S1x1x512 .f32} {x : ℕ → Vec Ideal S8x512 .f32} {t : ℕ} (ht : ∀ u < 4, (t + u) / N = t / N ∧ (t + u) % N = t % N + u) (r : Fin 512)
    (hm : m0 (ix3 0 0 r) = Online.top (S (t / N) r) (1024 * (t % N))) (hx : ∀ u < 4, MaxAt N S (x u) (t + u)) :
    ∀ u ≤ 4, tM m0 x u (ix3 0 0 r) = Online.top (S (t / N) r) (1024 * (t % N) + 1024 * u)
  | 0, _ => hm
  | u + 1, hu => by
    have h := mF_at (m := tM m0 x u) r (t := t + u) ?_ (hx u (by omega))
    · rw [(ht u (by omega)).1, (ht u (by omega)).2, show 1024 * (t % N + u) + 1024 = 1024 * (t % N) + 1024 * (u + 1) by omega] at h
      exact h
    · rw [tM_at ht r hm hx u (by omega), (ht u (by omega)).1, (ht u (by omega)).2,
        show 1024 * (t % N + u) = 1024 * (t % N) + 1024 * u by omega]

theorem tA_at {N : ℕ} {S : ℕ → Fin 512 → ℕ → EReal} {V : ℕ → Fin 144 → ℕ → EReal} {m0 : Vec Ideal S1x1x512 .f32} {x : ℕ → Vec Ideal S8x512 .f32} {a0 : Vec Ideal S1x144x512 .f32}
    {v : ℕ → ℕ → Vec Ideal S1x1x144x512 .bf16} {sc : ℕ → ℕ → Vec Ideal S256x512 .f32} {t : ℕ} (ht : ∀ u < 4, (t + u) / N = t / N ∧ (t + u) % N = t % N + u)
    (hs : ∀ row r j, ∃ y : ℝ, S row r j = y) (e : Fin 144) (r : Fin 512)
    (hm : m0 (ix3 0 0 r) = Online.top (S (t / N) r) (1024 * (t % N))) (hx : ∀ u < 4, MaxAt N S (x u) (t + u))
    (ha : a0 (ix3 0 e r) = Online.acc (S (t / N) r) (V (t / N) e) (1024 * (t % N)))
    (hv : ∀ u < 4, ∀ w < 2, ValAt N V (v u w) (t + u) w)
    (hsc : ∀ u < 4, ∀ w < 4, ∀ i : Fin 256, sc u w (ix2 i r)
      = S ((t + u) / N) r (1024 * ((t + u) % N) + (256 * w + i.val))) :
    ∀ u ≤ 4, tA m0 x a0 v sc u (ix3 0 e r) = Online.acc (S (t / N) r) (V (t / N) e) (1024 * (t % N) + 1024 * u)
  | 0, _ => ha
  | u + 1, hu => by
    have h := aF_at (m := tM m0 x u) (a := tA m0 x a0 v sc u) (t := t + u) hs e r ?_ (hx u (by omega)) ?_
      (hv u (by omega) 0 (by omega)) (hv u (by omega) 1 (by omega))
      (fun i => by simpa using hsc u (by omega) 0 (by omega) i) (hsc u (by omega) 1 (by omega))
      (hsc u (by omega) 2 (by omega)) (hsc u (by omega) 3 (by omega))
    · rw [(ht u (by omega)).1, (ht u (by omega)).2, show 1024 * (t % N + u) + 1024 = 1024 * (t % N) + 1024 * (u + 1) by omega] at h
      exact h
    · rw [tM_at ht r hm hx u (by omega), (ht u (by omega)).1, (ht u (by omega)).2,
        show 1024 * (t % N + u) = 1024 * (t % N) + 1024 * u by omega]
    · rw [tA_at ht hs e r hm hx ha hv hsc u (by omega), (ht u (by omega)).1, (ht u (by omega)).2,
        show 1024 * (t % N + u) = 1024 * (t % N) + 1024 * u by omega]

/-! ## The invariant -/

/-- The running maxima before step `t`: of each row, over the keys that its steps before `t` had. -/
def TopAt (N : ℕ) (S : ℕ → Fin 512 → ℕ → EReal) (f : S16x1x512.Idx → EReal) (t : ℕ) : Prop :=
  ∀ (row : Fin 16) (r : Fin 512), f (ix3 row 0 r) = Online.top (S row.val r) (1024 * min (t - N * row.val) N)

/-- The accumulators before step `t` likewise. -/
def AccAt (N : ℕ) (S : ℕ → Fin 512 → ℕ → EReal) (V : ℕ → Fin 144 → ℕ → EReal) (f : S16x144x512.Idx → EReal) (t : ℕ) : Prop :=
  ∀ (row : Fin 16) (e : Fin 144) (r : Fin 512),
    f (ix3 row e r) = Online.acc (S row.val r) (V row.val e) (1024 * min (t - N * row.val) N)

section Rows
variable {sig' : RefSig} {κ : _} {sp : Space} {N : ℕ} {S : ℕ → Fin 512 → ℕ → EReal} {V : ℕ → Fin 144 → ℕ → EReal}

/-- Storing the new maximum over the step's row, whatever was stored into that row before. -/
theorem topAt_row (v : View sig' κ sp S16x1x512 .f32) (f : v.ty.Contents (Elt Ideal)) {t : ℕ}
    (hn : ∀ row < 16, (row = t / N → t % N + 4 = min (t + 4 - N * row) N)
      ∧ (row ≠ t / N → min (t + 4 - N * row) N = min (t - N * row) N))
    (hf : TopAt N S (v.read (Elt Ideal) f) t) {off : Fin 3 → ℕ} (inb) (ho : off = ![t / N, 0, 0]) (x : Vec Ideal S1x1x512 .f32)
    (hx : ∀ r : Fin 512, x (ix3 0 0 r) = Online.top (S (t / N) r) (1024 * (t % N) + 1024 * 4))
    (L : List (View.Piece (Elt Ideal) S16x1x512 .f32))
    (hL : ∀ p ∈ L, p.1.off 0 = t / N ∧ p.1.stride 0 = 1 ∧ p.1.size 0 = 1) :
    TopAt N S (v.read (Elt Ideal) (v.writes (Elt Ideal) f (⟨Rect.unit (s := S16x1x512) off S1x1x512.size inb, x⟩ :: L))) (t + 4) := by
  subst ho
  intro row r
  by_cases hr : row.val = t / N
  · rw [View.read_writes_cons_hit_of_coords v f _ _ L (ix3 (0 : Fin 1) (0 : Fin 1) r) (ix3 row 0 r) ?_]
    · refine (hx r).trans ?_
      rw [← hr, ← ((hn row.val row.isLt).1 hr)]
      exact congrArg _ (by omega)
    · intro a
      match a with
      | 0 => show row.val = t / N + 1 * 0; omega
      | 1 => rfl
      | 2 => show r.val = 0 + 1 * r.val; omega
  · rw [View.read_writes_apply_of_forall_not_mem v f (ix3 row 0 r) _ ?_, hf row r]
    · rw [(hn row.val row.isLt).2 hr]
    · intro p hp
      rcases List.mem_cons.mp hp with rfl | hp
      · exact Rect.not_mem_set_of_axis _ _ 0 (t / N) 1 rfl rfl rfl (show row.val < t / N ∨ t / N + 1 ≤ row.val by omega)
      · exact Rect.not_mem_set_of_axis _ _ 0 (t / N) 1 (hL p hp).1 (hL p hp).2.1 (hL p hp).2.2
          (show row.val < t / N ∨ t / N + 1 ≤ row.val by omega)

/-- Storing the new accumulator likewise. -/
theorem accAt_row (v : View sig' κ sp S16x144x512 .f32) (f : v.ty.Contents (Elt Ideal)) {t : ℕ}
    (hn : ∀ row < 16, (row = t / N → t % N + 4 = min (t + 4 - N * row) N)
      ∧ (row ≠ t / N → min (t + 4 - N * row) N = min (t - N * row) N))
    (hf : AccAt N S V (v.read (Elt Ideal) f) t) {off : Fin 3 → ℕ} (inb) (ho : off = ![t / N, 0, 0]) (x : Vec Ideal S1x144x512 .f32)
    (hx : ∀ (e : Fin 144) (r : Fin 512),
      x (ix3 0 e r) = Online.acc (S (t / N) r) (V (t / N) e) (1024 * (t % N) + 1024 * 4))
    (L : List (View.Piece (Elt Ideal) S16x144x512 .f32))
    (hL : ∀ p ∈ L, p.1.off 0 = t / N ∧ p.1.stride 0 = 1 ∧ p.1.size 0 = 1) :
    AccAt N S V (v.read (Elt Ideal) (v.writes (Elt Ideal) f (⟨Rect.unit (s := S16x144x512) off S1x144x512.size inb, x⟩ :: L))) (t + 4) := by
  subst ho
  intro row e r
  by_cases hr : row.val = t / N
  · rw [View.read_writes_cons_hit_of_coords v f _ _ L (ix3 (0 : Fin 1) e r) (ix3 row e r) ?_]
    · refine (hx e r).trans ?_
      rw [← hr, ← ((hn row.val row.isLt).1 hr)]
      exact congrArg _ (by omega)
    · intro a
      match a with
      | 0 => show row.val = t / N + 1 * 0; omega
      | 1 => show e.val = 0 + 1 * e.val; omega
      | 2 => show r.val = 0 + 1 * r.val; omega
  · rw [View.read_writes_apply_of_forall_not_mem v f (ix3 row e r) _ ?_, hf row e r]
    · rw [(hn row.val row.isLt).2 hr]
    · intro p hp
      rcases List.mem_cons.mp hp with rfl | hp
      · exact Rect.not_mem_set_of_axis _ _ 0 (t / N) 1 rfl rfl rfl (show row.val < t / N ∨ t / N + 1 ≤ row.val by omega)
      · exact Rect.not_mem_set_of_axis _ _ 0 (t / N) 1 (hL p hp).1 (hL p hp).2.1 (hL p hp).2.2
          (show row.val < t / N ∨ t / N + 1 ≤ row.val by omega)

end Rows

end Cert.KernelIdeal.Att

end
-- ==== Proof.Keys.lean ====
/-
  The steps of the first call: sixteen in each of sixteen rows of queries, all of one head. What its loads read.
-/
module

public import proofs.«01_k».proof.Proof.Chain
public import Idealize.ShloMosaic.Lib.Pipeline.Kit

@[expose] public section

set_option maxRecDepth 16384

noncomputable section

namespace Cert.KernelIdeal.Att

open Cert.KernelIdeal Cert.KernelIdeal.Gen
open Idealize.ShloMosaic Idealize.ShloMosaic.TcCoe Idealize.ShloMosaic.Pointwise

variable (X3 : S1x16x256x512.Idx → EReal) (X4 : S1x16384x256.Idx → EReal) (X5 : S1x32x144x512.Idx → EReal)

/-- The score of key `j` for query `r` of the tile `row`. -/
def sN (row : ℕ) (r : Fin 512) (j : ℕ) : EReal :=
  ∑ d : Fin 256, X4 (ix3 0 ⟨j % 16384, Nat.mod_lt _ (by norm_num)⟩ d) * X3 (ix4 0 ⟨row % 16, Nat.mod_lt _ (by norm_num)⟩ d r)

/-- Entry `e` of key `j`'s value. -/
def vN (e : Fin 144) (j : ℕ) : EReal :=
  X5 (ix4 0 ⟨j / 512 % 32, Nat.mod_lt _ (by norm_num)⟩ e ⟨j % 512, Nat.mod_lt _ (by norm_num)⟩)

/-- The buffers' contents between the steps, at this call's scores and values. -/
abbrev SlotOk := SlotAt 16 (sN X3 X4)
abbrev MaxOk := MaxAt 16 (sN X3 X4)
abbrev ValOk := ValAt 16 (fun _ => vN X5)
abbrev TopOk := TopAt 16 (sN X3 X4)
abbrev AccOk := AccAt 16 (sN X3 X4) (fun _ => vN X5)

/-- A block of 256 keys, from key `256 w` of step `t`'s on. -/
def KeyOk (kb : S1x256x256.Idx → EReal) (t w : ℕ) : Prop :=
  ∀ (i d : Fin 256), kb (ix3 0 i d) = X4 (ix3 0 ⟨(1024 * (t % 16) + (256 * w + i.val)) % 16384, Nat.mod_lt _ (by norm_num)⟩ d)

/-- The queries of step `t`. -/
def QryOk (q : S1x1x256x512.Idx → EReal) (t : ℕ) : Prop :=
  ∀ (d : Fin 256) (r : Fin 512), q (ix4 0 0 d r) = X3 (ix4 0 ⟨t / 16 % 16, Nat.mod_lt _ (by norm_num)⟩ d r)

variable {X3 X4 X5}

theorem scF_ok {kb : Vec Ideal S1x256x256 .bf16} {q : Vec Ideal S1x1x256x512 .bf16} {t w : ℕ}
    (hk : KeyOk X4 kb t w) (hq : QryOk X3 q t) : ScoreAt 16 (sN X3 X4) kb q t w := by
  intro i r
  rw [scF_apply]
  exact Finset.sum_congr rfl fun d _ => congrArg₂ (· * ·) (hk i d) (hq d r)

section Loads
variable {sig' : RefSig} {κ : _} {sp : Space}

theorem keyOk_load (v : View sig' κ sp S1x16384x256 .bf16) (f : v.ty.Contents (Elt Ideal)) {off : Fin 3 → ℕ} (inb) {t w : ℕ}
    (hw : w < 4) (ho : off = ![0, 1024 * (t % 16) + 256 * w, 0]) :
    KeyOk (v.read (Elt Ideal) f) (v.readAt (Elt Ideal) (Rect.unit (s := S1x16384x256) off S1x256x256.size inb).toLoadRect f) t w := by
  subst ho
  intro i d
  rw [View.readAt_apply]
  refine congrArg _ (funext fun a => Fin.ext ?_)
  match a with
  | 0 => rfl
  | 1 => show 1024 * (t % 16) + 256 * w + 1 * i.val = (1024 * (t % 16) + (256 * w + i.val)) % 16384; omega
  | 2 => show 0 + 1 * d.val = d.val; omega

theorem qryOk_load (v : View sig' κ sp S1x16x256x512 .bf16) (f : v.ty.Contents (Elt Ideal)) {off : Fin 4 → ℕ} (inb) {t : ℕ}
    (ht : t < 256) (ho : off = ![0, t / 16, 0, 0]) :
    QryOk (v.read (Elt Ideal) f) (v.readAt (Elt Ideal) (Rect.unit (s := S1x16x256x512) off S1x1x256x512.size inb).toLoadRect f) t := by
  subst ho
  intro d r
  rw [View.readAt_apply]
  refine congrArg _ (funext fun a => Fin.ext ?_)
  match a with
  | 0 => rfl
  | 1 => show t / 16 + 1 * 0 = t / 16 % 16; omega
  | 2 => show 0 + 1 * d.val = d.val; omega
  | 3 => show 0 + 1 * r.val = r.val; omega

theorem valOk_load (v : View sig' κ sp S1x32x144x512 .bf16) (f : v.ty.Contents (Elt Ideal)) {off : Fin 4 → ℕ} (inb) {t w : ℕ}
    (hw : w < 2) (ho : off = ![0, 2 * (t % 16) + w, 0, 0]) :
    ValOk (v.read (Elt Ideal) f) (v.readAt (Elt Ideal) (Rect.unit (s := S1x32x144x512) off S1x1x144x512.size inb).toLoadRect f) t w := by
  subst ho
  intro e l
  rw [View.readAt_apply]
  refine congrArg _ (funext fun a => Fin.ext ?_)
  match a with
  | 0 => rfl
  | 1 => show 2 * (t % 16) + w + 1 * 0 = (1024 * (t % 16) + (512 * w + l.val)) / 512 % 32; omega
  | 2 => show 0 + 1 * e.val = e.val; omega
  | 3 => show 0 + 1 * l.val = (1024 * (t % 16) + (512 * w + l.val)) % 512; omega

end Loads

/-- Within a trip the row stays. -/
theorem row_step {t : ℕ} (ht : t % 4 = 0) : ∀ u < 4, (t + u) / 16 = t / 16 ∧ (t + u) % 16 = t % 16 + u := by omega

/-- A trip adds its four steps to its row only. -/
theorem row_count {t : ℕ} (ht : t < 256) (h4 : t % 4 = 0) : ∀ row < 16, (row = t / 16 → t % 16 + 4 = min (t + 4 - 16 * row) 16)
    ∧ (row ≠ t / 16 → min (t + 4 - 16 * row) 16 = min (t - 16 * row) 16) := by omega

end Cert.KernelIdeal.Att

end
-- ==== Proof.Inv.lean ====
/-
  The loop's invariant over the reals: before trip `k` the slots hold the scores of the steps `4k … 4k+3`, and the running
  maxima and accumulators are those of the steps before.
-/
module

public import proofs.«01_k».proof.Proof.TripVal

@[expose] public section

set_option maxRecDepth 16384

noncomputable section

namespace Cert.KernelIdeal.Att

open Cert.KernelIdeal Cert.KernelIdeal.Gen
open Idealize.ShloMosaic Idealize.ShloMosaic.TcCoe Idealize.ShloMosaic.Pointwise

variable (c : Dev nD) (i : grid0.Coords) (arg3 : Memref sig .tc .vmem S1x16x256x512 .bf16) (harg3 : arg3.IsWhole) (arg4 : Memref sig .tc .vmem S1x16384x256 .bf16) (harg4 : arg4.IsWhole) (arg5 : Memref sig .tc .vmem S1x32x144x512 .bf16) (harg5 : arg5.IsWhole) (arg6 : Memref sig .tc .vmem S8192x128 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S8x512 .f32) (harg13 : arg13.IsWhole) (arg14 : Memref sig .tc .vmem S8x512 .f32) (harg14 : arg14.IsWhole) (arg15 : Memref sig .tc .vmem S16x1x512 .f32) (harg15 : arg15.IsWhole) (arg16 : Memref sig .tc .vmem S16x144x512 .f32) (harg16 : arg16.IsWhole) (v207 : FVec Ideal S8x512 .f32) (v211 : FVec Ideal S256x256 .bf16)
  (f3 : Bf (F := Ideal) c arg3) (f4 : Bf (F := Ideal) c arg4) (f5 : Bf (F := Ideal) c arg5)

/-- What the scratch buffers hold before trip `k`. -/
structure Inv (k : ℕ) (s : St (F := Ideal) c arg7 arg8 arg9 arg10 arg11 arg12 arg13 arg14 arg15 arg16) : Prop where
  h7 : SlotOk (arg3.view.read (Elt Ideal) f3) (arg4.view.read (Elt Ideal) f4) (arg7.view.read (Elt Ideal) s.s7) (4 * k + 0)
  h8 : SlotOk (arg3.view.read (Elt Ideal) f3) (arg4.view.read (Elt Ideal) f4) (arg8.view.read (Elt Ideal) s.s8) (4 * k + 1)
  h9 : SlotOk (arg3.view.read (Elt Ideal) f3) (arg4.view.read (Elt Ideal) f4) (arg9.view.read (Elt Ideal) s.s9) (4 * k + 2)
  h10 : SlotOk (arg3.view.read (Elt Ideal) f3) (arg4.view.read (Elt Ideal) f4) (arg10.view.read (Elt Ideal) s.s10) (4 * k + 3)
  h11 : MaxOk (arg3.view.read (Elt Ideal) f3) (arg4.view.read (Elt Ideal) f4) (arg11.view.read (Elt Ideal) s.s11) (4 * k + 0)
  h12 : MaxOk (arg3.view.read (Elt Ideal) f3) (arg4.view.read (Elt Ideal) f4) (arg12.view.read (Elt Ideal) s.s12) (4 * k + 1)
  h13 : MaxOk (arg3.view.read (Elt Ideal) f3) (arg4.view.read (Elt Ideal) f4) (arg13.view.read (Elt Ideal) s.s13) (4 * k + 2)
  h14 : MaxOk (arg3.view.read (Elt Ideal) f3) (arg4.view.read (Elt Ideal) f4) (arg14.view.read (Elt Ideal) s.s14) (4 * k + 3)
  h15 : TopOk (arg3.view.read (Elt Ideal) f3) (arg4.view.read (Elt Ideal) f4) (arg15.view.read (Elt Ideal) s.s15) (4 * k)
  h16 : AccOk (arg3.view.read (Elt Ideal) f3) (arg4.view.read (Elt Ideal) f4) (arg5.view.read (Elt Ideal) f5) (arg16.view.read (Elt Ideal) s.s16) (4 * k)

variable (k : Fin k0_t1_loop.trips) (s : St (F := Ideal) c arg7 arg8 arg9 arg10 arg11 arg12 arg13 arg14 arg15 arg16)

theorem ldK_ok (u w : Fin 4) : KeyOk (arg4.view.read (Elt Ideal) f4) (ldK c arg4 f4 k u w) (4 * (k.val + 1) + u.val) w.val :=
  keyOk_load _ _ _ w.isLt (off4_eq k u w)

theorem ldQ_ok (u : Fin 4) : QryOk (arg3.view.read (Elt Ideal) f3) (ldQ c arg3 f3 k u) (4 * (k.val + 1) + u.val) := by
  have hk := k.isLt
  refine qryOk_load _ _ _ ?_ ?_
  · have : k.val < 63 := hk
    omega
  · rw [off5_eq, show (4 * (k.val + 1) + u.val) / 16 = (k.val + 1) / 4 by omega]

variable {c arg3 arg4 arg5 arg7 arg8 arg9 arg10 arg11 arg12 arg13 arg14 arg15 arg16 f3 f4 f5 k s}

section
variable {K : ℕ} (h : Inv c arg3 arg4 arg5 arg7 arg8 arg9 arg10 arg11 arg12 arg13 arg14 arg15 arg16 f3 f4 f5 K s)
include h

/-- What the loads of the slots read. -/
theorem ldXs_ok : ∀ u < 4, MaxOk (arg3.view.read (Elt Ideal) f3) (arg4.view.read (Elt Ideal) f4)
      (ldXs c arg7 arg8 arg9 arg10 arg11 arg12 arg13 arg14 arg15 arg16 s u) (4 * K + u)
  | 0, _ => max_load _ _ _ h.h11
  | 1, _ => max_load _ _ _ h.h12
  | 2, _ => max_load _ _ _ h.h13
  | 3, _ => max_load _ _ _ h.h14

theorem ldSs_ok (r : Fin 512) : ∀ u < 4, ∀ w < 4, ∀ i : Fin 256,
    ldSs c arg7 arg8 arg9 arg10 arg11 arg12 arg13 arg14 arg15 arg16 s u w (ix2 i r)
      = sN (arg3.view.read (Elt Ideal) f3) (arg4.view.read (Elt Ideal) f4) ((4 * K + u) / 16) r (1024 * ((4 * K + u) % 16) + (256 * w + i.val)) := by
  have chunk : ∀ {M : Memref sig .tc .vmem S1024x512 .f32} (f : Bf (F := Ideal) c M) {t : ℕ},
      SlotOk (arg3.view.read (Elt Ideal) f3) (arg4.view.read (Elt Ideal) f4) (M.view.read (Elt Ideal) f) t → ∀ w < 4, ∀ i : Fin 256,
      ldS c f w (ix2 i r) = sN (arg3.view.read (Elt Ideal) f3) (arg4.view.read (Elt Ideal) f4) (t / 16) r (1024 * (t % 16) + (256 * w + i.val)) := by
    intro M f t hf w hw i
    match w, hw with
    | 0, _ => exact slot_load _ _ 0 _ hf r i
    | 1, _ => exact slot_load _ _ 256 _ hf r i
    | 2, _ => exact slot_load _ _ 512 _ hf r i
    | 3, _ => exact slot_load _ _ 768 _ hf r i
  intro u hu
  match u, hu with
  | 0, _ => exact chunk _ h.h7
  | 1, _ => exact chunk _ h.h8
  | 2, _ => exact chunk _ h.h9
  | 3, _ => exact chunk _ h.h10
end

/-- One trip keeps the invariant. -/
theorem inv_step (hs : ∀ row r j, ∃ y : ℝ, sN (arg3.view.read (Elt Ideal) f3) (arg4.view.read (Elt Ideal) f4) row r j = y)
    (h : Inv c arg3 arg4 arg5 arg7 arg8 arg9 arg10 arg11 arg12 arg13 arg14 arg15 arg16 f3 f4 f5 k.val s) :
    Inv c arg3 arg4 arg5 arg7 arg8 arg9 arg10 arg11 arg12 arg13 arg14 arg15 arg16 f3 f4 f5 (k.val + 1) (step c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s) := by
  have hk : k.val < 63 := k.isLt
  have hrow : 4 * k.val / 16 = k.val / 4 := by omega
  have hm : ∀ r : Fin 512, View.readAt (Elt Ideal) arg15.view (Rect.unit (s := S16x1x512) (k0_off1 k 0#32) S1x1x512.size (off1_inb k 0)).toLoadRect s.s15 (ix3 0 0 r)
      = Online.top (sN (arg3.view.read (Elt Ideal) f3) (arg4.view.read (Elt Ideal) f4) (4 * k.val / 16) r) (1024 * (4 * k.val % 16)) := by
    intro r
    refine (top_load arg15.view s.s15 (off1_inb k 0) ⟨k.val / 4, by omega⟩ (off1_eq k 0) r).trans ?_
    rw [h.h15]
    show Online.top (sN _ _ (k.val / 4) r) _ = _
    rw [hrow]
    exact congrArg _ (by show 1024 * min (4 * k.val - 16 * (k.val / 4)) 16 = _; omega)
  have ha : ∀ (e : Fin 144) (r : Fin 512), View.readAt (Elt Ideal) arg16.view (Rect.unit (s := S16x144x512) (k0_off2 k 0#32) S1x144x512.size (off2_inb k 0)).toLoadRect s.s16 (ix3 0 e r)
      = Online.acc (sN (arg3.view.read (Elt Ideal) f3) (arg4.view.read (Elt Ideal) f4) (4 * k.val / 16) r) (vN (arg5.view.read (Elt Ideal) f5) e) (1024 * (4 * k.val % 16)) := by
    intro e r
    refine (acc_load arg16.view s.s16 (off2_inb k 0) ⟨k.val / 4, by omega⟩ (off2_eq k 0) e r).trans ?_
    rw [h.h16]
    show Online.acc (sN _ _ (k.val / 4) r) _ _ = _
    rw [hrow]
    exact congrArg _ (by show 1024 * min (4 * k.val - 16 * (k.val / 4)) 16 = _; omega)
  have hv : ∀ u < 4, ∀ w < 2, ValOk (arg5.view.read (Elt Ideal) f5) (ldV c arg5 f5 k u w) (4 * k.val + u) w := by
    intro u hu w hw
    refine valOk_load _ _ _ hw ?_
    rw [off3_eq]
    show ![0, 2 * ((4 * k.val + u % 4) % 16) + w % 2, 0, 0] = _
    rw [Nat.mod_eq_of_lt hu, Nat.mod_eq_of_lt hw]
  unfold step
  refine ⟨?_, ?_, ?_, ?_, ?_, ?_, ?_, ?_, ?_, ?_⟩
  · show SlotOk _ _ (arg7.view.read _ (arg7.view.writes (Elt Ideal) s.s7 (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).1)) _
    rw [trip_sc0]
    exact slotAt_store _ _ (scF_ok (ldK_ok c arg4 f4 k 0 0) (ldQ_ok c arg3 f3 k 0)) (scF_ok (ldK_ok c arg4 f4 k 0 1) (ldQ_ok c arg3 f3 k 0)) (scF_ok (ldK_ok c arg4 f4 k 0 2) (ldQ_ok c arg3 f3 k 0)) (scF_ok (ldK_ok c arg4 f4 k 0 3) (ldQ_ok c arg3 f3 k 0))
  · show SlotOk _ _ (arg8.view.read _ (arg8.view.writes (Elt Ideal) s.s8 (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).2.1)) _
    rw [trip_sc1]
    exact slotAt_store _ _ (scF_ok (ldK_ok c arg4 f4 k 1 0) (ldQ_ok c arg3 f3 k 1)) (scF_ok (ldK_ok c arg4 f4 k 1 1) (ldQ_ok c arg3 f3 k 1)) (scF_ok (ldK_ok c arg4 f4 k 1 2) (ldQ_ok c arg3 f3 k 1)) (scF_ok (ldK_ok c arg4 f4 k 1 3) (ldQ_ok c arg3 f3 k 1))
  · show SlotOk _ _ (arg9.view.read _ (arg9.view.writes (Elt Ideal) s.s9 (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).2.2.1)) _
    rw [trip_sc2]
    exact slotAt_store _ _ (scF_ok (ldK_ok c arg4 f4 k 2 0) (ldQ_ok c arg3 f3 k 2)) (scF_ok (ldK_ok c arg4 f4 k 2 1) (ldQ_ok c arg3 f3 k 2)) (scF_ok (ldK_ok c arg4 f4 k 2 2) (ldQ_ok c arg3 f3 k 2)) (scF_ok (ldK_ok c arg4 f4 k 2 3) (ldQ_ok c arg3 f3 k 2))
  · show SlotOk _ _ (arg10.view.read _ (arg10.view.writes (Elt Ideal) s.s10 (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).2.2.2.1)) _
    rw [trip_sc3]
    exact slotAt_store _ _ (scF_ok (ldK_ok c arg4 f4 k 3 0) (ldQ_ok c arg3 f3 k 3)) (scF_ok (ldK_ok c arg4 f4 k 3 1) (ldQ_ok c arg3 f3 k 3)) (scF_ok (ldK_ok c arg4 f4 k 3 2) (ldQ_ok c arg3 f3 k 3)) (scF_ok (ldK_ok c arg4 f4 k 3 3) (ldQ_ok c arg3 f3 k 3))
  · show MaxOk _ _ (arg11.view.read _ (arg11.view.writes (Elt Ideal) s.s11 (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).2.2.2.2.1)) _
    rw [trip_mx0]
    exact maxAt_store _ _ (scF_ok (ldK_ok c arg4 f4 k 0 0) (ldQ_ok c arg3 f3 k 0)) (scF_ok (ldK_ok c arg4 f4 k 0 1) (ldQ_ok c arg3 f3 k 0)) (scF_ok (ldK_ok c arg4 f4 k 0 2) (ldQ_ok c arg3 f3 k 0)) (scF_ok (ldK_ok c arg4 f4 k 0 3) (ldQ_ok c arg3 f3 k 0))
  · show MaxOk _ _ (arg12.view.read _ (arg12.view.writes (Elt Ideal) s.s12 (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).2.2.2.2.2.1)) _
    rw [trip_mx1]
    exact maxAt_store _ _ (scF_ok (ldK_ok c arg4 f4 k 1 0) (ldQ_ok c arg3 f3 k 1)) (scF_ok (ldK_ok c arg4 f4 k 1 1) (ldQ_ok c arg3 f3 k 1)) (scF_ok (ldK_ok c arg4 f4 k 1 2) (ldQ_ok c arg3 f3 k 1)) (scF_ok (ldK_ok c arg4 f4 k 1 3) (ldQ_ok c arg3 f3 k 1))
  · show MaxOk _ _ (arg13.view.read _ (arg13.view.writes (Elt Ideal) s.s13 (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).2.2.2.2.2.2.1)) _
    rw [trip_mx2]
    exact maxAt_store _ _ (scF_ok (ldK_ok c arg4 f4 k 2 0) (ldQ_ok c arg3 f3 k 2)) (scF_ok (ldK_ok c arg4 f4 k 2 1) (ldQ_ok c arg3 f3 k 2)) (scF_ok (ldK_ok c arg4 f4 k 2 2) (ldQ_ok c arg3 f3 k 2)) (scF_ok (ldK_ok c arg4 f4 k 2 3) (ldQ_ok c arg3 f3 k 2))
  · show MaxOk _ _ (arg14.view.read _ (arg14.view.writes (Elt Ideal) s.s14 (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).2.2.2.2.2.2.2.1)) _
    rw [trip_mx3]
    exact maxAt_store _ _ (scF_ok (ldK_ok c arg4 f4 k 3 0) (ldQ_ok c arg3 f3 k 3)) (scF_ok (ldK_ok c arg4 f4 k 3 1) (ldQ_ok c arg3 f3 k 3)) (scF_ok (ldK_ok c arg4 f4 k 3 2) (ldQ_ok c arg3 f3 k 3)) (scF_ok (ldK_ok c arg4 f4 k 3 3) (ldQ_ok c arg3 f3 k 3))
  · show TopOk _ _ (arg15.view.read _ (arg15.view.writes (Elt Ideal) s.s15 (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).2.2.2.2.2.2.2.2.1)) _
    rw [trip_top]
    refine topAt_row arg15.view s.s15 (t := 4 * k.val) (row_count (by omega) (by omega)) h.h15 _ ((off1_eq k 3).trans (by rw [hrow])) _
      (fun r => tM_at (row_step (by omega)) r (hm r) (ldXs_ok h) 4 le_rfl) _ ?_
    intro p hp
    rw [hrow]
    simp only [List.mem_cons, List.not_mem_nil, or_false] at hp
    rcases hp with rfl | rfl | rfl
    · exact ⟨congrFun (off1_eq k 2) 0, rfl, rfl⟩
    · exact ⟨congrFun (off1_eq k 1) 0, rfl, rfl⟩
    · exact ⟨congrFun (off1_eq k 0) 0, rfl, rfl⟩
  · show AccOk _ _ _ (arg16.view.read _ (arg16.view.writes (Elt Ideal) s.s16 (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).2.2.2.2.2.2.2.2.2.1)) _
    rw [trip_acc]
    refine accAt_row arg16.view s.s16 (t := 4 * k.val) (row_count (by omega) (by omega)) h.h16 _ ((off2_eq k 3).trans (by rw [hrow])) _
      (fun e r => tA_at (row_step (by omega)) hs e r (hm r) (ldXs_ok h) (ha e r) hv (ldSs_ok h r) 4 le_rfl) _ ?_
    intro p hp
    rw [hrow]
    simp only [List.mem_cons, List.not_mem_nil, or_false] at hp
    rcases hp with rfl | rfl | rfl
    · exact ⟨congrFun (off2_eq k 2) 0, rfl, rfl⟩
    · exact ⟨congrFun (off2_eq k 1) 0, rfl, rfl⟩
    · exact ⟨congrFun (off2_eq k 0) 0, rfl, rfl⟩

/-- So all trips do. -/
theorem inv_iter (hs : ∀ row r j, ∃ y : ℝ, sN (arg3.view.read (Elt Ideal) f3) (arg4.view.read (Elt Ideal) f4) row r j = y)
    (h : Inv c arg3 arg4 arg5 arg7 arg8 arg9 arg10 arg11 arg12 arg13 arg14 arg15 arg16 f3 f4 f5 0 s) :
    ∀ K ≤ 63, Inv c arg3 arg4 arg5 arg7 arg8 arg9 arg10 arg11 arg12 arg13 arg14 arg15 arg16 f3 f4 f5 K (iter c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 s K)
  | 0, _ => h
  | K + 1, hK => by
    have := iter_succ c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 s ⟨K, hK⟩
    rw [this]
    exact inv_step (k := ⟨K, hK⟩) i harg3 harg4 harg5 arg6 harg6 harg7 harg8 harg9 harg10 harg11 harg12 harg13 harg14 harg15 harg16 v207 v211 hs (inv_iter hs h K (by omega))

end Cert.KernelIdeal.Att

end
-- ==== Proof.Start.lean ====
/-
  Before the loop: the scores of the first four steps, their maxima, and no keys yet in the running maxima and
  accumulators.
-/
module

public import proofs.«01_k».proof.Proof.Inv
public import proofs.«01_k».proof.Proof.BodyRun

@[expose] public section

set_option maxRecDepth 16384

noncomputable section

namespace Cert.KernelIdeal.Att

open Cert.KernelIdeal Cert.KernelIdeal.Gen
open Idealize.ShloMosaic Idealize.ShloMosaic.TcCoe Idealize.ShloMosaic.Pointwise

section Loads
variable {F : FTy → Type} [FloatOps F] (c : Dev nD) (arg3 : Memref sig .tc .vmem S1x16x256x512 .bf16)
  (arg4 : Memref sig .tc .vmem S1x16384x256 .bf16) (f3 : Bf (F := F) c arg3) (f4 : Bf (F := F) c arg4)

theorem pK_inb (u w : ℕ) : ∀ a : Fin 3, ![0, 1024 * (u % 16) + 256 * (w % 4), 0] a + S1x256x256.size a ≤ S1x16384x256.size a
  | 0 => le_refl 1
  | 1 => show 1024 * (u % 16) + 256 * (w % 4) + 256 ≤ 16384 by omega
  | 2 => le_refl 256

/-- The loads of step `u` before the loop: a block of keys and the queries. -/
abbrev pK (u w : ℕ) : Vec F S1x256x256 .bf16 :=
  View.readAt (Elt F) arg4.view (Rect.unit (s := S1x16384x256) ![0, 1024 * (u % 16) + 256 * (w % 4), 0] S1x256x256.size (pK_inb u w)).toLoadRect f4
abbrev pQ : Vec F S1x1x256x512 .bf16 :=
  View.readAt (Elt F) arg3.view (Rect.unit (s := S1x16x256x512) ![0, 0, 0, 0] S1x1x256x512.size inb_S1x16x256x512_S1x1x256x512_0_0_0_0).toLoadRect f3

theorem pro_sc0 : bodyRun.sl.H7_4 c arg3 arg4 f3 f4 = scL (pK c arg4 f4 0 0) (pK c arg4 f4 0 1) (pK c arg4 f4 0 2) (pK c arg4 f4 0 3) (pQ c arg3 f3) := rfl
theorem pro_mx0 : bodyRun.sl.H11_1 c arg3 arg4 f3 f4 = mxL (pK c arg4 f4 0 0) (pK c arg4 f4 0 1) (pK c arg4 f4 0 2) (pK c arg4 f4 0 3) (pQ c arg3 f3) := rfl
theorem pro_sc1 : bodyRun.sl.H8_4 c arg3 arg4 f3 f4 = scL (pK c arg4 f4 1 0) (pK c arg4 f4 1 1) (pK c arg4 f4 1 2) (pK c arg4 f4 1 3) (pQ c arg3 f3) := rfl
theorem pro_mx1 : bodyRun.sl.H12_1 c arg3 arg4 f3 f4 = mxL (pK c arg4 f4 1 0) (pK c arg4 f4 1 1) (pK c arg4 f4 1 2) (pK c arg4 f4 1 3) (pQ c arg3 f3) := rfl
theorem pro_sc2 : bodyRun.sl.H9_4 c arg3 arg4 f3 f4 = scL (pK c arg4 f4 2 0) (pK c arg4 f4 2 1) (pK c arg4 f4 2 2) (pK c arg4 f4 2 3) (pQ c arg3 f3) := rfl
theorem pro_mx2 : bodyRun.sl.H13_1 c arg3 arg4 f3 f4 = mxL (pK c arg4 f4 2 0) (pK c arg4 f4 2 1) (pK c arg4 f4 2 2) (pK c arg4 f4 2 3) (pQ c arg3 f3) := rfl
theorem pro_sc3 : bodyRun.sl.H10_4 c arg3 arg4 f3 f4 = scL (pK c arg4 f4 3 0) (pK c arg4 f4 3 1) (pK c arg4 f4 3 2) (pK c arg4 f4 3 3) (pQ c arg3 f3) := rfl
theorem pro_mx3 : bodyRun.sl.H14_1 c arg3 arg4 f3 f4 = mxL (pK c arg4 f4 3 0) (pK c arg4 f4 3 1) (pK c arg4 f4 3 2) (pK c arg4 f4 3 3) (pQ c arg3 f3) := rfl

end Loads

variable (c : Dev nD) (arg3 : Memref sig .tc .vmem S1x16x256x512 .bf16)
  (arg4 : Memref sig .tc .vmem S1x16384x256 .bf16) (f3 : Bf (F := Ideal) c arg3) (f4 : Bf (F := Ideal) c arg4)

theorem pK_ok (u w : ℕ) (hw : w < 4) : KeyOk (arg4.view.read (Elt Ideal) f4) (pK c arg4 f4 u w) u w :=
  keyOk_load _ _ _ hw (by rw [Nat.mod_eq_of_lt hw])

theorem pQ_ok (u : ℕ) (hu : u < 4) : QryOk (arg3.view.read (Elt Ideal) f3) (pQ c arg3 f3) u :=
  qryOk_load _ _ _ (by omega) (by rw [Nat.div_eq_of_lt (by omega)])

theorem pro_top (v : View sig .tc .vmem S16x1x512 .f32) (f : v.ty.Contents (Elt Ideal)) (X3 X4) :
    TopOk X3 X4 (v.read (Elt Ideal) (v.writes (Elt Ideal) f (bodyRun.sl.H15_1 (F := Ideal)))) 0 := by
  intro row r
  unfold bodyRun.sl.H15_1
  rw [View.read_writes_cons_hit_of_coords v f _ _ _ (ix3 row 0 r) (ix3 row 0 r) ?_]
  · rw [show 1024 * min (0 - 16 * row.val) 16 = 0 by omega]
    pointwise [k0_pay86]
    rw [negInf]
    rfl
  · intro a
    match a with
    | 0 => show row.val = 0 + 1 * row.val; omega
    | 1 => rfl
    | 2 => show r.val = 0 + 1 * r.val; omega

theorem pro_acc (v : View sig .tc .vmem S16x144x512 .f32) (f : v.ty.Contents (Elt Ideal)) (X3 X4 X5) :
    AccOk X3 X4 X5 (v.read (Elt Ideal) (v.writes (Elt Ideal) f (bodyRun.sl.H16_1 (F := Ideal)))) 0 := by
  intro row e r
  unfold bodyRun.sl.H16_1
  rw [View.read_writes_cons_hit_of_coords v f _ _ _ (ix3 row e r) (ix3 row e r) ?_]
  · rw [show 1024 * min (0 - 16 * row.val) 16 = 0 by omega]
    pointwise [k0_pay87]
    simp [Online.acc, Ideal.ofBits, Ideal.ieee]
  · intro a
    match a with
    | 0 => show row.val = 0 + 1 * row.val; omega
    | 1 => show e.val = 0 + 1 * e.val; omega
    | 2 => show r.val = 0 + 1 * r.val; omega

end Cert.KernelIdeal.Att

end
-- ==== Proof.Tail.lean ====
/-
  After the loop: the last four steps, in the last row, and the output tiles.
-/
module

public import proofs.«01_k».proof.Proof.Start

@[expose] public section

set_option maxRecDepth 16384

noncomputable section

namespace Cert.KernelIdeal.Att

open Cert.KernelIdeal Cert.KernelIdeal.Gen
open Idealize.ShloMosaic Idealize.ShloMosaic.TcCoe Idealize.ShloMosaic.Pointwise

/-- One row's accumulators as an output tile: the weighted values over the weights' sum. -/
def outF {F : FTy → Type} [FloatOps F] (a : Vec F S1x144x512 .f32) : FVec F S512x128 .bf16 := k0_pay159 a

theorem outF_apply (a : Vec Ideal S1x144x512 .f32) (r : Fin 512) (e : Fin 128) :
    outF a (ix2 r e) = Ideal.div (a (ix3 0 (⟨e.val, by omega⟩ : Fin 144) r)) (a (ix3 0 (⟨128, by omega⟩ : Fin 144) r)) := by
  pointwise [outF, k0_pay159]

section Tiles
variable {F : FTy → Type} [FloatOps F]

theorem tile_inb {n : ℕ} (h : n < 16) : ∀ a : Fin 2, ![512 * n, 0] a + S512x128.size a ≤ S8192x128.size a
  | 0 => show 512 * n + 512 ≤ 8192 by omega
  | 1 => le_refl 128

/-- The stores of the first `n` output tiles, newest first. -/
def outL (x : ℕ → Vec F S512x128 .bf16) : (n : ℕ) → n ≤ 16 → List (View.Piece (Elt F) S8192x128 .bf16)
  | 0, _ => []
  | n + 1, h => ⟨Rect.unit (s := S8192x128) ![512 * n, 0] S512x128.size (tile_inb h), x n⟩ :: outL x n (Nat.le_of_succ_le h)

theorem outL_apply (x : ℕ → Vec F S512x128 .bf16) (q : ℕ) (r : Fin 512) (e : Fin 128) : ∀ (n : ℕ) (h : n ≤ 16) (hq : q < n),
    View.canon (outL x n h) (ix2 (⟨512 * q + r.val, by omega⟩ : Fin 8192) e) = x q (ix2 r e)
  | n + 1, h, hq => by
    unfold outL
    by_cases hn : q = n
    · subst hn
      have he : (ix2 (⟨512 * q + r.val, by omega⟩ : Fin 8192) e)
          = (Rect.unit (s := S8192x128) ![512 * q, 0] S512x128.size (tile_inb h)).emb (ix2 r e) := by
        funext a
        refine Fin.ext ?_
        match a with
        | 0 => show 512 * q + r.val = 512 * q + 1 * r.val; omega
        | 1 => show e.val = 0 + 1 * e.val; omega
      rw [he, View.canon_cons_emb]
    · rw [View.canon_cons_of_not_mem, outL_apply x q r e n _ (by omega)]
      refine Rect.not_mem_set_of_axis _ _ 0 (512 * n) 512 rfl rfl rfl (.inl ?_)
      show 512 * q + r.val < 512 * n
      omega
end Tiles

section Values
variable {F : FTy → Type} [FloatOps F]
variable (c : Dev nD) (i : grid0.Coords) (arg3 : Memref sig .tc .vmem S1x16x256x512 .bf16) (harg3 : arg3.IsWhole) (arg4 : Memref sig .tc .vmem S1x16384x256 .bf16) (harg4 : arg4.IsWhole) (arg5 : Memref sig .tc .vmem S1x32x144x512 .bf16) (harg5 : arg5.IsWhole) (arg6 : Memref sig .tc .vmem S8192x128 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S8x512 .f32) (harg13 : arg13.IsWhole) (arg14 : Memref sig .tc .vmem S8x512 .f32) (harg14 : arg14.IsWhole) (arg15 : Memref sig .tc .vmem S16x1x512 .f32) (harg15 : arg15.IsWhole) (arg16 : Memref sig .tc .vmem S16x144x512 .f32) (harg16 : arg16.IsWhole)
  (f3 : Bf (F := F) c arg3) (f4 : Bf (F := F) c arg4) (f5 : Bf (F := F) c arg5)

/-- The scratch buffers before the loop and after it. -/
abbrev ini : St (F := F) c arg7 arg8 arg9 arg10 arg11 arg12 arg13 arg14 arg15 arg16 :=
  ⟨arg7.view.writes (Elt F) arg7.view.junk (bodyRun.sl.H7_4 c arg3 arg4 f3 f4),
   arg8.view.writes (Elt F) arg8.view.junk (bodyRun.sl.H8_4 c arg3 arg4 f3 f4),
   arg9.view.writes (Elt F) arg9.view.junk (bodyRun.sl.H9_4 c arg3 arg4 f3 f4),
   arg10.view.writes (Elt F) arg10.view.junk (bodyRun.sl.H10_4 c arg3 arg4 f3 f4),
   arg11.view.writes (Elt F) arg11.view.junk (bodyRun.sl.H11_1 c arg3 arg4 f3 f4),
   arg12.view.writes (Elt F) arg12.view.junk (bodyRun.sl.H12_1 c arg3 arg4 f3 f4),
   arg13.view.writes (Elt F) arg13.view.junk (bodyRun.sl.H13_1 c arg3 arg4 f3 f4),
   arg14.view.writes (Elt F) arg14.view.junk (bodyRun.sl.H14_1 c arg3 arg4 f3 f4),
   arg15.view.writes (Elt F) arg15.view.junk bodyRun.sl.H15_1, arg16.view.writes (Elt F) arg16.view.junk bodyRun.sl.H16_1⟩
abbrev fin : St (F := F) c arg7 arg8 arg9 arg10 arg11 arg12 arg13 arg14 arg15 arg16 :=
  iter c i arg3 harg3 arg4 harg4 arg5 harg5 arg6 harg6 arg7 harg7 arg8 harg8 arg9 harg9 arg10 harg10 arg11 harg11 arg12 harg12 arg13 harg13 arg14 harg14 arg15 harg15 arg16 harg16 (bodyRun.sl.r_9 c arg3 arg4 f3 f4) (bodyRun.sl.r_10 c arg4 f4) f3 f4 f5
    (ini c arg3 arg4 arg7 arg8 arg9 arg10 arg11 arg12 arg13 arg14 arg15 arg16 f3 f4) (62 + 1)

theorem tV_inb (u w : ℕ) : ∀ a : Fin 4, ![0, 2 * ((252 + u) % 16) + w % 2, 0, 0] a + S1x1x144x512.size a ≤ S1x32x144x512.size a
  | 0 => le_refl 1
  | 1 => show 2 * ((252 + u) % 16) + w % 2 + 1 ≤ 32 by omega
  | 2 => le_refl 144
  | 3 => le_refl 512

/-- The loads of the last four steps' values. -/
abbrev tV (u w : ℕ) : Vec F S1x1x144x512 .bf16 :=
  View.readAt (Elt F) arg5.view (Rect.unit (s := S1x32x144x512) ![0, 2 * ((252 + u) % 16) + w % 2, 0, 0] S1x1x144x512.size (tV_inb u w)).toLoadRect f5

theorem row_inb (q : ℕ) : ∀ a : Fin 3, ![q % 16, 0, 0] a + S1x144x512.size a ≤ S16x144x512.size a
  | 0 => show q % 16 + 1 ≤ 16 by omega
  | 1 => le_refl 144
  | 2 => le_refl 512

/-- The last row's maximum and accumulator after `u` of the last four steps. -/
abbrev lastM : ℕ → Vec F S1x1x512 .f32 :=
  tM (View.readAt (Elt F) arg15.view (Rect.unit (s := S16x1x512) ![15, 0, 0] S1x1x512.size inb_S16x1x512_S1x1x512_15_0_0).toLoadRect (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s15)
    (ldXs c arg7 arg8 arg9 arg10 arg11 arg12 arg13 arg14 arg15 arg16 (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5))
abbrev lastA : ℕ → Vec F S1x144x512 .f32 :=
  tA (View.readAt (Elt F) arg15.view (Rect.unit (s := S16x1x512) ![15, 0, 0] S1x1x512.size inb_S16x1x512_S1x1x512_15_0_0).toLoadRect (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s15)
    (ldXs c arg7 arg8 arg9 arg10 arg11 arg12 arg13 arg14 arg15 arg16 (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5))
    (View.readAt (Elt F) arg16.view (Rect.unit (s := S16x144x512) ![15 % 16, 0, 0] S1x144x512.size (row_inb 15)).toLoadRect (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s16)
    (tV c arg5 f5) (ldSs c arg7 arg8 arg9 arg10 arg11 arg12 arg13 arg14 arg15 arg16 (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5))

theorem last_top1 : bodyRun.sl.v280 c i arg3 harg3 arg4 harg4 arg5 harg5 arg6 harg6 arg7 harg7 arg8 harg8 arg9 harg9 arg10 harg10 arg11 harg11 arg12 harg12 arg13 harg13 arg14 harg14 arg15 harg15 arg16 harg16 f3 f4 f5 = lastM c i arg3 harg3 arg4 harg4 arg5 harg5 arg6 harg6 arg7 harg7 arg8 harg8 arg9 harg9 arg10 harg10 arg11 harg11 arg12 harg12 arg13 harg13 arg14 harg14 arg15 harg15 arg16 harg16 f3 f4 f5 1 := by
  unfold bodyRun.sl.v280 bodyRun.sl.H15_1_1
  rw [View.readCov_cons_toLoadRect]
  rfl
theorem last_top2 : bodyRun.sl.v335 c i arg3 harg3 arg4 harg4 arg5 harg5 arg6 harg6 arg7 harg7 arg8 harg8 arg9 harg9 arg10 harg10 arg11 harg11 arg12 harg12 arg13 harg13 arg14 harg14 arg15 harg15 arg16 harg16 f3 f4 f5 = lastM c i arg3 harg3 arg4 harg4 arg5 harg5 arg6 harg6 arg7 harg7 arg8 harg8 arg9 harg9 arg10 harg10 arg11 harg11 arg12 harg12 arg13 harg13 arg14 harg14 arg15 harg15 arg16 harg16 f3 f4 f5 2 := by
  unfold bodyRun.sl.v335 bodyRun.sl.H15_2
  rw [View.readCov_cons_toLoadRect, last_top1]
  rfl
theorem last_top3 : bodyRun.sl.v390 c i arg3 harg3 arg4 harg4 arg5 harg5 arg6 harg6 arg7 harg7 arg8 harg8 arg9 harg9 arg10 harg10 arg11 harg11 arg12 harg12 arg13 harg13 arg14 harg14 arg15 harg15 arg16 harg16 f3 f4 f5 = lastM c i arg3 harg3 arg4 harg4 arg5 harg5 arg6 harg6 arg7 harg7 arg8 harg8 arg9 harg9 arg10 harg10 arg11 harg11 arg12 harg12 arg13 harg13 arg14 harg14 arg15 harg15 arg16 harg16 f3 f4 f5 3 := by
  unfold bodyRun.sl.v390 bodyRun.sl.H15_3
  rw [View.readCov_cons_toLoadRect, last_top2]
  rfl

theorem last_acc1 : bodyRun.sl.v291 c i arg3 harg3 arg4 harg4 arg5 harg5 arg6 harg6 arg7 harg7 arg8 harg8 arg9 harg9 arg10 harg10 arg11 harg11 arg12 harg12 arg13 harg13 arg14 harg14 arg15 harg15 arg16 harg16 f3 f4 f5 = lastA c i arg3 harg3 arg4 harg4 arg5 harg5 arg6 harg6 arg7 harg7 arg8 harg8 arg9 harg9 arg10 harg10 arg11 harg11 arg12 harg12 arg13 harg13 arg14 harg14 arg15 harg15 arg16 harg16 f3 f4 f5 1 := by
  unfold bodyRun.sl.v291 bodyRun.sl.H16_1_1
  rw [View.readCov_cons_toLoadRect]
  rfl
theorem last_acc2 : bodyRun.sl.v346 c i arg3 harg3 arg4 harg4 arg5 harg5 arg6 harg6 arg7 harg7 arg8 harg8 arg9 harg9 arg10 harg10 arg11 harg11 arg12 harg12 arg13 harg13 arg14 harg14 arg15 harg15 arg16 harg16 f3 f4 f5 = lastA c i arg3 harg3 arg4 harg4 arg5 harg5 arg6 harg6 arg7 harg7 arg8 harg8 arg9 harg9 arg10 harg10 arg11 harg11 arg12 harg12 arg13 harg13 arg14 harg14 arg15 harg15 arg16 harg16 f3 f4 f5 2 := by
  unfold bodyRun.sl.v346 bodyRun.sl.H16_2
  rw [View.readCov_cons_toLoadRect]
  show aF (bodyRun.sl.v280 c i arg3 harg3 arg4 harg4 arg5 harg5 arg6 harg6 arg7 harg7 arg8 harg8 arg9 harg9 arg10 harg10 arg11 harg11 arg12 harg12 arg13 harg13 arg14 harg14 arg15 harg15 arg16 harg16 f3 f4 f5) (ldX c (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s12) (bodyRun.sl.v291 c i arg3 harg3 arg4 harg4 arg5 harg5 arg6 harg6 arg7 harg7 arg8 harg8 arg9 harg9 arg10 harg10 arg11 harg11 arg12 harg12 arg13 harg13 arg14 harg14 arg15 harg15 arg16 harg16 f3 f4 f5) (tV c arg5 f5 1 0) (tV c arg5 f5 1 1)
    (ldS c (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s8 0) (ldS c (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s8 1) (ldS c (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s8 2) (ldS c (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s8 3) = _
  rw [last_top1, last_acc1]
  rfl
theorem last_acc3 : bodyRun.sl.v401 c i arg3 harg3 arg4 harg4 arg5 harg5 arg6 harg6 arg7 harg7 arg8 harg8 arg9 harg9 arg10 harg10 arg11 harg11 arg12 harg12 arg13 harg13 arg14 harg14 arg15 harg15 arg16 harg16 f3 f4 f5 = lastA c i arg3 harg3 arg4 harg4 arg5 harg5 arg6 harg6 arg7 harg7 arg8 harg8 arg9 harg9 arg10 harg10 arg11 harg11 arg12 harg12 arg13 harg13 arg14 harg14 arg15 harg15 arg16 harg16 f3 f4 f5 3 := by
  unfold bodyRun.sl.v401 bodyRun.sl.H16_3
  rw [View.readCov_cons_toLoadRect]
  show aF (bodyRun.sl.v335 c i arg3 harg3 arg4 harg4 arg5 harg5 arg6 harg6 arg7 harg7 arg8 harg8 arg9 harg9 arg10 harg10 arg11 harg11 arg12 harg12 arg13 harg13 arg14 harg14 arg15 harg15 arg16 harg16 f3 f4 f5) (ldX c (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s13) (bodyRun.sl.v346 c i arg3 harg3 arg4 harg4 arg5 harg5 arg6 harg6 arg7 harg7 arg8 harg8 arg9 harg9 arg10 harg10 arg11 harg11 arg12 harg12 arg13 harg13 arg14 harg14 arg15 harg15 arg16 harg16 f3 f4 f5) (tV c arg5 f5 2 0) (tV c arg5 f5 2 1)
    (ldS c (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s9 0) (ldS c (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s9 1) (ldS c (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s9 2) (ldS c (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s9 3) = _
  rw [last_top2, last_acc2]
  rfl
theorem last_acc4 : bodyRun.sl.v580 c i arg3 harg3 arg4 harg4 arg5 harg5 arg6 harg6 arg7 harg7 arg8 harg8 arg9 harg9 arg10 harg10 arg11 harg11 arg12 harg12 arg13 harg13 arg14 harg14 arg15 harg15 arg16 harg16 f3 f4 f5 = lastA c i arg3 harg3 arg4 harg4 arg5 harg5 arg6 harg6 arg7 harg7 arg8 harg8 arg9 harg9 arg10 harg10 arg11 harg11 arg12 harg12 arg13 harg13 arg14 harg14 arg15 harg15 arg16 harg16 f3 f4 f5 4 := by
  unfold bodyRun.sl.v580 bodyRun.sl.H16_4
  rw [View.readCov_cons_toLoadRect]
  show aF (bodyRun.sl.v390 c i arg3 harg3 arg4 harg4 arg5 harg5 arg6 harg6 arg7 harg7 arg8 harg8 arg9 harg9 arg10 harg10 arg11 harg11 arg12 harg12 arg13 harg13 arg14 harg14 arg15 harg15 arg16 harg16 f3 f4 f5) (ldX c (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s14) (bodyRun.sl.v401 c i arg3 harg3 arg4 harg4 arg5 harg5 arg6 harg6 arg7 harg7 arg8 harg8 arg9 harg9 arg10 harg10 arg11 harg11 arg12 harg12 arg13 harg13 arg14 harg14 arg15 harg15 arg16 harg16 f3 f4 f5) (tV c arg5 f5 3 0) (tV c arg5 f5 3 1)
    (ldS c (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s10 0) (ldS c (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s10 1) (ldS c (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s10 2) (ldS c (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s10 3) = _
  rw [last_top3, last_acc3]
  rfl

/-- The accumulators of row `q` at the end. -/
abbrev rowEnd : ℕ → Vec F S1x144x512 .f32
  | 15 => lastA c i arg3 harg3 arg4 harg4 arg5 harg5 arg6 harg6 arg7 harg7 arg8 harg8 arg9 harg9 arg10 harg10 arg11 harg11 arg12 harg12 arg13 harg13 arg14 harg14 arg15 harg15 arg16 harg16 f3 f4 f5 4
  | q => View.readAt (Elt F) arg16.view (Rect.unit (s := S16x144x512) ![q % 16, 0, 0] S1x144x512.size (row_inb q)).toLoadRect (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s16

/-- The body's stores: the sixteen rows' output tiles. -/
theorem bodyRun_eq : (bodyRun c i arg3 harg3 arg4 harg4 arg5 harg5 arg6 harg6 arg7 harg7 arg8 harg8 arg9 harg9 arg10 harg10 arg11 harg11 arg12 harg12 arg13 harg13 arg14 harg14 arg15 harg15 arg16 harg16 f3 f4 f5).1 = outL (fun q => outF (rowEnd c i arg3 harg3 arg4 harg4 arg5 harg5 arg6 harg6 arg7 harg7 arg8 harg8 arg9 harg9 arg10 harg10 arg11 harg11 arg12 harg12 arg13 harg13 arg14 harg14 arg15 harg15 arg16 harg16 f3 f4 f5 q)) 16 le_rfl := by
  have h15 : outF (bodyRun.sl.v580 c i arg3 harg3 arg4 harg4 arg5 harg5 arg6 harg6 arg7 harg7 arg8 harg8 arg9 harg9 arg10 harg10 arg11 harg11 arg12 harg12 arg13 harg13 arg14 harg14 arg15 harg15 arg16 harg16 f3 f4 f5) = outF (lastA c i arg3 harg3 arg4 harg4 arg5 harg5 arg6 harg6 arg7 harg7 arg8 harg8 arg9 harg9 arg10 harg10 arg11 harg11 arg12 harg12 arg13 harg13 arg14 harg14 arg15 harg15 arg16 harg16 f3 f4 f5 4) := congrArg _ (last_acc4 c i arg3 harg3 arg4 harg4 arg5 harg5 arg6 harg6 arg7 harg7 arg8 harg8 arg9 harg9 arg10 harg10 arg11 harg11 arg12 harg12 arg13 harg13 arg14 harg14 arg15 harg15 arg16 harg16 f3 f4 f5)
  unfold bodyRun
  dsimp only
  show (⟨Rect.unit (s := S8192x128) ![512 * 15, 0] S512x128.size (tile_inb (by omega)), outF (bodyRun.sl.v580 c i arg3 harg3 arg4 harg4 arg5 harg5 arg6 harg6 arg7 harg7 arg8 harg8 arg9 harg9 arg10 harg10 arg11 harg11 arg12 harg12 arg13 harg13 arg14 harg14 arg15 harg15 arg16 harg16 f3 f4 f5)⟩ : View.Piece (Elt F) S8192x128 .bf16)
    :: outL (fun q => outF (rowEnd c i arg3 harg3 arg4 harg4 arg5 harg5 arg6 harg6 arg7 harg7 arg8 harg8 arg9 harg9 arg10 harg10 arg11 harg11 arg12 harg12 arg13 harg13 arg14 harg14 arg15 harg15 arg16 harg16 f3 f4 f5 q)) 15 (by omega) = _
  rw [h15]
  rfl

end Values

end Cert.KernelIdeal.Att

end
-- ==== Proof.BodyVal.lean ====
/-
  What the body stores over the reals: each query's values weighted by two to its scores, over the sum of the weights.
-/
module

public import proofs.«01_k».proof.Proof.Tail

@[expose] public section

set_option maxRecDepth 16384

noncomputable section

namespace Cert.KernelIdeal.Att

open Cert.KernelIdeal Cert.KernelIdeal.Gen
open Idealize.ShloMosaic Idealize.ShloMosaic.TcCoe Idealize.ShloMosaic.Pointwise

variable (c : Dev nD) (i : grid0.Coords) (arg3 : Memref sig .tc .vmem S1x16x256x512 .bf16) (harg3 : arg3.IsWhole) (arg4 : Memref sig .tc .vmem S1x16384x256 .bf16) (harg4 : arg4.IsWhole) (arg5 : Memref sig .tc .vmem S1x32x144x512 .bf16) (harg5 : arg5.IsWhole) (arg6 : Memref sig .tc .vmem S8192x128 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S8x512 .f32) (harg13 : arg13.IsWhole) (arg14 : Memref sig .tc .vmem S8x512 .f32) (harg14 : arg14.IsWhole) (arg15 : Memref sig .tc .vmem S16x1x512 .f32) (harg15 : arg15.IsWhole) (arg16 : Memref sig .tc .vmem S16x144x512 .f32) (harg16 : arg16.IsWhole)
  (f3 : Bf (F := Ideal) c arg3) (f4 : Bf (F := Ideal) c arg4) (f5 : Bf (F := Ideal) c arg5)

/-- The invariant before the loop. -/
theorem inv_ini : Inv c arg3 arg4 arg5 arg7 arg8 arg9 arg10 arg11 arg12 arg13 arg14 arg15 arg16 f3 f4 f5 0
    (ini c arg3 arg4 arg7 arg8 arg9 arg10 arg11 arg12 arg13 arg14 arg15 arg16 f3 f4) where
  h7 := by
    dsimp only [ini]
    rw [pro_sc0]
    exact slotAt_store _ _ (scF_ok (pK_ok c arg4 f4 0 0 (by omega)) (pQ_ok c arg3 f3 0 (by omega))) (scF_ok (pK_ok c arg4 f4 0 1 (by omega)) (pQ_ok c arg3 f3 0 (by omega))) (scF_ok (pK_ok c arg4 f4 0 2 (by omega)) (pQ_ok c arg3 f3 0 (by omega))) (scF_ok (pK_ok c arg4 f4 0 3 (by omega)) (pQ_ok c arg3 f3 0 (by omega)))
  h8 := by
    dsimp only [ini]
    rw [pro_sc1]
    exact slotAt_store _ _ (scF_ok (pK_ok c arg4 f4 1 0 (by omega)) (pQ_ok c arg3 f3 1 (by omega))) (scF_ok (pK_ok c arg4 f4 1 1 (by omega)) (pQ_ok c arg3 f3 1 (by omega))) (scF_ok (pK_ok c arg4 f4 1 2 (by omega)) (pQ_ok c arg3 f3 1 (by omega))) (scF_ok (pK_ok c arg4 f4 1 3 (by omega)) (pQ_ok c arg3 f3 1 (by omega)))
  h9 := by
    dsimp only [ini]
    rw [pro_sc2]
    exact slotAt_store _ _ (scF_ok (pK_ok c arg4 f4 2 0 (by omega)) (pQ_ok c arg3 f3 2 (by omega))) (scF_ok (pK_ok c arg4 f4 2 1 (by omega)) (pQ_ok c arg3 f3 2 (by omega))) (scF_ok (pK_ok c arg4 f4 2 2 (by omega)) (pQ_ok c arg3 f3 2 (by omega))) (scF_ok (pK_ok c arg4 f4 2 3 (by omega)) (pQ_ok c arg3 f3 2 (by omega)))
  h10 := by
    dsimp only [ini]
    rw [pro_sc3]
    exact slotAt_store _ _ (scF_ok (pK_ok c arg4 f4 3 0 (by omega)) (pQ_ok c arg3 f3 3 (by omega))) (scF_ok (pK_ok c arg4 f4 3 1 (by omega)) (pQ_ok c arg3 f3 3 (by omega))) (scF_ok (pK_ok c arg4 f4 3 2 (by omega)) (pQ_ok c arg3 f3 3 (by omega))) (scF_ok (pK_ok c arg4 f4 3 3 (by omega)) (pQ_ok c arg3 f3 3 (by omega)))
  h11 := by
    dsimp only [ini]
    rw [pro_mx0]
    exact maxAt_store _ _ (scF_ok (pK_ok c arg4 f4 0 0 (by omega)) (pQ_ok c arg3 f3 0 (by omega))) (scF_ok (pK_ok c arg4 f4 0 1 (by omega)) (pQ_ok c arg3 f3 0 (by omega))) (scF_ok (pK_ok c arg4 f4 0 2 (by omega)) (pQ_ok c arg3 f3 0 (by omega))) (scF_ok (pK_ok c arg4 f4 0 3 (by omega)) (pQ_ok c arg3 f3 0 (by omega)))
  h12 := by
    dsimp only [ini]
    rw [pro_mx1]
    exact maxAt_store _ _ (scF_ok (pK_ok c arg4 f4 1 0 (by omega)) (pQ_ok c arg3 f3 1 (by omega))) (scF_ok (pK_ok c arg4 f4 1 1 (by omega)) (pQ_ok c arg3 f3 1 (by omega))) (scF_ok (pK_ok c arg4 f4 1 2 (by omega)) (pQ_ok c arg3 f3 1 (by omega))) (scF_ok (pK_ok c arg4 f4 1 3 (by omega)) (pQ_ok c arg3 f3 1 (by omega)))
  h13 := by
    dsimp only [ini]
    rw [pro_mx2]
    exact maxAt_store _ _ (scF_ok (pK_ok c arg4 f4 2 0 (by omega)) (pQ_ok c arg3 f3 2 (by omega))) (scF_ok (pK_ok c arg4 f4 2 1 (by omega)) (pQ_ok c arg3 f3 2 (by omega))) (scF_ok (pK_ok c arg4 f4 2 2 (by omega)) (pQ_ok c arg3 f3 2 (by omega))) (scF_ok (pK_ok c arg4 f4 2 3 (by omega)) (pQ_ok c arg3 f3 2 (by omega)))
  h14 := by
    dsimp only [ini]
    rw [pro_mx3]
    exact maxAt_store _ _ (scF_ok (pK_ok c arg4 f4 3 0 (by omega)) (pQ_ok c arg3 f3 3 (by omega))) (scF_ok (pK_ok c arg4 f4 3 1 (by omega)) (pQ_ok c arg3 f3 3 (by omega))) (scF_ok (pK_ok c arg4 f4 3 2 (by omega)) (pQ_ok c arg3 f3 3 (by omega))) (scF_ok (pK_ok c arg4 f4 3 3 (by omega)) (pQ_ok c arg3 f3 3 (by omega)))
  h15 := pro_top _ _ _ _
  h16 := pro_acc _ _ _ _ _

variable (hs : ∀ row r j, ∃ y : ℝ, sN (arg3.view.read (Elt Ideal) f3) (arg4.view.read (Elt Ideal) f4) row r j = y)
include hs

/-- So after it. -/
theorem inv_fin : Inv c arg3 arg4 arg5 arg7 arg8 arg9 arg10 arg11 arg12 arg13 arg14 arg15 arg16 f3 f4 f5 63
    (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5) :=
  inv_iter i harg3 harg4 harg5 arg6 harg6 harg7 harg8 harg9 harg10 harg11 harg12 harg13 harg14 harg15 harg16 (bodyRun.sl.r_9 c arg3 arg4 f3 f4) (bodyRun.sl.r_10 c arg4 f4) hs
    (inv_ini c arg3 arg4 arg5 arg7 arg8 arg9 arg10 arg11 arg12 arg13 arg14 arg15 arg16 f3 f4 f5) 63 le_rfl

/-- The accumulators at the end: over all keys. -/
theorem rowEnd_ok (q : ℕ) (hq : q < 16) (e : Fin 144) (r : Fin 512) : rowEnd c i arg3 harg3 arg4 harg4 arg5 harg5 arg6 harg6 arg7 harg7 arg8 harg8 arg9 harg9 arg10 harg10 arg11 harg11 arg12 harg12 arg13 harg13 arg14 harg14 arg15 harg15 arg16 harg16 f3 f4 f5 q (ix3 0 e r)
    = Online.acc (sN (arg3.view.read (Elt Ideal) f3) (arg4.view.read (Elt Ideal) f4) q r) (vN (arg5.view.read (Elt Ideal) f5) e) 16384 := by
  have h := inv_fin c i arg3 harg3 arg4 harg4 arg5 harg5 arg6 harg6 arg7 harg7 arg8 harg8 arg9 harg9 arg10 harg10 arg11 harg11 arg12 harg12 arg13 harg13 arg14 harg14 arg15 harg15 arg16 harg16 f3 f4 f5 hs
  by_cases h15 : q = 15
  · subst h15
    show lastA c i arg3 harg3 arg4 harg4 arg5 harg5 arg6 harg6 arg7 harg7 arg8 harg8 arg9 harg9 arg10 harg10 arg11 harg11 arg12 harg12 arg13 harg13 arg14 harg14 arg15 harg15 arg16 harg16 f3 f4 f5 4 (ix3 0 e r) = _
    have hm : ∀ r' : Fin 512, View.readAt (Elt Ideal) arg15.view (Rect.unit (s := S16x1x512) ![15, 0, 0] S1x1x512.size inb_S16x1x512_S1x1x512_15_0_0).toLoadRect (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s15 (ix3 0 0 r')
        = Online.top (sN (arg3.view.read (Elt Ideal) f3) (arg4.view.read (Elt Ideal) f4) (252 / 16) r') (1024 * (252 % 16)) :=
      fun r' => (top_load arg15.view _ _ 15 rfl r').trans (h.h15 15 r')
    have ha : View.readAt (Elt Ideal) arg16.view (Rect.unit (s := S16x144x512) ![15 % 16, 0, 0] S1x144x512.size (row_inb 15)).toLoadRect (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s16 (ix3 0 e r)
        = Online.acc (sN (arg3.view.read (Elt Ideal) f3) (arg4.view.read (Elt Ideal) f4) (252 / 16) r) (vN (arg5.view.read (Elt Ideal) f5) e) (1024 * (252 % 16)) :=
      (acc_load arg16.view _ _ 15 rfl e r).trans (h.h16 15 e r)
    have hv : ∀ u < 4, ∀ w < 2, ValOk (arg5.view.read (Elt Ideal) f5) (tV c arg5 f5 u w) (252 + u) w := by
      intro u hu w hw
      refine valOk_load _ _ _ hw ?_
      rw [Nat.mod_eq_of_lt hw]
    have hx := ldXs_ok h
    have hsc := ldSs_ok h r
    simp only [Nat.reduceMul] at hx hsc
    refine Eq.trans (tA_at (t := 252) (row_step (by norm_num)) hs e r (hm r) hx ha hv hsc 4 le_rfl) ?_
    norm_num
  · have hl : rowEnd c i arg3 harg3 arg4 harg4 arg5 harg5 arg6 harg6 arg7 harg7 arg8 harg8 arg9 harg9 arg10 harg10 arg11 harg11 arg12 harg12 arg13 harg13 arg14 harg14 arg15 harg15 arg16 harg16 f3 f4 f5 q (ix3 0 e r)
        = View.readAt (Elt Ideal) arg16.view (Rect.unit (s := S16x144x512) ![q % 16, 0, 0] S1x144x512.size (row_inb q)).toLoadRect (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s16 (ix3 0 e r) := by
      rw [rowEnd]
      exact h15
    rw [hl]
    refine (acc_load arg16.view _ _ ⟨q, hq⟩ (by rw [Nat.mod_eq_of_lt hq]) e r).trans ((h.h16 ⟨q, hq⟩ e r).trans ?_)
    exact congrArg _ (by show 1024 * min (4 * 63 - 16 * q) 16 = 16384; omega)

/-- The output block. -/
theorem body_out (q : ℕ) (hq : q < 16) (r : Fin 512) (e : Fin 128) :
    View.canon (bodyRun c i arg3 harg3 arg4 harg4 arg5 harg5 arg6 harg6 arg7 harg7 arg8 harg8 arg9 harg9 arg10 harg10 arg11 harg11 arg12 harg12 arg13 harg13 arg14 harg14 arg15 harg15 arg16 harg16 f3 f4 f5).1 (ix2 (⟨512 * q + r.val, by omega⟩ : Fin 8192) e)
      = Ideal.div
          (Online.acc (sN (arg3.view.read (Elt Ideal) f3) (arg4.view.read (Elt Ideal) f4) q r) (vN (arg5.view.read (Elt Ideal) f5) ⟨e.val, by omega⟩) 16384)
          (Online.acc (sN (arg3.view.read (Elt Ideal) f3) (arg4.view.read (Elt Ideal) f4) q r) (vN (arg5.view.read (Elt Ideal) f5) ⟨128, by omega⟩) 16384) := by
  rw [bodyRun_eq, outL_apply _ q r e 16 le_rfl hq, outF_apply, rowEnd_ok c i arg3 harg3 arg4 harg4 arg5 harg5 arg6 harg6 arg7 harg7 arg8 harg8 arg9 harg9 arg10 harg10 arg11 harg11 arg12 harg12 arg13 harg13 arg14 harg14 arg15 harg15 arg16 harg16 f3 f4 f5 hs q hq, rowEnd_ok c i arg3 harg3 arg4 harg4 arg5 harg5 arg6 harg6 arg7 harg7 arg8 harg8 arg9 harg9 arg10 harg10 arg11 harg11 arg12 harg12 arg13 harg13 arg14 harg14 arg15 harg15 arg16 harg16 f3 f4 f5 hs q hq]

end Cert.KernelIdeal.Att

end
-- ==== Proof.Final.lean ====
/-
  The result array over the reals, from the blocks of the sixteen grid points.
-/
module

public import proofs.«01_k».proof.Proof.BodyVal
public import proofs.«01_k».proof.Proof.Run
public import Idealize.ShloMosaic.Lib.Pipeline.ValueKit.Geometry

@[expose] public section

set_option maxRecDepth 16384

noncomputable section

namespace Cert.KernelIdeal.Att

open Cert.KernelIdeal Cert.KernelIdeal.Gen
open Idealize.ShloMosaic Idealize.ShloMosaic.TcCoe Idealize.ShloMosaic.Pointwise Idealize.ShloMosaic.Pipeline

variable (Q : S8x32x256x512.Idx → EReal) (K : S8x16384x256.Idx → EReal) (W : S8x32x144x512.Idx → EReal)

/-- The score of key `j` for query `n` of head `h`. -/
def score (h : Fin 8) (n : Fin 16384) (j : ℕ) : EReal :=
  ∑ d : Fin 256, K (ix3 h ⟨j % 16384, Nat.mod_lt _ (by norm_num)⟩ d) * Q (ix4 h ⟨n.val / 512, by omega⟩ d ⟨n.val % 512, Nat.mod_lt _ (by norm_num)⟩)

/-- Entry `e` of key `j`'s value. -/
def value (h : Fin 8) (e : Fin 144) (j : ℕ) : EReal :=
  W (ix4 h ⟨j / 512 % 32, Nat.mod_lt _ (by norm_num)⟩ e ⟨j % 512, Nat.mod_lt _ (by norm_num)⟩)

/-- The attention of query `n` in head `h`. -/
def att (h : Fin 8) (n : Fin 16384) (e : Fin 128) : EReal :=
  Ideal.div (Online.acc (score Q K h n) (value W h ⟨e.val, by omega⟩) 16384) (Online.acc (score Q K h n) (value W h ⟨128, by omega⟩) 16384)

/-- The whole result. -/
def attAll (y : S16384x1024.Idx) : EReal :=
  att Q K W ⟨(y 1).val / 128, by have : (y 1).val < 1024 := (y 1).isLt; omega⟩ ⟨(y 0).val, (y 0).isLt⟩ ⟨(y 1).val % 128, Nat.mod_lt _ (by norm_num)⟩

variable {Q K W}

theorem score_real (hQ : ∀ i, ∃ x : ℝ, Q i = x) (hK : ∀ i, ∃ x : ℝ, K i = x) (h : Fin 8) (n : Fin 16384) (j : ℕ) :
    ∃ y : ℝ, score Q K h n j = y := by
  choose q hq using hQ
  choose k hk using hK
  refine ⟨∑ d : Fin 256, k (ix3 h ⟨j % 16384, Nat.mod_lt _ (by norm_num)⟩ d) * q (ix4 h ⟨n.val / 512, by omega⟩ d ⟨n.val % 512, Nat.mod_lt _ (by norm_num)⟩), ?_⟩
  unfold score
  simp only [hq, hk]
  push_cast
  rfl

theorem index0 : ∀ t : Fin cfg0.N, win0_0.index t = ![t.val / 2, t.val % 2, 0, 0] := (by decide +kernel : ∀ t : Fin grid0.N, _)
theorem index1 : ∀ t : Fin cfg0.N, win0_1.index t = ![t.val / 2, 0, 0] := (by decide +kernel : ∀ t : Fin grid0.N, _)
theorem index2 : ∀ t : Fin cfg0.N, win0_2.index t = ![t.val / 2, 0, 0, 0] := (by decide +kernel : ∀ t : Fin grid0.N, _)
theorem index3 : ∀ t : Fin cfg0.N, win0_3.index t = ![t.val % 2, t.val / 2] := (by decide +kernel : ∀ t : Fin grid0.N, _)

variable (m : (ℓ : Loc nD τ sig) → Buf (Elt Ideal) ℓ) (c : Dev nD)

theorem point_lt (t : Fin cfg0.N) : t.val < 16 := t.isLt

/-- A point's scores and values are the arrays'. -/
theorem sN_point (t : Fin cfg0.N) (q : ℕ) (hq : q < 16) (r : Fin 512) :
    sN (iblk m c 0 t) (iblk m c 1 t) q r
      = score (m ((c : Thread nD τ).loc main_arg0)) (m ((c : Thread nD τ).loc main_arg1)) ⟨t.val / 2, by have := point_lt t; omega⟩
          ⟨8192 * (t.val % 2) + (512 * q + r.val), by omega⟩ := by
  funext j
  unfold sN score
  refine Finset.sum_congr rfl fun d _ => congrArg₂ (· * ·) ?_ ?_
  · blk_simp [iblk]
    refine congrArg (m ((c : Thread nD τ).loc main_arg1)) ?_
    blk_ext [index1]
  · blk_simp [iblk]
    refine congrArg (m ((c : Thread nD τ).loc main_arg0)) ?_
    blk_ext [index0]

theorem vN_point (t : Fin cfg0.N) (e : Fin 144) :
    vN (iblk m c 2 t) e = value (m ((c : Thread nD τ).loc main_arg2)) ⟨t.val / 2, by have := point_lt t; omega⟩ e := by
  funext j
  unfold vN value
  blk_simp [iblk]
  refine congrArg (m ((c : Thread nD τ).loc main_arg2)) ?_
  blk_ext [index2]

/-- The arrays as launched. -/
abbrev aQ : S8x32x256x512.Idx → EReal := m ((c : Thread nD τ).loc main_arg0)
abbrev aK : S8x16384x256.Idx → EReal := m ((c : Thread nD τ).loc main_arg1)
abbrev aW : S8x32x144x512.Idx → EReal := m ((c : Thread nD τ).loc main_arg2)

variable (hQ : ∀ i, ∃ x : ℝ, aQ m c i = x) (hK : ∀ i, ∃ x : ℝ, aK m c i = x)
include hQ hK

/-- The scores of a point are real. -/
theorem point_real (t : Fin cfg0.N) (row : ℕ) (r : Fin 512) (j : ℕ) : ∃ y : ℝ, sN (iblk m c 0 t) (iblk m c 1 t) row r j = y := by
  have h : sN (iblk m c 0 t) (iblk m c 1 t) row r j = sN (iblk m c 0 t) (iblk m c 1 t) (row % 16) r j := by
    unfold sN
    simp only [Nat.mod_mod]
  rw [h, sN_point m c t (row % 16) (by omega) r]
  exact score_real hQ hK _ _ _

/-- The output block of a point. -/
theorem block_out (t : Fin cfg0.N) (y : S8192x128.Idx) : View.canon (outRun m c t).1 y
    = att (aQ m c) (aK m c) (aW m c) ⟨t.val / 2, by have := point_lt t; omega⟩
        ⟨8192 * (t.val % 2) + (y 0).val, by have : (y 0).val < 8192 := (y 0).isLt; omega⟩ ⟨(y 1).val, (y 1).isLt⟩ := by
  obtain ⟨a, e, rfl⟩ : ∃ (a : Fin 8192) (e : Fin 128), y = ix2 a e := ⟨y 0, y 1, by funext b; match b with | 0 => rfl | 1 => rfl⟩
  have ha : (ix2 a e : S8192x128.Idx) = ix2 (⟨512 * (a.val / 512) + (⟨a.val % 512, by omega⟩ : Fin 512).val, by dsimp only; omega⟩ : Fin 8192) e := by
    congr 1
    exact Fin.ext (by dsimp only; omega)
  have e0 : (st0_0 t).view.read (Elt Ideal) (Memref.IsWhole.unread (m := st0_0 t) (hstage0_0 ((cfg0.slots t 0).cast nbuf0_0)) (iblk m c 0 t)) = iblk m c 0 t :=
    (hstage0_0 ((cfg0.slots t 0).cast nbuf0_0)).read_unread (iblk m c 0 t)
  have e1 : (st0_1 t).view.read (Elt Ideal) (Memref.IsWhole.unread (m := st0_1 t) (hstage0_1 ((cfg0.slots t 1).cast nbuf0_1)) (iblk m c 1 t)) = iblk m c 1 t :=
    (hstage0_1 ((cfg0.slots t 1).cast nbuf0_1)).read_unread (iblk m c 1 t)
  have e2 : (st0_2 t).view.read (Elt Ideal) (Memref.IsWhole.unread (m := st0_2 t) (hstage0_2 ((cfg0.slots t 2).cast nbuf0_2)) (iblk m c 2 t)) = iblk m c 2 t :=
    (hstage0_2 ((cfg0.slots t 2).cast nbuf0_2)).read_unread (iblk m c 2 t)
  rw [ha]
  unfold outRun
  rw [body_out _ _ _ _ _ _ _ _ _ _ _ _ _ _ _ _ _ _ _ _ _ _ _ _ _ _ _ _ _ _ _ _ _ ?hs (a.val / 512) (by omega) ⟨a.val % 512, by omega⟩ e, e0, e1, e2,
    sN_point m c t (a.val / 512) (by omega), vN_point, vN_point]
  case hs =>
    rw [e0, e1]
    exact point_real m c hQ hK t
  unfold att
  rfl

/-- The whole result array. -/
theorem final : (dats m 0 c).arrAt 3 cfg0.N = attAll (aQ m c) (aK m c) (aW m c) := by
  refine (dats m 0 c).arrAt_eq_of_covers 3 _ (by decide +kernel) fun t hf y => ?_
  blk_simp
  refine (block_out m c hQ hK t y).trans ?_
  have ht := point_lt t
  have h0 : (y 0).val < 8192 := (y 0).isLt
  have h1 : (y 1).val < 128 := (y 1).isLt
  unfold attAll
  congr 1
  · refine Fin.ext ?_
    blk_simp [index3]
    dsimp only
    omega
  · refine Fin.ext ?_
    blk_simp [index3]
    dsimp only
    omega
  · refine Fin.ext ?_
    blk_simp [index3]
    dsimp only
    omega

end Cert.KernelIdeal.Att

end
-- ==== Proof.Softmax.lean ====
/-
  The softmax written with powers of e and divided before the sum is the one written with powers of two below the
  maximum and divided after it.
-/
module

public import proofs.«01_k».proof.Proof.Online

@[expose] public section

noncomputable section

namespace Online

open Idealize.ShloMosaic

theorem coe_sum {ι : Type*} (t : Finset ι) (f : ι → ℝ) : ((∑ i ∈ t, f i : ℝ) : EReal) = ∑ i ∈ t, (f i : EReal) := by
  classical
  induction t using Finset.induction with
  | empty => simp
  | insert a t ha ih => rw [Finset.sum_insert ha, Finset.sum_insert ha, EReal.coe_add, ih]

/-- Division by a positive finite number. -/
theorem div_pos (x : EReal) {z : ℝ} (hz : 0 < z) : Ideal.div x z = ((z⁻¹ : ℝ) : EReal) * x := by
  unfold Ideal.div
  rw [if_neg (by exact_mod_cast hz.ne'), mul_comm, EReal.coe_inv]

/-- A power of two below the maximum is a power of e below any other reference, up to one factor. -/
theorem exp2_coe_eq (x t M : ℝ) :
    Ideal.exp2 ((x : EReal) - t) = ((Real.exp (M - t * Real.log 2) * Real.exp (x * Real.log 2 - M) : ℝ) : EReal) := by
  rw [← EReal.coe_sub, Ideal.exp2_coe]
  congr 1
  simp only [Real.rpow_eq_pow]
  rw [Real.rpow_def_of_pos (by norm_num), ← Real.exp_add]
  congr 1
  ring

theorem softmax_eq {s v w : ℕ → EReal} {N : ℕ} (hN : 0 < N) (hs : ∀ j, ∃ x : ℝ, s j = x) (hw : ∀ j, w j = 1) (M : ℝ) :
    Ideal.div (acc s v N) (acc s w N)
      = ∑ j : Fin N, v j * Ideal.div (Ideal.exp (s j * (Real.log 2 : ℝ) - M))
          (0 + ∑ k : Fin N, Ideal.exp (s k * (Real.log 2 : ℝ) - M)) := by
  obtain ⟨t, ht⟩ := top_coe hs hN
  choose x hx using hs
  set p : ℕ → ℝ := fun j => Real.exp (x j * Real.log 2 - M) with hp
  set c : ℝ := Real.exp (M - t * Real.log 2) with hc
  have hc0 : 0 < c := Real.exp_pos _
  have hS : 0 < ∑ j ∈ Finset.range N, p j :=
    Finset.sum_pos (fun j _ => Real.exp_pos _) ⟨0, Finset.mem_range.mpr hN⟩
  have e1 : ∀ j, Ideal.exp (s j * (Real.log 2 : ℝ) - M) = (p j : EReal) := fun j => by
    rw [hx, ← EReal.coe_mul, ← EReal.coe_sub, Ideal.exp_coe]
  have e2 : ∀ j, Ideal.exp2 (s j - top s N) = ((c * p j : ℝ) : EReal) := fun j => by
    rw [hx, ht, exp2_coe_eq _ _ M]
  have eS : 0 + ∑ k : Fin N, ((p k : ℝ) : EReal) = ((∑ j ∈ Finset.range N, p j : ℝ) : EReal) := by
    rw [zero_add, Fin.sum_univ_eq_sum_range (fun k => ((p k : ℝ) : EReal)) N, coe_sum]
  have eW : acc s w N = ((c * ∑ j ∈ Finset.range N, p j : ℝ) : EReal) := by
    unfold acc
    simp only [hw, one_mul, e2]
    rw [Finset.mul_sum, coe_sum]
  simp only [e1]
  rw [eS, eW, div_pos _ (mul_pos hc0 hS)]
  unfold acc
  rw [coe_mul_sum _ _ (inv_nonneg.mpr (mul_pos hc0 hS).le), Fin.sum_univ_eq_sum_range
    (fun j => v j * Ideal.div (p j : EReal) ((∑ j ∈ Finset.range N, p j : ℝ) : EReal)) N]
  refine Finset.sum_congr rfl fun j _ => ?_
  rw [e2, div_pos _ hS, mul_left_comm, ← EReal.coe_mul, ← EReal.coe_mul]
  congr 2
  field_simp

/-- The largest of finitely many finite numbers, none excluded, is finite. -/
theorem fold_coe {n : ℕ} (hn : 0 < n) {f : Fin n → EReal} (hf : ∀ j, ∃ x : ℝ, f j = x) :
    ∃ x : ℝ, Finset.univ.fold max ⊥ f = x := by
  have e : Finset.univ.fold max ⊥ f = Finset.univ.sup f := rfl
  obtain ⟨j, _, hj⟩ := Finset.exists_mem_eq_sup Finset.univ ⟨⟨0, hn⟩, Finset.mem_univ _⟩ f
  exact (hf j).imp fun x hx => e.trans (hj.trans hx)

end Online

end
-- ==== Proof.RefVal.lean ====
/-
  The reference's result over the reals: the same attention, entry by entry.
-/
module

public import proofs.«01_k».proof.Defs
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_and_ones
public import proofs.«01_k».proof.Proof.Final
public import proofs.«01_k».proof.Proof.Softmax
public import Idealize.ShloMosaic.Lib.Claim
public import Idealize.ShloMosaic.Lib.Pointwise

@[expose] public section

set_option maxRecDepth 16384

noncomputable section

namespace Cert.ReferenceIdeal.Att

open Cert.ReferenceIdeal Cert.ReferenceIdeal.Read
open Idealize.ShloMosaic Idealize.ShloMosaic.TcCoe Idealize.ShloMosaic.Pointwise
open Cert.KernelIdeal.Att (score value att attAll score_real)

variable (Q : S8x32x256x512.Idx → EReal) (K : S8x16384x256.Idx → EReal) (W : S8x32x144x512.Idx → EReal)

theorem query (i : S16384x8x256.Idx) :
    val_main_v2 (F := Ideal) Q i
      = Q (ix4 ⟨(i 1).val, (i 1).isLt⟩ ⟨(i 0).val / 512, by have : (i 0).val < 16384 := (i 0).isLt; omega⟩
          ⟨(i 2).val, (i 2).isLt⟩ ⟨(i 0).val % 512, Nat.mod_lt _ (by norm_num)⟩) := by
  rw [val_main_v2_apply, val_main_v1_apply, val_main_v0_apply]
  have h0 : (i 0).val < 16384 := (i 0).isLt
  have h1 : (i 1).val < 8 := (i 1).isLt
  have h2 : (i 2).val < 256 := (i 2).isLt
  refine congrArg Q (funext fun a => Fin.ext ?_)
  match a with
  | ⟨0, _⟩ => show (((i 0).val * 8 + (i 1).val) * 256 + (i 2).val) / 256 % 8 = (i 1).val; omega
  | ⟨1, _⟩ => show (((i 0).val * 8 + (i 1).val) * 256 + (i 2).val) / 1048576 = (i 0).val / 512; omega
  | ⟨2, _⟩ => show (((i 0).val * 8 + (i 1).val) * 256 + (i 2).val) % 256 = (i 2).val; omega
  | ⟨3, _⟩ => show (((i 0).val * 8 + (i 1).val) * 256 + (i 2).val) / 2048 % 512 = (i 0).val % 512; omega

theorem val (i : S16384x8x128.Idx) :
    val_main_v6 (F := Ideal) W i
      = W (ix4 ⟨(i 1).val, (i 1).isLt⟩ ⟨(i 0).val / 512, by have : (i 0).val < 16384 := (i 0).isLt; omega⟩
          ⟨(i 2).val, by have : (i 2).val < 128 := (i 2).isLt; omega⟩ ⟨(i 0).val % 512, Nat.mod_lt _ (by norm_num)⟩) := by
  rw [val_main_v6_apply, val_main_v5_apply, val_main_v4_apply, val_main_v3_apply]
  have h0 : (i 0).val < 16384 := (i 0).isLt
  have h1 : (i 1).val < 8 := (i 1).isLt
  have h2 : (i 2).val < 128 := (i 2).isLt
  refine congrArg W (funext fun a => Fin.ext ?_)
  match a with
  | ⟨0, _⟩ => show (((i 0).val * 8 + (i 1).val) * 128 + (i 2).val) / 128 % 8 = (i 1).val; omega
  | ⟨1, _⟩ => show (((i 0).val * 8 + (i 1).val) * 128 + (i 2).val) / 524288 = (i 0).val / 512; omega
  | ⟨2, _⟩ => show (((i 0).val * 8 + (i 1).val) * 128 + (i 2).val) % 128 = (i 2).val; omega
  | ⟨3, _⟩ => show (((i 0).val * 8 + (i 1).val) * 128 + (i 2).val) / 1024 % 512 = (i 0).val % 512; omega

/-- A score, in the natural units. -/
theorem scores (h : Fin 8) (n j : Fin 16384) :
    val_main_v11 (F := Ideal) Q K (ix3 h n j) = score Q K h n j * (Real.log 2 : ℝ) := by
  rw [val_main_v11_apply, val_main_v10_apply, val_main_v9_apply, val_main_cst_apply, val_main_v8_apply]
  have e2 : (FloatOps.ofBits (F := Ideal) .f32 0x40000000#32 : EReal) = ((2 : ℝ) : EReal) := by
    simp [Ideal.ofBits, Ideal.ieee, -EReal.coe_mul]; norm_num
  have el : (FloatOps.hostUnary (F := Ideal) (φ := .f32) .log (FloatOps.ofBits .f32 0x40000000#32) : EReal) = (Real.log 2 : ℝ) := by
    rw [e2]
    exact (Ideal.log_coe 2).trans (if_neg (by norm_num))
  rw [el]
  refine congrArg (· * ((Real.log 2 : ℝ) : EReal)) (Finset.sum_congr rfl fun d _ => ?_)
  rw [query, val_main_v7_apply, mul_comm]
  refine congrArg₂ (· * ·) (congrArg K (funext fun a => Fin.ext ?_)) rfl
  match a with
  | ⟨0, _⟩ => rfl
  | ⟨1, _⟩ => exact (Nat.mod_eq_of_lt j.isLt).symm
  | ⟨2, _⟩ => rfl

/-- The reference's maximum is finite. -/
theorem max_real (hQ : ∀ i, ∃ x : ℝ, Q i = x) (hK : ∀ i, ∃ x : ℝ, K i = x) (h : Fin 8) (n : Fin 16384) :
    ∃ M : ℝ, val_main_v14 (F := Ideal) Q K (ix2 h n) = M := by
  have hb : (FloatOps.ofBits (F := Ideal) .f32 0xFF800000#32 : EReal) = ⊥ := by
    simp [Ideal.ofBits, Ideal.ieee]
  have e : val_main_v12 (F := Ideal) Q K (ix2 h n) = Finset.univ.fold max ⊥ (fun j : Fin 16384 => val_main_v11 (F := Ideal) Q K (ix3 h n j)) := by
    unfold val_main_v12 val_main_cst_0
    generalize val_main_v11 (F := Ideal) Q K = y
    pointwise
    exact congrArg (fun b => Finset.univ.fold max b _) hb
  rw [val_main_v14_apply, val_main_v13_apply, val_main_cst_1_apply, e]
  obtain ⟨M, hM⟩ := Online.fold_coe (n := 16384) (by norm_num) (f := fun j : Fin 16384 => val_main_v11 (F := Ideal) Q K (ix3 h n j)) fun j => by
    obtain ⟨x, hx⟩ := score_real hQ hK h n j
    exact ⟨x * Real.log 2, by rw [scores, hx, EReal.coe_mul]⟩
  refine ⟨M, ?_⟩
  rw [hM, hb]
  exact max_eq_right bot_le

/-- Key `j`'s weight before it is divided. -/
theorem weight {h : Fin 8} {n : Fin 16384} {M : ℝ} (hM : val_main_v14 (F := Ideal) Q K (ix2 h n) = M) (j : Fin 16384) :
    val_main_v18 (F := Ideal) Q K (ix3 h n j) = Ideal.exp (score Q K h n j * (Real.log 2 : ℝ) - M) := by
  rw [val_main_v18_apply, val_main_v17_apply, val_main_v16_apply, val_main_v15_apply, scores, ← hM]
  refine congrArg (fun x => Ideal.exp (score Q K h n j * (Real.log 2 : ℝ) - val_main_v14 (F := Ideal) Q K x)) (funext fun a => ?_)
  match a with
  | ⟨0, _⟩ => rfl
  | ⟨1, _⟩ => rfl

/-- The sum of the weights. -/
theorem total {h : Fin 8} {n : Fin 16384} {M : ℝ} (hM : val_main_v14 (F := Ideal) Q K (ix2 h n) = M) :
    val_main_v19 (F := Ideal) Q K (ix2 h n) = 0 + ∑ k : Fin 16384, Ideal.exp (score Q K h n k * (Real.log 2 : ℝ) - M) := by
  have hb : (FloatOps.ofBits (F := Ideal) .f32 0x00000000#32 : EReal) = 0 := by
    simp [Ideal.ofBits, Ideal.ieee]
  rw [val_main_v19_apply, val_main_cst_2_apply, hb]
  refine congrArg (0 + ·) (Finset.sum_congr rfl fun k _ => ?_)
  rw [← weight Q K hM k]
  refine congrArg (val_main_v18 (F := Ideal) Q K) (funext fun a => ?_)
  match a with
  | ⟨0, _⟩ => rfl
  | ⟨1, _⟩ => rfl
  | ⟨2, _⟩ => rfl

/-- A weight, divided. -/
theorem share {h : Fin 8} {n : Fin 16384} {M : ℝ} (hM : val_main_v14 (F := Ideal) Q K (ix2 h n) = M) (j : Fin 16384) :
    val_main_v22 (F := Ideal) Q K (ix3 h n j)
      = Ideal.div (Ideal.exp (score Q K h n j * (Real.log 2 : ℝ) - M))
          (0 + ∑ k : Fin 16384, Ideal.exp (score Q K h n k * (Real.log 2 : ℝ) - M)) := by
  rw [val_main_v22_apply, val_main_v21_apply, val_main_v20_apply, weight Q K hM, ← total Q K hM]
  refine congrArg (fun x => Ideal.div _ (val_main_v19 (F := Ideal) Q K x)) (funext fun a => ?_)
  match a with
  | ⟨0, _⟩ => rfl
  | ⟨1, _⟩ => rfl

/-- The reference's result is the attention. -/
theorem result (hQ : ∀ i, ∃ x : ℝ, Q i = x) (hK : ∀ i, ∃ x : ℝ, K i = x)
    (hW : ∀ (h : Fin 8) (b : Fin 32) (l : Fin 512), W (ix4 h b 128 l) = 1) :
    val_main_v26 (F := Ideal) Q K W = attAll Q K W := by
  funext y
  have h0 : (y 0).val < 16384 := (y 0).isLt
  have h1 : (y 1).val < 1024 := (y 1).isLt
  rw [val_main_v26_apply, val_main_v25_apply, val_main_v24_apply, val_main_v23_apply]
  obtain ⟨M, hM⟩ := max_real Q K hQ hK ⟨(y 1).val / 128, by omega⟩ ⟨(y 0).val, h0⟩
  have hw : ∀ j, value W ⟨(y 1).val / 128, by omega⟩ ⟨128, by omega⟩ j = 1 := fun j => hW _ _ _
  have key := Online.softmax_eq (N := 16384) (v := value W ⟨(y 1).val / 128, by omega⟩ ⟨(y 1).val % 128, by omega⟩)
    (by norm_num) (score_real hQ hK ⟨(y 1).val / 128, by omega⟩ ⟨(y 0).val, h0⟩) hw M
  refine Eq.trans ?_ key.symm
  show (∑ k : Fin 16384, _) = _
  refine Finset.sum_congr rfl fun j _ => ?_
  rw [← share Q K hM j, val]
  have hj : j.val < 16384 := j.isLt
  refine congrArg₂ (· * ·) (congrArg W (funext fun a => Fin.ext ?_)) (congrArg (val_main_v22 (F := Ideal) Q K) (funext fun a => Fin.ext ?_))
  · match a with
    | ⟨0, _⟩ => show ((y 0).val * 1024 + (y 1).val) / 128 % 8 = (y 1).val / 128; omega
    | ⟨1, _⟩ => show j.val / 512 = j.val / 512 % 32; omega
    | ⟨2, _⟩ => show ((y 0).val * 1024 + (y 1).val) % 128 = (y 1).val % 128; omega
    | ⟨3, _⟩ => rfl
  · match a with
    | ⟨0, _⟩ => show ((y 0).val * 1024 + (y 1).val) / 128 % 8 = (y 1).val / 128; omega
    | ⟨1, _⟩ => show ((y 0).val * 1024 + (y 1).val) / 1024 = (y 0).val; omega
    | ⟨2, _⟩ => rfl

end Cert.ReferenceIdeal.Att

end
-- ==== Proof.Pre.lean ====
/-
  What the precondition says over the reals: the queries and the keys are finite, the values' row 128 is one.
-/
module

public import proofs.«01_k».proof.Defs
public import proofs.«01_k».proof.Proof.Gen.Pre_finite_and_ones
public import Idealize.ShloMosaic.Lib.ReduceAll
public import Idealize.ShloMosaic.Lib.Pointwise

@[expose] public section

set_option maxRecDepth 16384

noncomputable section

namespace Cert.Pre_finite_and_ones.Att

open Cert.Pre_finite_and_ones
open Idealize.ShloMosaic Idealize.ShloMosaic.TcCoe Idealize.ShloMosaic.Pointwise

variable [Facts] {Q : S8x32x256x512.Idx → EReal} {K : S8x16384x256.Idx → EReal} {W : S8x32x144x512.Idx → EReal}

/-- An extended real whose absolute value is below the infinity is finite. -/
theorem real_of_abs {x : EReal} (h : Ideal.cmp .olt (max x (-x)) (FloatOps.ofBits (F := Ideal) .f32 0x7F800000#32) = 1#1) :
    ∃ r : ℝ, x = r := by
  have hb : (FloatOps.ofBits (F := Ideal) .f32 0x7F800000#32 : EReal) = ⊤ := by
    simp [Ideal.ofBits, Ideal.ieee]
  rw [hb] at h
  induction x using EReal.rec with
  | bot => simp [Ideal.cmp] at h
  | top => simp [Ideal.cmp] at h
  | coe r => exact ⟨r, rfl⟩

theorem facts (h : fn (F := Ideal) Q K W = fun _ => 1#1) :
    (∀ i, ∃ x : ℝ, Q i = x) ∧ (∀ i, ∃ x : ℝ, K i = x)
      ∧ ∀ (h : Fin 8) (b : Fin 32) (l : Fin 512), W (ix4 h b 128 l) = 1 := by
  have h' := congrFun h (Shape.Idx.first Facts.h_S_)
  unfold fn at h'
  obtain ⟨h1, h3⟩ := IntOp.andi_eq_one.1 h'
  obtain ⟨h1, h2⟩ := IntOp.andi_eq_one.1 h1
  have : Subsingleton S_.Idx := ⟨fun a b => funext fun i => i.elim0⟩
  have g1 := Host.reduce_andi_all _ _ _ _ _ h1
  have g2 := Host.reduce_andi_all _ _ _ _ _ h2
  have g3 := Host.reduce_andi_all _ _ _ _ _ h3
  refine ⟨fun i => real_of_abs (g1 i), fun i => real_of_abs (g2 i), fun h b l => ?_⟩
  have := g3 (ix3 h b l)
  pointwise at this
  by_contra hne
  rw [decide_eq_false hne] at this
  exact absurd this (by decide)

end Cert.Pre_finite_and_ones.Att

end
-- ==== Proof.Algebraic.lean ====
/-
  The kernel and the reference end with the same array over the reals.
-/
module

public import proofs.«01_k».proof.Defs
public import proofs.«01_k».proof.Proof.RefVal
public import proofs.«01_k».proof.Proof.Pre
public import Idealize.ShloMosaic.Lib.Claim

@[expose] public section

set_option maxRecDepth 16384

noncomputable section

open Idealize.ShloMosaic Idealize.ShloMosaic.TcCoe

namespace Cert

open Cert.KernelIdeal.Att (aQ aK aW attAll)

theorem algebraic :
    algebraic_KernelIdeal_ReferenceIdeal_pre_finite_and_ones (hKernelIdeal := Cert.KernelIdeal.Gen.facts)
      (hReferenceIdeal := Cert.ReferenceIdeal.Gen.facts) (hPre_finite_and_ones := Cert.Pre_finite_and_ones.Gen.facts) := by
  intro m g m' g' hpre hargs
  refine ⟨fun c => attAll (aQ m c) (aK m c) (aW m c), ?_, ?_⟩
  · refine (θ_run _ _ _).mono (fun r h c => ?_) (Cert.KernelIdeal.Att.run_main m g)
    obtain ⟨hQ, hK, _⟩ := Cert.Pre_finite_and_ones.Att.facts (hpre c)
    exact ⟨((h.1 c).1 3).trans (Cert.KernelIdeal.Att.final m c hQ hK),
      ((h.1 c).1 0).trans (((Cert.KernelIdeal.Att.dats m 0 c).arrAt_in 0 rfl _).trans (Cert.KernelIdeal.Att.A_eq m c 0)),
      ((h.1 c).1 1).trans (((Cert.KernelIdeal.Att.dats m 0 c).arrAt_in 1 rfl _).trans (Cert.KernelIdeal.Att.A_eq m c 1)),
      ((h.1 c).1 2).trans (((Cert.KernelIdeal.Att.dats m 0 c).arrAt_in 2 rfl _).trans (Cert.KernelIdeal.Att.A_eq m c 2))⟩
  · refine (θ_run _ _ _).mono (fun r h c => ?_) (Cert.ReferenceIdeal.Value.run (F := Ideal) m' g')
    obtain ⟨hQ, hK, hW⟩ := Cert.Pre_finite_and_ones.Att.facts (hpre c)
    obtain ⟨e0, e1, e2⟩ := hargs c
    refine ⟨(h c).1.trans ((Cert.ReferenceIdeal.Read.val_main_v26_eq _ _ _).trans ?_), (h c).2⟩
    rw [e0, e1, e2]
    exact Cert.ReferenceIdeal.Att.result (aQ m c) (aK m c) (aW m c) hQ hK hW

end Cert

end
-- ==== Proof.Row.lean ====
/-
  One token's row over the extended reals: the normalisation, and everything after the attention.
-/
module

public import Idealize.ShloMosaic.PureOps.Ideal

@[expose] public section

noncomputable section

namespace Row

open Idealize.ShloMosaic

/-- A row divided by its root mean square, times the gain; `N` is the row's length. -/
def rms {n : ℕ} (N : EReal) (x g : Fin n → EReal) (j : Fin n) : EReal :=
  x j * Ideal.rsqrt (Ideal.div (∑ d, x d * x d) N + Ideal.ofBits .f32 0x358637BD#32) * g j

/-- A row times a matrix. -/
def dot {n k : ℕ} (x : Fin n → EReal) (w : Fin n → Fin k → EReal) (j : Fin k) : EReal := ∑ d, x d * w d j

/-- The row after the attention is added: gates, output projection, residual. -/
def merge (x oa sga gob : Fin 1024 → EReal) (wo : Fin 1024 → Fin 1024 → EReal) (j : Fin 1024) : EReal :=
  x j + dot (fun d => sga d * oa d + gob d) wo j

/-- The squared positive part of a row times the first matrix. -/
def hidden (x g : Fin 1024 → EReal) (w1 : Fin 1024 → Fin 4096 → EReal) (j : Fin 4096) : EReal :=
  max (dot (rms (Ideal.ofBits .f32 0x44800000#32) x g) w1 j) 0
    * max (dot (rms (Ideal.ofBits .f32 0x44800000#32) x g) w1 j) 0

/-- The feed-forward part and the last normalisation. -/
def feed (x g : Fin 1024 → EReal) (w1 : Fin 1024 → Fin 4096 → EReal) (w2 : Fin 4096 → Fin 1024 → EReal) (gf : Fin 1024 → EReal) :
    Fin 1024 → EReal :=
  rms (Ideal.ofBits .f32 0x44800000#32) (fun j => x j + dot (hidden x g w1) w2 j) gf

end Row

end
-- ==== Proof.Post.lean ====
/-
  The call after the attention: each row of its result is the row formula of that token.
-/
module

public import proofs.«01_k».proof.Defs
public import proofs.«01_k».proof.Proof.Row
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import Idealize.ShloMosaic.Lib.Claim
public import Idealize.ShloMosaic.Lib.Pointwise
public import Idealize.ShloMosaic.Lib.Pipeline.ValueKit.Geometry

@[expose] public section

set_option maxRecDepth 16384

noncomputable section

namespace Cert.Kernel2Ideal.Post

open Cert.Kernel2Ideal Cert.Kernel2Ideal.Gen
open Idealize.ShloMosaic Idealize.ShloMosaic.TcCoe Idealize.ShloMosaic.Pointwise Idealize.ShloMosaic.Pipeline

theorem pay2 (v0 v2 v5 : Vec Ideal S512x1024 .bf16) (v8 : Vec Ideal S512x1024 .f32) (v11 : Vec Ideal S1024x1024 .bf16) (r : Fin 512) (j : Fin 1024) :
    k0_pay2 (F := Ideal) v0 v2 v5 v8 v11 (ix2 r j)
      = Row.merge (fun d => v8 (ix2 r d)) (fun d => v2 (ix2 r d)) (fun d => v0 (ix2 r d)) (fun d => v5 (ix2 r d)) (fun d e => v11 (ix2 d e)) j := by
  pointwise [k0_pay2]
  rfl

theorem pay3 (v0 v2 v5 : Vec Ideal S512x1024 .bf16) (v8 : Vec Ideal S512x1024 .f32) (v11 : Vec Ideal S1024x1024 .bf16)
    (v15 : Vec Ideal S1x1024 .f32) (v30 : Vec Ideal S1024x4096 .bf16) (r : Fin 512) (j : Fin 4096) :
    k0_pay3 (F := Ideal) v0 v2 v5 v8 v11 v15 v30 (ix2 r j)
      = Row.hidden (fun d => k0_pay2 (F := Ideal) v0 v2 v5 v8 v11 (ix2 r d)) (fun d => v15 (ix2 0 d)) (fun d e => v30 (ix2 d e)) j := by
  unfold k0_pay3
  generalize k0_pay2 (F := Ideal) v0 v2 v5 v8 v11 = y
  pointwise
  rfl

theorem pay1 (v14 : FVec Ideal S512x1024 .f32) (v36 : FVec Ideal S512x4096 .bf16) (v37 : Vec Ideal S4096x1024 .bf16) (v41 : Vec Ideal S1x1024 .f32)
    (r : Fin 512) (j : Fin 1024) :
    k0_pay1 (F := Ideal) v14 v36 v37 v41 (ix2 r j)
      = Row.rms (Ideal.ofBits .f32 0x44800000#32) (fun j => v14 (ix2 r j) + Row.dot (fun d => v36 (ix2 r d)) (fun d e => v37 (ix2 d e)) j)
          (fun d => v41 (ix2 0 d)) j := by
  pointwise [k0_pay1]
  rfl

variable (m : (ℓ : Loc nD τ sig) → Buf (Elt Ideal) ℓ) (c : Dev nD)

/-- The arguments as launched. -/
abbrev aX : S1x16384x1024.Idx → EReal := m ((c : Thread nD τ).loc main_arg0)
abbrev aOa : S16384x1024.Idx → EReal := m ((c : Thread nD τ).loc main_arg1)
abbrev aSga : S16384x1024.Idx → EReal := m ((c : Thread nD τ).loc main_arg2)
abbrev aGob : S16384x1024.Idx → EReal := m ((c : Thread nD τ).loc main_arg3)
abbrev aWo : S1024x1024.Idx → EReal := m ((c : Thread nD τ).loc main_arg4)
abbrev aGffn : S1024.Idx → EReal := m ((c : Thread nD τ).loc main_arg5)
abbrev aW1 : S1024x4096.Idx → EReal := m ((c : Thread nD τ).loc main_arg6)
abbrev aW2 : S4096x1024.Idx → EReal := m ((c : Thread nD τ).loc main_arg7)
abbrev aGfin : S1024.Idx → EReal := m ((c : Thread nD τ).loc main_arg8)

/-- A row of the result, from the launched arguments. -/
def row (n : Fin 16384) : Fin 1024 → EReal :=
  Row.feed (Row.merge (fun d => aX m c (ix3 0 n d)) (fun d => aOa m c (ix2 n d)) (fun d => aSga m c (ix2 n d)) (fun d => aGob m c (ix2 n d))
      (fun d e => aWo m c (ix2 d e)))
    (fun d => aGffn m c (ix1 d)) (fun d e => aW1 m c (ix2 d e)) (fun d e => aW2 m c (ix2 d e)) (fun d => aGfin m c (ix1 d))

theorem V0 (n : Fin 16384) (d : Fin 1024) : V m c main_v0 (ix2 n d) = aX m c (ix3 0 n d) := by
  show StableHlo.after hostOps0 _ _ _ = _
  after_results_simp
  pointwise

theorem V2 (d : Fin 1024) : V m c main_v2 (ix2 0 d) = aGffn m c (ix1 d) := by
  show StableHlo.after hostOps0 _ _ _ = _
  after_results_simp
  pointwise

theorem V1 : V m c main_v1 = aWo m c := by
  show StableHlo.after hostOps0 _ _ = _
  after_results_simp
  rfl

theorem V3 : V m c main_v3 = aW1 m c := by
  show StableHlo.after hostOps0 _ _ = _
  after_results_simp
  rfl

theorem V4 : V m c main_v4 = aW2 m c := by
  show StableHlo.after hostOps0 _ _ = _
  after_results_simp
  rfl

theorem V5 (d : Fin 1024) : V m c main_v5 (ix2 0 d) = aGfin m c (ix1 d) := by
  show StableHlo.after hostOps0 _ _ _ = _
  after_results_simp
  pointwise

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![t.val, 0] := (by decide +kernel : ∀ t : Fin grid0.N, _)

/-- Row `r` of grid point `t`. -/
abbrev tok (t : Fin cfg0.N) (r : Fin 512) : Fin 16384 := ⟨t.val * 512 + r.val, by have : t.val < 32 := t.isLt; omega⟩

theorem blk0 (t : Fin cfg0.N) (r : Fin 512) (d : Fin 1024) : iblk m c 0 t (ix2 r d) = aX m c (ix3 0 (tok t r) d) := by
  rw [← V0]
  blk_simp [iblk]
  refine congrArg (V m c main_v0) ?_
  blk_ext [index0]

theorem blk1 (t : Fin cfg0.N) (r : Fin 512) (d : Fin 1024) : iblk m c 1 t (ix2 r d) = aOa m c (ix2 (tok t r) d) := by
  blk_simp [iblk]
  refine congrArg (aOa m c) ?_
  blk_ext [index1]

theorem blk2 (t : Fin cfg0.N) (r : Fin 512) (d : Fin 1024) : iblk m c 2 t (ix2 r d) = aSga m c (ix2 (tok t r) d) := by
  blk_simp [iblk]
  refine congrArg (aSga m c) ?_
  blk_ext [index2]

theorem blk3 (t : Fin cfg0.N) (r : Fin 512) (d : Fin 1024) : iblk m c 3 t (ix2 r d) = aGob m c (ix2 (tok t r) d) := by
  blk_simp [iblk]
  refine congrArg (aGob m c) ?_
  blk_ext [index3]

theorem blk4 (t : Fin cfg0.N) (d e : Fin 1024) : iblk m c 4 t (ix2 d e) = aWo m c (ix2 d e) := by
  rw [← V1]
  blk_simp [iblk]
  refine congrArg (V m c main_v1) ?_
  blk_ext [index4]

theorem blk5 (t : Fin cfg0.N) (d : Fin 1024) : iblk m c 5 t (ix2 0 d) = aGffn m c (ix1 d) := by
  rw [← V2]
  blk_simp [iblk]
  refine congrArg (V m c main_v2) ?_
  blk_ext [index5]

theorem blk6 (t : Fin cfg0.N) (d : Fin 1024) (e : Fin 4096) : iblk m c 6 t (ix2 d e) = aW1 m c (ix2 d e) := by
  rw [← V3]
  blk_simp [iblk]
  refine congrArg (V m c main_v3) ?_
  blk_ext [index6]

theorem blk7 (t : Fin cfg0.N) (d : Fin 4096) (e : Fin 1024) : iblk m c 7 t (ix2 d e) = aW2 m c (ix2 d e) := by
  rw [← V4]
  blk_simp [iblk]
  refine congrArg (V m c main_v4) ?_
  blk_ext [index7]

theorem blk8 (t : Fin cfg0.N) (d : Fin 1024) : iblk m c 8 t (ix2 0 d) = aGfin m c (ix1 d) := by
  rw [← V5]
  blk_simp [iblk]
  refine congrArg (V m c main_v5) ?_
  blk_ext [index8]

/-- The output block of a point, from its input blocks. -/
theorem out_row (x0 : Vec Ideal S512x1024 .f32) (x1 x2 x3 : Vec Ideal S512x1024 .bf16) (x4 : Vec Ideal S1024x1024 .bf16)
    (x5 : Vec Ideal S1x1024 .f32) (x6 : Vec Ideal S1024x4096 .bf16) (x7 : Vec Ideal S4096x1024 .bf16) (x8 : Vec Ideal S1x1024 .f32)
    (r : Fin 512) (j : Fin 1024) :
    out0_9 x0 x1 x2 x3 x4 x5 x6 x7 x8 (ix2 r j)
      = Row.feed (Row.merge (fun d => x0 (ix2 r d)) (fun d => x1 (ix2 r d)) (fun d => x2 (ix2 r d)) (fun d => x3 (ix2 r d)) (fun d e => x4 (ix2 d e)))
          (fun d => x5 (ix2 0 d)) (fun d e => x6 (ix2 d e)) (fun d e => x7 (ix2 d e)) (fun d => x8 (ix2 0 d)) j := by
  unfold out0_9
  refine (congrFun (View.canon_cons_unit_lit _ _ _ (by decide)) _).trans ?_
  rw [View.ld_unit_lit _ x0 (by decide), View.ld_unit_lit _ x1 (by decide), View.ld_unit_lit _ x2 (by decide), View.ld_unit_lit _ x3 (by decide),
    View.ld_unit_lit _ x4 (by decide), View.ld_unit_lit _ x5 (by decide), View.ld_unit_lit _ x6 (by decide), View.ld_unit_lit _ x7 (by decide),
    View.ld_unit_lit _ x8 (by decide), pay1]
  simp only [pay3, pay2]
  rfl

/-- The whole result array. -/
theorem final : (dats m 0 c).arrAt 9 cfg0.N = fun y => row m c (y 0) (y 1) := by
  refine (dats m 0 c).arrAt_eq_of_covers 9 _ (by decide +kernel) fun t hf y => ?_
  obtain ⟨r, j, rfl⟩ : ∃ (r : Fin 512) (j : Fin 1024), y = ix2 r j := ⟨y 0, y 1, by funext b; match b with | 0 => rfl | 1 => rfl⟩
  blk_simp
  rw [after0_9]
  refine (out_row _ _ _ _ _ _ _ _ _ r j).trans ?_
  have e : ∀ a : Fin 16384, ∀ b : Fin 1024, a = tok t r → b = j → Row.feed (Row.merge (fun d => iblk m c 0 t (ix2 r d)) (fun d => iblk m c 1 t (ix2 r d)) (fun d => iblk m c 2 t (ix2 r d))
      (fun d => iblk m c 3 t (ix2 r d)) (fun d e => iblk m c 4 t (ix2 d e)))
          (fun d => iblk m c 5 t (ix2 0 d)) (fun d e => iblk m c 6 t (ix2 d e)) (fun d e => iblk m c 7 t (ix2 d e)) (fun d => iblk m c 8 t (ix2 0 d)) j = row m c a b := by
    rintro a b rfl rfl
    simp only [blk0, blk1, blk2, blk3, blk4, blk5, blk6, blk7, blk8]
    rfl
  refine e _ _ (Fin.ext ?_) (Fin.ext ?_)
  · blk_simp [index9]
  · blk_simp [index9]

end Cert.Kernel2Ideal.Post

end
-- ==== Proof.PostRef.lean ====
/-
  The reference of the call after the attention is the same row formula.
-/
module

public import proofs.«01_k».proof.Defs
public import proofs.«01_k».proof.Proof.Row
public import proofs.«01_k».proof.Proof.Gen.Reference2Ideal
public import proofs.«01_k».proof.Proof.Gen.Reference2Ideal.Run
public import proofs.«01_k».proof.Proof.Gen.Reference2Ideal.Read
public import Idealize.ShloMosaic.Lib.Pointwise

@[expose] public section

set_option maxRecDepth 16384

noncomputable section

namespace Cert.Reference2Ideal.Post

open Cert.Reference2Ideal Cert.Reference2Ideal.Gen Cert.Reference2Ideal.Read
open Idealize.ShloMosaic Idealize.ShloMosaic.TcCoe Idealize.ShloMosaic.Pointwise

variable (x : Vec Ideal S1x16384x1024 .f32) (oa sga gob : Vec Ideal S16384x1024 .bf16) (wo : Vec Ideal S1024x1024 .f32)
  (gffn : Vec Ideal S1024 .f32) (w1 : Vec Ideal S1024x4096 .f32) (w2 : Vec Ideal S4096x1024 .f32) (gfin : Vec Ideal S1024 .f32)

theorem merged (n : Fin 16384) (j : Fin 1024) : val_main_v7 (F := Ideal) x oa sga gob wo (ix2 n j)
    = Row.merge (fun d => x (ix3 0 n d)) (fun d => oa (ix2 n d)) (fun d => sga (ix2 n d)) (fun d => gob (ix2 n d)) (fun d e => wo (ix2 d e)) j := by
  pointwise [val_main_v7, val_main_v6, val_main_v5, val_main_v4, val_main_v3, val_main_v2, val_main_v1, val_main_v0]
  rfl

theorem normed (n : Fin 16384) (j : Fin 1024) : val_main_v20 (F := Ideal) x oa sga gob wo gffn (ix2 n j)
    = Row.rms (Ideal.ofBits .f32 0x44800000#32) (fun d => val_main_v7 (F := Ideal) x oa sga gob wo (ix2 n d)) (fun d => gffn (ix1 d)) j := by
  unfold val_main_v20 val_main_v17 val_main_v16 val_main_v15 val_main_v14 val_main_v12 val_main_v10 val_main_v9 val_main_v8
  generalize val_main_v7 (F := Ideal) x oa sga gob wo = y
  pointwise [val_main_v19, val_main_v18, val_main_v13, val_main_v11, val_main_cst, val_main_cst_0, val_main_cst_1]
  rfl

theorem hiddens (n : Fin 16384) (j : Fin 4096) : val_main_v23 (F := Ideal) x oa sga gob wo gffn w1 (ix2 n j)
    = Row.hidden (fun d => val_main_v7 (F := Ideal) x oa sga gob wo (ix2 n d)) (fun d => gffn (ix1 d)) (fun d e => w1 (ix2 d e)) j := by
  have e : ∀ d, val_main_v20 (F := Ideal) x oa sga gob wo gffn (ix2 n d) = _ := normed x oa sga gob wo gffn n
  unfold val_main_v23 val_main_v22 val_main_v21
  pointwise [val_main_call0_cst, val_main_call0_v0]
  simp only [e]
  rfl

theorem result (n : Fin 16384) (j : Fin 1024) : val_main_v38 (F := Ideal) x oa sga gob wo gffn w1 w2 gfin (ix2 n j)
    = Row.feed (Row.merge (fun d => x (ix3 0 n d)) (fun d => oa (ix2 n d)) (fun d => sga (ix2 n d)) (fun d => gob (ix2 n d)) (fun d e => wo (ix2 d e)))
        (fun d => gffn (ix1 d)) (fun d e => w1 (ix2 d e)) (fun d e => w2 (ix2 d e)) (fun d => gfin (ix1 d)) j := by
  have h25 : ∀ d, val_main_v25 (F := Ideal) x oa sga gob wo gffn w1 w2 (ix2 n d)
      = val_main_v7 (F := Ideal) x oa sga gob wo (ix2 n d) + Row.dot (fun k => val_main_v23 (F := Ideal) x oa sga gob wo gffn w1 (ix2 n k)) (fun d e => w2 (ix2 d e)) d := by
    intro d
    unfold val_main_v25 val_main_v24
    pointwise
    rfl
  simp only [hiddens, merged] at h25
  unfold val_main_v38 val_main_v35 val_main_v34 val_main_v33 val_main_v32 val_main_v30 val_main_v28 val_main_v27 val_main_v26
  pointwise [val_main_v37, val_main_v36, val_main_v31, val_main_v29, val_main_cst_2, val_main_cst_3, val_main_cst_4]
  simp only [h25]
  rfl

end Cert.Reference2Ideal.Post

end
-- ==== Proof.PostAlg.lean ====
/-
  The call after the attention and its reference end with the same array over the reals.
-/
module

public import proofs.«01_k».proof.Proof.Post
public import proofs.«01_k».proof.Proof.PostRef

@[expose] public section

set_option maxRecDepth 16384

noncomputable section

open Idealize.ShloMosaic Idealize.ShloMosaic.TcCoe

namespace Cert

theorem algebraic2 :
    algebraic_Kernel2Ideal_Reference2Ideal (hKernel2Ideal := Cert.Kernel2Ideal.Gen.facts) (hReference2Ideal := Cert.Reference2Ideal.Gen.facts) := by
  intro m g m' g' _ hargs
  refine ⟨fun c y => Cert.Kernel2Ideal.Post.row m c (y 0) (y 1), ?_, ?_⟩
  · refine (θ_run _ _ _).mono (fun r h c => ?_) (Cert.Kernel2Ideal.Value.run_blocks (F := Ideal) m g)
    exact ⟨(h c).1.trans (Cert.Kernel2Ideal.Post.final m c), (h c).2⟩
  · refine (θ_run _ _ _).mono (fun r h c => ?_) (Cert.Reference2Ideal.Value.run (F := Ideal) m' g')
    obtain ⟨e0, e1, e2, e3, e4, e5, e6, e7, e8⟩ := hargs c
    refine ⟨(h c).1.trans ((Cert.Reference2Ideal.Read.val_main_v38_eq _ _).trans ?_), (h c).2⟩
    rw [e0, e1, e2, e3, e4, e5, e6, e7, e8]
    funext y
    obtain ⟨n, j, rfl⟩ : ∃ (n : Fin 16384) (j : Fin 1024), y = ix2 n j := ⟨y 0, y 1, by funext b; match b with | 0 => rfl | 1 => rfl⟩
    exact Cert.Reference2Ideal.Post.result _ _ _ _ _ _ _ _ _ n j

end Cert

end
-- ==== Proof.Gate.lean ====
/-
  The two activations over the extended reals: each in the form with one hyperbolic tangent, and in its usual form.
-/
module

public import Idealize.ShloMosaic.PureOps.Ideal

@[expose] public section

noncomputable section

namespace Row

open Idealize.ShloMosaic

/-- The value of the named constant: the product of the two float words of the activation. -/
abbrev cubic : EReal := ((80338380498831 / 2251799813685248 : ℝ) : EReal)

/-- The logistic function by the hyperbolic tangent. -/
def sigT (x : EReal) : EReal :=
  Ideal.ofBits .f32 0x3F000000#32 + Ideal.ofBits .f32 0x3F000000#32 * Ideal.tanh (Ideal.ofBits .f32 0x3F000000#32 * x)

/-- The smooth gate, its inner polynomial factored. -/
def gelT (x : EReal) : EReal :=
  x * (Ideal.ofBits .f32 0x3F000000#32 + Ideal.ofBits .f32 0x3F000000#32
    * Ideal.tanh (x * (Ideal.ofBits .f32 0x3F4C422A#32 + cubic * (x * x))))

/-- The smooth gate as it is usually written. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * ((x * x) * x)))))

theorem half : Ideal.ofBits .f32 0x3F000000#32 = ((1 / 2 : ℝ) : EReal) := by
  simp [Ideal.ofBits, Ideal.ieee, -EReal.coe_mul]; norm_num

theorem one : Ideal.ofBits .f32 0x3F800000#32 = ((1 : ℝ) : EReal) := by
  simp [Ideal.ofBits, Ideal.ieee, -EReal.coe_mul]; norm_num

theorem slope : Ideal.ofBits .f32 0x3F4C422A#32 = ((13386282 / 16777216 : ℝ) : EReal) := by
  simp [Ideal.ofBits, Ideal.ieee, -EReal.coe_mul]; norm_num

theorem bend : Ideal.ofBits .f32 0x3D372713#32 = ((12003091 / 268435456 : ℝ) : EReal) := by
  simp [Ideal.ofBits, Ideal.ieee, -EReal.coe_mul]; norm_num

theorem sigT_eq (x : EReal) : sigT x = Ideal.logistic x := by
  unfold sigT
  rw [half]
  induction x with
  | bot =>
    rw [EReal.coe_mul_bot_of_pos (by norm_num), Ideal.tanh_bot, Ideal.logistic_bot,
      show (-1 : EReal) = ((-1 : ℝ) : EReal) by simp, ← EReal.coe_mul, ← EReal.coe_add]
    norm_num
  | top =>
    rw [EReal.coe_mul_top_of_pos (by norm_num), Ideal.tanh_top, Ideal.logistic_top]
    norm_cast; norm_num
  | coe r =>
    rw [← EReal.coe_mul, Ideal.tanh_coe, Ideal.logistic_coe, ← EReal.coe_mul, ← EReal.coe_add]
    congr 1
    have e : Real.exp r = Real.exp (1 / 2 * r) * Real.exp (1 / 2 * r) := by rw [← Real.exp_add]; ring_nf
    have hp := Real.exp_pos (1 / 2 * r)
    rw [Real.tanh_eq_sinh_div_cosh, Real.sinh_eq, Real.cosh_eq, Real.exp_neg, Real.exp_neg, e]
    field_simp
    ring

theorem gelT_eq (x : EReal) : gelT x = gelu x := by
  unfold gelT gelu cubic
  rw [half, one, slope, bend]
  induction x with
  | bot =>
    rw [EReal.bot_mul_bot, EReal.coe_mul_top_of_pos (by norm_num), EReal.coe_add_top, EReal.bot_mul_top, EReal.top_mul_bot,
      EReal.coe_mul_bot_of_pos (by norm_num), EReal.add_bot, EReal.coe_mul_bot_of_pos (by norm_num), Ideal.tanh_bot,
      show (-1 : EReal) = ((-1 : ℝ) : EReal) by simp, ← EReal.coe_mul, ← EReal.coe_add, ← EReal.coe_add, ← EReal.coe_mul]
    congr 1
    norm_num
  | top =>
    rw [EReal.top_mul_top, EReal.coe_mul_top_of_pos (by norm_num), EReal.coe_add_top, EReal.top_mul_top,
      EReal.coe_mul_top_of_pos (by norm_num), EReal.top_add_top, EReal.coe_mul_top_of_pos (by norm_num), Ideal.tanh_top]
    congr 1
    norm_cast; norm_num
  | coe r =>
    simp only [← EReal.coe_mul, ← EReal.coe_add, Ideal.tanh_coe]
    congr 1
    have e : r * (13386282 / 16777216 + 80338380498831 / 2251799813685248 * (r * r))
        = 13386282 / 16777216 * (r + 12003091 / 268435456 * (r * r * r)) := by ring
    rw [e]
    ring

end Row

end
-- ==== Proof.PreRow.lean ====
/-
  The call before the attention as plain formulas: from the arguments, each entry of its five results.
-/
module

public import proofs.«01_k».proof.Proof.Row
public import proofs.«01_k».proof.Proof.Gate

@[expose] public section

noncomputable section

namespace Row

open Idealize.ShloMosaic

/-- The arguments, and the two rotation tables. -/
@[ext] structure Args where
  x : Fin 16384 → Fin 1024 → EReal
  gmix : Fin 1024 → EReal
  w : Fin 1024 → Fin 4800 → EReal
  gq : Fin 384 → EReal
  wq : Fin 384 → Fin 1536 → EReal
  gkv : Fin 256 → EReal
  wkv : Fin 256 → Fin 2048 → EReal
  gsgu : Fin 1024 → EReal
  ws : Fin 8 → Fin 128 → Fin 128 → EReal
  bs : Fin 8 → Fin 128 → EReal
  cos : Fin 16384 → Fin 32 → EReal
  sin : Fin 16384 → Fin 32 → EReal

/-- The angle of position `n` at frequency `i`. -/
def turn (n i : ℕ) : EReal :=
  FloatOps.sitofp (F := Ideal) (w := 32) .f32 (BitVec.ofNat 32 n)
    * Ideal.pow (Ideal.ofBits .f32 0x461C4000#32)
        (Ideal.div (-(Ideal.ofBits .f32 0x40000000#32 * FloatOps.sitofp (F := Ideal) (w := 32) .f32 (BitVec.ofNat 32 i))) (Ideal.ofBits .f32 0x42800000#32))

namespace Args

variable (A : Args)

/-- A token's projection. -/
def z (n : Fin 16384) : Fin 4800 → EReal := dot (rms (Ideal.ofBits .f32 0x44800000#32) (A.x n) A.gmix) A.w

/-- A token's queries, before the rotation. -/
def q (n : Fin 16384) : Fin 1536 → EReal :=
  dot (rms (Ideal.ofBits .f32 0x43C00000#32) (fun j => A.z n ⟨j.val, by omega⟩) A.gq) A.wq

/-- A token's keys and values, before the rotation. -/
def kv (n : Fin 16384) : Fin 2048 → EReal :=
  dot (rms (Ideal.ofBits .f32 0x43800000#32) (fun j => A.z n ⟨384 + j.val, by omega⟩) A.gkv) A.wkv

/-- The two halves of a rotated pair. -/
def fst (n : Fin 16384) (i : Fin 32) (a b : EReal) : EReal := a * A.cos n i - b * A.sin n i
def snd (n : Fin 16384) (i : Fin 32) (a b : EReal) : EReal := b * A.cos n i + a * A.sin n i

/-- An entry of a token's scaled query at head `h`. -/
def qt (h : Fin 8) (n : Fin 16384) (r : Fin 256) : EReal :=
  if h1 : r.val < 128 then A.q n ⟨h.val * 192 + r.val, by omega⟩ * Ideal.ofBits .f32 0x3DD53B95#32
  else if h2 : r.val < 160 then
    A.fst n ⟨r.val - 128, by omega⟩ (A.q n ⟨h.val * 192 + r.val, by omega⟩) (A.q n ⟨h.val * 192 + (r.val + 32), by omega⟩)
      * Ideal.ofBits .f32 0x3DD53B95#32
  else if h3 : r.val < 192 then
    A.snd n ⟨r.val - 160, by omega⟩ (A.q n ⟨h.val * 192 + (r.val - 32), by omega⟩) (A.q n ⟨h.val * 192 + r.val, by omega⟩)
      * Ideal.ofBits .f32 0x3DD53B95#32
  else 0

/-- An entry of the key that all heads share, rotated. -/
def kr (n : Fin 16384) (r : Fin 128) : EReal :=
  if h2 : r.val < 32 then A.fst n ⟨r.val, by omega⟩ (A.z n ⟨640 + r.val, by omega⟩) (A.z n ⟨640 + (r.val + 32), by omega⟩)
  else if h3 : r.val < 64 then
    A.snd n ⟨r.val - 32, by omega⟩ (A.z n ⟨640 + (r.val - 32), by omega⟩) (A.z n ⟨640 + r.val, by omega⟩)
  else 0

/-- An entry of a token's key at head `h`. -/
def k (h : Fin 8) (n : Fin 16384) (r : Fin 256) : EReal :=
  if h1 : r.val < 128 then A.kv n ⟨h.val * 256 + r.val, by omega⟩ else A.kr n ⟨r.val - 128, by omega⟩

/-- An entry of a token's value at head `h`, ones behind it. -/
def vt (h : Fin 8) (n : Fin 16384) (r : Fin 144) : EReal :=
  if h1 : r.val < 128 then A.kv n ⟨h.val * 256 + (128 + r.val), by omega⟩ else 1

/-- The attention's gate. -/
def sga (n : Fin 16384) (j : Fin 1024) : EReal := Ideal.logistic (A.z n ⟨2752 + j.val, by omega⟩)

/-- The normalised second half of the gated unit. -/
def vs (n : Fin 16384) : Fin 1024 → EReal :=
  rms (Ideal.ofBits .f32 0x44800000#32) (fun j => gelu (A.z n ⟨1728 + j.val, by omega⟩)) A.gsgu

/-- The gated unit's mixing of positions, within the token's chunk of 128. -/
def mixed (n : Fin 16384) (j : Fin 1024) : EReal :=
  (∑ p : Fin 128, A.ws ⟨j.val / 128, by omega⟩ ⟨n.val % 128, by omega⟩ p * A.vs ⟨n.val / 128 * 128 + p.val, by omega⟩ j)
    + A.bs ⟨j.val / 128, by omega⟩ ⟨n.val % 128, by omega⟩

/-- The gated unit's output, under its gate. -/
def gob (n : Fin 16384) (j : Fin 1024) : EReal :=
  Ideal.logistic (A.z n ⟨3776 + j.val, by omega⟩) * (gelu (A.z n ⟨704 + j.val, by omega⟩) * A.mixed n j)

end Args

end Row

end
-- ==== Proof.PreBlk.lean ====
/-
  The blocks of the call before the attention: what each value computed inside a block is, entry by entry.
-/
module

public import proofs.«01_k».proof.Defs
public import proofs.«01_k».proof.Proof.PreRow
public import proofs.«01_k».proof.Proof.Gen.Kernel3Ideal
public import proofs.«01_k».proof.Proof.Gen.Kernel3Ideal.Frame
public import Idealize.ShloMosaic.Lib.Claim
public import Idealize.ShloMosaic.Lib.Pointwise
public import Idealize.ShloMosaic.Lib.Pipeline.ValueKit.Geometry
public import Idealize.ShloMosaic.Lib.Pipeline.ValueKit.Tiles

@[expose] public section

set_option maxRecDepth 16384

noncomputable section

namespace Cert.Kernel3Ideal.Pre

open Cert.Kernel3Ideal Cert.Kernel3Ideal.Gen
open Idealize.ShloMosaic Idealize.ShloMosaic.TcCoe Idealize.ShloMosaic.Pointwise Idealize.ShloMosaic.Pipeline

/-- Row `r` of grid point `t`. -/
abbrev tok (t : Fin 32) (r : Fin 512) : Fin 16384 := ⟨t.val * 512 + r.val, by omega⟩

/-- The input blocks of grid point `t` hold the arguments' entries. -/
structure Block (A : Row.Args) (t : Fin 32) (x0 : Vec Ideal S512x1024 .f32) (x1 : Vec Ideal S1x1024 .f32) (x2 : Vec Ideal S1024x4864 .bf16)
    (x3 : Vec Ideal S1x384 .f32) (x4 : Vec Ideal S1536x384 .bf16) (x5 : Vec Ideal S1x256 .f32) (x6 : Vec Ideal S256x1024 .bf16)
    (x7 : Vec Ideal S1024x256 .bf16) (x8 : Vec Ideal S1x1024 .f32) (x9 : Vec Ideal S8x128x128 .bf16) (x10 : Vec Ideal S128x1024 .f32)
    (x11 x12 x13 : Vec Ideal S512x128 .f32) (x14 x15 : Vec Ideal S32x512 .f32) : Prop where
  e0 : ∀ (r : Fin 512) (d : Fin 1024), x0 (ix2 r d) = A.x (tok t r) d
  e1 : ∀ d : Fin 1024, x1 (ix2 0 d) = A.gmix d
  e2 : ∀ (d : Fin 1024) (j : Fin 4864) (k : Fin 4800), (k.val < 704 ∧ j.val = k.val) ∨ (704 ≤ k.val ∧ j.val = k.val + 64) → x2 (ix2 d j) = A.w d k
  e3 : ∀ d : Fin 384, x3 (ix2 0 d) = A.gq d
  e4 : ∀ (e : Fin 1536) (d : Fin 384), x4 (ix2 e d) = A.wq d e
  e5 : ∀ d : Fin 256, x5 (ix2 0 d) = A.gkv d
  e6 : ∀ (d : Fin 256) (e : Fin 1024), x6 (ix2 d e) = A.wkv d ⟨e.val / 128 * 256 + e.val % 128, by omega⟩
  e7 : ∀ (e : Fin 1024) (d : Fin 256), x7 (ix2 e d) = A.wkv d ⟨e.val / 128 * 256 + (128 + e.val % 128), by omega⟩
  e8 : ∀ d : Fin 1024, x8 (ix2 0 d) = A.gsgu d
  e9 : ∀ (g : Fin 8) (p q : Fin 128), x9 (ix3 g p q) = A.ws g p q
  e10 : ∀ (p : Fin 128) (j : Fin 1024), x10 (ix2 p j) = A.bs ⟨j.val / 128, by omega⟩ p
  e11 : ∀ (r : Fin 512) (j : Fin 128), x11 (ix2 r j) = if j.val < 64 then A.cos (tok t r) ⟨j.val % 32, by omega⟩ else 0
  e12 : ∀ (r : Fin 512) (j : Fin 128), x12 (ix2 r j) = if j.val < 32 then - A.sin (tok t r) ⟨j.val % 32, by omega⟩ else 0
  e13 : ∀ (r : Fin 512) (j : Fin 128), x13 (ix2 r j) = if 32 ≤ j.val ∧ j.val < 64 then A.sin (tok t r) ⟨j.val % 32, by omega⟩ else 0
  e14 : ∀ (i : Fin 32) (r : Fin 512), x14 (ix2 i r) = A.cos (tok t r) i
  e15 : ∀ (i : Fin 32) (r : Fin 512), x15 (ix2 i r) = A.sin (tok t r) i

abbrev Nm : EReal := Ideal.ofBits .f32 0x44800000#32

theorem pay3 (v0 : Vec Ideal S256x1024 .f32) (v2 : Vec Ideal S1x1024 .f32) (r : Fin 256) (d : Fin 1024) :
    k0_pay3 (F := Ideal) v0 v2 (ix2 r d) = Row.rms Nm (fun d => v0 (ix2 r d)) (fun d => v2 (ix2 0 d)) d := by
  pointwise [k0_pay3]
  rfl

theorem pay4 (v0 : Vec Ideal S256x1024 .f32) (v2 : Vec Ideal S1x1024 .f32) (r : Fin 256) (d : Fin 1024) :
    k0_pay4 (F := Ideal) v0 v2 (ix2 r d) = Row.rms Nm (fun d => v0 (ix2 r d)) (fun d => v2 (ix2 0 d)) d := by
  pointwise [k0_pay4]
  rfl

theorem pay10 (v : FVec Ideal S512x384 .f32) (g : Vec Ideal S1x384 .f32) (d : Fin 384) (r : Fin 512) :
    k0_pay10 (F := Ideal) v g (ix2 d r) = Row.rms (Ideal.ofBits .f32 0x43C00000#32) (fun d => v (ix2 r d)) (fun d => g (ix2 0 d)) d := by
  pointwise [k0_pay10]
  rfl

theorem pay11 (v : FVec Ideal S512x256 .f32) (g : Vec Ideal S1x256 .f32) (r : Fin 512) (d : Fin 256) :
    k0_pay11 (F := Ideal) v g (ix2 r d) = Row.rms (Ideal.ofBits .f32 0x43800000#32) (fun d => v (ix2 r d)) (fun d => g (ix2 0 d)) d := by
  pointwise [k0_pay11]
  rfl

theorem pay12 (v : FVec Ideal S512x256 .f32) (g : Vec Ideal S1x256 .f32) (d : Fin 256) (r : Fin 512) :
    k0_pay12 (F := Ideal) v g (ix2 d r) = Row.rms (Ideal.ofBits .f32 0x43800000#32) (fun d => v (ix2 r d)) (fun d => g (ix2 0 d)) d := by
  pointwise [k0_pay12, k0_pay11]
  rfl

theorem named : Named.named (F := Ideal) κ "gelu_cubic" (φ := .f32) 0x3D122279#32 = Row.cubic :=
  IdealRules.named_const.ideal_named_scalar _ _ _ _ rfl

theorem pay15 (v : FVec Ideal S512x1024 .bf16) (w : Vec Ideal S1024x1024 .bf16) (g : Vec Ideal S1x1024 .f32) (r : Fin 512) (j : Fin 1024) :
    k0_pay15 (F := Ideal) (k0_pay13 v w) (k0_pay14 g) (ix2 r j)
      = Row.rms Nm (fun j => Row.gelT (∑ d, v (ix2 r d) * w (ix2 d j))) (fun d => g (ix2 0 d)) j := by
  pointwise [k0_pay15, k0_pay13, k0_pay14, named]
  rfl

theorem pay16 (v : FVec Ideal S512x1024 .bf16) (w : Vec Ideal S1024x1024 .bf16) (r : Fin 512) (j : Fin 1024) :
    k0_pay16 (F := Ideal) v w (ix2 r j) = Row.gelT (∑ d, v (ix2 r d) * w (ix2 d j)) := by
  pointwise [k0_pay16, named]
  rfl

theorem pay17 (v : FVec Ideal S512x1024 .bf16) (w : Vec Ideal S1024x1024 .bf16) (r : Fin 512) (j : Fin 1024) :
    k0_pay17 (F := Ideal) v w (ix2 r j) = Row.sigT (∑ d, v (ix2 r d) * w (ix2 d j)) := by
  pointwise [k0_pay17]
  rfl

theorem pay9 (a b : FVec Ideal S256x1024 .bf16) (w : Vec Ideal S1024x1024 .bf16) (r : Fin 512) (j : Fin 1024) :
    k0_pay9 (F := Ideal) a b w (ix2 r j) = Row.sigT (∑ d, k0_pay8 a b (ix2 r d) * w (ix2 d j)) := by
  unfold k0_pay9
  generalize k0_pay8 a b = v
  pointwise
  rfl

section
variable {A : Row.Args} {t : Fin 32} {x0 : Vec Ideal S512x1024 .f32} {x1 : Vec Ideal S1x1024 .f32} {x2 : Vec Ideal S1024x4864 .bf16}
    {x3 : Vec Ideal S1x384 .f32} {x4 : Vec Ideal S1536x384 .bf16} {x5 : Vec Ideal S1x256 .f32} {x6 : Vec Ideal S256x1024 .bf16}
    {x7 : Vec Ideal S1024x256 .bf16} {x8 : Vec Ideal S1x1024 .f32} {x9 : Vec Ideal S8x128x128 .bf16} {x10 : Vec Ideal S128x1024 .f32}
    {x11 x12 x13 : Vec Ideal S512x128 .f32} {x14 x15 : Vec Ideal S32x512 .f32}
    (H : Block A t x0 x1 x2 x3 x4 x5 x6 x7 x8 x9 x10 x11 x12 x13 x14 x15)

/-- The two halves of the normalised rows. -/
abbrev upper (x0 : Vec Ideal S512x1024 .f32) (x1 : Vec Ideal S1x1024 .f32) : FVec Ideal S256x1024 .bf16 :=
  k0_pay3 (F := Ideal) (View.ld x0 (Rect.unit ![0, 0] ![256, 1024] inb_S512x1024_S256x1024_0_0)) x1
abbrev lower (x0 : Vec Ideal S512x1024 .f32) (x1 : Vec Ideal S1x1024 .f32) : FVec Ideal S256x1024 .bf16 :=
  k0_pay4 (F := Ideal) (View.ld x0 (Rect.unit ![256, 0] ![256, 1024] inb_S512x1024_S256x1024_256_0)) x1

include H

theorem hn (r : Fin 512) (d : Fin 1024) :
    (if h : r.val < 256 then upper x0 x1 (ix2 ⟨r.val, h⟩ d) else lower x0 x1 (ix2 ⟨r.val - 256, by omega⟩ d))
      = Row.rms Nm (A.x (tok t r)) A.gmix d := by
  have e : ∀ f : Fin 1024 → EReal, f = A.x (tok t r) → Row.rms Nm f (fun d => x1 (ix2 0 d)) d = Row.rms Nm (A.x (tok t r)) A.gmix d := by
    rintro f rfl
    simp only [H.e1]
  split
  · refine (pay3 _ _ _ _).trans ?_
    refine e _ (funext fun d => ?_)
    pointwise
    exact H.e0 r d
  · refine (pay4 _ _ _ _).trans ?_
    refine e _ (funext fun d => ?_)
    pointwise
    rw [← H.e0 r d]
    congr 2
    apply Fin.ext
    show 256 + (r.val - 256) = r.val
    omega

theorem zsum (r : Fin 512) (f g : Fin 1024 → EReal) (j : Fin 4800) (hf : ∀ d, f d = Row.rms Nm (A.x (tok t r)) A.gmix d)
    (hg : ∀ d, g d = A.w d j) : ∑ d, f d * g d = A.z (tok t r) j :=
  Finset.sum_congr rfl fun d _ => congrArg₂ (· * ·) (hf d) (hg d)

/-- A half's rows are the normalised rows. -/
theorem zhalf (r : Fin 512) (g : Fin 1024 → EReal) (j : Fin 4800) (hg : ∀ d, g d = A.w d j) :
    (if h : r.val < 256 then ∑ d, upper x0 x1 (ix2 ⟨r.val, h⟩ d) * g d else ∑ d, lower x0 x1 (ix2 ⟨r.val - 256, by omega⟩ d) * g d)
      = A.z (tok t r) j := by
  rw [← zsum H r _ g j (fun d => hn H r d) hg]
  split <;> rfl

theorem v38 (r : Fin 512) (j : Fin 384) :
    k0_pay5 (F := Ideal) (View.ld x0 (Rect.unit ![0, 0] ![256, 1024] inb_S512x1024_S256x1024_0_0)) x1
      (View.ld x0 (Rect.unit ![256, 0] ![256, 1024] inb_S512x1024_S256x1024_256_0)) x1
      (View.ld x2 (Rect.unit ![0, 0] ![1024, 384] inb_S1024x4864_S1024x384_0_0)) (ix2 r j) = A.z (tok t r) ⟨j.val, by omega⟩ := by
  pointwise [k0_pay5]
  exact zhalf H r _ _ fun d => H.e2 d _ _ (.inl ⟨by show j.val < 704; omega, rfl⟩)

theorem v43 (r : Fin 512) (j : Fin 256) :
    k0_pay6 (F := Ideal) (upper x0 x1) (lower x0 x1)
      (View.ld x2 (Rect.unit ![0, 384] ![1024, 256] inb_S1024x4864_S1024x256_0_384)) (ix2 r j) = A.z (tok t r) ⟨384 + j.val, by omega⟩ := by
  pointwise [k0_pay6]
  exact zhalf H r _ _ fun d => H.e2 d _ _ (.inl ⟨by show 384 + j.val < 704; omega, rfl⟩)

theorem v48 (r : Fin 512) (j : Fin 128) (hj : j.val < 64) :
    k0_pay7 (F := Ideal) (upper x0 x1) (lower x0 x1)
      (View.ld x2 (Rect.unit ![0, 640] ![1024, 128] inb_S1024x4864_S1024x128_0_640)) (ix2 r j) = A.z (tok t r) ⟨640 + j.val, by omega⟩ := by
  pointwise [k0_pay7]
  exact zhalf H r _ _ fun d => H.e2 d _ _ (.inl ⟨by show 640 + j.val < 704; omega, rfl⟩)

theorem v49 (r : Fin 512) (d : Fin 1024) :
    k0_pay8 (F := Ideal) (upper x0 x1) (lower x0 x1) (ix2 r d) = Row.rms Nm (A.x (tok t r)) A.gmix d := by
  rw [← hn H r d]
  pointwise [k0_pay8]

theorem v61 (r : Fin 512) (j : Fin 1024) :
    k0_pay9 (F := Ideal) (upper x0 x1) (lower x0 x1)
      (View.ld x2 (Rect.unit ![0, 2816] ![1024, 1024] inb_S1024x4864_S1024x1024_0_2816)) (ix2 r j) = A.sga (tok t r) j := by
  rw [pay9, zsum H r _ _ ⟨2752 + j.val, by omega⟩ (v49 H r), Row.sigT_eq]
  · rfl
  · intro d
    pointwise
    exact H.e2 d _ _ (.inr ⟨by show 704 ≤ 2752 + j.val; omega, by show 2816 + j.val = 2752 + j.val + 64; omega⟩)

theorem v148 (r : Fin 512) (j : Fin 1024) :
    k0_pay17 (F := Ideal) (k0_pay8 (upper x0 x1) (lower x0 x1))
      (View.ld x2 (Rect.unit ![0, 3840] ![1024, 1024] inb_S1024x4864_S1024x1024_0_3840)) (ix2 r j)
      = Ideal.logistic (A.z (tok t r) ⟨3776 + j.val, by omega⟩) := by
  rw [pay17, zsum H r _ _ ⟨3776 + j.val, by omega⟩ (v49 H r), Row.sigT_eq]
  intro d
  pointwise
  exact H.e2 d _ _ (.inr ⟨by show 704 ≤ 3776 + j.val; omega, by show 3840 + j.val = 3776 + j.val + 64; omega⟩)

theorem v138 (r : Fin 512) (j : Fin 1024) :
    k0_pay16 (F := Ideal) (k0_pay8 (upper x0 x1) (lower x0 x1))
      (View.ld x2 (Rect.unit ![0, 768] ![1024, 1024] inb_S1024x4864_S1024x1024_0_768)) (ix2 r j)
      = Row.gelu (A.z (tok t r) ⟨704 + j.val, by omega⟩) := by
  rw [pay16, zsum H r _ _ ⟨704 + j.val, by omega⟩ (v49 H r), Row.gelT_eq]
  intro d
  pointwise
  exact H.e2 d _ _ (.inr ⟨by show 704 ≤ 704 + j.val; omega, by show 768 + j.val = 704 + j.val + 64; omega⟩)

theorem v123 (r : Fin 512) (j : Fin 1024) :
    k0_pay15 (F := Ideal) (k0_pay13 (k0_pay8 (upper x0 x1) (lower x0 x1))
      (View.ld x2 (Rect.unit ![0, 1792] ![1024, 1024] inb_S1024x4864_S1024x1024_0_1792))) (k0_pay14 x8) (ix2 r j)
      = A.vs (tok t r) j := by
  rw [pay15]
  have e : ∀ j : Fin 1024, (∑ d, k0_pay8 (F := Ideal) (upper x0 x1) (lower x0 x1) (ix2 r d)
      * (View.ld x2 (Rect.unit ![0, 1792] ![1024, 1024] inb_S1024x4864_S1024x1024_0_1792)) (ix2 d j))
      = A.z (tok t r) ⟨1728 + j.val, by omega⟩ := by
    intro j
    refine zsum H r _ _ ⟨1728 + j.val, by omega⟩ (v49 H r) fun d => ?_
    pointwise
    exact H.e2 d _ _ (.inr ⟨by show 704 ≤ 1728 + j.val; omega, by show 1792 + j.val = 1728 + j.val + 64; omega⟩)
  have e' : ∀ j : Fin 1024, Row.gelT (∑ d, k0_pay8 (F := Ideal) (upper x0 x1) (lower x0 x1) (ix2 r d)
      * (View.ld x2 (Rect.unit ![0, 1792] ![1024, 1024] inb_S1024x4864_S1024x1024_0_1792)) (ix2 d j))
      = Row.gelu (A.z (tok t r) ⟨1728 + j.val, by omega⟩) := fun j => by rw [e, Row.gelT_eq]
  unfold Row.Args.vs
  rw [← funext e', ← funext H.e8]

theorem v535 (v38 : FVec Ideal S512x384 .f32) (h38 : ∀ (r : Fin 512) (j : Fin 384), v38 (ix2 r j) = A.z (tok t r) ⟨j.val, by omega⟩)
    (e : Fin 1536) (r : Fin 512) : k0_pay69 (F := Ideal) (k0_pay10 v38 x3) x4 (ix2 e r) = A.q (tok t r) e := by
  unfold k0_pay69
  generalize hv : k0_pay10 (F := Ideal) v38 x3 = v
  pointwise
  unfold Row.Args.q Row.dot
  refine Finset.sum_congr rfl fun d _ => ?_
  rw [H.e4, mul_comm, ← hv, pay10]
  simp only [h38, H.e3]

theorem v791 (v43 : FVec Ideal S512x256 .f32) (h43 : ∀ (r : Fin 512) (j : Fin 256), v43 (ix2 r j) = A.z (tok t r) ⟨384 + j.val, by omega⟩)
    (r : Fin 512) (e : Fin 1024) :
    k0_pay126 (F := Ideal) (k0_pay11 v43 x5) x6 (ix2 r e) = A.kv (tok t r) ⟨e.val / 128 * 256 + e.val % 128, by omega⟩ := by
  unfold k0_pay126
  generalize hv : k0_pay11 (F := Ideal) v43 x5 = v
  pointwise
  unfold Row.Args.kv Row.dot
  refine Finset.sum_congr rfl fun d _ => ?_
  rw [H.e6, ← hv, pay11]
  simp only [h43, H.e5]

theorem v794 (v43 : FVec Ideal S512x256 .f32) (h43 : ∀ (r : Fin 512) (j : Fin 256), v43 (ix2 r j) = A.z (tok t r) ⟨384 + j.val, by omega⟩)
    (e : Fin 1024) (r : Fin 512) :
    k0_pay127 (F := Ideal) (k0_pay12 v43 x5) x7 (ix2 e r) = A.kv (tok t r) ⟨e.val / 128 * 256 + (128 + e.val % 128), by omega⟩ := by
  unfold k0_pay127
  generalize hv : k0_pay12 (F := Ideal) v43 x5 = v
  pointwise
  unfold Row.Args.kv Row.dot
  refine Finset.sum_congr rfl fun d _ => ?_
  rw [H.e7, mul_comm, ← hv, pay12]
  simp only [h43, H.e5]

theorem v808 (v48 : FVec Ideal S512x128 .f32) (h48 : ∀ (r : Fin 512) (j : Fin 128) (hj : j.val < 64), v48 (ix2 r j) = A.z (tok t r) ⟨640 + j.val, by omega⟩)
    (r : Fin 512) (j : Fin 128) : k0_pay128 (F := Ideal) v48 x11 x12 x13 (ix2 r j) = A.kr (tok t r) j := by
  pointwise [k0_pay128]
  rw [H.e11, H.e12, H.e13]
  unfold Row.Args.kr
  by_cases h1 : j.val < 32
  · have m1 : (j.val + 128 - 96) % 128 = j.val + 32 := by omega
    rw [if_pos (by omega), if_pos h1, if_neg (by omega), dif_pos h1, mul_zero, add_zero, h48 r j (by omega),
      show (⟨(j.val + 128 - 96) % 128, _⟩ : Fin 128) = ⟨j.val + 32, by omega⟩ from Fin.ext m1, h48 r _ (by show j.val + 32 < 64; omega)]
    unfold Row.Args.fst
    rw [mul_neg, ← sub_eq_add_neg]
    have m2 : (⟨j.val % 32, by omega⟩ : Fin 32) = ⟨j.val, h1⟩ := Fin.ext (by show j.val % 32 = j.val; omega)
    rw [m2]
  · by_cases h2 : j.val < 64
    · have m1 : (j.val + 128 - 32) % 128 = j.val - 32 := by omega
      rw [if_pos h2, if_neg h1, if_pos ⟨by omega, h2⟩, dif_neg h1, dif_pos h2, mul_zero, add_zero, h48 r j h2,
        show (⟨(j.val + 128 - 32) % 128, _⟩ : Fin 128) = ⟨j.val - 32, by omega⟩ from Fin.ext m1, h48 r _ (by show j.val - 32 < 64; omega)]
      have m2 : (⟨j.val % 32, by omega⟩ : Fin 32) = ⟨j.val - 32, by omega⟩ := Fin.ext (by show j.val % 32 = j.val - 32; omega)
      rw [m2]
      rfl
    · rw [if_neg h2, if_neg h1, if_neg (by omega), dif_neg h1, dif_neg h2]
      simp

end

end Cert.Kernel3Ideal.Pre

end
-- ==== Proof.PreArr.lean ====
/-
  The call before the attention: the arrays that it leaves, from the launched arguments.
-/
module

public import proofs.«01_k».proof.Defs
public import proofs.«01_k».proof.Proof.PreRow
public import proofs.«01_k».proof.Proof.PreBlk
public import proofs.«01_k».proof.Proof.Gen.Kernel3Ideal
public import proofs.«01_k».proof.Proof.Gen.Kernel3Ideal.Frame
public import proofs.«01_k».proof.Proof.Gen.Kernel3Ideal.Value
public import Idealize.ShloMosaic.Lib.Claim
public import Idealize.ShloMosaic.Lib.Pointwise
public import Idealize.ShloMosaic.Lib.Pipeline.ValueKit.Geometry

@[expose] public section

set_option maxRecDepth 16384

noncomputable section

namespace Cert.Kernel3Ideal.Pre

open Cert.Kernel3Ideal Cert.Kernel3Ideal.Gen
open Idealize.ShloMosaic Idealize.ShloMosaic.TcCoe Idealize.ShloMosaic.Pointwise Idealize.ShloMosaic.Pipeline

variable (m : (ℓ : Loc nD τ sig) → Buf (Elt Ideal) ℓ) (c : Dev nD)

/-- The arguments as launched. -/
abbrev aX : S1x16384x1024.Idx → EReal := m ((c : Thread nD τ).loc main_arg0)
abbrev aGmix : S1024.Idx → EReal := m ((c : Thread nD τ).loc main_arg1)
abbrev aW : S1024x4800.Idx → EReal := m ((c : Thread nD τ).loc main_arg2)
abbrev aGq : S384.Idx → EReal := m ((c : Thread nD τ).loc main_arg3)
abbrev aWq : S384x1536.Idx → EReal := m ((c : Thread nD τ).loc main_arg4)
abbrev aGkv : S256.Idx → EReal := m ((c : Thread nD τ).loc main_arg5)
abbrev aWkv : S256x2048.Idx → EReal := m ((c : Thread nD τ).loc main_arg6)
abbrev aGsgu : S1024.Idx → EReal := m ((c : Thread nD τ).loc main_arg7)
abbrev aWs : S8x128x128.Idx → EReal := m ((c : Thread nD τ).loc main_arg8)
abbrev aBs : S8x128.Idx → EReal := m ((c : Thread nD τ).loc main_arg9)

/-- The arguments as plain functions, and the rotation tables. -/
def args : Row.Args where
  x n d := aX m c (ix3 0 n d)
  gmix d := aGmix m c (ix1 d)
  w d e := aW m c (ix2 d e)
  gq d := aGq m c (ix1 d)
  wq d e := aWq m c (ix2 d e)
  gkv d := aGkv m c (ix1 d)
  wkv d e := aWkv m c (ix2 d e)
  gsgu d := aGsgu m c (ix1 d)
  ws g p q := aWs m c (ix3 g p q)
  bs g p := aBs m c (ix2 g p)
  cos n i := Ideal.cos (Row.turn n.val i.val)
  sin n i := Ideal.sin (Row.turn n.val i.val)

theorem V23 (n : Fin 16384) (d : Fin 1024) : V m c main_v23 (ix2 n d) = (args m c).x n d := by
  show StableHlo.after hostOps0 _ _ _ = _
  after_results_simp
  pointwise
  rfl

theorem V18 (d : Fin 1024) : V m c main_v18 (ix2 0 d) = (args m c).gmix d := by
  show StableHlo.after hostOps0 _ _ _ = _
  after_results_simp
  pointwise
  rfl

theorem V19 (d : Fin 384) : V m c main_v19 (ix2 0 d) = (args m c).gq d := by
  show StableHlo.after hostOps0 _ _ _ = _
  after_results_simp
  pointwise
  rfl

theorem V6 (e : Fin 1536) (d : Fin 384) : V m c main_v6 (ix2 e d) = (args m c).wq d e := by
  show StableHlo.after hostOps0 _ _ _ = _
  after_results_simp
  pointwise
  rfl

theorem V20 (d : Fin 256) : V m c main_v20 (ix2 0 d) = (args m c).gkv d := by
  show StableHlo.after hostOps0 _ _ _ = _
  after_results_simp
  pointwise
  rfl

theorem V10 (d : Fin 256) (e : Fin 1024) : V m c main_v10 (ix2 d e) = (args m c).wkv d ⟨e.val / 128 * 256 + e.val % 128, by omega⟩ := by
  show StableHlo.after hostOps0 _ _ _ = _
  after_results_simp
  pointwise
  rfl

theorem V14 (e : Fin 1024) (d : Fin 256) : V m c main_v14 (ix2 e d) = (args m c).wkv d ⟨e.val / 128 * 256 + (128 + e.val % 128), by omega⟩ := by
  show StableHlo.after hostOps0 _ _ _ = _
  after_results_simp
  pointwise
  rfl

theorem V21 (d : Fin 1024) : V m c main_v21 (ix2 0 d) = (args m c).gsgu d := by
  show StableHlo.after hostOps0 _ _ _ = _
  after_results_simp
  pointwise
  rfl

theorem V22 (g : Fin 8) (p q : Fin 128) : V m c main_v22 (ix3 g p q) = (args m c).ws g p q := by
  show StableHlo.after hostOps0 _ _ _ = _
  after_results_simp
  pointwise
  rfl

theorem V17 (p : Fin 128) (j : Fin 1024) : V m c main_v17 (ix2 p j) = (args m c).bs ⟨j.val / 128, by omega⟩ p := by
  show StableHlo.after hostOps0 _ _ _ = _
  after_results_simp
  pointwise
  rfl

theorem V48 (i : Fin 32) (n : Fin 16384) : V m c main_v48 (ix2 i n) = (args m c).cos n i := by
  show StableHlo.after hostOps0 _ _ _ = _
  after_results_simp
  pointwise
  rfl

theorem V49 (i : Fin 32) (n : Fin 16384) : V m c main_v49 (ix2 i n) = (args m c).sin n i := by
  show StableHlo.after hostOps0 _ _ _ = _
  after_results_simp
  pointwise
  rfl

theorem V4 (d : Fin 1024) (j : Fin 4864) (k : Fin 4800) (h : (k.val < 704 ∧ j.val = k.val) ∨ (704 ≤ k.val ∧ j.val = k.val + 64)) :
    V m c main_v4 (ix2 d j) = (args m c).w d k := by
  show StableHlo.after hostOps0 _ _ _ = _
  after_results_simp
  pointwise
  after_results_simp
  pointwise
  have e : ∀ i : Fin 4800, i.val = k.val → aW m c (ix2 d i) = (args m c).w d k := by
    intro i hi
    rw [Fin.ext hi]
    rfl
  split_ifs <;> first | omega | (refine e _ ?_; dsimp only; omega)

theorem V44 (n : Fin 16384) (j : Fin 128) :
    V m c main_v44 (ix2 n j) = if j.val < 64 then (args m c).cos n ⟨j.val % 32, by omega⟩ else 0 := by
  show StableHlo.after hostOps0 _ _ _ = _
  after_results_simp
  pointwise
  after_results_simp
  pointwise
  have e1 : ∀ h : j.val < 32, j.val % 32 = j.val := fun h => by omega
  have e2 : ∀ h : j.val - 32 < 32, ¬ j.val < 32 → j.val % 32 = j.val - 32 := fun h _ => by omega
  split_ifs <;> first | omega | rfl | (unfold args; dsimp only; first | rw [e1 (by assumption)]; rfl | rw [e2 (by assumption) (by assumption)]; rfl)

theorem V46 (n : Fin 16384) (j : Fin 128) :
    V m c main_v46 (ix2 n j) = if j.val < 32 then - (args m c).sin n ⟨j.val % 32, by omega⟩ else 0 := by
  show StableHlo.after hostOps0 _ _ _ = _
  after_results_simp
  pointwise
  after_results_simp
  pointwise
  have e1 : ∀ h : j.val < 32, j.val % 32 = j.val := fun h => by omega
  have e2 : ∀ h : j.val - 32 < 32, ¬ j.val < 32 → j.val % 32 = j.val - 32 := fun h _ => by omega
  split_ifs <;> first | omega | rfl | (unfold args; dsimp only; first | rw [e1 (by assumption)]; rfl | rw [e2 (by assumption) (by assumption)]; rfl)

theorem V47 (n : Fin 16384) (j : Fin 128) :
    V m c main_v47 (ix2 n j) = if 32 ≤ j.val ∧ j.val < 64 then (args m c).sin n ⟨j.val % 32, by omega⟩ else 0 := by
  show StableHlo.after hostOps0 _ _ _ = _
  after_results_simp
  pointwise
  after_results_simp
  pointwise
  have e1 : ∀ h : j.val < 32, j.val % 32 = j.val := fun h => by omega
  have e2 : ∀ h : j.val - 32 < 32, ¬ j.val < 32 → j.val % 32 = j.val - 32 := fun h _ => by omega
  split_ifs <;> first | omega | rfl | (unfold args; dsimp only; first | rw [e1 (by assumption)]; rfl | rw [e2 (by assumption) (by assumption)]; rfl)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![t.val, 0] := (by decide +kernel : ∀ t : Fin grid0.N, _)
theorem index12 : ∀ t : Fin cfg0.N, win0_12.index t = ![t.val, 0] := (by decide +kernel : ∀ t : Fin grid0.N, _)
theorem index13 : ∀ t : Fin cfg0.N, win0_13.index t = ![t.val, 0] := (by decide +kernel : ∀ t : Fin grid0.N, _)
theorem index14 : ∀ t : Fin cfg0.N, win0_14.index t = ![0, t.val] := (by decide +kernel : ∀ t : Fin grid0.N, _)
theorem index15 : ∀ t : Fin cfg0.N, win0_15.index t = ![0, t.val] := (by decide +kernel : ∀ t : Fin grid0.N, _)
theorem index16 : ∀ t : Fin cfg0.N, win0_16.index t = ![0, t.val, 0, 0] := (by decide +kernel : ∀ t : Fin grid0.N, _)
theorem index17 : ∀ t : Fin cfg0.N, win0_17.index t = ![0, t.val, 0] := (by decide +kernel : ∀ t : Fin grid0.N, _)
theorem index18 : ∀ t : Fin cfg0.N, win0_18.index t = ![0, t.val, 0, 0] := (by decide +kernel : ∀ t : Fin grid0.N, _)
theorem index19 : ∀ t : Fin cfg0.N, win0_19.index t = ![t.val, 0] := (by decide +kernel : ∀ t : Fin grid0.N, _)
theorem index20 : ∀ t : Fin cfg0.N, win0_20.index t = ![t.val, 0] := (by decide +kernel : ∀ t : Fin grid0.N, _)

/-- A point of the grid, as a number below 32. -/
abbrev pt (t : Fin cfg0.N) : Fin 32 := ⟨t.val, t.isLt⟩

variable (t : Fin cfg0.N)

theorem blk0 (r : Fin 512) (d : Fin 1024) : iblk m c 0 t (ix2 r d) = (args m c).x (tok (pt t) r) d := by
  rw [← V23]
  blk_simp [iblk]
  refine congrArg (V m c main_v23) ?_
  blk_ext [index0]

theorem blk1 (d : Fin 1024) : iblk m c 1 t (ix2 0 d) = (args m c).gmix d := by
  rw [← V18]
  blk_simp [iblk]
  refine congrArg (V m c main_v18) ?_
  blk_ext [index1]

theorem blk3 (d : Fin 384) : iblk m c 3 t (ix2 0 d) = (args m c).gq d := by
  rw [← V19]
  blk_simp [iblk]
  refine congrArg (V m c main_v19) ?_
  blk_ext [index3]

theorem blk4 (e : Fin 1536) (d : Fin 384) : iblk m c 4 t (ix2 e d) = (args m c).wq d e := by
  rw [← V6]
  blk_simp [iblk]
  refine congrArg (V m c main_v6) ?_
  blk_ext [index4]

theorem blk5 (d : Fin 256) : iblk m c 5 t (ix2 0 d) = (args m c).gkv d := by
  rw [← V20]
  blk_simp [iblk]
  refine congrArg (V m c main_v20) ?_
  blk_ext [index5]

theorem blk6 (d : Fin 256) (e : Fin 1024) : iblk m c 6 t (ix2 d e) = (args m c).wkv d ⟨e.val / 128 * 256 + e.val % 128, by omega⟩ := by
  rw [← V10]
  blk_simp [iblk]
  refine congrArg (V m c main_v10) ?_
  blk_ext [index6]

theorem blk7 (e : Fin 1024) (d : Fin 256) : iblk m c 7 t (ix2 e d) = (args m c).wkv d ⟨e.val / 128 * 256 + (128 + e.val % 128), by omega⟩ := by
  rw [← V14]
  blk_simp [iblk]
  refine congrArg (V m c main_v14) ?_
  blk_ext [index7]

theorem blk8 (d : Fin 1024) : iblk m c 8 t (ix2 0 d) = (args m c).gsgu d := by
  rw [← V21]
  blk_simp [iblk]
  refine congrArg (V m c main_v21) ?_
  blk_ext [index8]

theorem blk9 (g : Fin 8) (p q : Fin 128) : iblk m c 9 t (ix3 g p q) = (args m c).ws g p q := by
  rw [← V22]
  blk_simp [iblk]
  refine congrArg (V m c main_v22) ?_
  blk_ext [index9]

theorem blk10 (p : Fin 128) (j : Fin 1024) : iblk m c 10 t (ix2 p j) = (args m c).bs ⟨j.val / 128, by omega⟩ p := by
  rw [← V17]
  blk_simp [iblk]
  refine congrArg (V m c main_v17) ?_
  blk_ext [index10]

theorem blk11 (r : Fin 512) (j : Fin 128) : iblk m c 11 t (ix2 r j) = if j.val < 64 then (args m c).cos (tok (pt t) r) ⟨j.val % 32, by omega⟩ else 0 := by
  rw [← V44]
  blk_simp [iblk]
  refine congrArg (V m c main_v44) ?_
  blk_ext [index11]

theorem blk12 (r : Fin 512) (j : Fin 128) : iblk m c 12 t (ix2 r j) = if j.val < 32 then - (args m c).sin (tok (pt t) r) ⟨j.val % 32, by omega⟩ else 0 := by
  rw [← V46]
  blk_simp [iblk]
  refine congrArg (V m c main_v46) ?_
  blk_ext [index12]

theorem blk13 (r : Fin 512) (j : Fin 128) : iblk m c 13 t (ix2 r j) = if 32 ≤ j.val ∧ j.val < 64 then (args m c).sin (tok (pt t) r) ⟨j.val % 32, by omega⟩ else 0 := by
  rw [← V47]
  blk_simp [iblk]
  refine congrArg (V m c main_v47) ?_
  blk_ext [index13]

theorem blk14 (i : Fin 32) (r : Fin 512) : iblk m c 14 t (ix2 i r) = (args m c).cos (tok (pt t) r) i := by
  rw [← V48]
  blk_simp [iblk]
  refine congrArg (V m c main_v48) ?_
  blk_ext [index14]

theorem blk15 (i : Fin 32) (r : Fin 512) : iblk m c 15 t (ix2 i r) = (args m c).sin (tok (pt t) r) i := by
  rw [← V49]
  blk_simp [iblk]
  refine congrArg (V m c main_v49) ?_
  blk_ext [index15]

theorem blk2 (d : Fin 1024) (j : Fin 4864) (k : Fin 4800) (h : (k.val < 704 ∧ j.val = k.val) ∨ (704 ≤ k.val ∧ j.val = k.val + 64)) :
    iblk m c 2 t (ix2 d j) = (args m c).w d k := by
  rw [← V4 m c d j k h]
  blk_simp [iblk]
  refine congrArg (V m c main_v4) ?_
  blk_ext [index2]

/-- The input blocks of a grid point hold the arguments' entries. -/
theorem block : Block (args m c) (pt t) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t) (iblk m c 15 t) :=
  ⟨blk0 m c t, blk1 m c t, blk2 m c t, blk3 m c t, blk4 m c t, blk5 m c t, blk6 m c t, blk7 m c t, blk8 m c t, blk9 m c t, blk10 m c t, blk11 m c t,
    blk12 m c t, blk13 m c t, blk14 m c t, blk15 m c t⟩

end Cert.Kernel3Ideal.Pre

end
-- ==== Proof.PreLeft.lean ====
/-
  The call before the attention: what its body leaves in the five output blocks, from any sixteen input blocks.
-/
module

public import proofs.«01_k».proof.Defs
public import proofs.«01_k».proof.Proof.PreBlk
public import proofs.«01_k».proof.Proof.Gen.Kernel3Ideal
public import proofs.«01_k».proof.Proof.Gen.Kernel3Ideal.Frame
public import Idealize.ShloMosaic.Lib.Claim
public import Idealize.ShloMosaic.Lib.Pointwise
public import Idealize.ShloMosaic.Lib.Pipeline.ValueKit.Geometry
public import Idealize.ShloMosaic.Lib.Pipeline.ValueKit.Tiles

@[expose] public section

set_option maxRecDepth 16384

noncomputable section

namespace Cert.Kernel3Ideal.Pre

open Cert.Kernel3Ideal Cert.Kernel3Ideal.Gen
open Idealize.ShloMosaic Idealize.ShloMosaic.TcCoe Idealize.ShloMosaic.Pointwise Idealize.ShloMosaic.Pipeline

/-- The five output blocks that the body leaves at a grid point, from any input blocks. -/
def left (c : Dev nD) (t : Fin cfg0.N) (x0 : Vec Ideal S512x1024 .f32) (x1 : Vec Ideal S1x1024 .f32) (x2 : Vec Ideal S1024x4864 .bf16)
    (x3 : Vec Ideal S1x384 .f32) (x4 : Vec Ideal S1536x384 .bf16) (x5 : Vec Ideal S1x256 .f32) (x6 : Vec Ideal S256x1024 .bf16)
    (x7 : Vec Ideal S1024x256 .bf16) (x8 : Vec Ideal S1x1024 .f32) (x9 : Vec Ideal S8x128x128 .bf16) (x10 : Vec Ideal S128x1024 .f32)
    (x11 x12 x13 : Vec Ideal S512x128 .f32) (x14 x15 : Vec Ideal S32x512 .f32) :
    Vec Ideal S8x1x256x512 .bf16 × Vec Ideal S8x512x256 .bf16 × Vec Ideal S8x1x144x512 .bf16 × Vec Ideal S512x1024 .bf16 × Vec Ideal S512x1024 .bf16 :=
  (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      (ms0_13 t) (hs0_13 t) (ms0_14 t) (hs0_14 t) (ms0_15 t) (hs0_15 t) (ms0_16 t) (hs0_16 t) (ms0_17 t) (hs0_17 t) (ms0_18 t) (hs0_18 t) (ms0_19 t)
      (hs0_19 t) (ms0_20 t) (hs0_20 t) x0 x1 x2 x3 x4 x5 x6 x7 x8 x9 x10 x11 x12 x13 x14 x15,
  out0_A_17 c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      (ms0_13 t) (hs0_13 t) (ms0_14 t) (hs0_14 t) (ms0_15 t) (hs0_15 t) (ms0_16 t) (hs0_16 t) (ms0_17 t) (hs0_17 t) (ms0_18 t) (hs0_18 t) (ms0_19 t)
      (hs0_19 t) (ms0_20 t) (hs0_20 t) x0 x1 x2 x3 x4 x5 x6 x7 x8 x9 x10 x11 x12 x13 x14 x15,
  out0_A_18 c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      (ms0_13 t) (hs0_13 t) (ms0_14 t) (hs0_14 t) (ms0_15 t) (hs0_15 t) (ms0_16 t) (hs0_16 t) (ms0_17 t) (hs0_17 t) (ms0_18 t) (hs0_18 t) (ms0_19 t)
      (hs0_19 t) (ms0_20 t) (hs0_20 t) x0 x1 x2 x3 x4 x5 x6 x7 x8 x9 x10 x11 x12 x13 x14 x15,
  out0_A_19 c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      (ms0_13 t) (hs0_13 t) (ms0_14 t) (hs0_14 t) (ms0_15 t) (hs0_15 t) (ms0_16 t) (hs0_16 t) (ms0_17 t) (hs0_17 t) (ms0_18 t) (hs0_18 t) (ms0_19 t)
      (hs0_19 t) (ms0_20 t) (hs0_20 t) x0 x1 x2 x3 x4 x5 x6 x7 x8 x9 x10 x11 x12 x13 x14 x15,
  out0_A_20 c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      (ms0_13 t) (hs0_13 t) (ms0_14 t) (hs0_14 t) (ms0_15 t) (hs0_15 t) (ms0_16 t) (hs0_16 t) (ms0_17 t) (hs0_17 t) (ms0_18 t) (hs0_18 t) (ms0_19 t)
      (hs0_19 t) (ms0_20 t) (hs0_20 t) x0 x1 x2 x3 x4 x5 x6 x7 x8 x9 x10 x11 x12 x13 x14 x15)

theorem outsAt0_eq (m : (ℓ : Loc nD τ sig) → Buf (Elt Ideal) ℓ) (c : Dev nD) (t : Fin cfg0.N) :
    outsAt0 m c t = left c t (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (iblk m c 14 t) (iblk m c 15 t) :=
  rfl

end Cert.Kernel3Ideal.Pre

end
-- ==== Proof.PreOut.lean ====
/-
  The results of the call before the attention, block by block.
-/
module

public import proofs.«01_k».proof.Defs
public import proofs.«01_k».proof.Proof.PreLeft
public import proofs.«01_k».proof.Proof.Gen.Kernel3Ideal
public import proofs.«01_k».proof.Proof.Gen.Kernel3Ideal.Frame
public import Idealize.ShloMosaic.Lib.Claim
public import Idealize.ShloMosaic.Lib.Pointwise
public import Idealize.ShloMosaic.Lib.Pipeline.ValueKit.Geometry
public import Idealize.ShloMosaic.Lib.Pipeline.ValueKit.Tiles

@[expose] public section

set_option maxRecDepth 16384

noncomputable section

namespace Cert.Kernel3Ideal.Pre

open Cert.Kernel3Ideal Cert.Kernel3Ideal.Gen
open Idealize.ShloMosaic Idealize.ShloMosaic.TcCoe Idealize.ShloMosaic.Pointwise Idealize.ShloMosaic.Pipeline

variable {A : Row.Args} {s : Fin 32}

theorem k_lo {K : FVec Ideal S512x1024 .f32}
    (e : ∀ (r : Fin 512) (e : Fin 1024), K (ix2 r e) = A.kv (tok s r) ⟨e.val / 128 * 256 + e.val % 128, by omega⟩)
    (h : Fin 8) (n : Fin 512) (r : Fin 256) (p : Fin 512) (j : Fin 1024) (hp : n.val = p.val) (hr : r.val < 128) (hj : j.val = h.val * 128 + r.val) :
    K (ix2 p j) = A.k h (tok s n) r := by
  obtain rfl := Fin.ext hp
  rw [e]
  unfold Row.Args.k
  rw [dif_pos hr]
  congr 2
  omega

theorem k_hi {K : FVec Ideal S512x128 .bf16} (e : ∀ (r : Fin 512) (j : Fin 128), K (ix2 r j) = A.kr (tok s r) j)
    (h : Fin 8) (n : Fin 512) (r : Fin 256) (p : Fin 512) (j : Fin 128) (hp : n.val = p.val) (hr : r.val = 128 + j.val) :
    K (ix2 p j) = A.k h (tok s n) r := by
  obtain rfl := Fin.ext hp
  rw [e]
  unfold Row.Args.k
  rw [dif_neg (by omega)]
  congr 1
  apply Fin.ext
  show j.val = r.val - 128
  omega

theorem vt_lo {K : FVec Ideal S1024x512 .f32}
    (e : ∀ (e : Fin 1024) (r : Fin 512), K (ix2 e r) = A.kv (tok s r) ⟨e.val / 128 * 256 + (128 + e.val % 128), by omega⟩)
    (h : Fin 8) (n : Fin 512) (r : Fin 144) (p : Fin 512) (j : Fin 1024) (hp : n.val = p.val) (hr : r.val < 128) (hj : j.val = h.val * 128 + r.val) :
    K (ix2 j p) = A.vt h (tok s n) r := by
  obtain rfl := Fin.ext hp
  rw [e]
  unfold Row.Args.vt
  rw [dif_pos hr]
  congr 2
  omega

theorem vt_hi (h : Fin 8) (n : Fin 16384) (r : Fin 144) (hr : 128 ≤ r.val) : (1 : EReal) = A.vt h n r := by
  unfold Row.Args.vt
  rw [dif_neg (by omega)]

variable {c : Dev nD} {t : Fin cfg0.N} {x0 : Vec Ideal S512x1024 .f32} {x1 : Vec Ideal S1x1024 .f32} {x2 : Vec Ideal S1024x4864 .bf16} {x3 : Vec Ideal S1x384 .f32}
  {x4 : Vec Ideal S1536x384 .bf16} {x5 : Vec Ideal S1x256 .f32} {x6 : Vec Ideal S256x1024 .bf16} {x7 : Vec Ideal S1024x256 .bf16}
  {x8 : Vec Ideal S1x1024 .f32} {x9 : Vec Ideal S8x128x128 .bf16} {x10 : Vec Ideal S128x1024 .f32} {x11 x12 x13 : Vec Ideal S512x128 .f32}
  {x14 x15 : Vec Ideal S32x512 .f32} (H : Block A s x0 x1 x2 x3 x4 x5 x6 x7 x8 x9 x10 x11 x12 x13 x14 x15)

include H

theorem out19 (y : S512x1024.Idx) : (left c t x0 x1 x2 x3 x4 x5 x6 x7 x8 x9 x10 x11 x12 x13 x14 x15).2.2.2.1 y = A.sga (tok s (y 0)) (y 1) := by
  obtain ⟨r, j, rfl⟩ : ∃ (r : Fin 512) (j : Fin 1024), y = ix2 r j := ⟨y 0, y 1, by funext b; match b with | 0 => rfl | 1 => rfl⟩
  unfold left
  dsimp only
  frame_out
  exact v61 H r j

theorem out17 (y : S8x512x256.Idx) : (left c t x0 x1 x2 x3 x4 x5 x6 x7 x8 x9 x10 x11 x12 x13 x14 x15).2.1 y = A.k (y 0) (tok s (y 1)) (y 2) := by
  unfold left
  dsimp only
  frame_out
  have e1 := v791 H _ (v43 H)
  have e2 := v808 H _ (v48 H)
  generalize k0_pay126 (F := Ideal) _ _ = K at e1 ⊢
  generalize k0_pay7 (F := Ideal) _ _ _ = R at e2 ⊢
  canon_tiles x h
  all_goals
    pointwise [k0_pay129, k0_pay130, k0_pay131, k0_pay132, k0_pay133, k0_pay134, k0_pay135, k0_pay136, k0_pay137, k0_pay138, k0_pay139,
      k0_pay140, k0_pay141, k0_pay142, k0_pay143, k0_pay144, k0_pay145, k0_pay146, k0_pay147, k0_pay148, k0_pay149, k0_pay150,
      k0_pay151, k0_pay152, k0_pay153, k0_pay154, k0_pay155, k0_pay156, k0_pay157, k0_pay158, k0_pay159, k0_pay160]
    first
    | refine k_lo e1 _ _ _ _ _ ?_ ?_ ?_ <;> (try dsimp only) <;> omega
    | refine k_hi e2 _ _ _ _ _ ?_ ?_ <;> (try dsimp only) <;> omega

set_option maxHeartbeats 4000000 in
theorem out18 (y : S8x1x144x512.Idx) : (left c t x0 x1 x2 x3 x4 x5 x6 x7 x8 x9 x10 x11 x12 x13 x14 x15).2.2.1 y = A.vt (y 0) (tok s (y 3)) (y 2) := by
  unfold left
  dsimp only
  frame_out
  have e1 := v794 H _ (v43 H)
  generalize k0_pay6 (F := Ideal) _ _ _ = R at e1 ⊢
  canon_tiles x h using View.cover_of_tiledBy _ ![1, 1, 16, 512] (by sl_kernel_rfl) y
  all_goals
    pointwise [k0_pay129, k0_pay130, k0_pay131, k0_pay132, k0_pay133, k0_pay134, k0_pay135, k0_pay136, k0_pay137, k0_pay138, k0_pay139,
      k0_pay140, k0_pay141, k0_pay142, k0_pay143, k0_pay144, k0_pay145, k0_pay146, k0_pay147, k0_pay148, k0_pay149, k0_pay150,
      k0_pay151, k0_pay152, k0_pay153, k0_pay154, k0_pay155, k0_pay156, k0_pay157, k0_pay158, k0_pay159, k0_pay160, k0_pay1, k0_pay2]
    first
    | refine vt_lo e1 _ _ _ _ _ ?_ ?_ ?_ <;> (try dsimp only) <;> omega
    | refine vt_hi _ _ _ ?_; omega

end Cert.Kernel3Ideal.Pre

end
-- ==== Proof.PreQ.lean ====
/-
  The queries of the call before the attention, block by block.
-/
module

public import proofs.«01_k».proof.Defs
public import proofs.«01_k».proof.Proof.PreLeft
public import proofs.«01_k».proof.Proof.Gen.Kernel3Ideal
public import proofs.«01_k».proof.Proof.Gen.Kernel3Ideal.Frame
public import Idealize.ShloMosaic.Lib.Claim
public import Idealize.ShloMosaic.Lib.Pointwise
public import Idealize.ShloMosaic.Lib.Pipeline.ValueKit.Geometry
public import Idealize.ShloMosaic.Lib.Pipeline.ValueKit.Tiles

@[expose] public section

set_option maxRecDepth 16384

noncomputable section

namespace Cert.Kernel3Ideal.Pre

open Cert.Kernel3Ideal Cert.Kernel3Ideal.Gen
open Idealize.ShloMosaic Idealize.ShloMosaic.TcCoe Idealize.ShloMosaic.Pointwise Idealize.ShloMosaic.Pipeline

variable {A : Row.Args} {s : Fin 32}

theorem qt_lo {K : FVec Ideal S1536x512 .f32} (e : ∀ (e : Fin 1536) (r : Fin 512), K (ix2 e r) = A.q (tok s r) e)
    (h : Fin 8) (n : Fin 512) (r : Fin 256) (p : Fin 512) (j : Fin 1536) (hp : n.val = p.val) (hr : r.val < 128) (hj : j.val = h.val * 192 + r.val) :
    K (ix2 j p) * Ideal.ofBits .f32 0x3DD53B95#32 = A.qt h (tok s n) r := by
  obtain rfl := Fin.ext hp
  rw [e]
  unfold Row.Args.qt
  rw [dif_pos hr]
  congr 2
  exact Fin.ext hj

theorem qt_fst {K : FVec Ideal S1536x512 .f32} (e : ∀ (e : Fin 1536) (r : Fin 512), K (ix2 e r) = A.q (tok s r) e)
    {u v : Vec Ideal S32x512 .f32} (eu : ∀ (i : Fin 32) (r : Fin 512), u (ix2 i r) = A.cos (tok s r) i)
    (ev : ∀ (i : Fin 32) (r : Fin 512), v (ix2 i r) = A.sin (tok s r) i)
    (h : Fin 8) (n : Fin 512) (r : Fin 256) (p : Fin 512) (i : Fin 32) (j1 j2 : Fin 1536) (hp : n.val = p.val) (hr : r.val = 128 + i.val)
    (h1 : j1.val = h.val * 192 + r.val) (h2 : j2.val = h.val * 192 + (r.val + 32)) :
    (K (ix2 j1 p) * u (ix2 i p) - K (ix2 j2 p) * v (ix2 i p)) * Ideal.ofBits .f32 0x3DD53B95#32 = A.qt h (tok s n) r := by
  obtain rfl := Fin.ext hp
  rw [e, e, eu, ev]
  unfold Row.Args.qt Row.Args.fst
  rw [dif_neg (by omega), dif_pos (by omega)]
  have hi : (⟨r.val - 128, by omega⟩ : Fin 32) = i := Fin.ext (by show r.val - 128 = i.val; omega)
  rw [hi, show (⟨h.val * 192 + r.val, _⟩ : Fin 1536) = j1 from Fin.ext h1.symm, show (⟨h.val * 192 + (r.val + 32), _⟩ : Fin 1536) = j2 from Fin.ext h2.symm]

theorem qt_snd {K : FVec Ideal S1536x512 .f32} (e : ∀ (e : Fin 1536) (r : Fin 512), K (ix2 e r) = A.q (tok s r) e)
    {u v : Vec Ideal S32x512 .f32} (eu : ∀ (i : Fin 32) (r : Fin 512), u (ix2 i r) = A.cos (tok s r) i)
    (ev : ∀ (i : Fin 32) (r : Fin 512), v (ix2 i r) = A.sin (tok s r) i)
    (h : Fin 8) (n : Fin 512) (r : Fin 256) (p : Fin 512) (i : Fin 32) (j1 j2 : Fin 1536) (hp : n.val = p.val) (hr : r.val = 160 + i.val)
    (h1 : j1.val = h.val * 192 + (r.val - 32)) (h2 : j2.val = h.val * 192 + r.val) :
    (K (ix2 j2 p) * u (ix2 i p) + K (ix2 j1 p) * v (ix2 i p)) * Ideal.ofBits .f32 0x3DD53B95#32 = A.qt h (tok s n) r := by
  obtain rfl := Fin.ext hp
  rw [e, e, eu, ev]
  unfold Row.Args.qt Row.Args.snd
  rw [dif_neg (by omega), dif_neg (by omega), dif_pos (by omega)]
  have hi : (⟨r.val - 160, by omega⟩ : Fin 32) = i := Fin.ext (by show r.val - 160 = i.val; omega)
  rw [hi, show (⟨h.val * 192 + (r.val - 32), _⟩ : Fin 1536) = j1 from Fin.ext h1.symm, show (⟨h.val * 192 + r.val, _⟩ : Fin 1536) = j2 from Fin.ext h2.symm]

theorem qt_pad (h : Fin 8) (n : Fin 16384) (r : Fin 256) (hr : 192 ≤ r.val) : (0 : EReal) = A.qt h n r := by
  unfold Row.Args.qt
  rw [dif_neg (by omega), dif_neg (by omega), dif_neg (by omega)]

variable {c : Dev nD} {t : Fin cfg0.N} {x0 : Vec Ideal S512x1024 .f32} {x1 : Vec Ideal S1x1024 .f32} {x2 : Vec Ideal S1024x4864 .bf16} {x3 : Vec Ideal S1x384 .f32}
  {x4 : Vec Ideal S1536x384 .bf16} {x5 : Vec Ideal S1x256 .f32} {x6 : Vec Ideal S256x1024 .bf16} {x7 : Vec Ideal S1024x256 .bf16}
  {x8 : Vec Ideal S1x1024 .f32} {x9 : Vec Ideal S8x128x128 .bf16} {x10 : Vec Ideal S128x1024 .f32} {x11 x12 x13 : Vec Ideal S512x128 .f32}
  {x14 x15 : Vec Ideal S32x512 .f32} (H : Block A s x0 x1 x2 x3 x4 x5 x6 x7 x8 x9 x10 x11 x12 x13 x14 x15)

include H

set_option maxHeartbeats 1000000 in
theorem out16 (y : S8x1x256x512.Idx) : (left c t x0 x1 x2 x3 x4 x5 x6 x7 x8 x9 x10 x11 x12 x13 x14 x15).1 y = A.qt (y 0) (tok s (y 3)) (y 2) := by
  unfold left
  dsimp only
  frame_out
  have e1 := v535 H _ (v38 H)
  have e2 := H.e14
  have e3 := H.e15
  clear H
  generalize k0_pay5 (F := Ideal) _ _ _ _ _ = R at e1 ⊢
  generalize x14 = u at e2 ⊢
  generalize x15 = v at e3 ⊢
  generalize x3 = w3 at e1 ⊢
  generalize x4 = w4 at e1 ⊢
  canon_tiles x h using View.cover_of_tiledBy _ ![1, 1, 32, 512] (by sl_kernel_rfl) y
  all_goals
    pointwise [k0_pay70, k0_pay71, k0_pay72, k0_pay73, k0_pay74, k0_pay75, k0_pay76, k0_pay77, k0_pay78, k0_pay79, k0_pay80, k0_pay81, k0_pay82,
      k0_pay83, k0_pay84, k0_pay85, k0_pay86, k0_pay87, k0_pay88, k0_pay89, k0_pay90, k0_pay91, k0_pay92, k0_pay93, k0_pay94,
      k0_pay95, k0_pay96, k0_pay97, k0_pay98, k0_pay99, k0_pay100, k0_pay101, k0_pay102, k0_pay103, k0_pay104, k0_pay105,
      k0_pay106, k0_pay107, k0_pay108, k0_pay109, k0_pay110, k0_pay111, k0_pay112, k0_pay113, k0_pay114, k0_pay115, k0_pay116,
      k0_pay117, k0_pay118, k0_pay119, k0_pay120, k0_pay121, k0_pay122, k0_pay123, k0_pay124, k0_pay125]
    first
    | refine qt_lo e1 _ _ _ _ _ ?_ ?_ ?_ <;> (try dsimp only) <;> omega
    | refine qt_fst e1 e2 e3 _ _ _ _ _ _ _ ?_ ?_ ?_ ?_ <;> (try dsimp only) <;> omega
    | refine qt_snd e1 e2 e3 _ _ _ _ _ _ _ ?_ ?_ ?_ ?_ <;> (try dsimp only) <;> omega
    | refine qt_pad _ _ _ ?_; omega

end Cert.Kernel3Ideal.Pre

end
-- ==== Proof.PreGob.lean ====
/-
  The gated product of the call before the attention, block by block.
-/
module

public import proofs.«01_k».proof.Defs
public import proofs.«01_k».proof.Proof.PreLeft
public import proofs.«01_k».proof.Proof.Gen.Kernel3Ideal
public import proofs.«01_k».proof.Proof.Gen.Kernel3Ideal.Frame
public import Idealize.ShloMosaic.Lib.Claim
public import Idealize.ShloMosaic.Lib.Pointwise
public import Idealize.ShloMosaic.Lib.Pipeline.ValueKit.Geometry
public import Idealize.ShloMosaic.Lib.Pipeline.ValueKit.Tiles

@[expose] public section

set_option maxRecDepth 16384

noncomputable section

namespace Cert.Kernel3Ideal.Pre

open Cert.Kernel3Ideal Cert.Kernel3Ideal.Gen
open Idealize.ShloMosaic Idealize.ShloMosaic.TcCoe Idealize.ShloMosaic.Pointwise Idealize.ShloMosaic.Pipeline

variable {A : Row.Args} {s : Fin 32}

theorem ix2_congr {a b : ℕ} {i i' : Fin a} {j j' : Fin b} (hi : i.val = i'.val) (hj : j.val = j'.val) : ix2 i j = ix2 i' j' := by
  rw [Fin.ext hi, Fin.ext hj]

theorem gob_at {g u : FVec Ideal S512x1024 .f32} {v : FVec Ideal S512x1024 .bf16} {w : Vec Ideal S8x128x128 .bf16} {b : Vec Ideal S128x1024 .f32}
    (eg : ∀ (r : Fin 512) (j : Fin 1024), g (ix2 r j) = Ideal.logistic (A.z (tok s r) ⟨3776 + j.val, by omega⟩))
    (eu : ∀ (r : Fin 512) (j : Fin 1024), u (ix2 r j) = Row.gelu (A.z (tok s r) ⟨704 + j.val, by omega⟩))
    (ev : ∀ (r : Fin 512) (j : Fin 1024), v (ix2 r j) = A.vs (tok s r) j)
    (ew : ∀ (g : Fin 8) (p q : Fin 128), w (ix3 g p q) = A.ws g p q)
    (eb : ∀ (p : Fin 128) (j : Fin 1024), b (ix2 p j) = A.bs ⟨j.val / 128, by omega⟩ p)
    (r : Fin 512) (j : Fin 1024) (r1 r2 : Fin 512) (j1 j2 j4 : Fin 1024) (k : Fin 8) (p1 p2 : Fin 128) (f : Fin 128 → EReal)
    (hr1 : r.val = r1.val) (hr2 : r.val = r2.val) (hj1 : j.val = j1.val) (hj2 : j.val = j2.val) (hj4 : j.val = j4.val)
    (hk : k.val = j.val / 128) (hp1 : p1.val = r.val % 128) (hp2 : p2.val = r.val % 128) (hf : ∀ q : Fin 128, f q = v (ix2 ⟨r.val / 128 * 128 + q.val, by omega⟩ j)) :
    g (ix2 r1 j1) * (u (ix2 r2 j2) * ((∑ q, w (ix3 k p1 q) * f q) + b (ix2 p2 j4))) = A.gob (tok s r) j := by
  obtain rfl := Fin.ext hr1
  obtain rfl := Fin.ext hr2
  obtain rfl := Fin.ext hj1
  obtain rfl := Fin.ext hj2
  obtain rfl := Fin.ext hj4
  unfold Row.Args.gob Row.Args.mixed
  rw [eg, eu, eb]
  have m1 : (⟨(tok s r).val % 128, by omega⟩ : Fin 128) = p1 := Fin.ext (by show (s.val * 512 + r.val) % 128 = p1.val; omega)
  have m2 : p2 = p1 := Fin.ext (by omega)
  have m3 : (⟨j.val / 128, by omega⟩ : Fin 8) = k := Fin.ext hk.symm
  have m4 : ∀ q : Fin 128, (⟨(tok s r).val / 128 * 128 + q.val, by have := (tok s r).isLt; omega⟩ : Fin 16384) = tok s ⟨r.val / 128 * 128 + q.val, by omega⟩ := fun q =>
    Fin.ext (by show (s.val * 512 + r.val) / 128 * 128 + q.val = s.val * 512 + (r.val / 128 * 128 + q.val); omega)
  simp only [hf, ev, ew, m1, m2, m3, m4]

variable {c : Dev nD} {t : Fin cfg0.N} {x0 : Vec Ideal S512x1024 .f32} {x1 : Vec Ideal S1x1024 .f32} {x2 : Vec Ideal S1024x4864 .bf16} {x3 : Vec Ideal S1x384 .f32}
  {x4 : Vec Ideal S1536x384 .bf16} {x5 : Vec Ideal S1x256 .f32} {x6 : Vec Ideal S256x1024 .bf16} {x7 : Vec Ideal S1024x256 .bf16}
  {x8 : Vec Ideal S1x1024 .f32} {x9 : Vec Ideal S8x128x128 .bf16} {x10 : Vec Ideal S128x1024 .f32} {x11 x12 x13 : Vec Ideal S512x128 .f32}
  {x14 x15 : Vec Ideal S32x512 .f32} (H : Block A s x0 x1 x2 x3 x4 x5 x6 x7 x8 x9 x10 x11 x12 x13 x14 x15)

include H

set_option maxHeartbeats 2000000 in
theorem out20 (y : S512x1024.Idx) : (left c t x0 x1 x2 x3 x4 x5 x6 x7 x8 x9 x10 x11 x12 x13 x14 x15).2.2.2.2 y = A.gob (tok s (y 0)) (y 1) := by
  unfold left
  dsimp only
  frame_out
  have e1 := v148 H
  have e2 := v138 H
  have e3 := v123 H
  simp only [k0_pay20, k0_pay21]
  generalize k0_pay17 (F := Ideal) _ _ = g at e1 ⊢
  generalize k0_pay16 (F := Ideal) _ _ = u at e2 ⊢
  generalize k0_pay13 (F := Ideal) _ _ = v1 at e3 ⊢
  generalize k0_pay14 (F := Ideal) _ = v2 at e3 ⊢
  have e9 := H.e9
  have e10 := H.e10
  clear H
  generalize x9 = w at e9 ⊢
  generalize x10 = b at e10 ⊢
  canon_tiles x h
  all_goals
    pointwise [k0_pay18, k0_pay19, k0_pay20, k0_pay21, k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39, k0_pay40, k0_pay41, k0_pay42,
      k0_pay43, k0_pay44, k0_pay45, k0_pay46, k0_pay47, k0_pay48, k0_pay49, k0_pay50, k0_pay51, k0_pay52, k0_pay53, k0_pay54,
      k0_pay55, k0_pay56, k0_pay57, k0_pay58, k0_pay59, k0_pay60, k0_pay61, k0_pay62, k0_pay63, k0_pay64, k0_pay65, k0_pay66,
      k0_pay67, k0_pay68]
    refine gob_at e1 e2 e3 e9 e10 _ _ _ _ _ _ _ _ _ _ _ ?_ ?_ ?_ ?_ ?_ ?_ ?_ ?_ fun q => ?_
    on_goal 9 => ((try split_ifs) <;> first | omega | (refine congrArg _ (ix2_congr ?_ ?_) <;> (try dsimp only) <;> omega))
    all_goals (try dsimp only) <;> omega

end Cert.Kernel3Ideal.Pre

end
-- ==== Proof.PreFin.lean ====
/-
  The call before the attention: each of its five results is its formula, from the launched arguments.
-/
module

public import proofs.«01_k».proof.Defs
public import proofs.«01_k».proof.Proof.PreArr
public import proofs.«01_k».proof.Proof.PreOut
public import proofs.«01_k».proof.Proof.PreQ
public import proofs.«01_k».proof.Proof.PreGob
public import proofs.«01_k».proof.Proof.Gen.Kernel3Ideal
public import proofs.«01_k».proof.Proof.Gen.Kernel3Ideal.Frame
public import proofs.«01_k».proof.Proof.Gen.Kernel3Ideal.Value
public import Idealize.ShloMosaic.Lib.Claim
public import Idealize.ShloMosaic.Lib.Pointwise
public import Idealize.ShloMosaic.Lib.Pipeline.ValueKit.Geometry

@[expose] public section

set_option maxRecDepth 16384

noncomputable section

namespace Cert.Kernel3Ideal.Pre

open Cert.Kernel3Ideal Cert.Kernel3Ideal.Gen
open Idealize.ShloMosaic Idealize.ShloMosaic.TcCoe Idealize.ShloMosaic.Pointwise Idealize.ShloMosaic.Pipeline

variable (m : (ℓ : Loc nD τ sig) → Buf (Elt Ideal) ℓ) (c : Dev nD)

theorem congr2 {α β γ : Type} (f : α → β → γ) {a a' : α} {b b' : β} (ha : a = a') (hb : b = b') : f a b = f a' b' := by rw [ha, hb]

theorem congr3 {α β γ δ : Type} (f : α → β → γ → δ) {a a' : α} {b b' : β} {c c' : γ} (ha : a = a') (hb : b = b') (hc : c = c') :
    f a b c = f a' b' c' := by rw [ha, hb, hc]

/-- The five whole results. -/
theorem final16 : (dats m 0 c).arrAt 16 cfg0.N
    = fun y : S8x32x256x512.Idx => (args m c).qt (y 0) ⟨(y 1).val * 512 + (y 3).val, by have : (y 1).val < 32 := (y 1).isLt; have : (y 3).val < 512 := (y 3).isLt; omega⟩ (y 2) := by
  refine (dats m 0 c).arrAt_eq_of_covers 16 _ (by decide +kernel) fun t hf y => ?_
  blk_simp
  rw [after0_16, outsAt0_eq]
  refine (out16 (block m c t) y).trans ?_
  refine congr3 _ (Fin.ext ?_) (Fin.ext ?_) (Fin.ext ?_) <;> blk_simp [index16]

theorem final17 : (dats m 0 c).arrAt 17 cfg0.N = fun y : S8x16384x256.Idx => (args m c).k (y 0) (y 1) (y 2) := by
  refine (dats m 0 c).arrAt_eq_of_covers 17 _ (by decide +kernel) fun t hf y => ?_
  blk_simp
  rw [after0_17, outsAt0_eq]
  refine (out17 (block m c t) y).trans ?_
  refine congr3 _ (Fin.ext ?_) (Fin.ext ?_) (Fin.ext ?_) <;> blk_simp [index17]

theorem final18 : (dats m 0 c).arrAt 18 cfg0.N
    = fun y : S8x32x144x512.Idx => (args m c).vt (y 0) ⟨(y 1).val * 512 + (y 3).val, by have : (y 1).val < 32 := (y 1).isLt; have : (y 3).val < 512 := (y 3).isLt; omega⟩ (y 2) := by
  refine (dats m 0 c).arrAt_eq_of_covers 18 _ (by decide +kernel) fun t hf y => ?_
  blk_simp
  rw [after0_18, outsAt0_eq]
  refine (out18 (block m c t) y).trans ?_
  refine congr3 _ (Fin.ext ?_) (Fin.ext ?_) (Fin.ext ?_) <;> blk_simp [index18]

theorem final19 : (dats m 0 c).arrAt 19 cfg0.N = fun y : S16384x1024.Idx => (args m c).sga (y 0) (y 1) := by
  refine (dats m 0 c).arrAt_eq_of_covers 19 _ (by decide +kernel) fun t hf y => ?_
  blk_simp
  rw [after0_19, outsAt0_eq]
  refine (out19 (block m c t) y).trans ?_
  refine congr2 _ (Fin.ext ?_) (Fin.ext ?_) <;> blk_simp [index19]

theorem final20 : (dats m 0 c).arrAt 20 cfg0.N = fun y : S16384x1024.Idx => (args m c).gob (y 0) (y 1) := by
  refine (dats m 0 c).arrAt_eq_of_covers 20 _ (by decide +kernel) fun t hf y => ?_
  blk_simp
  rw [after0_20, outsAt0_eq]
  refine (out20 (block m c t) y).trans ?_
  refine congr2 _ (Fin.ext ?_) (Fin.ext ?_) <;> blk_simp [index20]

end Cert.Kernel3Ideal.Pre

end
-- ==== Proof.PreRef.lean ====
/-
  The reference of the call before the attention has the same formulas.
-/
module

public import proofs.«01_k».proof.Defs
public import proofs.«01_k».proof.Proof.PreRow
public import proofs.«01_k».proof.Proof.Gen.Reference3Ideal
public import proofs.«01_k».proof.Proof.Gen.Reference3Ideal.Run
public import proofs.«01_k».proof.Proof.Gen.Reference3Ideal.Read
public import Idealize.ShloMosaic.Lib.Pointwise

@[expose] public section

set_option maxRecDepth 16384

noncomputable section

namespace Cert.Reference3Ideal.Pre

open Cert.Reference3Ideal Cert.Reference3Ideal.Gen Cert.Reference3Ideal.Read
open Idealize.ShloMosaic Idealize.ShloMosaic.TcCoe Idealize.ShloMosaic.Pointwise

variable (x0 : Vec Ideal S1x16384x1024 .f32) (x1 : Vec Ideal S1024 .f32) (x2 : Vec Ideal S1024x4800 .f32) (x3 : Vec Ideal S384 .f32)
  (x4 : Vec Ideal S384x1536 .f32) (x5 : Vec Ideal S256 .f32) (x6 : Vec Ideal S256x2048 .f32) (x7 : Vec Ideal S1024 .f32)
  (x8 : Vec Ideal S8x128x128 .f32) (x9 : Vec Ideal S8x128 .f32)

/-- The arguments as plain functions, and the rotation tables. -/
def args : Row.Args where
  x n d := x0 (ix3 0 n d)
  gmix d := x1 (ix1 d)
  w d e := x2 (ix2 d e)
  gq d := x3 (ix1 d)
  wq d e := x4 (ix2 d e)
  gkv d := x5 (ix1 d)
  wkv d e := x6 (ix2 d e)
  gsgu d := x7 (ix1 d)
  ws g p q := x8 (ix3 g p q)
  bs g p := x9 (ix2 g p)
  cos n i := Ideal.cos (Row.turn n.val i.val)
  sin n i := Ideal.sin (Row.turn n.val i.val)

theorem z (n : Fin 16384) (e : Fin 4800) : val_main_v14 (F := Ideal) x0 x1 x2 (ix2 n e) = (args x0 x1 x2 x3 x4 x5 x6 x7 x8 x9).z n e := by
  pointwise [val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem turn (n : Fin 16384) (i : Fin 32) : val_main_v35 (F := Ideal) (ix2 n i) = Row.turn n.val i.val := by
  pointwise [val_main_v35, val_main_v34, val_main_v33, val_main_v32, val_main_v31, val_main_v30, val_main_v29, val_main_v28, val_main_v27,
    val_main_v26, val_main_v25, val_main_v24, val_main_v23, val_main_v22, val_main_v21, val_main_v20, val_main_cst_2, val_main_cst_3,
    val_main_cst_4, val_main_cst_5]
  rfl

theorem cos (n : Fin 16384) (j : Fin 64) (i : Fin 32) (h : j.val = i.val ∨ j.val = i.val + 32) :
    val_main_v37 (F := Ideal) (ix2 n j) = (args x0 x1 x2 x3 x4 x5 x6 x7 x8 x9).cos n i := by
  show _ = Ideal.cos (Row.turn n.val i.val)
  pointwise [val_main_v37, val_main_v36]
  simp only [turn]
  split_ifs
  · rw [show j.val = i.val by omega]
  · rw [show j.val - 32 = i.val by omega]

theorem sin (n : Fin 16384) (j : Fin 64) (i : Fin 32) (h : j.val = i.val ∨ j.val = i.val + 32) :
    val_main_v38 (F := Ideal) (ix2 n j) = (args x0 x1 x2 x3 x4 x5 x6 x7 x8 x9).sin n i := by
  show _ = Ideal.sin (Row.turn n.val i.val)
  pointwise [val_main_v38, val_main_v36]
  simp only [turn]
  split_ifs
  · rw [show j.val = i.val by omega]
  · rw [show j.val - 32 = i.val by omega]

theorem q (n : Fin 16384) (e : Fin 1536) : val_main_v52 (F := Ideal) x0 x1 x2 x3 x4 (ix2 n e) = (args x0 x1 x2 x3 x4 x5 x6 x7 x8 x9).q n e := by
  have h := z x0 x1 x2 x3 x4 x5 x6 x7 x8 x9 n
  pointwise [val_main_v52, val_main_v51, val_main_v50, val_main_v49, val_main_v48, val_main_v47, val_main_v46, val_main_v45, val_main_v44,
    val_main_v43, val_main_v42, val_main_v41, val_main_v40, val_main_v39, val_main_v15, val_main_cst_6, val_main_cst_7, val_main_cst_8]
  simp only [h]
  rfl

theorem kv (n : Fin 16384) (e : Fin 2048) : val_main_v79 (F := Ideal) x0 x1 x2 x5 x6 (ix2 n e) = (args x0 x1 x2 x3 x4 x5 x6 x7 x8 x9).kv n e := by
  have h := z x0 x1 x2 x3 x4 x5 x6 x7 x8 x9 n
  pointwise [val_main_v79, val_main_v78, val_main_v77, val_main_v76, val_main_v75, val_main_v74, val_main_v73, val_main_v72, val_main_v71,
    val_main_v70, val_main_v69, val_main_v68, val_main_v67, val_main_v66, val_main_v16, val_main_cst_9, val_main_cst_10, val_main_cst_11]
  simp only [h]
  rfl

include x5 x6 x7 x8 x9 in
theorem ropeq_fst (n : Fin 16384) (h : Fin 8) (j : Fin 64) (i : Fin 32) (hj : j.val = i.val) (a b : Fin 1536)
    (ha : a.val = h.val * 192 + 128 + i.val) (hb : b.val = h.val * 192 + 128 + (32 + i.val)) :
    val_main_v65 (F := Ideal) x0 x1 x2 x3 x4 (ix3 n h j) = (args x0 x1 x2 x3 x4 x5 x6 x7 x8 x9).fst n i ((args x0 x1 x2 x3 x4 x5 x6 x7 x8 x9).q n a) ((args x0 x1 x2 x3 x4 x5 x6 x7 x8 x9).q n b) := by
  unfold val_main_v65 val_main_v64 val_main_v63 val_main_v62 val_main_v61 val_main_v60 val_main_v59 val_main_v58 val_main_v57 val_main_v54 val_main_v53
  have e := q x0 x1 x2 x3 x4 x5 x6 x7 x8 x9 n
  have ec := cos x0 x1 x2 x3 x4 x5 x6 x7 x8 x9 n j i
  have es := sin x0 x1 x2 x3 x4 x5 x6 x7 x8 x9 n j i
  generalize val_main_v52 (F := Ideal) x0 x1 x2 x3 x4 = Q at e ⊢
  pointwise [val_main_v55, val_main_v56]
  rw [dif_pos (by omega), ec (Or.inl hj), es (Or.inl hj), e, e, neg_mul, ← sub_eq_add_neg]
  unfold Row.Args.fst
  congr 3 <;> exact Fin.ext (by dsimp only; omega)

include x5 x6 x7 x8 x9 in
theorem ropeq_snd (n : Fin 16384) (h : Fin 8) (j : Fin 64) (i : Fin 32) (hj : j.val = i.val + 32) (a b : Fin 1536)
    (ha : a.val = h.val * 192 + 128 + i.val) (hb : b.val = h.val * 192 + 128 + (32 + i.val)) :
    val_main_v65 (F := Ideal) x0 x1 x2 x3 x4 (ix3 n h j) = (args x0 x1 x2 x3 x4 x5 x6 x7 x8 x9).snd n i ((args x0 x1 x2 x3 x4 x5 x6 x7 x8 x9).q n a) ((args x0 x1 x2 x3 x4 x5 x6 x7 x8 x9).q n b) := by
  unfold val_main_v65 val_main_v64 val_main_v63 val_main_v62 val_main_v61 val_main_v60 val_main_v59 val_main_v58 val_main_v57 val_main_v54 val_main_v53
  have e := q x0 x1 x2 x3 x4 x5 x6 x7 x8 x9 n
  have ec := cos x0 x1 x2 x3 x4 x5 x6 x7 x8 x9 n j i
  have es := sin x0 x1 x2 x3 x4 x5 x6 x7 x8 x9 n j i
  generalize val_main_v52 (F := Ideal) x0 x1 x2 x3 x4 = Q at e ⊢
  pointwise [val_main_v55, val_main_v56]
  rw [dif_neg (by omega), ec (Or.inr hj), es (Or.inr hj), e, e]
  unfold Row.Args.snd
  congr 3 <;> exact Fin.ext (by dsimp only; omega)

theorem ropek_fst (n : Fin 16384) (j : Fin 64) (i : Fin 32) (hj : j.val = i.val) (a b : Fin 4800)
    (ha : a.val = 640 + i.val) (hb : b.val = 640 + (32 + i.val)) :
    val_main_v87 (F := Ideal) x0 x1 x2 (ix2 n j) = (args x0 x1 x2 x3 x4 x5 x6 x7 x8 x9).fst n i ((args x0 x1 x2 x3 x4 x5 x6 x7 x8 x9).z n a) ((args x0 x1 x2 x3 x4 x5 x6 x7 x8 x9).z n b) := by
  unfold val_main_v87 val_main_v86 val_main_v85 val_main_v84 val_main_v83 val_main_v82 val_main_v81 val_main_v17
  have e := z x0 x1 x2 x3 x4 x5 x6 x7 x8 x9 n
  have ec := cos x0 x1 x2 x3 x4 x5 x6 x7 x8 x9 n j i
  have es := sin x0 x1 x2 x3 x4 x5 x6 x7 x8 x9 n j i
  generalize val_main_v14 (F := Ideal) x0 x1 x2 = Z at e ⊢
  pointwise
  rw [dif_pos (by omega), ec (Or.inl hj), es (Or.inl hj), e, e, neg_mul, ← sub_eq_add_neg]
  unfold Row.Args.fst
  congr 3 <;> exact Fin.ext (by dsimp only; omega)

theorem ropek_snd (n : Fin 16384) (j : Fin 64) (i : Fin 32) (hj : j.val = i.val + 32) (a b : Fin 4800)
    (ha : a.val = 640 + i.val) (hb : b.val = 640 + (32 + i.val)) :
    val_main_v87 (F := Ideal) x0 x1 x2 (ix2 n j) = (args x0 x1 x2 x3 x4 x5 x6 x7 x8 x9).snd n i ((args x0 x1 x2 x3 x4 x5 x6 x7 x8 x9).z n a) ((args x0 x1 x2 x3 x4 x5 x6 x7 x8 x9).z n b) := by
  unfold val_main_v87 val_main_v86 val_main_v85 val_main_v84 val_main_v83 val_main_v82 val_main_v81 val_main_v17
  have e := z x0 x1 x2 x3 x4 x5 x6 x7 x8 x9 n
  have ec := cos x0 x1 x2 x3 x4 x5 x6 x7 x8 x9 n j i
  have es := sin x0 x1 x2 x3 x4 x5 x6 x7 x8 x9 n j i
  generalize val_main_v14 (F := Ideal) x0 x1 x2 = Z at e ⊢
  pointwise
  rw [dif_neg (by omega), ec (Or.inr hj), es (Or.inr hj), e, e]
  unfold Row.Args.snd
  congr 3 <;> exact Fin.ext (by dsimp only; omega)

theorem result0 (h : Fin 8) (b : Fin 32) (r : Fin 256) (t : Fin 512) : val_main_v157 (F := Ideal) x0 x1 x2 x3 x4 (ix4 h b r t)
    = (args x0 x1 x2 x3 x4 x5 x6 x7 x8 x9).qt h ⟨b.val * 512 + t.val, by omega⟩ r := by
  pointwise [val_main_v157, val_main_v101, val_main_v100, val_main_v92, val_main_v91, val_main_v90, val_main_v89, val_main_v88, val_main_cst_13,
    val_main_cst_12, val_main_v53]
  unfold Row.Args.qt
  by_cases h1 : r.val < 128
  · rw [dif_pos h1, dif_pos h1, q x0 x1 x2 x3 x4 x5 x6 x7 x8 x9]
  rw [dif_neg h1, dif_neg h1]
  by_cases h2 : r.val < 160
  · rw [dif_pos (by omega), dif_pos h2, ropeq_fst x0 x1 x2 x3 x4 x5 x6 x7 x8 x9 _ h _ ⟨r.val - 128, by omega⟩ rfl ⟨h.val * 192 + r.val, by omega⟩
      ⟨h.val * 192 + (r.val + 32), by omega⟩ (by dsimp only; omega) (by dsimp only; omega)]
  rw [dif_neg h2]
  by_cases h3 : r.val < 192
  · rw [dif_pos (by omega), dif_pos h3, ropeq_snd x0 x1 x2 x3 x4 x5 x6 x7 x8 x9 _ h _ ⟨r.val - 160, by omega⟩ (by dsimp only; omega)
      ⟨h.val * 192 + (r.val - 32), by omega⟩ ⟨h.val * 192 + r.val, by omega⟩ (by dsimp only; omega) (by dsimp only; omega)]
  · rw [dif_neg (by omega), dif_neg h3, zero_mul]

theorem result1 (h : Fin 8) (n : Fin 16384) (r : Fin 256) : val_main_v158 (F := Ideal) x0 x1 x2 x5 x6 (ix3 h n r) = (args x0 x1 x2 x3 x4 x5 x6 x7 x8 x9).k h n r := by
  pointwise [val_main_v158, val_main_v104, val_main_v96, val_main_v95, val_main_v94, val_main_v93, val_main_v88, val_main_cst_12, val_main_v80]
  unfold Row.Args.k Row.Args.kr
  by_cases h1 : r.val < 128
  · rw [dif_pos h1, dif_pos h1, kv x0 x1 x2 x3 x4 x5 x6 x7 x8 x9]
  rw [dif_neg h1, dif_neg h1]
  dsimp only
  by_cases h2 : r.val - 128 < 32
  · rw [dif_pos (by omega), dif_pos h2, ropek_fst x0 x1 x2 x3 x4 x5 x6 x7 x8 x9 _ _ ⟨r.val - 128, by omega⟩ rfl ⟨640 + (r.val - 128), by omega⟩
      ⟨640 + (r.val - 128 + 32), by omega⟩ rfl (by dsimp only; omega)]
  rw [dif_neg h2]
  by_cases h3 : r.val - 128 < 64
  · rw [dif_pos h3, dif_pos h3, ropek_snd x0 x1 x2 x3 x4 x5 x6 x7 x8 x9 _ _ ⟨r.val - 128 - 32, by omega⟩ (by dsimp only; omega) ⟨640 + (r.val - 128 - 32), by omega⟩
      ⟨640 + (r.val - 128), by omega⟩ rfl (by dsimp only; omega)]
  · rw [dif_neg h3, dif_neg h3]

theorem result2 (h : Fin 8) (b : Fin 32) (r : Fin 144) (t : Fin 512) : val_main_v159 (F := Ideal) x0 x1 x2 x5 x6 (ix4 h b r t)
    = (args x0 x1 x2 x3 x4 x5 x6 x7 x8 x9).vt h ⟨b.val * 512 + t.val, by omega⟩ r := by
  pointwise [val_main_v159, val_main_v103, val_main_v102, val_main_v99, val_main_v98, val_main_v97, val_main_cst_14, val_main_v80]
  simp only [kv x0 x1 x2 x3 x4 x5 x6 x7 x8 x9]
  rfl

theorem result3 (n : Fin 16384) (j : Fin 1024) : val_main_v160 (F := Ideal) x0 x1 x2 (ix2 n j) = (args x0 x1 x2 x3 x4 x5 x6 x7 x8 x9).sga n j := by
  have h := z x0 x1 x2 x3 x4 x5 x6 x7 x8 x9 n
  pointwise [val_main_v160, val_main_v149, val_main_v148, val_main_v147, val_main_v146, val_main_v145, val_main_v144, val_main_v142, val_main_v19,
    val_main_cst_22, val_main_cst_23]
  simp only [h]
  rfl

theorem gelus (n : Fin 16384) (j : Fin 2048) : val_main_v117 (F := Ideal) x0 x1 x2 (ix2 n j) = Row.gelu ((args x0 x1 x2 x3 x4 x5 x6 x7 x8 x9).z n ⟨704 + j.val, by omega⟩) := by
  have h := z x0 x1 x2 x3 x4 x5 x6 x7 x8 x9 n
  pointwise [val_main_v117, val_main_v116, val_main_v115, val_main_v114, val_main_v113, val_main_v112, val_main_v111, val_main_v110, val_main_v109,
    val_main_v108, val_main_v107, val_main_v106, val_main_v105, val_main_v18, val_main_cst_15, val_main_cst_16, val_main_cst_17, val_main_cst_18]
  simp only [h]
  unfold Row.gelu
  rw [Row.one, EReal.coe_one]

theorem vs (n : Fin 16384) (j : Fin 1024) : val_main_v132 (F := Ideal) x0 x1 x2 x7 (ix2 n j) = (args x0 x1 x2 x3 x4 x5 x6 x7 x8 x9).vs n j := by
  have h := gelus x0 x1 x2 x3 x4 x5 x6 x7 x8 x9 n
  pointwise [val_main_v132, val_main_v131, val_main_v130, val_main_v129, val_main_v128, val_main_v127, val_main_v126, val_main_v125, val_main_v124,
    val_main_v123, val_main_v122, val_main_v121, val_main_v120, val_main_v119, val_main_cst_19, val_main_cst_20, val_main_cst_21]
  simp only [h]
  have e : ∀ d : Fin 1024, (⟨704 + (1024 + d.val), by omega⟩ : Fin 4800) = ⟨1728 + d.val, by omega⟩ := fun d => Fin.ext (by dsimp only; omega)
  simp only [e]
  rfl

theorem result4 (n : Fin 16384) (j : Fin 1024) : val_main_v161 (F := Ideal) x0 x1 x2 x7 x8 x9 (ix2 n j) = (args x0 x1 x2 x3 x4 x5 x6 x7 x8 x9).gob n j := by
  pointwise [val_main_v161, val_main_v156, val_main_v155, val_main_v154, val_main_v153, val_main_v152, val_main_v151, val_main_v150, val_main_v143,
    val_main_v19, val_main_cst_24, val_main_cst_25, val_main_v141, val_main_v140, val_main_v139, val_main_v138, val_main_v137, val_main_v136,
    val_main_v135, val_main_v134, val_main_v133, val_main_v118]
  unfold Row.Args.gob Row.Args.mixed
  have e : (⟨2752 + (1024 + j.val), by omega⟩ : Fin 4800) = ⟨3776 + j.val, by omega⟩ := Fin.ext (by dsimp only; omega)
  simp only [z x0 x1 x2 x3 x4 x5 x6 x7 x8 x9, gelus x0 x1 x2 x3 x4 x5 x6 x7 x8 x9, vs x0 x1 x2 x3 x4 x5 x6 x7 x8 x9, e]
  refine congrArg (_ * ·) (congrArg (_ * ·) (congrArg (· + _) (Finset.sum_congr rfl fun p _ => mul_comm _ _)))

end Cert.Reference3Ideal.Pre

end
-- ==== Proof.PreAlg.lean ====
/-
  The call before the attention and its reference end with the same five arrays over the reals.
-/
module

public import proofs.«01_k».proof.Proof.PreFin
public import proofs.«01_k».proof.Proof.PreRef
public import proofs.«01_k».proof.Proof.Gen.Kernel3
public import proofs.«01_k».proof.Proof.Gen.Kernel3.Frame

@[expose] public section

set_option maxRecDepth 16384

noncomputable section

open Idealize.ShloMosaic Idealize.ShloMosaic.TcCoe

namespace Cert

/-- The named constant is the product of the two rounded constants that it stands for. -/
theorem preserves3 : preserves_Kernel3_Kernel3Ideal :=
  IdealRules.named_const.statement Cert.Kernel3Ideal.κ "gelu_cubic" .f32 0x3D122279#32 ((80338380498831 / 2251799813685248 : ℝ) : EReal) rfl

theorem algebraic3 :
    algebraic_Kernel3Ideal_Reference3Ideal (hKernel3Ideal := Cert.Kernel3Ideal.Gen.facts) (hReference3Ideal := Cert.Reference3Ideal.Gen.facts) := by
  intro m g m' g' _ hargs
  refine ⟨fun c => (Cert.Kernel3Ideal.Gen.dats m 0 c).arrAt 16 _, fun c => (Cert.Kernel3Ideal.Gen.dats m 0 c).arrAt 17 _,
    fun c => (Cert.Kernel3Ideal.Gen.dats m 0 c).arrAt 18 _, fun c => (Cert.Kernel3Ideal.Gen.dats m 0 c).arrAt 19 _,
    fun c => (Cert.Kernel3Ideal.Gen.dats m 0 c).arrAt 20 _, Cert.Kernel3Ideal.Value.run_blocks (F := Ideal) m g, ?_⟩
  refine (θ_run _ _ _).mono (fun r h c => ?_) (Cert.Reference3Ideal.Value.run (F := Ideal) m' g')
  obtain ⟨e0, e1, e2, e3, e4, e5, e6, e7, e8, e9⟩ := hargs c
  obtain ⟨h0, h1, h2, h3, h4, hr⟩ := h c
  have key : Cert.Kernel3Ideal.Pre.args m c = Cert.Reference3Ideal.Pre.args
      (m' (c.tc.loc Cert.Reference3Ideal.main_arg0)) (m' (c.tc.loc Cert.Reference3Ideal.main_arg1)) (m' (c.tc.loc Cert.Reference3Ideal.main_arg2)) (m' (c.tc.loc Cert.Reference3Ideal.main_arg3))
      (m' (c.tc.loc Cert.Reference3Ideal.main_arg4)) (m' (c.tc.loc Cert.Reference3Ideal.main_arg5)) (m' (c.tc.loc Cert.Reference3Ideal.main_arg6))
      (m' (c.tc.loc Cert.Reference3Ideal.main_arg7)) (m' (c.tc.loc Cert.Reference3Ideal.main_arg8)) (m' (c.tc.loc Cert.Reference3Ideal.main_arg9)) := by
    rw [e0, e1, e2, e3, e4, e5, e6, e7, e8, e9]
    rfl
  refine ⟨h0.trans ((Cert.Reference3Ideal.Read.val_main_v157_eq (StableHlo.launchContents m' c)).trans ?_), h1.trans ((Cert.Reference3Ideal.Read.val_main_v158_eq (StableHlo.launchContents m' c)).trans ?_),
    h2.trans ((Cert.Reference3Ideal.Read.val_main_v159_eq (StableHlo.launchContents m' c)).trans ?_), h3.trans ((Cert.Reference3Ideal.Read.val_main_v160_eq (StableHlo.launchContents m' c)).trans ?_),
    h4.trans ((Cert.Reference3Ideal.Read.val_main_v161_eq (StableHlo.launchContents m' c)).trans ?_), hr⟩
  · refine Eq.trans ?_ (Cert.Kernel3Ideal.Pre.final16 m c).symm
    rw [key]
    funext y
    obtain ⟨a, b, r, t, rfl⟩ : ∃ (a : Fin 8) (b : Fin 32) (r : Fin 256) (t : Fin 512), y = ix4 a b r t :=
      ⟨y 0, y 1, y 2, y 3, by funext k; match k with | 0 => rfl | 1 => rfl | 2 => rfl | 3 => rfl⟩
    exact Cert.Reference3Ideal.Pre.result0 _ _ _ _ _ _ _ _ _ _ a b r t
  · refine Eq.trans ?_ (Cert.Kernel3Ideal.Pre.final17 m c).symm
    rw [key]
    funext y
    obtain ⟨a, n, r, rfl⟩ : ∃ (a : Fin 8) (n : Fin 16384) (r : Fin 256), y = ix3 a n r :=
      ⟨y 0, y 1, y 2, by funext k; match k with | 0 => rfl | 1 => rfl | 2 => rfl⟩
    exact Cert.Reference3Ideal.Pre.result1 _ _ _ _ _ _ _ _ _ _ a n r
  · refine Eq.trans ?_ (Cert.Kernel3Ideal.Pre.final18 m c).symm
    rw [key]
    funext y
    obtain ⟨a, b, r, t, rfl⟩ : ∃ (a : Fin 8) (b : Fin 32) (r : Fin 144) (t : Fin 512), y = ix4 a b r t :=
      ⟨y 0, y 1, y 2, y 3, by funext k; match k with | 0 => rfl | 1 => rfl | 2 => rfl | 3 => rfl⟩
    exact Cert.Reference3Ideal.Pre.result2 _ _ _ _ _ _ _ _ _ _ a b r t
  · refine Eq.trans ?_ (Cert.Kernel3Ideal.Pre.final19 m c).symm
    rw [key]
    funext y
    obtain ⟨n, j, rfl⟩ : ∃ (n : Fin 16384) (j : Fin 1024), y = ix2 n j := ⟨y 0, y 1, by funext b; match b with | 0 => rfl | 1 => rfl⟩
    exact Cert.Reference3Ideal.Pre.result3 _ _ _ _ _ _ _ _ _ _ n j
  · refine Eq.trans ?_ (Cert.Kernel3Ideal.Pre.final20 m c).symm
    rw [key]
    funext y
    obtain ⟨n, j, rfl⟩ : ∃ (n : Fin 16384) (j : Fin 1024), y = ix2 n j := ⟨y 0, y 1, by funext b; match b with | 0 => rfl | 1 => rfl⟩
    exact Cert.Reference3Ideal.Pre.result4 _ _ _ _ _ _ _ _ _ _ n j

end Cert

end
-- ==== Proof.SamplePost.lean ====
/-
  The call after the attention for the sample batch: kernel and reference end with the same array, row by row the same
  formula of a token as for the prompt.
-/
module

public import proofs.«01_k».proof.Defs
public import proofs.«01_k».proof.Proof.Post
public import proofs.«01_k».proof.Proof.PostRef
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.Claim
public import Idealize.ShloMosaic.Lib.Pointwise
public import Idealize.ShloMosaic.Lib.Pipeline.ValueKit.Geometry

@[expose] public section

set_option maxRecDepth 16384

noncomputable section

open Idealize.ShloMosaic Idealize.ShloMosaic.TcCoe Idealize.ShloMosaic.Pointwise Idealize.ShloMosaic.Pipeline

namespace Cert.Kernel4Ideal.Post

open Cert.Kernel4Ideal Cert.Kernel4Ideal.Gen

/-- The row of a token from the arguments: the formula of `Row`, token `n` being token `n % 4096` of sequence `n / 4096`. -/
def row (x : S16x4096x1024.Idx → EReal) (oa sga gob : S65536x1024.Idx → EReal) (wo : S1024x1024.Idx → EReal) (gffn : S1024.Idx → EReal)
    (w1 : S1024x4096.Idx → EReal) (w2 : S4096x1024.Idx → EReal) (gfin : S1024.Idx → EReal) (n : Fin 65536) : Fin 1024 → EReal :=
  Row.feed (Row.merge (fun d => x (ix3 ⟨n.val / 4096, by omega⟩ ⟨n.val % 4096, by omega⟩ d)) (fun d => oa (ix2 n d)) (fun d => sga (ix2 n d))
      (fun d => gob (ix2 n d)) (fun d e => wo (ix2 d e)))
    (fun d => gffn (ix1 d)) (fun d e => w1 (ix2 d e)) (fun d e => w2 (ix2 d e)) (fun d => gfin (ix1 d))

variable (m : (ℓ : Loc nD τ sig) → Buf (Elt Ideal) ℓ) (c : Dev nD)

theorem V0 (n : Fin 65536) (d : Fin 1024) : V m c main_v0 (ix2 n d)
    = m ((c : Thread nD τ).loc main_arg0) (ix3 (n0 := 16) ⟨n.val / 4096, by omega⟩ ⟨n.val % 4096, by omega⟩ d) := by
  show StableHlo.after hostOps0 _ _ _ = _
  after_results_simp
  pointwise

/-- The weights' casts leave them as they are, and the gains are rows. -/
theorem Vw : V m c main_v1 = m ((c : Thread nD τ).loc main_arg4) ∧ V m c main_v3 = m ((c : Thread nD τ).loc main_arg6)
    ∧ V m c main_v4 = m ((c : Thread nD τ).loc main_arg7) := by
  refine ⟨?_, ?_, ?_⟩ <;> (show StableHlo.after hostOps0 _ _ = _; after_results_simp; rfl)

theorem Vg (d : Fin 1024) : V m c main_v2 (ix2 0 d) = m ((c : Thread nD τ).loc main_arg5) (ix1 d)
    ∧ V m c main_v5 (ix2 0 d) = m ((c : Thread nD τ).loc main_arg8) (ix1 d) := by
  constructor <;> (show StableHlo.after hostOps0 _ _ _ = _; after_results_simp; pointwise)

/-- Where the blocks of a point begin. -/
theorem index : ∀ t : Fin cfg0.N, (win0_0.index t = ![t.val, 0] ∧ win0_1.index t = ![t.val, 0] ∧ win0_2.index t = ![t.val, 0] ∧ win0_3.index t = ![t.val, 0])
    ∧ (win0_4.index t = ![0, 0] ∧ win0_5.index t = ![0, 0] ∧ win0_6.index t = ![0, 0] ∧ win0_7.index t = ![0, 0] ∧ win0_8.index t = ![0, 0])
    ∧ win0_9.index t = ![t.val, 0] := (by decide +kernel : ∀ t : Fin grid0.N, _)

/-- Row `r` of grid point `t`. -/
abbrev tok (t : Fin cfg0.N) (r : Fin 512) : Fin 65536 := ⟨t.val * 512 + r.val, by have : t.val < 128 := t.isLt; omega⟩

/-- The token's rows in the four arrays that are cut into blocks. -/
theorem blk_tok (t : Fin cfg0.N) (r : Fin 512) (d : Fin 1024) : iblk m c 0 t (ix2 r d) = V m c main_v0 (ix2 (tok t r) d)
    ∧ iblk m c 1 t (ix2 r d) = m ((c : Thread nD τ).loc main_arg1) (ix2 (tok t r) d)
    ∧ iblk m c 2 t (ix2 r d) = m ((c : Thread nD τ).loc main_arg2) (ix2 (tok t r) d)
    ∧ iblk m c 3 t (ix2 r d) = m ((c : Thread nD τ).loc main_arg3) (ix2 (tok t r) d) := by
  obtain ⟨⟨i0, i1, i2, i3⟩, -⟩ := index t
  refine ⟨?_, ?_, ?_, ?_⟩ <;> blk_simp [iblk]
  · refine congrArg (V m c main_v0) ?_
    blk_ext [i0]
  · refine congrArg (m ((c : Thread nD τ).loc main_arg1)) ?_
    blk_ext [i1]
  · refine congrArg (m ((c : Thread nD τ).loc main_arg2)) ?_
    blk_ext [i2]
  · refine congrArg (m ((c : Thread nD τ).loc main_arg3)) ?_
    blk_ext [i3]

/-- The weights are one block each. -/
theorem blk_wo (t : Fin cfg0.N) (d e : Fin 1024) : iblk m c 4 t (ix2 d e) = m ((c : Thread nD τ).loc main_arg4) (ix2 d e) := by
  rw [← (Vw m c).1]
  blk_simp [iblk]
  refine congrArg (V m c main_v1) ?_
  blk_ext [(index t).2.1.1]

theorem blk_g (t : Fin cfg0.N) (d : Fin 1024) : iblk m c 5 t (ix2 0 d) = m ((c : Thread nD τ).loc main_arg5) (ix1 d)
    ∧ iblk m c 8 t (ix2 0 d) = m ((c : Thread nD τ).loc main_arg8) (ix1 d) := by
  rw [← (Vg m c d).1, ← (Vg m c d).2]
  refine ⟨?_, ?_⟩ <;> blk_simp [iblk]
  · refine congrArg (V m c main_v2) ?_
    blk_ext [(index t).2.1.2.1]
  · refine congrArg (V m c main_v5) ?_
    blk_ext [(index t).2.1.2.2.2.2]

theorem blk_ff (t : Fin cfg0.N) (d : Fin 1024) (e : Fin 4096) : iblk m c 6 t (ix2 d e) = m ((c : Thread nD τ).loc main_arg6) (ix2 d e)
    ∧ iblk m c 7 t (ix2 e d) = m ((c : Thread nD τ).loc main_arg7) (ix2 e d) := by
  rw [← (Vw m c).2.1, ← (Vw m c).2.2]
  refine ⟨?_, ?_⟩ <;> blk_simp [iblk]
  · refine congrArg (V m c main_v3) ?_
    blk_ext [(index t).2.1.2.2.1]
  · refine congrArg (V m c main_v4) ?_
    blk_ext [(index t).2.1.2.2.2.1]

/-- The row of a token, from the launched arguments. -/
abbrev rowAt : Fin 65536 → Fin 1024 → EReal :=
  row (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8))

/-- The body is the prompt's, so a block's rows are given by its lemma. -/
theorem out_row (t : Fin cfg0.N) (r : Fin 512) (j : Fin 1024) :
    out0_9 (iblk m c 0 t) (iblk m c 1 t) (iblk m c 2 t) (iblk m c 3 t) (iblk m c 4 t) (iblk m c 5 t) (iblk m c 6 t) (iblk m c 7 t) (iblk m c 8 t) (ix2 r j)
      = rowAt m c (tok t r) j := by
  refine (Cert.Kernel2Ideal.Post.out_row (iblk m c 0 t) (iblk m c 1 t) (iblk m c 2 t) (iblk m c 3 t) (iblk m c 4 t) (iblk m c 5 t) (iblk m c 6 t)
    (iblk m c 7 t) (iblk m c 8 t) r j).trans ?_
  simp only [fun d => (blk_tok m c t r d).1.trans (V0 m c (tok t r) d), fun d => (blk_tok m c t r d).2.1, fun d => (blk_tok m c t r d).2.2.1, fun d => (blk_tok m c t r d).2.2.2,
    blk_wo, fun d => (blk_g m c t d).1, fun d => (blk_g m c t d).2, fun d e => (blk_ff m c t d e).1, fun d e => (blk_ff m c t d e).2]
  rfl

/-- The whole result array. -/
theorem final : (dats m 0 c).arrAt 9 cfg0.N = fun y => rowAt m c (y 0) (y 1) := by
  refine (dats m 0 c).arrAt_eq_of_covers 9 _ (by decide +kernel) fun t hf y => ?_
  obtain ⟨r, j, rfl⟩ : ∃ (r : Fin 512) (j : Fin 1024), y = ix2 r j := ⟨y 0, y 1, by funext b; match b with | 0 => rfl | 1 => rfl⟩
  blk_simp
  rw [after0_9]
  refine (out_row m c t r j).trans ?_
  have e : ∀ a : Fin 65536, ∀ b : Fin 1024, a = tok t r → b = j → rowAt m c (tok t r) j = rowAt m c a b := by
    rintro a b rfl rfl
    rfl
  refine e _ _ (Fin.ext ?_) (Fin.ext ?_) <;> blk_simp [(index t).2.2]

end Cert.Kernel4Ideal.Post

namespace Cert.Reference4Ideal.Post

open Cert.Reference4Ideal Cert.Reference4Ideal.Gen Cert.Reference4Ideal.Read

variable (x : Vec Ideal S16x4096x1024 .f32) (oa sga gob : Vec Ideal S65536x1024 .bf16) (wo : Vec Ideal S1024x1024 .f32)
  (gffn : Vec Ideal S1024 .f32) (w1 : Vec Ideal S1024x4096 .f32) (w2 : Vec Ideal S4096x1024 .f32) (gfin : Vec Ideal S1024 .f32)
  (n : Fin 65536)

/-- The row after the attention is added. -/
abbrev mid : Fin 1024 → EReal :=
  Row.merge (fun d => x (ix3 ⟨n.val / 4096, by omega⟩ ⟨n.val % 4096, by omega⟩ d)) (fun d => oa (ix2 n d)) (fun d => sga (ix2 n d))
    (fun d => gob (ix2 n d)) (fun d e => wo (ix2 d e))

theorem mid_eq (j : Fin 1024) : val_main_v7 (F := Ideal) x oa sga gob wo (ix2 n j) = mid x oa sga gob wo n j := by
  unfold val_main_v7 val_main_v6 val_main_v5 val_main_v4 val_main_v3 val_main_v2 val_main_v1 val_main_v0
  pointwise
  rfl

theorem hidden_eq (k : Fin 4096) : val_main_v23 (F := Ideal) x oa sga gob wo gffn w1 (ix2 n k)
    = Row.hidden (mid x oa sga gob wo n) (fun d => gffn (ix1 d)) (fun d e => w1 (ix2 d e)) k := by
  have e : mid x oa sga gob wo n = fun d => val_main_v7 (F := Ideal) x oa sga gob wo (ix2 n d) := funext fun d => (mid_eq x oa sga gob wo n d).symm
  rw [e]
  unfold val_main_v23 val_main_v22 val_main_v21 val_main_v20 val_main_v17 val_main_v16 val_main_v15 val_main_v14 val_main_v12 val_main_v10 val_main_v9 val_main_v8
  generalize val_main_v7 (F := Ideal) x oa sga gob wo = y
  pointwise [val_main_call0_cst, val_main_call0_v0, val_main_v19, val_main_v18, val_main_v13, val_main_v11, val_main_cst, val_main_cst_0, val_main_cst_1]
  rfl

theorem result (j : Fin 1024) : val_main_v38 (F := Ideal) x oa sga gob wo gffn w1 w2 gfin (ix2 n j)
    = Cert.Kernel4Ideal.Post.row x oa sga gob wo gffn w1 w2 gfin n j := by
  have e : ∀ d, val_main_v25 (F := Ideal) x oa sga gob wo gffn w1 w2 (ix2 n d) = mid x oa sga gob wo n d
      + Row.dot (Row.hidden (mid x oa sga gob wo n) (fun d => gffn (ix1 d)) (fun d e => w1 (ix2 d e))) (fun d e => w2 (ix2 d e)) d := by
    intro d
    unfold val_main_v25 val_main_v24
    pointwise
    simp only [mid_eq, hidden_eq]
    rfl
  unfold val_main_v38 val_main_v35 val_main_v34 val_main_v33 val_main_v32 val_main_v30 val_main_v28 val_main_v27 val_main_v26
  generalize val_main_v25 (F := Ideal) x oa sga gob wo gffn w1 w2 = y at e ⊢
  pointwise [val_main_v37, val_main_v36, val_main_v31, val_main_v29, val_main_cst_2, val_main_cst_3, val_main_cst_4]
  simp only [e]
  rfl

end Cert.Reference4Ideal.Post

namespace Cert

theorem algebraic4 :
    algebraic_Kernel4Ideal_Reference4Ideal (hKernel4Ideal := Cert.Kernel4Ideal.Gen.facts) (hReference4Ideal := Cert.Reference4Ideal.Gen.facts) := by
  intro m g m' g' _ hargs
  refine ⟨fun c y => Cert.Kernel4Ideal.Post.rowAt m c (y 0) (y 1), ?_, ?_⟩
  · refine (θ_run _ _ _).mono (fun r h c => ?_) (Cert.Kernel4Ideal.Value.run_blocks (F := Ideal) m g)
    exact ⟨(h c).1.trans (Cert.Kernel4Ideal.Post.final m c), (h c).2⟩
  · refine (θ_run _ _ _).mono (fun r h c => ?_) (Cert.Reference4Ideal.Value.run (F := Ideal) m' g')
    obtain ⟨e0, e1, e2, e3, e4, e5, e6, e7, e8⟩ := hargs c
    refine ⟨(h c).1.trans ((Cert.Reference4Ideal.Read.val_main_v38_eq _ _).trans ?_), (h c).2⟩
    rw [e0, e1, e2, e3, e4, e5, e6, e7, e8]
    funext y
    obtain ⟨n, j, rfl⟩ : ∃ (n : Fin 65536) (j : Fin 1024), y = ix2 n j := ⟨y 0, y 1, by funext b; match b with | 0 => rfl | 1 => rfl⟩
    exact Cert.Reference4Ideal.Post.result _ _ _ _ _ _ _ _ _ n j

end Cert

end
-- ==== Proof.SamplePre.lean ====
/-
  The call before the attention for the sample batch: the input blocks of a grid point hold the entries of the arguments,
  a sequence being eight points.
-/
module

public import proofs.«01_k».proof.Defs
public import proofs.«01_k».proof.Proof.PreOut
public import proofs.«01_k».proof.Proof.PreGob
public import proofs.«01_k».proof.Proof.PreQ
public import proofs.«01_k».proof.Proof.Gen.Kernel5Ideal
public import proofs.«01_k».proof.Proof.Gen.Kernel5Ideal.Frame
public import proofs.«01_k».proof.Proof.Gen.Kernel5Ideal.Value
public import Idealize.ShloMosaic.Lib.Claim
public import Idealize.ShloMosaic.Lib.Pointwise
public import Idealize.ShloMosaic.Lib.Pipeline.ValueKit.Geometry

@[expose] public section

set_option maxRecDepth 16384

noncomputable section

namespace Cert.Kernel5Ideal.Pre

open Cert.Kernel5Ideal Cert.Kernel5Ideal.Gen
open Idealize.ShloMosaic Idealize.ShloMosaic.TcCoe Idealize.ShloMosaic.Pointwise Idealize.ShloMosaic.Pipeline

variable (m : (ℓ : Loc nD τ sig) → Buf (Elt Ideal) ℓ) (c : Dev nD) (b : Fin 16)

/-- The arguments as launched. -/
abbrev aX : S16x4096x1024.Idx → EReal := m ((c : Thread nD τ).loc main_arg0)
abbrev aGmix : S1024.Idx → EReal := m ((c : Thread nD τ).loc main_arg1)
abbrev aW : S1024x4800.Idx → EReal := m ((c : Thread nD τ).loc main_arg2)
abbrev aGq : S384.Idx → EReal := m ((c : Thread nD τ).loc main_arg3)
abbrev aWq : S384x1536.Idx → EReal := m ((c : Thread nD τ).loc main_arg4)
abbrev aGkv : S256.Idx → EReal := m ((c : Thread nD τ).loc main_arg5)
abbrev aWkv : S256x2048.Idx → EReal := m ((c : Thread nD τ).loc main_arg6)
abbrev aGsgu : S1024.Idx → EReal := m ((c : Thread nD τ).loc main_arg7)
abbrev aWs : S8x128x128.Idx → EReal := m ((c : Thread nD τ).loc main_arg8)
abbrev aBs : S8x128.Idx → EReal := m ((c : Thread nD τ).loc main_arg9)

/-- The arguments as plain functions for sequence `b`, whose tokens are counted modulo their number, and the rotation tables. -/
def args : Row.Args where
  x n d := aX m c (ix3 b ⟨n.val % 4096, by omega⟩ d)
  gmix d := aGmix m c (ix1 d)
  w d e := aW m c (ix2 d e)
  gq d := aGq m c (ix1 d)
  wq d e := aWq m c (ix2 d e)
  gkv d := aGkv m c (ix1 d)
  wkv d e := aWkv m c (ix2 d e)
  gsgu d := aGsgu m c (ix1 d)
  ws g p q := aWs m c (ix3 g p q)
  bs g p := aBs m c (ix2 g p)
  cos n i := Ideal.cos (Row.turn n.val i.val)
  sin n i := Ideal.sin (Row.turn n.val i.val)

/-- A token's place in its sequence, among the places of the longest sequence. -/
abbrev up (n : Fin 4096) : Fin 16384 := ⟨n.val, by omega⟩

theorem V23 (n : Fin 65536) (d : Fin 1024) : V m c main_v23 (ix2 n d) = aX m c (ix3 (n0 := 16) ⟨n.val / 4096, by omega⟩ ⟨n.val % 4096, by omega⟩ d) := by
  show StableHlo.after hostOps0 _ _ _ = _
  after_results_simp
  pointwise

/-- The gains are rows. -/
theorem Vg : (∀ d : Fin 1024, V m c main_v18 (ix2 0 d) = (args m c b).gmix d) ∧ (∀ d : Fin 384, V m c main_v19 (ix2 0 d) = (args m c b).gq d)
    ∧ (∀ d : Fin 256, V m c main_v20 (ix2 0 d) = (args m c b).gkv d) ∧ (∀ d : Fin 1024, V m c main_v21 (ix2 0 d) = (args m c b).gsgu d) := by
  refine ⟨?_, ?_, ?_, ?_⟩ <;> (intro d; show StableHlo.after hostOps0 _ _ _ = _; after_results_simp; pointwise; rfl)

/-- The weights of the queries, keys, values and of the mixing. -/
theorem Vw : (∀ (e : Fin 1536) (d : Fin 384), V m c main_v6 (ix2 e d) = (args m c b).wq d e)
    ∧ (∀ (d : Fin 256) (e : Fin 1024), V m c main_v10 (ix2 d e) = (args m c b).wkv d ⟨e.val / 128 * 256 + e.val % 128, by omega⟩)
    ∧ (∀ (e : Fin 1024) (d : Fin 256), V m c main_v14 (ix2 e d) = (args m c b).wkv d ⟨e.val / 128 * 256 + (128 + e.val % 128), by omega⟩)
    ∧ (∀ (p : Fin 128) (j : Fin 1024), V m c main_v17 (ix2 p j) = (args m c b).bs ⟨j.val / 128, by omega⟩ p) := by
  refine ⟨?_, ?_, ?_, ?_⟩ <;> (intro d e; show StableHlo.after hostOps0 _ _ _ = _; after_results_simp; pointwise; rfl)

theorem Vs (g : Fin 8) (p q : Fin 128) : V m c main_v22 (ix3 g p q) = (args m c b).ws g p q := by
  show StableHlo.after hostOps0 _ _ _ = _
  after_results_simp
  pointwise
  rfl

/-- The tables with the positions along the second axis. -/
theorem Vt (i : Fin 32) (n : Fin 4096) : V m c main_v48 (ix2 i n) = (args m c b).cos (up n) i ∧ V m c main_v49 (ix2 i n) = (args m c b).sin (up n) i := by
  constructor <;> (show StableHlo.after hostOps0 _ _ _ = _; after_results_simp; pointwise; rfl)

theorem V4 (d : Fin 1024) (j : Fin 4864) (k : Fin 4800) (h : (k.val < 704 ∧ j.val = k.val) ∨ (704 ≤ k.val ∧ j.val = k.val + 64)) :
    V m c main_v4 (ix2 d j) = (args m c b).w d k := by
  show StableHlo.after hostOps0 _ _ _ = _
  after_results_simp
  pointwise
  after_results_simp
  pointwise
  have e : ∀ i : Fin 4800, i.val = k.val → aW m c (ix2 d i) = (args m c b).w d k := by
    intro i hi
    rw [Fin.ext hi]
    rfl
  split_ifs <;> first | omega | (refine e _ ?_; dsimp only; omega)

/-- The tables with the positions along the first axis, padded. -/
theorem Vr (n : Fin 4096) (j : Fin 128) :
    V m c main_v44 (ix2 n j) = (if j.val < 64 then (args m c b).cos (up n) ⟨j.val % 32, by omega⟩ else 0)
      ∧ V m c main_v46 (ix2 n j) = (if j.val < 32 then - (args m c b).sin (up n) ⟨j.val % 32, by omega⟩ else 0)
      ∧ V m c main_v47 (ix2 n j) = if 32 ≤ j.val ∧ j.val < 64 then (args m c b).sin (up n) ⟨j.val % 32, by omega⟩ else 0 := by
  have e1 : ∀ h : j.val < 32, j.val % 32 = j.val := fun h => by omega
  have e2 : ∀ h : j.val - 32 < 32, ¬ j.val < 32 → j.val % 32 = j.val - 32 := fun h _ => by omega
  refine ⟨?_, ?_, ?_⟩ <;> (show StableHlo.after hostOps0 _ _ _ = _; after_results_simp; pointwise; after_results_simp; pointwise) <;>
    split_ifs <;> first | omega | rfl | (unfold args; dsimp only; first | rw [e1 (by assumption)]; rfl | rw [e2 (by assumption) (by assumption)]; rfl)

/-- Where the blocks of a point begin. -/
theorem index : ∀ t : Fin cfg0.N, win0_0.index t = ![t.val, 0]
    ∧ (win0_1.index t = ![0, 0] ∧ win0_2.index t = ![0, 0] ∧ win0_3.index t = ![0, 0] ∧ win0_4.index t = ![0, 0] ∧ win0_5.index t = ![0, 0]
      ∧ win0_6.index t = ![0, 0] ∧ win0_7.index t = ![0, 0] ∧ win0_8.index t = ![0, 0] ∧ win0_9.index t = ![0, 0, 0] ∧ win0_10.index t = ![0, 0])
    ∧ (win0_11.index t = ![t.val % 8, 0] ∧ win0_12.index t = ![t.val % 8, 0] ∧ win0_13.index t = ![t.val % 8, 0])
    ∧ (win0_14.index t = ![0, t.val % 8] ∧ win0_15.index t = ![0, t.val % 8])
    ∧ win0_16.index t = ![0, t.val, 0, 0] ∧ win0_17.index t = ![0, t.val, 0] ∧ win0_18.index t = ![0, t.val, 0, 0]
    ∧ win0_19.index t = ![t.val, 0] ∧ win0_20.index t = ![t.val, 0] := (by decide +kernel : ∀ t : Fin grid0.N, _)

/-- A point's sequence, and its place among the eight of the sequence. -/
abbrev seqOf (t : Fin cfg0.N) : Fin 16 := ⟨t.val / 8, by have : t.val < 128 := t.isLt; omega⟩
abbrev pt (t : Fin cfg0.N) : Fin 32 := ⟨t.val % 8, by omega⟩

variable (t : Fin cfg0.N)

set_option maxHeartbeats 4000000 in
/-- The input blocks of a grid point hold the arguments' entries. -/
theorem block : Cert.Kernel3Ideal.Pre.Block (args m c (seqOf t)) (pt t) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk m c 13 t) (iblk m c 14 t)
    (iblk m c 15 t) := by
  obtain ⟨i0, ⟨i1, i2, i3, i4, i5, i6, i7, i8, i9, i10⟩, ⟨i11, i12, i13⟩, ⟨i14, i15⟩, -⟩ := index t
  have ht : t.val < 128 := t.isLt
  have row : ∀ r : Fin 512, (pt t).val * 512 + r.val < 4096 := fun r => by dsimp only; omega
  constructor
  · intro r d
    have e := V23 m c ⟨t.val * 512 + r.val, by omega⟩ d
    refine Eq.trans ?_ (e.trans ?_)
    · blk_simp [iblk]
      refine congrArg (V m c main_v23) ?_
      blk_ext [i0]
    · refine congrArg (aX m c) ?_
      congr 1 <;> exact Fin.ext (by dsimp only; omega)
  · intro d
    refine Eq.trans ?_ ((Vg m c (seqOf t)).1 d)
    blk_simp [iblk]
    refine congrArg (V m c main_v18) ?_
    blk_ext [i1]
  · intro d j k h
    refine Eq.trans ?_ (V4 m c (seqOf t) d j k h)
    blk_simp [iblk]
    refine congrArg (V m c main_v4) ?_
    blk_ext [i2]
  · intro d
    refine Eq.trans ?_ ((Vg m c (seqOf t)).2.1 d)
    blk_simp [iblk]
    refine congrArg (V m c main_v19) ?_
    blk_ext [i3]
  · intro e d
    refine Eq.trans ?_ ((Vw m c (seqOf t)).1 e d)
    blk_simp [iblk]
    refine congrArg (V m c main_v6) ?_
    blk_ext [i4]
  · intro d
    refine Eq.trans ?_ ((Vg m c (seqOf t)).2.2.1 d)
    blk_simp [iblk]
    refine congrArg (V m c main_v20) ?_
    blk_ext [i5]
  · intro d e
    refine Eq.trans ?_ ((Vw m c (seqOf t)).2.1 d e)
    blk_simp [iblk]
    refine congrArg (V m c main_v10) ?_
    blk_ext [i6]
  · intro e d
    refine Eq.trans ?_ ((Vw m c (seqOf t)).2.2.1 e d)
    blk_simp [iblk]
    refine congrArg (V m c main_v14) ?_
    blk_ext [i7]
  · intro d
    refine Eq.trans ?_ ((Vg m c (seqOf t)).2.2.2 d)
    blk_simp [iblk]
    refine congrArg (V m c main_v21) ?_
    blk_ext [i8]
  · intro g p q
    refine Eq.trans ?_ (Vs m c (seqOf t) g p q)
    blk_simp [iblk]
    refine congrArg (V m c main_v22) ?_
    blk_ext [i9]
  · intro p j
    refine Eq.trans ?_ ((Vw m c (seqOf t)).2.2.2 p j)
    blk_simp [iblk]
    refine congrArg (V m c main_v17) ?_
    blk_ext [i10]
  · intro r j
    refine Eq.trans ?_ ((Vr m c (seqOf t) ⟨_, row r⟩ j).1)
    blk_simp [iblk]
    refine congrArg (V m c main_v44) ?_
    blk_ext [i11]
  · intro r j
    refine Eq.trans ?_ ((Vr m c (seqOf t) ⟨_, row r⟩ j).2.1)
    blk_simp [iblk]
    refine congrArg (V m c main_v46) ?_
    blk_ext [i12]
  · intro r j
    refine Eq.trans ?_ ((Vr m c (seqOf t) ⟨_, row r⟩ j).2.2)
    blk_simp [iblk]
    refine congrArg (V m c main_v47) ?_
    blk_ext [i13]
  · intro i r
    refine Eq.trans ?_ ((Vt m c (seqOf t) i ⟨_, row r⟩).1)
    blk_simp [iblk]
    refine congrArg (V m c main_v48) ?_
    blk_ext [i14]
  · intro i r
    refine Eq.trans ?_ ((Vt m c (seqOf t) i ⟨_, row r⟩).2)
    blk_simp [iblk]
    refine congrArg (V m c main_v49) ?_
    blk_ext [i15]

end Cert.Kernel5Ideal.Pre

end
-- ==== Proof.SampleFin.lean ====
/-
  The call before the attention for the sample batch: each of its five results is its formula, sequence by sequence.
-/
module

public import proofs.«01_k».proof.Proof.SamplePre

@[expose] public section

set_option maxRecDepth 16384

noncomputable section

namespace Cert.Kernel5Ideal.Pre

open Cert.Kernel5Ideal Cert.Kernel5Ideal.Gen
open Idealize.ShloMosaic Idealize.ShloMosaic.TcCoe Idealize.ShloMosaic.Pointwise Idealize.ShloMosaic.Pipeline

variable (m : (ℓ : Loc nD τ sig) → Buf (Elt Ideal) ℓ) (c : Dev nD) (t : Fin cfg0.N)

set_option maxHeartbeats 4000000 in
/-- The body is the prompt's. -/
theorem body : outsAt0 m c t = Cert.Kernel3Ideal.Pre.left c (pt t) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk m c 13 t) (iblk m c 14 t)
    (iblk m c 15 t) := by
  unfold outsAt0 Cert.Kernel3Ideal.Pre.left
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  generalize iblk m c 15 t = x15
  refine Prod.ext ?_ (Prod.ext ?_ (Prod.ext ?_ (Prod.ext ?_ ?_))) <;> dsimp only
  all_goals
    frame_out
    rfl

open Cert.Kernel3Ideal.Pre (out16 out17 out18 out19 out20)

/-- An entry of a result of a sequence, its token told by its number among all tokens. -/
theorem pick {α β : Type} (f : Fin 16 → α → Fin 16384 → β → EReal) (r : Fin 512) {a a' : α} {n : Fin 65536} {d d' : β} (ha : a = a')
    (hn : n.val = t.val * 512 + r.val) (hd : d = d') :
    f (seqOf t) a (Cert.Kernel3Ideal.Pre.tok (pt t) r) d = f ⟨n.val / 4096, by omega⟩ a' ⟨n.val % 4096, by omega⟩ d' := by
  rw [ha, hd]
  have ht : t.val < 128 := t.isLt
  congr 1 <;> first | exact Fin.ext (by dsimp only; omega) | (congr 1; exact Fin.ext (by dsimp only; omega))

/-- The sequence of a token, and its place there. -/
abbrev hi (n : Fin 65536) : Fin 16 := ⟨n.val / 4096, by omega⟩
abbrev lo (n : Fin 65536) : Fin 16384 := ⟨n.val % 4096, by omega⟩

/-- Token `r` of block `b`. -/
abbrev at512 (b : Fin 128) (r : Fin 512) : Fin 65536 := ⟨b.val * 512 + r.val, by omega⟩

/-- The five whole results. -/
theorem final16 : (dats m 0 c).arrAt 16 cfg0.N
    = fun y : S8x128x256x512.Idx => (args m c (hi (at512 (y 1) (y 3)))).qt (y 0) (lo (at512 (y 1) (y 3))) (y 2) := by
  refine (dats m 0 c).arrAt_eq_of_covers 16 _ (by decide +kernel) fun t hf y => ?_
  blk_simp
  rw [after0_16, body]
  refine (out16 (block m c t) y).trans ?_
  refine pick t (fun b a n d => (args m c b).qt a n d) (y 3) (Fin.ext ?_) (congrArg₂ (fun a b : ℕ => a * 512 + b) ?_ ?_) (Fin.ext ?_) <;> blk_simp [(index t).2.2.2.2.1]

theorem final17 : (dats m 0 c).arrAt 17 cfg0.N = fun y : S8x65536x256.Idx => (args m c (hi (y 1))).k (y 0) (lo (y 1)) (y 2) := by
  refine (dats m 0 c).arrAt_eq_of_covers 17 _ (by decide +kernel) fun t hf y => ?_
  blk_simp
  rw [after0_17, body]
  refine (out17 (block m c t) y).trans ?_
  refine pick t (fun b a n d => (args m c b).k a n d) (y 1) (Fin.ext ?_) ?_ (Fin.ext ?_) <;> blk_simp [(index t).2.2.2.2.2.1]

theorem final18 : (dats m 0 c).arrAt 18 cfg0.N
    = fun y : S8x128x144x512.Idx => (args m c (hi (at512 (y 1) (y 3)))).vt (y 0) (lo (at512 (y 1) (y 3))) (y 2) := by
  refine (dats m 0 c).arrAt_eq_of_covers 18 _ (by decide +kernel) fun t hf y => ?_
  blk_simp
  rw [after0_18, body]
  refine (out18 (block m c t) y).trans ?_
  refine pick t (fun b a n d => (args m c b).vt a n d) (y 3) (Fin.ext ?_) (congrArg₂ (fun a b : ℕ => a * 512 + b) ?_ ?_) (Fin.ext ?_) <;> blk_simp [(index t).2.2.2.2.2.2.1]

theorem final19 : (dats m 0 c).arrAt 19 cfg0.N = fun y : S65536x1024.Idx => (args m c (hi (y 0))).sga (lo (y 0)) (y 1) := by
  refine (dats m 0 c).arrAt_eq_of_covers 19 _ (by decide +kernel) fun t hf y => ?_
  blk_simp
  rw [after0_19, body]
  refine (out19 (block m c t) y).trans ?_
  refine pick t (fun b (_ : Unit) n d => (args m c b).sga n d) (a' := ()) (y 0) rfl ?_ (Fin.ext ?_) <;> blk_simp [(index t).2.2.2.2.2.2.2.1]

theorem final20 : (dats m 0 c).arrAt 20 cfg0.N = fun y : S65536x1024.Idx => (args m c (hi (y 0))).gob (lo (y 0)) (y 1) := by
  refine (dats m 0 c).arrAt_eq_of_covers 20 _ (by decide +kernel) fun t hf y => ?_
  blk_simp
  rw [after0_20, body]
  refine (out20 (block m c t) y).trans ?_
  refine pick t (fun b (_ : Unit) n d => (args m c b).gob n d) (a' := ()) (y 0) rfl ?_ (Fin.ext ?_) <;> blk_simp [(index t).2.2.2.2.2.2.2.2]

end Cert.Kernel5Ideal.Pre

end
-- ==== Proof.SampleRef.lean ====
/-
  The reference of the call before the attention for the sample batch has the same formulas, sequence by sequence.
-/
module

public import proofs.«01_k».proof.Defs
public import proofs.«01_k».proof.Proof.PreRow
public import proofs.«01_k».proof.Proof.Gen.Reference5Ideal
public import proofs.«01_k».proof.Proof.Gen.Reference5Ideal.Run
public import proofs.«01_k».proof.Proof.Gen.Reference5Ideal.Read
public import Idealize.ShloMosaic.Lib.Pointwise

@[expose] public section

set_option maxRecDepth 16384

noncomputable section

namespace Cert.Reference5Ideal.Pre

open Cert.Reference5Ideal Cert.Reference5Ideal.Gen Cert.Reference5Ideal.Read
open Idealize.ShloMosaic Idealize.ShloMosaic.TcCoe Idealize.ShloMosaic.Pointwise

variable (x0 : Vec Ideal S16x4096x1024 .f32) (x1 : Vec Ideal S1024 .f32) (x2 : Vec Ideal S1024x4800 .f32) (x3 : Vec Ideal S384 .f32)
  (x4 : Vec Ideal S384x1536 .f32) (x5 : Vec Ideal S256 .f32) (x6 : Vec Ideal S256x2048 .f32) (x7 : Vec Ideal S1024 .f32)
  (x8 : Vec Ideal S8x128x128 .f32) (x9 : Vec Ideal S8x128 .f32) (b : Fin 16)

/-- The arguments as plain functions for sequence `b`, whose tokens are counted modulo their number, and the rotation tables. -/
def args : Row.Args where
  x n d := x0 (ix3 b ⟨n.val % 4096, by omega⟩ d)
  gmix d := x1 (ix1 d)
  w d e := x2 (ix2 d e)
  gq d := x3 (ix1 d)
  wq d e := x4 (ix2 d e)
  gkv d := x5 (ix1 d)
  wkv d e := x6 (ix2 d e)
  gsgu d := x7 (ix1 d)
  ws g p q := x8 (ix3 g p q)
  bs g p := x9 (ix2 g p)
  cos n i := Ideal.cos (Row.turn n.val i.val)
  sin n i := Ideal.sin (Row.turn n.val i.val)

/-- A token's place in its sequence, among the places of the longest sequence. -/
abbrev up (n : Fin 4096) : Fin 16384 := ⟨n.val, by omega⟩

/-- The sequence of a token, and its place there. -/
abbrev hi (n : Fin 65536) : Fin 16 := ⟨n.val / 4096, by omega⟩
abbrev lo (n : Fin 65536) : Fin 16384 := ⟨n.val % 4096, by omega⟩

/-- Token `r` of block `p`. -/
abbrev at512 (p : Fin 128) (r : Fin 512) : Fin 65536 := ⟨p.val * 512 + r.val, by omega⟩

theorem z (n : Fin 4096) (e : Fin 4800) : val_main_v13 (F := Ideal) x0 x1 x2 (ix3 b n e) = (args x0 x1 x2 x3 x4 x5 x6 x7 x8 x9 b).z (up n) e := by
  have hx : (args x0 x1 x2 x3 x4 x5 x6 x7 x8 x9 b).x (up n) = fun d => x0 (ix3 b n d) := by
    unfold args
    dsimp only
    rw [show (⟨n.val % 4096, _⟩ : Fin 4096) = n from Fin.ext (Nat.mod_eq_of_lt n.isLt)]
  unfold Row.Args.z
  rw [hx]
  pointwise [val_main_v13, val_main_v12, val_main_v11, val_main_v10, val_main_v9, val_main_v8, val_main_v7, val_main_v6, val_main_v5, val_main_v4, val_main_v3,
    val_main_v2, val_main_v1, val_main_v0, val_main_cst, val_main_cst_0, val_main_cst_1]
  rfl

theorem turn (n : Fin 4096) (i : Fin 32) : val_main_v34 (F := Ideal) (ix2 n i) = Row.turn n.val i.val := by
  pointwise [val_main_v34, val_main_v33, val_main_v32, val_main_v31, val_main_v30, val_main_v29, val_main_v28, val_main_v27, val_main_v26, val_main_v25,
    val_main_v24, val_main_v23, val_main_v22, val_main_v21, val_main_v20, val_main_v19, val_main_cst_2, val_main_cst_3, val_main_cst_4, val_main_cst_5]
  rfl

theorem cos (n : Fin 4096) (j : Fin 64) (i : Fin 32) (h : j.val = i.val ∨ j.val = i.val + 32) :
    val_main_v36 (F := Ideal) (ix2 n j) = (args x0 x1 x2 x3 x4 x5 x6 x7 x8 x9 b).cos (up n) i := by
  show _ = Ideal.cos (Row.turn n.val i.val)
  pointwise [val_main_v36, val_main_v35]
  simp only [turn]
  split_ifs
  · rw [show j.val = i.val by omega]
  · rw [show j.val - 32 = i.val by omega]

theorem sin (n : Fin 4096) (j : Fin 64) (i : Fin 32) (h : j.val = i.val ∨ j.val = i.val + 32) :
    val_main_v37 (F := Ideal) (ix2 n j) = (args x0 x1 x2 x3 x4 x5 x6 x7 x8 x9 b).sin (up n) i := by
  show _ = Ideal.sin (Row.turn n.val i.val)
  pointwise [val_main_v37, val_main_v35]
  simp only [turn]
  split_ifs
  · rw [show j.val = i.val by omega]
  · rw [show j.val - 32 = i.val by omega]

theorem q (n : Fin 4096) (e : Fin 1536) : val_main_v51 (F := Ideal) x0 x1 x2 x3 x4 (ix3 b n e) = (args x0 x1 x2 x3 x4 x5 x6 x7 x8 x9 b).q (up n) e := by
  have h := z x0 x1 x2 x3 x4 x5 x6 x7 x8 x9 b n
  pointwise [val_main_v51, val_main_v50, val_main_v49, val_main_v48, val_main_v47, val_main_v46, val_main_v45, val_main_v44, val_main_v43, val_main_v42,
    val_main_v41, val_main_v40, val_main_v39, val_main_v38, val_main_v14, val_main_cst_6, val_main_cst_7, val_main_cst_8]
  simp only [h]
  rfl

theorem kv (n : Fin 4096) (e : Fin 2048) : val_main_v80 (F := Ideal) x0 x1 x2 x5 x6 (ix3 b n e) = (args x0 x1 x2 x3 x4 x5 x6 x7 x8 x9 b).kv (up n) e := by
  have h := z x0 x1 x2 x3 x4 x5 x6 x7 x8 x9 b n
  pointwise [val_main_v80, val_main_v79, val_main_v78, val_main_v77, val_main_v76, val_main_v75, val_main_v74, val_main_v73, val_main_v72, val_main_v71,
    val_main_v70, val_main_v69, val_main_v68, val_main_v67, val_main_v15, val_main_cst_9, val_main_cst_10, val_main_cst_11]
  simp only [h]
  rfl

include x5 x6 x7 x8 x9 in
theorem ropeq_fst (n : Fin 4096) (h : Fin 8) (j : Fin 64) (i : Fin 32) (hj : j.val = i.val) (p r : Fin 1536)
    (hp : p.val = h.val * 192 + 128 + i.val) (hr : r.val = h.val * 192 + 128 + (32 + i.val)) :
    val_main_v66 (F := Ideal) x0 x1 x2 x3 x4 (ix4 b n h j) = (args x0 x1 x2 x3 x4 x5 x6 x7 x8 x9 b).fst (up n) i ((args x0 x1 x2 x3 x4 x5 x6 x7 x8 x9 b).q (up n) p) ((args x0 x1 x2 x3 x4 x5 x6 x7 x8 x9 b).q (up n) r) := by
  unfold val_main_v66 val_main_v65 val_main_v64 val_main_v63 val_main_v62 val_main_v61 val_main_v60 val_main_v59 val_main_v58 val_main_v57 val_main_v56 val_main_v53 val_main_v52
  have e := q x0 x1 x2 x3 x4 x5 x6 x7 x8 x9 b n
  have ec := cos x0 x1 x2 x3 x4 x5 x6 x7 x8 x9 b n j i
  have es := sin x0 x1 x2 x3 x4 x5 x6 x7 x8 x9 b n j i
  generalize val_main_v51 (F := Ideal) x0 x1 x2 x3 x4 = Q at e ⊢
  pointwise [val_main_v54, val_main_v55]
  rw [dif_pos (by omega), ec (Or.inl hj), es (Or.inl hj), e, e, neg_mul, ← sub_eq_add_neg]
  unfold Row.Args.fst
  congr 3 <;> exact Fin.ext (by dsimp only; omega)

include x5 x6 x7 x8 x9 in
theorem ropeq_snd (n : Fin 4096) (h : Fin 8) (j : Fin 64) (i : Fin 32) (hj : j.val = i.val + 32) (p r : Fin 1536)
    (hp : p.val = h.val * 192 + 128 + i.val) (hr : r.val = h.val * 192 + 128 + (32 + i.val)) :
    val_main_v66 (F := Ideal) x0 x1 x2 x3 x4 (ix4 b n h j) = (args x0 x1 x2 x3 x4 x5 x6 x7 x8 x9 b).snd (up n) i ((args x0 x1 x2 x3 x4 x5 x6 x7 x8 x9 b).q (up n) p) ((args x0 x1 x2 x3 x4 x5 x6 x7 x8 x9 b).q (up n) r) := by
  unfold val_main_v66 val_main_v65 val_main_v64 val_main_v63 val_main_v62 val_main_v61 val_main_v60 val_main_v59 val_main_v58 val_main_v57 val_main_v56 val_main_v53 val_main_v52
  have e := q x0 x1 x2 x3 x4 x5 x6 x7 x8 x9 b n
  have ec := cos x0 x1 x2 x3 x4 x5 x6 x7 x8 x9 b n j i
  have es := sin x0 x1 x2 x3 x4 x5 x6 x7 x8 x9 b n j i
  generalize val_main_v51 (F := Ideal) x0 x1 x2 x3 x4 = Q at e ⊢
  pointwise [val_main_v54, val_main_v55]
  rw [dif_neg (by omega), ec (Or.inr hj), es (Or.inr hj), e, e]
  unfold Row.Args.snd
  congr 3 <;> exact Fin.ext (by dsimp only; omega)

theorem ropek_fst (n : Fin 4096) (j : Fin 64) (i : Fin 32) (hj : j.val = i.val) (p r : Fin 4800)
    (hp : p.val = 640 + i.val) (hr : r.val = 640 + (32 + i.val)) :
    val_main_v92 (F := Ideal) x0 x1 x2 (ix3 b n j) = (args x0 x1 x2 x3 x4 x5 x6 x7 x8 x9 b).fst (up n) i ((args x0 x1 x2 x3 x4 x5 x6 x7 x8 x9 b).z (up n) p) ((args x0 x1 x2 x3 x4 x5 x6 x7 x8 x9 b).z (up n) r) := by
  unfold val_main_v92 val_main_v91 val_main_v90 val_main_v89 val_main_v88 val_main_v87 val_main_v86 val_main_v85 val_main_v84 val_main_v83 val_main_v82 val_main_v16
  have e := z x0 x1 x2 x3 x4 x5 x6 x7 x8 x9 b n
  have ec := cos x0 x1 x2 x3 x4 x5 x6 x7 x8 x9 b n j i
  have es := sin x0 x1 x2 x3 x4 x5 x6 x7 x8 x9 b n j i
  generalize val_main_v13 (F := Ideal) x0 x1 x2 = Z at e ⊢
  pointwise
  rw [dif_pos (by omega), ec (Or.inl hj), es (Or.inl hj), e, e, neg_mul, ← sub_eq_add_neg]
  unfold Row.Args.fst
  congr 3 <;> exact Fin.ext (by dsimp only; omega)

theorem ropek_snd (n : Fin 4096) (j : Fin 64) (i : Fin 32) (hj : j.val = i.val + 32) (p r : Fin 4800)
    (hp : p.val = 640 + i.val) (hr : r.val = 640 + (32 + i.val)) :
    val_main_v92 (F := Ideal) x0 x1 x2 (ix3 b n j) = (args x0 x1 x2 x3 x4 x5 x6 x7 x8 x9 b).snd (up n) i ((args x0 x1 x2 x3 x4 x5 x6 x7 x8 x9 b).z (up n) p) ((args x0 x1 x2 x3 x4 x5 x6 x7 x8 x9 b).z (up n) r) := by
  unfold val_main_v92 val_main_v91 val_main_v90 val_main_v89 val_main_v88 val_main_v87 val_main_v86 val_main_v85 val_main_v84 val_main_v83 val_main_v82 val_main_v16
  have e := z x0 x1 x2 x3 x4 x5 x6 x7 x8 x9 b n
  have ec := cos x0 x1 x2 x3 x4 x5 x6 x7 x8 x9 b n j i
  have es := sin x0 x1 x2 x3 x4 x5 x6 x7 x8 x9 b n j i
  generalize val_main_v13 (F := Ideal) x0 x1 x2 = Z at e ⊢
  pointwise
  rw [dif_neg (by omega), ec (Or.inr hj), es (Or.inr hj), e, e]
  unfold Row.Args.snd
  congr 3 <;> exact Fin.ext (by dsimp only; omega)

/-- The entries of the queries, keys and values before they are laid out. -/
theorem query (n : Fin 4096) (h : Fin 8) (r : Fin 256) : val_main_v97 (F := Ideal) x0 x1 x2 x3 x4 (ix4 b n h r) = (args x0 x1 x2 x3 x4 x5 x6 x7 x8 x9 b).qt h (up n) r := by
  pointwise [val_main_v97, val_main_v96, val_main_v95, val_main_v94, val_main_v93, val_main_cst_13, val_main_cst_12, val_main_v52]
  unfold Row.Args.qt
  by_cases h1 : r.val < 128
  · rw [dif_pos h1, dif_pos h1, q x0 x1 x2 x3 x4 x5 x6 x7 x8 x9]
  rw [dif_neg h1, dif_neg h1]
  by_cases h2 : r.val < 160
  · rw [dif_pos (by omega), dif_pos h2, ropeq_fst x0 x1 x2 x3 x4 x5 x6 x7 x8 x9 b n h _ ⟨r.val - 128, by omega⟩ rfl ⟨h.val * 192 + r.val, by omega⟩
      ⟨h.val * 192 + (r.val + 32), by omega⟩ (by dsimp only; omega) (by dsimp only; omega)]
  rw [dif_neg h2]
  by_cases h3 : r.val < 192
  · rw [dif_pos (by omega), dif_pos h3, ropeq_snd x0 x1 x2 x3 x4 x5 x6 x7 x8 x9 b n h _ ⟨r.val - 160, by omega⟩ (by dsimp only; omega)
      ⟨h.val * 192 + (r.val - 32), by omega⟩ ⟨h.val * 192 + r.val, by omega⟩ (by dsimp only; omega) (by dsimp only; omega)]
  · rw [dif_neg (by omega), dif_neg h3, zero_mul]

theorem key (n : Fin 4096) (h : Fin 8) (r : Fin 256) : val_main_v101 (F := Ideal) x0 x1 x2 x5 x6 (ix4 b n h r) = (args x0 x1 x2 x3 x4 x5 x6 x7 x8 x9 b).k h (up n) r := by
  pointwise [val_main_v101, val_main_v100, val_main_v99, val_main_v98, val_main_v93, val_main_cst_12, val_main_v81]
  unfold Row.Args.k Row.Args.kr
  by_cases h1 : r.val < 128
  · rw [dif_pos h1, dif_pos h1, kv x0 x1 x2 x3 x4 x5 x6 x7 x8 x9]
  rw [dif_neg h1, dif_neg h1]
  dsimp only
  by_cases h2 : r.val - 128 < 32
  · rw [dif_pos (by omega), dif_pos h2, ropek_fst x0 x1 x2 x3 x4 x5 x6 x7 x8 x9 b n _ ⟨r.val - 128, by omega⟩ rfl ⟨640 + (r.val - 128), by omega⟩
      ⟨640 + (r.val - 128 + 32), by omega⟩ rfl (by dsimp only; omega)]
  rw [dif_neg h2]
  by_cases h3 : r.val - 128 < 64
  · rw [dif_pos h3, dif_pos h3, ropek_snd x0 x1 x2 x3 x4 x5 x6 x7 x8 x9 b n _ ⟨r.val - 128 - 32, by omega⟩ (by dsimp only; omega) ⟨640 + (r.val - 128 - 32), by omega⟩
      ⟨640 + (r.val - 128), by omega⟩ rfl (by dsimp only; omega)]
  · rw [dif_neg h3, dif_neg h3]

theorem value (n : Fin 4096) (h : Fin 8) (r : Fin 144) : val_main_v104 (F := Ideal) x0 x1 x2 x5 x6 (ix4 b n h r) = (args x0 x1 x2 x3 x4 x5 x6 x7 x8 x9 b).vt h (up n) r := by
  pointwise [val_main_v104, val_main_v103, val_main_v102, val_main_cst_14, val_main_v81]
  simp only [kv x0 x1 x2 x3 x4 x5 x6 x7 x8 x9]
  rfl

theorem gelus (n : Fin 4096) (j : Fin 2048) : val_main_v123 (F := Ideal) x0 x1 x2 (ix3 b n j) = Row.gelu ((args x0 x1 x2 x3 x4 x5 x6 x7 x8 x9 b).z (up n) ⟨704 + j.val, by omega⟩) := by
  have h := z x0 x1 x2 x3 x4 x5 x6 x7 x8 x9 b n
  pointwise [val_main_v123, val_main_v122, val_main_v121, val_main_v120, val_main_v119, val_main_v118, val_main_v117, val_main_v116, val_main_v115, val_main_v114,
    val_main_v113, val_main_v112, val_main_v111, val_main_v17, val_main_cst_15, val_main_cst_16, val_main_cst_17, val_main_cst_18]
  simp only [h]
  unfold Row.gelu
  rw [Row.one, EReal.coe_one]

theorem vs (n : Fin 4096) (j : Fin 1024) : val_main_v138 (F := Ideal) x0 x1 x2 x7 (ix3 b n j) = (args x0 x1 x2 x3 x4 x5 x6 x7 x8 x9 b).vs (up n) j := by
  have h := gelus x0 x1 x2 x3 x4 x5 x6 x7 x8 x9 b n
  pointwise [val_main_v138, val_main_v137, val_main_v136, val_main_v135, val_main_v134, val_main_v133, val_main_v132, val_main_v131, val_main_v130, val_main_v129,
    val_main_v128, val_main_v127, val_main_v126, val_main_v125, val_main_cst_19, val_main_cst_20, val_main_cst_21]
  simp only [h]
  have e : ∀ d : Fin 1024, (⟨704 + (1024 + d.val), by omega⟩ : Fin 4800) = ⟨1728 + d.val, by omega⟩ := fun d => Fin.ext (by dsimp only; omega)
  simp only [e]
  rfl

theorem gate (n : Fin 4096) (j : Fin 1024) : val_main_v155 (F := Ideal) x0 x1 x2 (ix3 b n j) = (args x0 x1 x2 x3 x4 x5 x6 x7 x8 x9 b).sga (up n) j := by
  have h := z x0 x1 x2 x3 x4 x5 x6 x7 x8 x9 b n
  pointwise [val_main_v155, val_main_v154, val_main_v153, val_main_v152, val_main_v151, val_main_v150, val_main_v148, val_main_v18, val_main_cst_22,
    val_main_cst_23]
  simp only [h]
  rfl

theorem unit (n : Fin 4096) (j : Fin 1024) : val_main_v163 (F := Ideal) x0 x1 x2 x7 x8 x9 (ix3 b n j) = (args x0 x1 x2 x3 x4 x5 x6 x7 x8 x9 b).gob (up n) j := by
  pointwise [val_main_v163, val_main_v162, val_main_v161, val_main_v160, val_main_v159, val_main_v158, val_main_v157, val_main_v149, val_main_v18, val_main_v147,
    val_main_v146, val_main_v145, val_main_v144, val_main_v143, val_main_v142, val_main_v141, val_main_v140, val_main_v139, val_main_v124,
    val_main_cst_24, val_main_cst_25]
  unfold Row.Args.gob Row.Args.mixed
  have e : (⟨2752 + (1024 + j.val), by omega⟩ : Fin 4800) = ⟨3776 + j.val, by omega⟩ := Fin.ext (by dsimp only; omega)
  simp only [z x0 x1 x2 x3 x4 x5 x6 x7 x8 x9, gelus x0 x1 x2 x3 x4 x5 x6 x7 x8 x9, vs x0 x1 x2 x3 x4 x5 x6 x7 x8 x9, e]
  refine congrArg (_ * ·) (congrArg (_ * ·) (congrArg (· + _) (Finset.sum_congr rfl fun p _ => mul_comm _ _)))

/-- A block's token, by its sequence and its place there. -/
theorem hi_at (p : Fin 128) (t : Fin 512) : hi (at512 p t) = ⟨p.val / 8, by omega⟩ := Fin.ext (by dsimp only; omega)
theorem lo_at (p : Fin 128) (t : Fin 512) : lo (at512 p t) = up ⟨p.val % 8 * 512 + t.val, by omega⟩ := Fin.ext (by dsimp only; omega)

/-- The five results. -/
theorem result0 (h : Fin 8) (p : Fin 128) (r : Fin 256) (t : Fin 512) : val_main_v165 (F := Ideal) x0 x1 x2 x3 x4 (ix4 h p r t)
    = (args x0 x1 x2 x3 x4 x5 x6 x7 x8 x9 (hi (at512 p t))).qt h (lo (at512 p t)) r := by
  unfold val_main_v165 val_main_v106 val_main_v105
  have e := fun b => query x0 x1 x2 x3 x4 x5 x6 x7 x8 x9 b
  generalize val_main_v97 (F := Ideal) x0 x1 x2 x3 x4 = Q at e ⊢
  rw [hi_at, lo_at]
  pointwise
  exact e _ _ _ _

theorem result1 (h : Fin 8) (n : Fin 65536) (r : Fin 256) : val_main_v166 (F := Ideal) x0 x1 x2 x5 x6 (ix3 h n r)
    = (args x0 x1 x2 x3 x4 x5 x6 x7 x8 x9 (hi n)).k h (lo n) r := by
  unfold val_main_v166 val_main_v110 val_main_v109
  have e := fun b => key x0 x1 x2 x3 x4 x5 x6 x7 x8 x9 b
  generalize val_main_v101 (F := Ideal) x0 x1 x2 x5 x6 = Q at e ⊢
  pointwise
  exact e _ _ _ _

theorem result2 (h : Fin 8) (p : Fin 128) (r : Fin 144) (t : Fin 512) : val_main_v167 (F := Ideal) x0 x1 x2 x5 x6 (ix4 h p r t)
    = (args x0 x1 x2 x3 x4 x5 x6 x7 x8 x9 (hi (at512 p t))).vt h (lo (at512 p t)) r := by
  unfold val_main_v167 val_main_v108 val_main_v107
  have e := fun b => value x0 x1 x2 x3 x4 x5 x6 x7 x8 x9 b
  generalize val_main_v104 (F := Ideal) x0 x1 x2 x5 x6 = Q at e ⊢
  rw [hi_at, lo_at]
  pointwise
  exact e _ _ _ _

theorem result3 (n : Fin 65536) (j : Fin 1024) : val_main_v168 (F := Ideal) x0 x1 x2 (ix2 n j) = (args x0 x1 x2 x3 x4 x5 x6 x7 x8 x9 (hi n)).sga (lo n) j := by
  unfold val_main_v168 val_main_v156
  have e := fun b => gate x0 x1 x2 x3 x4 x5 x6 x7 x8 x9 b
  generalize val_main_v155 (F := Ideal) x0 x1 x2 = Q at e ⊢
  pointwise
  exact e _ _ _

theorem result4 (n : Fin 65536) (j : Fin 1024) : val_main_v169 (F := Ideal) x0 x1 x2 x7 x8 x9 (ix2 n j) = (args x0 x1 x2 x3 x4 x5 x6 x7 x8 x9 (hi n)).gob (lo n) j := by
  unfold val_main_v169 val_main_v164
  have e := fun b => unit x0 x1 x2 x3 x4 x5 x6 x7 x8 x9 b
  generalize val_main_v163 (F := Ideal) x0 x1 x2 x7 x8 x9 = Q at e ⊢
  pointwise
  exact e _ _ _

end Cert.Reference5Ideal.Pre

end
-- ==== Proof.SampleAlg.lean ====
/-
  The call before the attention for the sample batch and its reference end with the same five arrays over the reals.
-/
module

public import proofs.«01_k».proof.Proof.SampleFin
public import proofs.«01_k».proof.Proof.SampleRef
public import proofs.«01_k».proof.Proof.Gen.Kernel5
public import proofs.«01_k».proof.Proof.Gen.Kernel5.Frame

@[expose] public section

set_option maxRecDepth 16384

noncomputable section

open Idealize.ShloMosaic Idealize.ShloMosaic.TcCoe

namespace Cert

/-- The named constant is the product of the two rounded constants that it stands for. -/
theorem preserves5 : preserves_Kernel5_Kernel5Ideal :=
  IdealRules.named_const.statement Cert.Kernel5Ideal.κ "gelu_cubic" .f32 0x3D122279#32 ((80338380498831 / 2251799813685248 : ℝ) : EReal) rfl

theorem algebraic5 :
    algebraic_Kernel5Ideal_Reference5Ideal (hKernel5Ideal := Cert.Kernel5Ideal.Gen.facts) (hReference5Ideal := Cert.Reference5Ideal.Gen.facts) := by
  intro m g m' g' _ hargs
  refine ⟨fun c => (Cert.Kernel5Ideal.Gen.dats m 0 c).arrAt 16 _, fun c => (Cert.Kernel5Ideal.Gen.dats m 0 c).arrAt 17 _,
    fun c => (Cert.Kernel5Ideal.Gen.dats m 0 c).arrAt 18 _, fun c => (Cert.Kernel5Ideal.Gen.dats m 0 c).arrAt 19 _,
    fun c => (Cert.Kernel5Ideal.Gen.dats m 0 c).arrAt 20 _, Cert.Kernel5Ideal.Value.run_blocks (F := Ideal) m g, ?_⟩
  refine (θ_run _ _ _).mono (fun r h c => ?_) (Cert.Reference5Ideal.Value.run (F := Ideal) m' g')
  obtain ⟨e0, e1, e2, e3, e4, e5, e6, e7, e8, e9⟩ := hargs c
  obtain ⟨h0, h1, h2, h3, h4, hr⟩ := h c
  have key : ∀ b : Fin 16, Cert.Kernel5Ideal.Pre.args m c b = Cert.Reference5Ideal.Pre.args
      (m' (c.tc.loc Cert.Reference5Ideal.main_arg0)) (m' (c.tc.loc Cert.Reference5Ideal.main_arg1)) (m' (c.tc.loc Cert.Reference5Ideal.main_arg2)) (m' (c.tc.loc Cert.Reference5Ideal.main_arg3))
      (m' (c.tc.loc Cert.Reference5Ideal.main_arg4)) (m' (c.tc.loc Cert.Reference5Ideal.main_arg5)) (m' (c.tc.loc Cert.Reference5Ideal.main_arg6))
      (m' (c.tc.loc Cert.Reference5Ideal.main_arg7)) (m' (c.tc.loc Cert.Reference5Ideal.main_arg8)) (m' (c.tc.loc Cert.Reference5Ideal.main_arg9)) b := by
    intro b
    rw [e0, e1, e2, e3, e4, e5, e6, e7, e8, e9]
    rfl
  refine ⟨h0.trans ((Cert.Reference5Ideal.Read.val_main_v165_eq (StableHlo.launchContents m' c)).trans ?_), h1.trans ((Cert.Reference5Ideal.Read.val_main_v166_eq (StableHlo.launchContents m' c)).trans ?_),
    h2.trans ((Cert.Reference5Ideal.Read.val_main_v167_eq (StableHlo.launchContents m' c)).trans ?_), h3.trans ((Cert.Reference5Ideal.Read.val_main_v168_eq (StableHlo.launchContents m' c)).trans ?_),
    h4.trans ((Cert.Reference5Ideal.Read.val_main_v169_eq (StableHlo.launchContents m' c)).trans ?_), hr⟩
  · refine Eq.trans ?_ (Cert.Kernel5Ideal.Pre.final16 m c).symm
    simp only [key]
    funext y
    obtain ⟨a, b, r, t, rfl⟩ : ∃ (a : Fin 8) (b : Fin 128) (r : Fin 256) (t : Fin 512), y = ix4 a b r t :=
      ⟨y 0, y 1, y 2, y 3, by funext k; match k with | 0 => rfl | 1 => rfl | 2 => rfl | 3 => rfl⟩
    exact Cert.Reference5Ideal.Pre.result0 _ _ _ _ _ _ _ _ _ _ a b r t
  · refine Eq.trans ?_ (Cert.Kernel5Ideal.Pre.final17 m c).symm
    simp only [key]
    funext y
    obtain ⟨a, n, r, rfl⟩ : ∃ (a : Fin 8) (n : Fin 65536) (r : Fin 256), y = ix3 a n r :=
      ⟨y 0, y 1, y 2, by funext k; match k with | 0 => rfl | 1 => rfl | 2 => rfl⟩
    exact Cert.Reference5Ideal.Pre.result1 _ _ _ _ _ _ _ _ _ _ a n r
  · refine Eq.trans ?_ (Cert.Kernel5Ideal.Pre.final18 m c).symm
    simp only [key]
    funext y
    obtain ⟨a, b, r, t, rfl⟩ : ∃ (a : Fin 8) (b : Fin 128) (r : Fin 144) (t : Fin 512), y = ix4 a b r t :=
      ⟨y 0, y 1, y 2, y 3, by funext k; match k with | 0 => rfl | 1 => rfl | 2 => rfl | 3 => rfl⟩
    exact Cert.Reference5Ideal.Pre.result2 _ _ _ _ _ _ _ _ _ _ a b r t
  · refine Eq.trans ?_ (Cert.Kernel5Ideal.Pre.final19 m c).symm
    simp only [key]
    funext y
    obtain ⟨n, j, rfl⟩ : ∃ (n : Fin 65536) (j : Fin 1024), y = ix2 n j := ⟨y 0, y 1, by funext b; match b with | 0 => rfl | 1 => rfl⟩
    exact Cert.Reference5Ideal.Pre.result3 _ _ _ _ _ _ _ _ _ _ n j
  · refine Eq.trans ?_ (Cert.Kernel5Ideal.Pre.final20 m c).symm
    simp only [key]
    funext y
    obtain ⟨n, j, rfl⟩ : ∃ (n : Fin 65536) (j : Fin 1024), y = ix2 n j := ⟨y 0, y 1, by funext b; match b with | 0 => rfl | 1 => rfl⟩
    exact Cert.Reference5Ideal.Pre.result4 _ _ _ _ _ _ _ _ _ _ n j

end Cert

end
-- ==== Proof.SampleAttOffsets.lean ====
/-
  Where the loop's accesses lie when the keys of a row are four steps: trip `k` performs the steps of the row `k`, and
  prepares the scores of the row `k + 1`. The rows are eight query tiles of each of two heads.
-/
module

public import proofs.«01_k».proof.Proof.Gen.Kernel6Ideal.Loops
public import Idealize.ShloMosaic.Lib.Tactic

@[expose] public section

noncomputable section

namespace Cert.Kernel6Ideal.Att

open Cert.Kernel6Ideal
open Idealize.ShloMosaic Idealize.ShloMosaic.TcCoe Idealize.ShloMosaic.Tactic

/-- The step `4k+u` updates the row maximum of row `k`. -/
theorem off1_eq : ∀ (k : Fin k0_t1_loop.trips) (u : Fin 4), k0_off1 k (BitVec.ofNat 32 u.val) = ![k.val, 0, 0] := by
  decide +kernel

/-- The step `4k+u` updates the accumulator of row `k`. -/
theorem off2_eq : ∀ (k : Fin k0_t1_loop.trips) (u : Fin 4), k0_off2 k (BitVec.ofNat 32 u.val) = ![k.val, 0, 0] := by
  decide +kernel

/-- The step `4k+u` reads the two value blocks `2u` and the next, of the row's head. -/
theorem off3_eq : ∀ (k : Fin k0_t1_loop.trips) (u : Fin 4) (r : Fin 2),
    k0_off3 k (BitVec.ofNat 32 u.val) (BitVec.ofNat 32 r.val) = ![k.val / 8, 2 * u.val + r.val, 0, 0] := by
  decide +kernel

/-- The scores of step `4k+4+u` read the next row's head's keys from `1024 u` on. -/
theorem off4_eq : ∀ (k : Fin k0_t1_loop.trips) (u : Fin 4) (r : Fin 4),
    k0_off4 k (BitVec.ofNat 32 u.val) (BitVec.ofNat 32 (256 * r.val)) = ![(k.val + 1) / 8, 1024 * u.val + 256 * r.val, 0] := by
  decide +kernel

/-- The scores of step `4k+4+u` read the next row's query tile. -/
theorem off5_eq : ∀ (k : Fin k0_t1_loop.trips) (u : Fin 4),
    k0_off5 k (BitVec.ofNat 32 u.val) = ![(k.val + 1) / 8, (k.val + 1) % 8, 0, 0] := by
  decide +kernel

instance (k : Fin k0_t1_loop.trips) : ClosedOff (k0_off1 k 0#32) := ⟨_, off1_eq k 0⟩
instance (k : Fin k0_t1_loop.trips) : ClosedOff (k0_off1 k 1#32) := ⟨_, off1_eq k 1⟩
instance (k : Fin k0_t1_loop.trips) : ClosedOff (k0_off1 k 2#32) := ⟨_, off1_eq k 2⟩
instance (k : Fin k0_t1_loop.trips) : ClosedOff (k0_off1 k 3#32) := ⟨_, off1_eq k 3⟩
instance (k : Fin k0_t1_loop.trips) : ClosedOff (k0_off2 k 0#32) := ⟨_, off2_eq k 0⟩
instance (k : Fin k0_t1_loop.trips) : ClosedOff (k0_off2 k 1#32) := ⟨_, off2_eq k 1⟩
instance (k : Fin k0_t1_loop.trips) : ClosedOff (k0_off2 k 2#32) := ⟨_, off2_eq k 2⟩
instance (k : Fin k0_t1_loop.trips) : ClosedOff (k0_off2 k 3#32) := ⟨_, off2_eq k 3⟩

end Cert.Kernel6Ideal.Att

end
-- ==== Proof.SampleAttTrip.lean ====
/-
  One trip of the online-softmax loop, run symbolically: four updates, each beside the scores of four steps later.
-/
module

public import proofs.«01_k».proof.Proof.SampleAttOffsets
public import Idealize.ShloMosaic.Lib.Pipeline.Kit

@[expose] public section

set_option maxRecDepth 16384

noncomputable section

namespace Cert.Kernel6Ideal.Att

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A memref's buffer on core `c`: its contents' type, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What one trip leaves in each buffer that it writes, as the lists of its stores. -/
@[irreducible] def tripRun (c : Dev nD) (i : grid0.Coords) (arg3 : Memref sig .tc .vmem S2x8x256x512 .bf16) (harg3 : arg3.IsWhole) (arg4 : Memref sig .tc .vmem S2x4096x256 .bf16) (harg4 : arg4.IsWhole) (arg5 : Memref sig .tc .vmem S2x8x144x512 .bf16) (harg5 : arg5.IsWhole) (arg6 : Memref sig .tc .vmem S4096x256 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S8x512 .f32) (harg13 : arg13.IsWhole) (arg14 : Memref sig .tc .vmem S8x512 .f32) (harg14 : arg14.IsWhole) (arg15 : Memref sig .tc .vmem S16x1x512 .f32) (harg15 : arg15.IsWhole) (arg16 : Memref sig .tc .vmem S16x144x512 .f32) (harg16 : arg16.IsWhole) (v207 : FVec F S8x512 .f32) (v211 : FVec F S256x256 .bf16)
    (k : Fin k0_t1_loop.trips)
    (f3 : Bf (F := F) c arg3) (f4 : Bf (F := F) c arg4) (f5 : Bf (F := F) c arg5)
    (f7 : Bf (F := F) c arg7) (f8 : Bf (F := F) c arg8) (f9 : Bf (F := F) c arg9) (f10 : Bf (F := F) c arg10)
    (f11 : Bf (F := F) c arg11) (f12 : Bf (F := F) c arg12) (f13 : Bf (F := F) c arg13) (f14 : Bf (F := F) c arg14)
    (f15 : Bf (F := F) c arg15) (f16 : Bf (F := F) c arg16) :
    Σ' (L7 L8 L9 L10 : List (View.Piece (Elt F) S1024x512 .f32)) (L11 L12 L13 L14 : List (View.Piece (Elt F) S8x512 .f32))
      (L15 : List (View.Piece (Elt F) S16x1x512 .f32)),
      { L16 : List (View.Piece (Elt F) S16x144x512 .f32) //
        iprop(pt c arg3 f3 ∗ pt c arg4 f4 ∗ pt c arg5 f5 ∗ pt c arg7 f7 ∗ pt c arg8 f8 ∗ pt c arg9 f9 ∗ pt c arg10 f10
          ∗ pt c arg11 f11 ∗ pt c arg12 f12 ∗ pt c arg13 f13 ∗ pt c arg14 f14 ∗ pt c arg15 f15 ∗ pt c arg16 f16)
        ⊢ wp frame (wpE (defs₀ (F := F)) Variants.none (c : Thread nD τ) none) Set.univ
            (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 v207 v211 k ())
            (fun _ => iprop(pt c arg3 f3 ∗ pt c arg4 f4 ∗ pt c arg5 f5
              ∗ pt c arg7 (arg7.view.writes (Elt F) f7 L7) ∗ pt c arg8 (arg8.view.writes (Elt F) f8 L8)
              ∗ pt c arg9 (arg9.view.writes (Elt F) f9 L9) ∗ pt c arg10 (arg10.view.writes (Elt F) f10 L10)
              ∗ pt c arg11 (arg11.view.writes (Elt F) f11 L11) ∗ pt c arg12 (arg12.view.writes (Elt F) f12 L12)
              ∗ pt c arg13 (arg13.view.writes (Elt F) f13 L13) ∗ pt c arg14 (arg14.view.writes (Elt F) f14 L14)
              ∗ pt c arg15 (arg15.view.writes (Elt F) f15 L15) ∗ pt c arg16 (arg16.view.writes (Elt F) f16 L16))) } := by
  refine ⟨?_, ?_, ?_, ?_, ?_, ?_, ?_, ?_, ?_, ?_, ?run⟩
  case run =>
    unfold k0_t1_body
    iintro ⟨H3, H4, H5, H7, H8, H9, H10, H11, H12, H13, H14, H15, H16⟩
    sl_exec
    sl_step
    isplitl [H3]; · iexact H3
    isplitl [H4]; · iexact H4
    isplitl [H5]; · iexact H5
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.Kernel6Ideal.Att

end
-- ==== Proof.SampleAttBody.lean ====
/-
  The kernel's body, run symbolically: the prologue, the loop by its invariant, the tail and the sixteen output tiles.
-/
module

public import proofs.«01_k».proof.Proof.SampleAttTrip
public import proofs.«01_k».proof.Proof.Gen.Kernel6Ideal.Loops

@[expose] public section

set_option maxRecDepth 16384

noncomputable section

namespace Cert.Kernel6Ideal.Att

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg3 : Memref sig .tc .vmem S2x8x256x512 .bf16) (harg3 : arg3.IsWhole) (arg4 : Memref sig .tc .vmem S2x4096x256 .bf16) (harg4 : arg4.IsWhole) (arg5 : Memref sig .tc .vmem S2x8x144x512 .bf16) (harg5 : arg5.IsWhole) (arg6 : Memref sig .tc .vmem S4096x256 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S8x512 .f32) (harg13 : arg13.IsWhole) (arg14 : Memref sig .tc .vmem S8x512 .f32) (harg14 : arg14.IsWhole) (arg15 : Memref sig .tc .vmem S16x1x512 .f32) (harg15 : arg15.IsWhole) (arg16 : Memref sig .tc .vmem S16x144x512 .f32) (harg16 : arg16.IsWhole) (v207 : FVec F S8x512 .f32) (v211 : FVec F S256x256 .bf16)
  (f3 : Bf (F := F) c arg3) (f4 : Bf (F := F) c arg4) (f5 : Bf (F := F) c arg5)

/-- The contents of the scratch buffers between trips: four score slots, their maxima, the running maxima and the
    accumulators. -/
structure St where
  s7 : Bf (F := F) c arg7
  s8 : Bf (F := F) c arg8
  s9 : Bf (F := F) c arg9
  s10 : Bf (F := F) c arg10
  s11 : Bf (F := F) c arg11
  s12 : Bf (F := F) c arg12
  s13 : Bf (F := F) c arg13
  s14 : Bf (F := F) c arg14
  s15 : Bf (F := F) c arg15
  s16 : Bf (F := F) c arg16

/-- The run of trip `k` from the contents `s`. -/
abbrev runAt (k : Fin k0_t1_loop.trips) (s : St (F := F) c arg7 arg8 arg9 arg10 arg11 arg12 arg13 arg14 arg15 arg16) :=
  tripRun c i arg3 harg3 arg4 harg4 arg5 harg5 arg6 harg6 arg7 harg7 arg8 harg8 arg9 harg9 arg10 harg10 arg11 harg11 arg12 harg12 arg13 harg13 arg14 harg14 arg15 harg15 arg16 harg16 v207 v211 k f3 f4 f5 s.s7 s.s8 s.s9 s.s10 s.s11 s.s12 s.s13 s.s14 s.s15 s.s16

/-- The contents after trip `k` from the contents `s`. -/
def step (k : Fin k0_t1_loop.trips) (s : St (F := F) c arg7 arg8 arg9 arg10 arg11 arg12 arg13 arg14 arg15 arg16) :
    St (F := F) c arg7 arg8 arg9 arg10 arg11 arg12 arg13 arg14 arg15 arg16 :=
  have R := runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s
  ⟨arg7.view.writes (Elt F) s.s7 R.1, arg8.view.writes (Elt F) s.s8 R.2.1, arg9.view.writes (Elt F) s.s9 R.2.2.1,
   arg10.view.writes (Elt F) s.s10 R.2.2.2.1, arg11.view.writes (Elt F) s.s11 R.2.2.2.2.1,
   arg12.view.writes (Elt F) s.s12 R.2.2.2.2.2.1, arg13.view.writes (Elt F) s.s13 R.2.2.2.2.2.2.1,
   arg14.view.writes (Elt F) s.s14 R.2.2.2.2.2.2.2.1, arg15.view.writes (Elt F) s.s15 R.2.2.2.2.2.2.2.2.1,
   arg16.view.writes (Elt F) s.s16 R.2.2.2.2.2.2.2.2.2.1⟩

/-- The contents before trip `k`, from the contents before the loop. -/
def iter (g : St (F := F) c arg7 arg8 arg9 arg10 arg11 arg12 arg13 arg14 arg15 arg16) :
    ℕ → St (F := F) c arg7 arg8 arg9 arg10 arg11 arg12 arg13 arg14 arg15 arg16
  | 0 => g
  | k + 1 =>
    if h : k < k0_t1_loop.trips then
      step c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 ⟨k, h⟩ (iter g k)
    else iter g k

theorem iter_succ (g : St (F := F) c arg7 arg8 arg9 arg10 arg11 arg12 arg13 arg14 arg15 arg16) (k : Fin k0_t1_loop.trips) :
    iter c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 g (k.val + 1)
      = step c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k
          (iter c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 g k.val) := by
  rw [iter, dif_pos k.isLt]

/-- The buffers that the loop touches, at the contents `s`. -/
abbrev resAt (s : St (F := F) c arg7 arg8 arg9 arg10 arg11 arg12 arg13 arg14 arg15 arg16) : sProp 𝕄 :=
  iprop(pt c arg3 f3 ∗ pt c arg4 f4 ∗ pt c arg5 f5 ∗ pt c arg7 s.s7 ∗ pt c arg8 s.s8 ∗ pt c arg9 s.s9 ∗ pt c arg10 s.s10
    ∗ pt c arg11 s.s11 ∗ pt c arg12 s.s12 ∗ pt c arg13 s.s13 ∗ pt c arg14 s.s14 ∗ pt c arg15 s.s15 ∗ pt c arg16 s.s16)

/-- One trip, from the contents `s` to the contents `step k s`. -/
theorem step_run (k : Fin k0_t1_loop.trips) (s : St (F := F) c arg7 arg8 arg9 arg10 arg11 arg12 arg13 arg14 arg15 arg16) :
    resAt c arg3 arg4 arg5 arg7 arg8 arg9 arg10 arg11 arg12 arg13 arg14 arg15 arg16 f3 f4 f5 s
      ⊢ wp frame (wpE (defs₀ (F := F)) Variants.none (c : Thread nD τ) none) Set.univ (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 v207 v211 k ())
        (fun _ => resAt c arg3 arg4 arg5 arg7 arg8 arg9 arg10 arg11 arg12 arg13 arg14 arg15 arg16 f3 f4 f5
          (step c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s)) := by
  unfold step
  exact (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).2.2.2.2.2.2.2.2.2.2

set_option warn.classDefReducibility false in
/-- The loop's invariant: the scratch buffers hold the contents of `iter`. -/
@[sl_loop] def loopInv (g7 : Bf (F := F) c arg7) (g8 : Bf (F := F) c arg8) (g9 : Bf (F := F) c arg9) (g10 : Bf (F := F) c arg10)
    (g11 : Bf (F := F) c arg11) (g12 : Bf (F := F) c arg12) (g13 : Bf (F := F) c arg13) (g14 : Bf (F := F) c arg14)
    (g15 : Bf (F := F) c arg15) (g16 : Bf (F := F) c arg16) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 v207 v211 where
  inv k _ := match k with
    | 0 => iprop(pt c arg3 f3 ∗ pt c arg4 f4 ∗ pt c arg5 f5 ∗ pt c arg7 g7 ∗ pt c arg8 g8 ∗ pt c arg9 g9 ∗ pt c arg10 g10
        ∗ pt c arg11 g11 ∗ pt c arg12 g12 ∗ pt c arg13 g13 ∗ pt c arg14 g14 ∗ pt c arg15 g15 ∗ pt c arg16 g16)
    | k + 1 => resAt c arg3 arg4 arg5 arg7 arg8 arg9 arg10 arg11 arg12 arg13 arg14 arg15 arg16 f3 f4 f5 (iter c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 ⟨g7, g8, g9, g10, g11, g12, g13, g14, g15, g16⟩ (k + 1))
  step k _ := by
    obtain ⟨k, hk⟩ := k
    have h := step_run c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 ⟨k, hk⟩ (iter c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 ⟨g7, g8, g9, g10, g11, g12, g13, g14, g15, g16⟩ k)
    rw [← iter_succ c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 ⟨g7, g8, g9, g10, g11, g12, g13, g14, g15, g16⟩ ⟨k, hk⟩] at h
    cases k with
    | zero => exact h
    | succ k => exact h

end Cert.Kernel6Ideal.Att

end
-- ==== Proof.SampleAttBodyRun.lean ====
/-
  The kernel's body, run symbolically: the prologue, the loop by its invariant, the tail and the sixteen output tiles.
-/
module

public import proofs.«01_k».proof.Proof.SampleAttBody

@[expose] public section

set_option maxRecDepth 16384

noncomputable section

namespace Cert.Kernel6Ideal.Att

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg3 : Memref sig .tc .vmem S2x8x256x512 .bf16) (harg3 : arg3.IsWhole) (arg4 : Memref sig .tc .vmem S2x4096x256 .bf16) (harg4 : arg4.IsWhole) (arg5 : Memref sig .tc .vmem S2x8x144x512 .bf16) (harg5 : arg5.IsWhole) (arg6 : Memref sig .tc .vmem S4096x256 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S8x512 .f32) (harg13 : arg13.IsWhole) (arg14 : Memref sig .tc .vmem S8x512 .f32) (harg14 : arg14.IsWhole) (arg15 : Memref sig .tc .vmem S16x1x512 .f32) (harg15 : arg15.IsWhole) (arg16 : Memref sig .tc .vmem S16x144x512 .f32) (harg16 : arg16.IsWhole)
  (f3 : Bf (F := F) c arg3) (f4 : Bf (F := F) c arg4) (f5 : Bf (F := F) c arg5)

/-- The ten scratch buffers, at some contents. -/
abbrev scratchAny : sProp 𝕄 :=
  iprop((∃ f, pt (F := F) c arg7 f) ∗ (∃ f, pt (F := F) c arg8 f) ∗ (∃ f, pt (F := F) c arg9 f) ∗ (∃ f, pt (F := F) c arg10 f)
    ∗ (∃ f, pt (F := F) c arg11 f) ∗ (∃ f, pt (F := F) c arg12 f) ∗ (∃ f, pt (F := F) c arg13 f) ∗ (∃ f, pt (F := F) c arg14 f)
    ∗ (∃ f, pt (F := F) c arg15 f) ∗ (∃ f, pt (F := F) c arg16 f))

/-- The stores that the body makes into the output block, from any contents of the scratch and of the block. -/
@[irreducible] def bodyRun : { L6 : List (View.Piece (Elt F) S4096x256 .bf16) //
    ∀ f6, iprop(pt c arg3 f3 ∗ pt c arg4 f4 ∗ pt c arg5 f5 ∗ pt c arg6 f6
        ∗ scratchAny c arg7 arg8 arg9 arg10 arg11 arg12 arg13 arg14 arg15 arg16)
      ⊢ wp frame (wpE (defs₀ (F := F)) Variants.none (c : Thread nD τ) none) Set.univ
          (cc0_mla_attention (F := F) i arg3 harg3 arg4 harg4 arg5 harg5 arg6 harg6 arg7 harg7 arg8 harg8 arg9 harg9 arg10 harg10 arg11 harg11 arg12 harg12 arg13 harg13 arg14 harg14 arg15 harg15 arg16 harg16)
          (fun _ => iprop(pt c arg3 f3 ∗ pt c arg4 f4 ∗ pt c arg5 f5 ∗ pt c arg6 (arg6.view.writes (Elt F) f6 L6)
            ∗ scratchAny c arg7 arg8 arg9 arg10 arg11 arg12 arg13 arg14 arg15 arg16)) } := by
  refine ⟨?_, fun f6 => ?run⟩
  case run =>
    unfold cc0_mla_attention scratchAny
    iintro ⟨H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
    sl_exec
    sl_step
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

end Cert.Kernel6Ideal.Att

end
-- ==== Proof.SampleAttRun.lean ====
/-
  The call's run: the proof data of the pipeline, the body's obligation at each grid point, and the launch.
-/
module

public import proofs.«01_k».proof.Proof.SampleAttBodyRun
public import proofs.«01_k».proof.Proof.Gen.Kernel6Ideal.Frame

@[expose] public section

set_option maxRecDepth 16384

noncomputable section

namespace Cert.Kernel6Ideal.Att

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- A whole memref owned at what it reads is its buffer held at the contents that read so. -/
theorem owns_eq_pt (c : Dev nD) {sp : Space} {S : Shape} {e : EltTy} (M : Memref sig .tc sp S e) (h : M.IsWhole) (X : S.Idx → Elt F e) :
    (owns (c : Thread nD τ) M fullShare X : sProp 𝕄) = pt c M (h.unread X) := by
  have hr := h.read_unread X
  generalize h.unread X = f at hr
  subst hr
  obtain ⟨b, rfl, rfl, rfl, hm⟩ := h
  cases hm
  rw [owns_whole]; rfl

variable (m : (ℓ : Loc nD τ sig) → Buf (Elt F) ℓ) (ρ : Dev nD → PrngReg)

/-- The stores into the output block at point `t`. -/
def outRun (c : Dev nD) (t : Fin cfg0.N) :=
  bodyRun (F := F) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) (Memref.whole cc0_scratch9) (Memref.isWhole_whole _)
    ((hstage0_0 ((cfg0.slots t 0).cast nbuf0_0)).unread (iblk m c 0 t))
    ((hstage0_1 ((cfg0.slots t 1).cast nbuf0_1)).unread (iblk m c 1 t))
    ((hstage0_2 ((cfg0.slots t 2).cast nbuf0_2)).unread (iblk m c 2 t))

/-- The proof data: the arrays as launched, the inputs left in place, the output block at what the body stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => View.canon (outRun m c t).1
  Φ _ := Pipeline.ΦA spec0 c
  q _ := fullShare
  owed _ := 0

theorem A_eq (c : Dev nD) (w : Fin cfg0.W) : (dats m 0 c).A w = V m c (Pipeline.arrRef spec0 w) := by dsimp only [dats]

/-- The sixteen output tiles cover the block. -/
theorem cover (c : Dev nD) (t : Fin cfg0.N) : ∀ y, ∃ p ∈ (outRun m c t).1, y ∈ p.1.set := by
  unfold outRun bodyRun
  exact View.cover_of_tiledL _ S512x128.size (by rfl)

theorem body_obligation (c : Dev nD) : BodyObligation (dats (F := F) m 0 c) (defs₀ (F := F)) Variants.none () Set.univ := fun t => by
  rw [bigSep_W0, bigSep_W0]
  have e0 := before0_0_of m (dats m 0 c) (A_eq m c 0) (fun _ => rfl) t
  have e1 := before0_1_of m (dats m 0 c) (A_eq m c 1) (fun _ => rfl) t
  have e2 := before0_2_of m (dats m 0 c) (A_eq m c 2) (fun _ => rfl) t
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl]
  unfold Pipeline.ΦA
  rw [scopedRest0_eq]
  dsimp only
  simp only [e0, e1, e2, owns_eq_pt c (stage0_0 (cfg0.slots t 0)) (hstage0_0 ((cfg0.slots t 0).cast nbuf0_0)),
    owns_eq_pt c (stage0_1 (cfg0.slots t 1)) (hstage0_1 ((cfg0.slots t 1).cast nbuf0_1)),
    owns_eq_pt c (stage0_2 (cfg0.slots t 2)) (hstage0_2 ((cfg0.slots t 2).cast nbuf0_2)),
    owns_eq_pt c (stage0_3 (cfg0.slots t 3)) (hstage0_3 ((cfg0.slots t 3).cast nbuf0_3))]
  iintro ⟨⟨Hs, Hr⟩, HO, ⟨%d0, H0⟩, ⟨%d1, H1⟩, ⟨%d2, H2⟩, ⟨%d3, H3⟩⟩
  iapply (wp_wand_r Idealize.ShloMosaic.frame (wpE (defs₀ (F := F)) Variants.none (c : Thread nD τ) none) Set.univ)
  isplitl [Hs H0 H1 H2 H3]
  · iapply ((outRun m c t).2 _)
    isplitl [H0]; · iexact H0
    isplitl [H1]; · iexact H1
    isplitl [H2]; · iexact H2
    isplitl [H3]; · iexact H3
    iexact Hs
  · iintro %_ ⟨H0, H1, H2, H3, Hs⟩
    isplitl [Hs Hr]
    · isplitl [Hs]; · iexact Hs
      iexact Hr
    isplitl [HO]; · iexact HO
    isplitl [H0]; · iexact H0
    isplitl [H1]; · iexact H1
    isplitl [H2]; · iexact H2
    rw [(hstage0_3 ((cfg0.slots t 3).cast nbuf0_3)).eq_unread (View.read_writes_eq_canon (st0_3 t).view _ _ (cover m c t))]
    iexact H3

/-- The run: every argument as launched, the result's array at the proof data's account, every counter at zero. -/
theorem run_main :
    θ_run defs (onTc (τ := τ) (main (F := F))) (s₀ m ρ)
      (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments' arrays end as launched, and every counter ends at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2))⟩, h.2⟩) (run_main m ρ)

end Cert.Kernel6Ideal.Att

end
-- ==== Proof.SampleAttTwin.lean ====
module

public import proofs.«01_k».proof.Defs
public import proofs.«01_k».proof.Proof.SampleAttRun
public import proofs.«01_k».proof.Proof.Gen.Kernel6

@[expose] public section

set_option maxRecDepth 16384

noncomputable section

open Idealize.ShloMosaic Idealize.ShloMosaic.TcCoe
namespace Cert

variable {F : FTy → Type} [FloatOps F]

/-- For the sample batch too the printed program and its reading at the ideal instance have the same bodies. -/
theorem defs₀_eq6 : (Cert.Kernel6.defs₀ (F := F)) = (Cert.Kernel6Ideal.defs₀ (F := F)) := by
  unfold Cert.Kernel6.defs₀ Cert.Kernel6Ideal.defs₀
  refine congrArg Defs.onTc (funext fun l => ?_)
  match l with
  | 0 => exact funext fun ⟨_, _⟩ => rfl

theorem defs_eq6 : (Cert.Kernel6.defs (F := F)) = (Cert.Kernel6Ideal.defs (F := F)) := by
  unfold Cert.Kernel6.defs Cert.Kernel6Ideal.defs
  exact congrArg (Pipeline.defs Cert.Kernel6Ideal.pcfgs) defs₀_eq6

theorem quiescent_kernel6Ideal : quiescent_Kernel6Ideal (hKernel6Ideal := Cert.Kernel6Ideal.Gen.facts) :=
  fun m g _ => Cert.Kernel6Ideal.Att.frame_run (F := Ideal) m g

theorem quiescent_kernel6 : quiescent_Kernel6 (hKernel6 := Cert.Kernel6.Gen.facts) := by
  intro m g _
  rw [defs_eq6]
  exact Cert.Kernel6Ideal.Att.frame_run (F := Bits) m g

end Cert
end
-- ==== Proof.SampleAttKeys.lean ====
/-
  The steps of the sample batch's call: four in each of sixteen rows, which are eight tiles of queries of each of two
  heads. What its loads read.
-/
module

public import proofs.«01_k».proof.Proof.Chain
public import proofs.«01_k».proof.Proof.Gen.Kernel6Ideal
public import Idealize.ShloMosaic.Lib.Pipeline.Kit

@[expose] public section

set_option maxRecDepth 16384

noncomputable section

namespace Cert.Kernel6Ideal.Att

open Cert.Kernel6Ideal Cert.Kernel6Ideal.Gen
open Cert.KernelIdeal.Att (negInf scF mxF mF aF scL mxL scF_apply SlotAt MaxAt ScoreAt ValAt TopAt AccAt slotAt_store maxAt_store
  tM tA tM_at tA_at slot_load max_load top_load acc_load readCov_head topAt_row accAt_row)
open Idealize.ShloMosaic Idealize.ShloMosaic.TcCoe Idealize.ShloMosaic.Pointwise

variable (X3 : S2x8x256x512.Idx → EReal) (X4 : S2x4096x256.Idx → EReal) (X5 : S2x8x144x512.Idx → EReal)

/-- The score of key `j` for query `r` of the row `row`. -/
def sN (row : ℕ) (r : Fin 512) (j : ℕ) : EReal :=
  ∑ d : Fin 256, X4 (ix3 ⟨row / 8 % 2, Nat.mod_lt _ (by norm_num)⟩ ⟨j % 4096, Nat.mod_lt _ (by norm_num)⟩ d)
    * X3 (ix4 ⟨row / 8 % 2, Nat.mod_lt _ (by norm_num)⟩ ⟨row % 8, Nat.mod_lt _ (by norm_num)⟩ d r)

/-- Entry `e` of key `j`'s value, in the head of the row `row`. -/
def vN (row : ℕ) (e : Fin 144) (j : ℕ) : EReal :=
  X5 (ix4 ⟨row / 8 % 2, Nat.mod_lt _ (by norm_num)⟩ ⟨j / 512 % 8, Nat.mod_lt _ (by norm_num)⟩ e ⟨j % 512, Nat.mod_lt _ (by norm_num)⟩)

/-- The buffers' contents between the steps, at this call's scores and values. -/
abbrev SlotOk := SlotAt 4 (sN X3 X4)
abbrev MaxOk := MaxAt 4 (sN X3 X4)
abbrev ValOk := ValAt 4 (vN X5)
abbrev TopOk := TopAt 4 (sN X3 X4)
abbrev AccOk := AccAt 4 (sN X3 X4) (vN X5)

/-- A block of 256 keys, from key `256 w` of step `t`'s on. -/
def KeyOk (kb : S1x256x256.Idx → EReal) (t w : ℕ) : Prop :=
  ∀ (i d : Fin 256), kb (ix3 0 i d) = X4 (ix3 ⟨t / 4 / 8 % 2, Nat.mod_lt _ (by norm_num)⟩
    ⟨(1024 * (t % 4) + (256 * w + i.val)) % 4096, Nat.mod_lt _ (by norm_num)⟩ d)

/-- The queries of step `t`. -/
def QryOk (q : S1x1x256x512.Idx → EReal) (t : ℕ) : Prop :=
  ∀ (d : Fin 256) (r : Fin 512), q (ix4 0 0 d r) = X3 (ix4 ⟨t / 4 / 8 % 2, Nat.mod_lt _ (by norm_num)⟩
    ⟨t / 4 % 8, Nat.mod_lt _ (by norm_num)⟩ d r)

variable {X3 X4 X5}

theorem scF_ok {kb : Vec Ideal S1x256x256 .bf16} {q : Vec Ideal S1x1x256x512 .bf16} {t w : ℕ}
    (hk : KeyOk X4 kb t w) (hq : QryOk X3 q t) : ScoreAt 4 (sN X3 X4) kb q t w := by
  intro i r
  rw [scF_apply]
  exact Finset.sum_congr rfl fun d _ => congrArg₂ (· * ·) (hk i d) (hq d r)

section Loads
variable {sig' : RefSig} {κ : _} {sp : Space}

theorem keyOk_load (v : View sig' κ sp S2x4096x256 .bf16) (f : v.ty.Contents (Elt Ideal)) {off : Fin 3 → ℕ} (inb) {t w : ℕ}
    (ht : t < 64) (hw : w < 4) (ho : off = ![t / 4 / 8, 1024 * (t % 4) + 256 * w, 0]) :
    KeyOk (v.read (Elt Ideal) f) (v.readAt (Elt Ideal) (Rect.unit (s := S2x4096x256) off S1x256x256.size inb).toLoadRect f) t w := by
  subst ho
  intro i d
  rw [View.readAt_apply]
  refine congrArg _ (funext fun a => Fin.ext ?_)
  match a with
  | 0 => show t / 4 / 8 + 1 * 0 = t / 4 / 8 % 2; omega
  | 1 => show 1024 * (t % 4) + 256 * w + 1 * i.val = (1024 * (t % 4) + (256 * w + i.val)) % 4096; omega
  | 2 => show 0 + 1 * d.val = d.val; omega

theorem qryOk_load (v : View sig' κ sp S2x8x256x512 .bf16) (f : v.ty.Contents (Elt Ideal)) {off : Fin 4 → ℕ} (inb) {t : ℕ}
    (ht : t < 64) (ho : off = ![t / 4 / 8, t / 4 % 8, 0, 0]) :
    QryOk (v.read (Elt Ideal) f) (v.readAt (Elt Ideal) (Rect.unit (s := S2x8x256x512) off S1x1x256x512.size inb).toLoadRect f) t := by
  subst ho
  intro d r
  rw [View.readAt_apply]
  refine congrArg _ (funext fun a => Fin.ext ?_)
  match a with
  | 0 => show t / 4 / 8 + 1 * 0 = t / 4 / 8 % 2; omega
  | 1 => show t / 4 % 8 + 1 * 0 = t / 4 % 8; omega
  | 2 => show 0 + 1 * d.val = d.val; omega
  | 3 => show 0 + 1 * r.val = r.val; omega

theorem valOk_load (v : View sig' κ sp S2x8x144x512 .bf16) (f : v.ty.Contents (Elt Ideal)) {off : Fin 4 → ℕ} (inb) {t w : ℕ}
    (ht : t < 64) (hw : w < 2) (ho : off = ![t / 4 / 8, 2 * (t % 4) + w, 0, 0]) :
    ValOk (v.read (Elt Ideal) f) (v.readAt (Elt Ideal) (Rect.unit (s := S2x8x144x512) off S1x1x144x512.size inb).toLoadRect f) t w := by
  subst ho
  intro e l
  rw [View.readAt_apply]
  refine congrArg _ (funext fun a => Fin.ext ?_)
  match a with
  | 0 => show t / 4 / 8 + 1 * 0 = t / 4 / 8 % 2; omega
  | 1 => show 2 * (t % 4) + w + 1 * 0 = (1024 * (t % 4) + (512 * w + l.val)) / 512 % 8; omega
  | 2 => show 0 + 1 * e.val = e.val; omega
  | 3 => show 0 + 1 * l.val = (1024 * (t % 4) + (512 * w + l.val)) % 512; omega

end Loads

/-- Within a trip the row stays. -/
theorem row_step {t : ℕ} (ht : t % 4 = 0) : ∀ u < 4, (t + u) / 4 = t / 4 ∧ (t + u) % 4 = t % 4 + u := by omega

/-- A trip adds its four steps to its row only. -/
theorem row_count {t : ℕ} (ht : t < 64) (h4 : t % 4 = 0) : ∀ row < 16, (row = t / 4 → t % 4 + 4 = min (t + 4 - 4 * row) 4)
    ∧ (row ≠ t / 4 → min (t + 4 - 4 * row) 4 = min (t - 4 * row) 4) := by omega

end Cert.Kernel6Ideal.Att

end
-- ==== Proof.SampleAttTripVal.lean ====
/-
  What one trip of the loop computes over the reals: from the scores of its four steps, their maxima and the running
  maxima and accumulators it makes those of the next trip.
-/
module

public import proofs.«01_k».proof.Proof.SampleAttBody
public import proofs.«01_k».proof.Proof.SampleAttKeys

@[expose] public section

set_option maxRecDepth 16384

noncomputable section

namespace Cert.Kernel6Ideal.Att

open Cert.Kernel6Ideal Cert.Kernel6Ideal.Gen
open Cert.KernelIdeal.Att (negInf scF mxF mF aF scL mxL scF_apply SlotAt MaxAt ScoreAt ValAt TopAt AccAt slotAt_store maxAt_store
  tM tA tM_at tA_at slot_load max_load top_load acc_load readCov_head topAt_row accAt_row)
open Idealize.ShloMosaic Idealize.ShloMosaic.TcCoe Idealize.ShloMosaic.Pointwise

variable {F : FTy → Type} [FloatOps F]

theorem off1_inb : ∀ (k : Fin k0_t1_loop.trips) (u : Fin 4) (a : Fin 3),
    k0_off1 k (BitVec.ofNat 32 u.val) a + S1x1x512.size a ≤ S16x1x512.size a := by decide +kernel
theorem off2_inb : ∀ (k : Fin k0_t1_loop.trips) (u : Fin 4) (a : Fin 3),
    k0_off2 k (BitVec.ofNat 32 u.val) a + S1x144x512.size a ≤ S16x144x512.size a := by decide +kernel
theorem off3_inb : ∀ (k : Fin k0_t1_loop.trips) (u : Fin 4) (w : Fin 2) (a : Fin 4),
    k0_off3 k (BitVec.ofNat 32 u.val) (BitVec.ofNat 32 w.val) a + S1x1x144x512.size a ≤ S2x8x144x512.size a := by decide +kernel
theorem off4_inb : ∀ (k : Fin k0_t1_loop.trips) (u w : Fin 4) (a : Fin 3),
    k0_off4 k (BitVec.ofNat 32 u.val) (BitVec.ofNat 32 (256 * w.val)) a + S1x256x256.size a ≤ S2x4096x256.size a := by decide +kernel
theorem off5_inb : ∀ (k : Fin k0_t1_loop.trips) (u : Fin 4) (a : Fin 4),
    k0_off5 k (BitVec.ofNat 32 u.val) a + S1x1x256x512.size a ≤ S2x8x256x512.size a := by decide +kernel

variable (c : Dev nD) (i : grid0.Coords) (arg3 : Memref sig .tc .vmem S2x8x256x512 .bf16) (harg3 : arg3.IsWhole) (arg4 : Memref sig .tc .vmem S2x4096x256 .bf16) (harg4 : arg4.IsWhole) (arg5 : Memref sig .tc .vmem S2x8x144x512 .bf16) (harg5 : arg5.IsWhole) (arg6 : Memref sig .tc .vmem S4096x256 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S8x512 .f32) (harg13 : arg13.IsWhole) (arg14 : Memref sig .tc .vmem S8x512 .f32) (harg14 : arg14.IsWhole) (arg15 : Memref sig .tc .vmem S16x1x512 .f32) (harg15 : arg15.IsWhole) (arg16 : Memref sig .tc .vmem S16x144x512 .f32) (harg16 : arg16.IsWhole) (v207 : FVec F S8x512 .f32) (v211 : FVec F S256x256 .bf16)
  (f3 : Bf (F := F) c arg3) (f4 : Bf (F := F) c arg4) (f5 : Bf (F := F) c arg5)

/-- The loads of trip `k` in its step `u`: a block of keys, the queries, a block of values, -/
abbrev ldK (k : Fin k0_t1_loop.trips) (u w : Fin 4) : Vec F S1x256x256 .bf16 :=
  View.readAt (Elt F) arg4.view (Rect.unit (s := S2x4096x256) (k0_off4 k (BitVec.ofNat 32 u.val) (BitVec.ofNat 32 (256 * w.val))) S1x256x256.size (off4_inb k u w)).toLoadRect f4
abbrev ldQ (k : Fin k0_t1_loop.trips) (u : Fin 4) : Vec F S1x1x256x512 .bf16 :=
  View.readAt (Elt F) arg3.view (Rect.unit (s := S2x8x256x512) (k0_off5 k (BitVec.ofNat 32 u.val)) S1x1x256x512.size (off5_inb k u)).toLoadRect f3
abbrev ldV (k : Fin k0_t1_loop.trips) (u w : ℕ) : Vec F S1x1x144x512 .bf16 :=
  View.readAt (Elt F) arg5.view (Rect.unit (s := S2x8x144x512) (k0_off3 k (BitVec.ofNat 32 (Fin.ofNat 4 u).val) (BitVec.ofNat 32 (Fin.ofNat 2 w).val)) S1x1x144x512.size (off3_inb k _ _)).toLoadRect f5

/-- the four chunks of a slot and its maxima. -/
abbrev ldS {M : Memref sig .tc .vmem S1024x512 .f32} (f : Bf (F := F) c M) : ℕ → Vec F S256x512 .f32
  | 0 => View.readAt (Elt F) M.view (Rect.unit (s := S1024x512) ![0, 0] S256x512.size inb_S1024x512_S256x512_0_0).toLoadRect f
  | 1 => View.readAt (Elt F) M.view (Rect.unit (s := S1024x512) ![256, 0] S256x512.size inb_S1024x512_S256x512_256_0).toLoadRect f
  | 2 => View.readAt (Elt F) M.view (Rect.unit (s := S1024x512) ![512, 0] S256x512.size inb_S1024x512_S256x512_512_0).toLoadRect f
  | _ => View.readAt (Elt F) M.view (Rect.unit (s := S1024x512) ![768, 0] S256x512.size inb_S1024x512_S256x512_768_0).toLoadRect f
abbrev ldX {M : Memref sig .tc .vmem S8x512 .f32} (f : Bf (F := F) c M) : Vec F S8x512 .f32 :=
  View.readAt (Elt F) M.view (Rect.unit (s := S8x512) ![0, 0] S8x512.size inb_S8x512_S8x512_0_0).toLoadRect f

variable (k : Fin k0_t1_loop.trips) (s : St (F := F) c arg7 arg8 arg9 arg10 arg11 arg12 arg13 arg14 arg15 arg16)

abbrev ldSs : ℕ → ℕ → Vec F S256x512 .f32
  | 0 => ldS c s.s7
  | 1 => ldS c s.s8
  | 2 => ldS c s.s9
  | _ => ldS c s.s10
abbrev ldXs : ℕ → Vec F S8x512 .f32
  | 0 => ldX c s.s11
  | 1 => ldX c s.s12
  | 2 => ldX c s.s13
  | _ => ldX c s.s14

/-- The row's maximum and accumulator after `u` of the trip's steps. -/
abbrev rowM : ℕ → Vec F S1x1x512 .f32 :=
  tM (View.readAt (Elt F) arg15.view (Rect.unit (s := S16x1x512) (k0_off1 k 0#32) S1x1x512.size (off1_inb k 0)).toLoadRect s.s15)
    (ldXs c arg7 arg8 arg9 arg10 arg11 arg12 arg13 arg14 arg15 arg16 s)
abbrev rowA : ℕ → Vec F S1x144x512 .f32 :=
  tA (View.readAt (Elt F) arg15.view (Rect.unit (s := S16x1x512) (k0_off1 k 0#32) S1x1x512.size (off1_inb k 0)).toLoadRect s.s15)
    (ldXs c arg7 arg8 arg9 arg10 arg11 arg12 arg13 arg14 arg15 arg16 s)
    (View.readAt (Elt F) arg16.view (Rect.unit (s := S16x144x512) (k0_off2 k 0#32) S1x144x512.size (off2_inb k 0)).toLoadRect s.s16)
    (ldV c arg5 f5 k) (ldSs c arg7 arg8 arg9 arg10 arg11 arg12 arg13 arg14 arg15 arg16 s)

theorem trip_sc0 : (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).1
    = scL (ldK c arg4 f4 k 0 0) (ldK c arg4 f4 k 0 1) (ldK c arg4 f4 k 0 2) (ldK c arg4 f4 k 0 3) (ldQ c arg3 f3 k 0) := by
  unfold runAt tripRun
  rfl
theorem trip_mx0 : (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).2.2.2.2.1
    = mxL (ldK c arg4 f4 k 0 0) (ldK c arg4 f4 k 0 1) (ldK c arg4 f4 k 0 2) (ldK c arg4 f4 k 0 3) (ldQ c arg3 f3 k 0) := by
  unfold runAt tripRun
  rfl
theorem trip_sc1 : (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).2.1
    = scL (ldK c arg4 f4 k 1 0) (ldK c arg4 f4 k 1 1) (ldK c arg4 f4 k 1 2) (ldK c arg4 f4 k 1 3) (ldQ c arg3 f3 k 1) := by
  unfold runAt tripRun
  rfl
theorem trip_mx1 : (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).2.2.2.2.2.1
    = mxL (ldK c arg4 f4 k 1 0) (ldK c arg4 f4 k 1 1) (ldK c arg4 f4 k 1 2) (ldK c arg4 f4 k 1 3) (ldQ c arg3 f3 k 1) := by
  unfold runAt tripRun
  rfl
theorem trip_sc2 : (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).2.2.1
    = scL (ldK c arg4 f4 k 2 0) (ldK c arg4 f4 k 2 1) (ldK c arg4 f4 k 2 2) (ldK c arg4 f4 k 2 3) (ldQ c arg3 f3 k 2) := by
  unfold runAt tripRun
  rfl
theorem trip_mx2 : (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).2.2.2.2.2.2.1
    = mxL (ldK c arg4 f4 k 2 0) (ldK c arg4 f4 k 2 1) (ldK c arg4 f4 k 2 2) (ldK c arg4 f4 k 2 3) (ldQ c arg3 f3 k 2) := by
  unfold runAt tripRun
  rfl
theorem trip_sc3 : (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).2.2.2.1
    = scL (ldK c arg4 f4 k 3 0) (ldK c arg4 f4 k 3 1) (ldK c arg4 f4 k 3 2) (ldK c arg4 f4 k 3 3) (ldQ c arg3 f3 k 3) := by
  unfold runAt tripRun
  rfl
theorem trip_mx3 : (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).2.2.2.2.2.2.2.1
    = mxL (ldK c arg4 f4 k 3 0) (ldK c arg4 f4 k 3 1) (ldK c arg4 f4 k 3 2) (ldK c arg4 f4 k 3 3) (ldQ c arg3 f3 k 3) := by
  unfold runAt tripRun
  rfl

/-- The loads of what the step before stored: the running maximum, -/
theorem row_top1 : tripRun.sl.v748 c arg11 arg15 k s.s11 s.s15 = rowM c arg7 arg8 arg9 arg10 arg11 arg12 arg13 arg14 arg15 arg16 k s 1 := by
  unfold tripRun.sl.v748 tripRun.sl.H15_1
  rw [readCov_head _ (show k0_off1 k 1#32 = k0_off1 k 0#32 from (off1_eq k 1).trans (off1_eq k 0).symm)]
  rfl
theorem row_top2 : tripRun.sl.v899 c arg11 arg12 arg15 k s.s11 s.s12 s.s15 = rowM c arg7 arg8 arg9 arg10 arg11 arg12 arg13 arg14 arg15 arg16 k s 2 := by
  unfold tripRun.sl.v899 tripRun.sl.H15_2
  rw [readCov_head _ (show k0_off1 k 2#32 = k0_off1 k 1#32 from (off1_eq k 2).trans (off1_eq k 1).symm), row_top1 c arg7 arg8 arg9 arg10 arg11 arg12 arg13 arg14 arg15 arg16]
  rfl
theorem row_top3 : tripRun.sl.v1050 c arg11 arg12 arg13 arg15 k s.s11 s.s12 s.s13 s.s15 = rowM c arg7 arg8 arg9 arg10 arg11 arg12 arg13 arg14 arg15 arg16 k s 3 := by
  unfold tripRun.sl.v1050 tripRun.sl.H15_3
  rw [readCov_head _ (show k0_off1 k 3#32 = k0_off1 k 2#32 from (off1_eq k 3).trans (off1_eq k 2).symm), row_top2 c arg7 arg8 arg9 arg10 arg11 arg12 arg13 arg14 arg15 arg16]
  rfl

/-- and the accumulator. -/
theorem row_acc1 : tripRun.sl.v761 c arg5 arg7 arg11 arg15 arg16 k f5 s.s7 s.s11 s.s15 s.s16 = rowA c arg5 arg7 arg8 arg9 arg10 arg11 arg12 arg13 arg14 arg15 arg16 f5 k s 1 := by
  unfold tripRun.sl.v761 tripRun.sl.H16_1
  rw [readCov_head _ (show k0_off2 k 1#32 = k0_off2 k 0#32 from (off2_eq k 1).trans (off2_eq k 0).symm)]
  rfl
theorem row_acc2 : tripRun.sl.v912 c arg5 arg7 arg8 arg11 arg12 arg15 arg16 k f5 s.s7 s.s8 s.s11 s.s12 s.s15 s.s16 = rowA c arg5 arg7 arg8 arg9 arg10 arg11 arg12 arg13 arg14 arg15 arg16 f5 k s 2 := by
  unfold tripRun.sl.v912 tripRun.sl.H16_2
  rw [readCov_head _ (show k0_off2 k 2#32 = k0_off2 k 1#32 from (off2_eq k 2).trans (off2_eq k 1).symm)]
  show aF (tripRun.sl.v748 c arg11 arg15 k s.s11 s.s15) (ldX c s.s12) (tripRun.sl.v761 c arg5 arg7 arg11 arg15 arg16 k f5 s.s7 s.s11 s.s15 s.s16)
    (ldV c arg5 f5 k 1 0) (ldV c arg5 f5 k 1 1) (ldS c s.s8 0) (ldS c s.s8 1) (ldS c s.s8 2) (ldS c s.s8 3) = _
  rw [row_top1 c arg7 arg8 arg9 arg10 arg11 arg12 arg13 arg14 arg15 arg16, row_acc1 c arg5 arg7 arg8 arg9 arg10 arg11 arg12 arg13 arg14 arg15 arg16]
  rfl
theorem row_acc3 : tripRun.sl.v1063 c arg5 arg7 arg8 arg9 arg11 arg12 arg13 arg15 arg16 k f5 s.s7 s.s8 s.s9 s.s11 s.s12 s.s13 s.s15 s.s16 = rowA c arg5 arg7 arg8 arg9 arg10 arg11 arg12 arg13 arg14 arg15 arg16 f5 k s 3 := by
  unfold tripRun.sl.v1063 tripRun.sl.H16_3
  rw [readCov_head _ (show k0_off2 k 3#32 = k0_off2 k 2#32 from (off2_eq k 3).trans (off2_eq k 2).symm)]
  show aF (tripRun.sl.v899 c arg11 arg12 arg15 k s.s11 s.s12 s.s15) (ldX c s.s13) (tripRun.sl.v912 c arg5 arg7 arg8 arg11 arg12 arg15 arg16 k f5 s.s7 s.s8 s.s11 s.s12 s.s15 s.s16)
    (ldV c arg5 f5 k 2 0) (ldV c arg5 f5 k 2 1) (ldS c s.s9 0) (ldS c s.s9 1) (ldS c s.s9 2) (ldS c s.s9 3) = _
  rw [row_top2 c arg7 arg8 arg9 arg10 arg11 arg12 arg13 arg14 arg15 arg16, row_acc2 c arg5 arg7 arg8 arg9 arg10 arg11 arg12 arg13 arg14 arg15 arg16]
  rfl

/-- The stores of the running maximum, newest first; -/
theorem trip_top : (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).2.2.2.2.2.2.2.2.1
    = [⟨Rect.unit (k0_off1 k 3#32) S1x1x512.size (off1_inb k 3), rowM c arg7 arg8 arg9 arg10 arg11 arg12 arg13 arg14 arg15 arg16 k s 4⟩,
       ⟨Rect.unit (k0_off1 k 2#32) S1x1x512.size (off1_inb k 2), rowM c arg7 arg8 arg9 arg10 arg11 arg12 arg13 arg14 arg15 arg16 k s 3⟩,
       ⟨Rect.unit (k0_off1 k 1#32) S1x1x512.size (off1_inb k 1), rowM c arg7 arg8 arg9 arg10 arg11 arg12 arg13 arg14 arg15 arg16 k s 2⟩,
       ⟨Rect.unit (k0_off1 k 0#32) S1x1x512.size (off1_inb k 0), rowM c arg7 arg8 arg9 arg10 arg11 arg12 arg13 arg14 arg15 arg16 k s 1⟩] := by
  have h1 := row_top1 c arg7 arg8 arg9 arg10 arg11 arg12 arg13 arg14 arg15 arg16 k s
  have h2 := row_top2 c arg7 arg8 arg9 arg10 arg11 arg12 arg13 arg14 arg15 arg16 k s
  have h3 := row_top3 c arg7 arg8 arg9 arg10 arg11 arg12 arg13 arg14 arg15 arg16 k s
  unfold runAt tripRun
  dsimp only
  unfold tripRun.sl.H15_3 tripRun.sl.H15_2 tripRun.sl.H15_1
  rw [h3, h2, h1]
  rfl

/-- The four stores into a row of the accumulators, newest first. -/
def accL (k : Fin k0_t1_loop.trips) (x4 x3 x2 x1 : Vec F S1x144x512 .f32) : List (View.Piece (Elt F) S16x144x512 .f32) :=
  [⟨Rect.unit (k0_off2 k 3#32) S1x144x512.size (off2_inb k 3), x4⟩, ⟨Rect.unit (k0_off2 k 2#32) S1x144x512.size (off2_inb k 2), x3⟩,
   ⟨Rect.unit (k0_off2 k 1#32) S1x144x512.size (off2_inb k 1), x2⟩, ⟨Rect.unit (k0_off2 k 0#32) S1x144x512.size (off2_inb k 0), x1⟩]

theorem accL_congr (k : Fin k0_t1_loop.trips) {x4 x3 x2 x1 y4 y3 y2 : Vec F S1x144x512 .f32} (h4 : x4 = y4) (h3 : x3 = y3) (h2 : x2 = y2) :
    accL k x4 x3 x2 x1 = accL k y4 y3 y2 x1 := by
  subst h4 h3 h2; rfl

/-- and those of the accumulator. -/
theorem trip_acc : (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).2.2.2.2.2.2.2.2.2.1
    = accL k (rowA c arg5 arg7 arg8 arg9 arg10 arg11 arg12 arg13 arg14 arg15 arg16 f5 k s 4) (rowA c arg5 arg7 arg8 arg9 arg10 arg11 arg12 arg13 arg14 arg15 arg16 f5 k s 3)
      (rowA c arg5 arg7 arg8 arg9 arg10 arg11 arg12 arg13 arg14 arg15 arg16 f5 k s 2) (rowA c arg5 arg7 arg8 arg9 arg10 arg11 arg12 arg13 arg14 arg15 arg16 f5 k s 1) := by
  have h3 := row_top3 c arg7 arg8 arg9 arg10 arg11 arg12 arg13 arg14 arg15 arg16 k s
  have g3 := row_acc3 c arg5 arg7 arg8 arg9 arg10 arg11 arg12 arg13 arg14 arg15 arg16 f5 k s
  have e4 : rowA c arg5 arg7 arg8 arg9 arg10 arg11 arg12 arg13 arg14 arg15 arg16 f5 k s 4 = aF (tripRun.sl.v1050 c arg11 arg12 arg13 arg15 k s.s11 s.s12 s.s13 s.s15) (ldX c s.s14)
      (tripRun.sl.v1063 c arg5 arg7 arg8 arg9 arg11 arg12 arg13 arg15 arg16 k f5 s.s7 s.s8 s.s9 s.s11 s.s12 s.s13 s.s15 s.s16)
      (ldV c arg5 f5 k 3 0) (ldV c arg5 f5 k 3 1) (ldS c s.s10 0) (ldS c s.s10 1) (ldS c s.s10 2) (ldS c s.s10 3) := by
    rw [h3, g3]; rfl
  have e3 : rowA c arg5 arg7 arg8 arg9 arg10 arg11 arg12 arg13 arg14 arg15 arg16 f5 k s 3 = aF (tripRun.sl.v899 c arg11 arg12 arg15 k s.s11 s.s12 s.s15) (ldX c s.s13)
      (tripRun.sl.v912 c arg5 arg7 arg8 arg11 arg12 arg15 arg16 k f5 s.s7 s.s8 s.s11 s.s12 s.s15 s.s16)
      (ldV c arg5 f5 k 2 0) (ldV c arg5 f5 k 2 1) (ldS c s.s9 0) (ldS c s.s9 1) (ldS c s.s9 2) (ldS c s.s9 3) := by
    rw [row_top2 c arg7 arg8 arg9 arg10 arg11 arg12 arg13 arg14 arg15 arg16, row_acc2 c arg5 arg7 arg8 arg9 arg10 arg11 arg12 arg13 arg14 arg15 arg16]; rfl
  have e2 : rowA c arg5 arg7 arg8 arg9 arg10 arg11 arg12 arg13 arg14 arg15 arg16 f5 k s 2 = aF (tripRun.sl.v748 c arg11 arg15 k s.s11 s.s15) (ldX c s.s12)
      (tripRun.sl.v761 c arg5 arg7 arg11 arg15 arg16 k f5 s.s7 s.s11 s.s15 s.s16)
      (ldV c arg5 f5 k 1 0) (ldV c arg5 f5 k 1 1) (ldS c s.s8 0) (ldS c s.s8 1) (ldS c s.s8 2) (ldS c s.s8 3) := by
    rw [row_top1 c arg7 arg8 arg9 arg10 arg11 arg12 arg13 arg14 arg15 arg16, row_acc1 c arg5 arg7 arg8 arg9 arg10 arg11 arg12 arg13 arg14 arg15 arg16]; rfl
  refine Eq.trans ?_ (accL_congr k e4 e3 e2).symm
  unfold runAt tripRun
  rfl

end Cert.Kernel6Ideal.Att

end
-- ==== Proof.SampleAttInv.lean ====
/-
  The loop's invariant over the reals: before trip `k` the slots hold the scores of the steps `4k … 4k+3`, and the running
  maxima and accumulators are those of the steps before.
-/
module

public import proofs.«01_k».proof.Proof.SampleAttTripVal

@[expose] public section

set_option maxRecDepth 16384

noncomputable section

namespace Cert.Kernel6Ideal.Att

open Cert.Kernel6Ideal Cert.Kernel6Ideal.Gen
open Cert.KernelIdeal.Att (negInf scF mxF mF aF scL mxL scF_apply SlotAt MaxAt ScoreAt ValAt TopAt AccAt slotAt_store maxAt_store
  tM tA tM_at tA_at slot_load max_load top_load acc_load readCov_head topAt_row accAt_row)
open Idealize.ShloMosaic Idealize.ShloMosaic.TcCoe Idealize.ShloMosaic.Pointwise

variable (c : Dev nD) (i : grid0.Coords) (arg3 : Memref sig .tc .vmem S2x8x256x512 .bf16) (harg3 : arg3.IsWhole) (arg4 : Memref sig .tc .vmem S2x4096x256 .bf16) (harg4 : arg4.IsWhole) (arg5 : Memref sig .tc .vmem S2x8x144x512 .bf16) (harg5 : arg5.IsWhole) (arg6 : Memref sig .tc .vmem S4096x256 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S8x512 .f32) (harg13 : arg13.IsWhole) (arg14 : Memref sig .tc .vmem S8x512 .f32) (harg14 : arg14.IsWhole) (arg15 : Memref sig .tc .vmem S16x1x512 .f32) (harg15 : arg15.IsWhole) (arg16 : Memref sig .tc .vmem S16x144x512 .f32) (harg16 : arg16.IsWhole) (v207 : FVec Ideal S8x512 .f32) (v211 : FVec Ideal S256x256 .bf16)
  (f3 : Bf (F := Ideal) c arg3) (f4 : Bf (F := Ideal) c arg4) (f5 : Bf (F := Ideal) c arg5)

/-- What the scratch buffers hold before trip `k`. -/
structure Inv (k : ℕ) (s : St (F := Ideal) c arg7 arg8 arg9 arg10 arg11 arg12 arg13 arg14 arg15 arg16) : Prop where
  h7 : SlotOk (arg3.view.read (Elt Ideal) f3) (arg4.view.read (Elt Ideal) f4) (arg7.view.read (Elt Ideal) s.s7) (4 * k + 0)
  h8 : SlotOk (arg3.view.read (Elt Ideal) f3) (arg4.view.read (Elt Ideal) f4) (arg8.view.read (Elt Ideal) s.s8) (4 * k + 1)
  h9 : SlotOk (arg3.view.read (Elt Ideal) f3) (arg4.view.read (Elt Ideal) f4) (arg9.view.read (Elt Ideal) s.s9) (4 * k + 2)
  h10 : SlotOk (arg3.view.read (Elt Ideal) f3) (arg4.view.read (Elt Ideal) f4) (arg10.view.read (Elt Ideal) s.s10) (4 * k + 3)
  h11 : MaxOk (arg3.view.read (Elt Ideal) f3) (arg4.view.read (Elt Ideal) f4) (arg11.view.read (Elt Ideal) s.s11) (4 * k + 0)
  h12 : MaxOk (arg3.view.read (Elt Ideal) f3) (arg4.view.read (Elt Ideal) f4) (arg12.view.read (Elt Ideal) s.s12) (4 * k + 1)
  h13 : MaxOk (arg3.view.read (Elt Ideal) f3) (arg4.view.read (Elt Ideal) f4) (arg13.view.read (Elt Ideal) s.s13) (4 * k + 2)
  h14 : MaxOk (arg3.view.read (Elt Ideal) f3) (arg4.view.read (Elt Ideal) f4) (arg14.view.read (Elt Ideal) s.s14) (4 * k + 3)
  h15 : TopOk (arg3.view.read (Elt Ideal) f3) (arg4.view.read (Elt Ideal) f4) (arg15.view.read (Elt Ideal) s.s15) (4 * k)
  h16 : AccOk (arg3.view.read (Elt Ideal) f3) (arg4.view.read (Elt Ideal) f4) (arg5.view.read (Elt Ideal) f5) (arg16.view.read (Elt Ideal) s.s16) (4 * k)

variable (k : Fin k0_t1_loop.trips) (s : St (F := Ideal) c arg7 arg8 arg9 arg10 arg11 arg12 arg13 arg14 arg15 arg16)

theorem ldK_ok (u w : Fin 4) : KeyOk (arg4.view.read (Elt Ideal) f4) (ldK c arg4 f4 k u w) (4 * (k.val + 1) + u.val) w.val := by
  have hk : k.val < 15 := k.isLt
  refine keyOk_load _ _ _ (by omega) w.isLt ?_
  rw [off4_eq, show (4 * (k.val + 1) + u.val) / 4 = k.val + 1 by omega, show (4 * (k.val + 1) + u.val) % 4 = u.val by omega]

theorem ldQ_ok (u : Fin 4) : QryOk (arg3.view.read (Elt Ideal) f3) (ldQ c arg3 f3 k u) (4 * (k.val + 1) + u.val) := by
  have hk := k.isLt
  refine qryOk_load _ _ _ ?_ ?_
  · have : k.val < 15 := hk
    omega
  · rw [off5_eq, show (4 * (k.val + 1) + u.val) / 4 = k.val + 1 by omega]

variable {c arg3 arg4 arg5 arg7 arg8 arg9 arg10 arg11 arg12 arg13 arg14 arg15 arg16 f3 f4 f5 k s}

section
variable {K : ℕ} (h : Inv c arg3 arg4 arg5 arg7 arg8 arg9 arg10 arg11 arg12 arg13 arg14 arg15 arg16 f3 f4 f5 K s)
include h

/-- What the loads of the slots read. -/
theorem ldXs_ok : ∀ u < 4, MaxOk (arg3.view.read (Elt Ideal) f3) (arg4.view.read (Elt Ideal) f4)
      (ldXs c arg7 arg8 arg9 arg10 arg11 arg12 arg13 arg14 arg15 arg16 s u) (4 * K + u)
  | 0, _ => max_load _ _ _ h.h11
  | 1, _ => max_load _ _ _ h.h12
  | 2, _ => max_load _ _ _ h.h13
  | 3, _ => max_load _ _ _ h.h14

theorem ldSs_ok (r : Fin 512) : ∀ u < 4, ∀ w < 4, ∀ i : Fin 256,
    ldSs c arg7 arg8 arg9 arg10 arg11 arg12 arg13 arg14 arg15 arg16 s u w (ix2 i r)
      = sN (arg3.view.read (Elt Ideal) f3) (arg4.view.read (Elt Ideal) f4) ((4 * K + u) / 4) r (1024 * ((4 * K + u) % 4) + (256 * w + i.val)) := by
  have chunk : ∀ {M : Memref sig .tc .vmem S1024x512 .f32} (f : Bf (F := Ideal) c M) {t : ℕ},
      SlotOk (arg3.view.read (Elt Ideal) f3) (arg4.view.read (Elt Ideal) f4) (M.view.read (Elt Ideal) f) t → ∀ w < 4, ∀ i : Fin 256,
      ldS c f w (ix2 i r) = sN (arg3.view.read (Elt Ideal) f3) (arg4.view.read (Elt Ideal) f4) (t / 4) r (1024 * (t % 4) + (256 * w + i.val)) := by
    intro M f t hf w hw i
    match w, hw with
    | 0, _ => exact slot_load _ _ 0 _ hf r i
    | 1, _ => exact slot_load _ _ 256 _ hf r i
    | 2, _ => exact slot_load _ _ 512 _ hf r i
    | 3, _ => exact slot_load _ _ 768 _ hf r i
  intro u hu
  match u, hu with
  | 0, _ => exact chunk _ h.h7
  | 1, _ => exact chunk _ h.h8
  | 2, _ => exact chunk _ h.h9
  | 3, _ => exact chunk _ h.h10
end

/-- One trip keeps the invariant. -/
theorem inv_step (hs : ∀ row r j, ∃ y : ℝ, sN (arg3.view.read (Elt Ideal) f3) (arg4.view.read (Elt Ideal) f4) row r j = y)
    (h : Inv c arg3 arg4 arg5 arg7 arg8 arg9 arg10 arg11 arg12 arg13 arg14 arg15 arg16 f3 f4 f5 k.val s) :
    Inv c arg3 arg4 arg5 arg7 arg8 arg9 arg10 arg11 arg12 arg13 arg14 arg15 arg16 f3 f4 f5 (k.val + 1) (step c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s) := by
  have hk : k.val < 15 := k.isLt
  have hrow : 4 * k.val / 4 = k.val := by omega
  have hm : ∀ r : Fin 512, View.readAt (Elt Ideal) arg15.view (Rect.unit (s := S16x1x512) (k0_off1 k 0#32) S1x1x512.size (off1_inb k 0)).toLoadRect s.s15 (ix3 0 0 r)
      = Online.top (sN (arg3.view.read (Elt Ideal) f3) (arg4.view.read (Elt Ideal) f4) (4 * k.val / 4) r) (1024 * (4 * k.val % 4)) := by
    intro r
    refine (top_load arg15.view s.s15 (off1_inb k 0) ⟨k.val, by omega⟩ (off1_eq k 0) r).trans ?_
    rw [h.h15]
    show Online.top (sN _ _ k.val r) _ = _
    rw [hrow]
    exact congrArg _ (by show 1024 * min (4 * k.val - 4 * k.val) 4 = _; omega)
  have ha : ∀ (e : Fin 144) (r : Fin 512), View.readAt (Elt Ideal) arg16.view (Rect.unit (s := S16x144x512) (k0_off2 k 0#32) S1x144x512.size (off2_inb k 0)).toLoadRect s.s16 (ix3 0 e r)
      = Online.acc (sN (arg3.view.read (Elt Ideal) f3) (arg4.view.read (Elt Ideal) f4) (4 * k.val / 4) r) (vN (arg5.view.read (Elt Ideal) f5) (4 * k.val / 4) e) (1024 * (4 * k.val % 4)) := by
    intro e r
    refine (acc_load arg16.view s.s16 (off2_inb k 0) ⟨k.val, by omega⟩ (off2_eq k 0) e r).trans ?_
    rw [h.h16]
    show Online.acc (sN _ _ k.val r) _ _ = _
    rw [hrow]
    exact congrArg _ (by show 1024 * min (4 * k.val - 4 * k.val) 4 = _; omega)
  have hv : ∀ u < 4, ∀ w < 2, ValOk (arg5.view.read (Elt Ideal) f5) (ldV c arg5 f5 k u w) (4 * k.val + u) w := by
    intro u hu w hw
    refine valOk_load _ _ _ (by omega) hw ?_
    rw [off3_eq]
    show ![k.val / 8, 2 * (u % 4) + w % 2, 0, 0] = _
    rw [Nat.mod_eq_of_lt hu, Nat.mod_eq_of_lt hw, show (4 * k.val + u) / 4 = k.val by omega, show (4 * k.val + u) % 4 = u by omega]
  unfold step
  refine ⟨?_, ?_, ?_, ?_, ?_, ?_, ?_, ?_, ?_, ?_⟩
  · show SlotOk _ _ (arg7.view.read _ (arg7.view.writes (Elt Ideal) s.s7 (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).1)) _
    rw [trip_sc0]
    exact slotAt_store _ _ (scF_ok (ldK_ok c arg4 f4 k 0 0) (ldQ_ok c arg3 f3 k 0)) (scF_ok (ldK_ok c arg4 f4 k 0 1) (ldQ_ok c arg3 f3 k 0)) (scF_ok (ldK_ok c arg4 f4 k 0 2) (ldQ_ok c arg3 f3 k 0)) (scF_ok (ldK_ok c arg4 f4 k 0 3) (ldQ_ok c arg3 f3 k 0))
  · show SlotOk _ _ (arg8.view.read _ (arg8.view.writes (Elt Ideal) s.s8 (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).2.1)) _
    rw [trip_sc1]
    exact slotAt_store _ _ (scF_ok (ldK_ok c arg4 f4 k 1 0) (ldQ_ok c arg3 f3 k 1)) (scF_ok (ldK_ok c arg4 f4 k 1 1) (ldQ_ok c arg3 f3 k 1)) (scF_ok (ldK_ok c arg4 f4 k 1 2) (ldQ_ok c arg3 f3 k 1)) (scF_ok (ldK_ok c arg4 f4 k 1 3) (ldQ_ok c arg3 f3 k 1))
  · show SlotOk _ _ (arg9.view.read _ (arg9.view.writes (Elt Ideal) s.s9 (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).2.2.1)) _
    rw [trip_sc2]
    exact slotAt_store _ _ (scF_ok (ldK_ok c arg4 f4 k 2 0) (ldQ_ok c arg3 f3 k 2)) (scF_ok (ldK_ok c arg4 f4 k 2 1) (ldQ_ok c arg3 f3 k 2)) (scF_ok (ldK_ok c arg4 f4 k 2 2) (ldQ_ok c arg3 f3 k 2)) (scF_ok (ldK_ok c arg4 f4 k 2 3) (ldQ_ok c arg3 f3 k 2))
  · show SlotOk _ _ (arg10.view.read _ (arg10.view.writes (Elt Ideal) s.s10 (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).2.2.2.1)) _
    rw [trip_sc3]
    exact slotAt_store _ _ (scF_ok (ldK_ok c arg4 f4 k 3 0) (ldQ_ok c arg3 f3 k 3)) (scF_ok (ldK_ok c arg4 f4 k 3 1) (ldQ_ok c arg3 f3 k 3)) (scF_ok (ldK_ok c arg4 f4 k 3 2) (ldQ_ok c arg3 f3 k 3)) (scF_ok (ldK_ok c arg4 f4 k 3 3) (ldQ_ok c arg3 f3 k 3))
  · show MaxOk _ _ (arg11.view.read _ (arg11.view.writes (Elt Ideal) s.s11 (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).2.2.2.2.1)) _
    rw [trip_mx0]
    exact maxAt_store _ _ (scF_ok (ldK_ok c arg4 f4 k 0 0) (ldQ_ok c arg3 f3 k 0)) (scF_ok (ldK_ok c arg4 f4 k 0 1) (ldQ_ok c arg3 f3 k 0)) (scF_ok (ldK_ok c arg4 f4 k 0 2) (ldQ_ok c arg3 f3 k 0)) (scF_ok (ldK_ok c arg4 f4 k 0 3) (ldQ_ok c arg3 f3 k 0))
  · show MaxOk _ _ (arg12.view.read _ (arg12.view.writes (Elt Ideal) s.s12 (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).2.2.2.2.2.1)) _
    rw [trip_mx1]
    exact maxAt_store _ _ (scF_ok (ldK_ok c arg4 f4 k 1 0) (ldQ_ok c arg3 f3 k 1)) (scF_ok (ldK_ok c arg4 f4 k 1 1) (ldQ_ok c arg3 f3 k 1)) (scF_ok (ldK_ok c arg4 f4 k 1 2) (ldQ_ok c arg3 f3 k 1)) (scF_ok (ldK_ok c arg4 f4 k 1 3) (ldQ_ok c arg3 f3 k 1))
  · show MaxOk _ _ (arg13.view.read _ (arg13.view.writes (Elt Ideal) s.s13 (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).2.2.2.2.2.2.1)) _
    rw [trip_mx2]
    exact maxAt_store _ _ (scF_ok (ldK_ok c arg4 f4 k 2 0) (ldQ_ok c arg3 f3 k 2)) (scF_ok (ldK_ok c arg4 f4 k 2 1) (ldQ_ok c arg3 f3 k 2)) (scF_ok (ldK_ok c arg4 f4 k 2 2) (ldQ_ok c arg3 f3 k 2)) (scF_ok (ldK_ok c arg4 f4 k 2 3) (ldQ_ok c arg3 f3 k 2))
  · show MaxOk _ _ (arg14.view.read _ (arg14.view.writes (Elt Ideal) s.s14 (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).2.2.2.2.2.2.2.1)) _
    rw [trip_mx3]
    exact maxAt_store _ _ (scF_ok (ldK_ok c arg4 f4 k 3 0) (ldQ_ok c arg3 f3 k 3)) (scF_ok (ldK_ok c arg4 f4 k 3 1) (ldQ_ok c arg3 f3 k 3)) (scF_ok (ldK_ok c arg4 f4 k 3 2) (ldQ_ok c arg3 f3 k 3)) (scF_ok (ldK_ok c arg4 f4 k 3 3) (ldQ_ok c arg3 f3 k 3))
  · show TopOk _ _ (arg15.view.read _ (arg15.view.writes (Elt Ideal) s.s15 (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).2.2.2.2.2.2.2.2.1)) _
    rw [trip_top]
    refine topAt_row arg15.view s.s15 (t := 4 * k.val) (row_count (by omega) (by omega)) h.h15 _ ((off1_eq k 3).trans (by rw [hrow])) _
      (fun r => tM_at (row_step (by omega)) r (hm r) (ldXs_ok h) 4 le_rfl) _ ?_
    intro p hp
    rw [hrow]
    simp only [List.mem_cons, List.not_mem_nil, or_false] at hp
    rcases hp with rfl | rfl | rfl
    · exact ⟨congrFun (off1_eq k 2) 0, rfl, rfl⟩
    · exact ⟨congrFun (off1_eq k 1) 0, rfl, rfl⟩
    · exact ⟨congrFun (off1_eq k 0) 0, rfl, rfl⟩
  · show AccOk _ _ _ (arg16.view.read _ (arg16.view.writes (Elt Ideal) s.s16 (runAt c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 k s).2.2.2.2.2.2.2.2.2.1)) _
    rw [trip_acc]
    refine accAt_row arg16.view s.s16 (t := 4 * k.val) (row_count (by omega) (by omega)) h.h16 _ ((off2_eq k 3).trans (by rw [hrow])) _
      (fun e r => tA_at (row_step (by omega)) hs e r (hm r) (ldXs_ok h) (ha e r) hv (ldSs_ok h r) 4 le_rfl) _ ?_
    intro p hp
    rw [hrow]
    simp only [List.mem_cons, List.not_mem_nil, or_false] at hp
    rcases hp with rfl | rfl | rfl
    · exact ⟨congrFun (off2_eq k 2) 0, rfl, rfl⟩
    · exact ⟨congrFun (off2_eq k 1) 0, rfl, rfl⟩
    · exact ⟨congrFun (off2_eq k 0) 0, rfl, rfl⟩

/-- So all trips do. -/
theorem inv_iter (hs : ∀ row r j, ∃ y : ℝ, sN (arg3.view.read (Elt Ideal) f3) (arg4.view.read (Elt Ideal) f4) row r j = y)
    (h : Inv c arg3 arg4 arg5 arg7 arg8 arg9 arg10 arg11 arg12 arg13 arg14 arg15 arg16 f3 f4 f5 0 s) :
    ∀ K ≤ 15, Inv c arg3 arg4 arg5 arg7 arg8 arg9 arg10 arg11 arg12 arg13 arg14 arg15 arg16 f3 f4 f5 K (iter c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 s K)
  | 0, _ => h
  | K + 1, hK => by
    have := iter_succ c i arg3 harg3 arg4 harg4 arg5 harg5 arg6 harg6 arg7 harg7 arg8 harg8 arg9 harg9 arg10 harg10 arg11 harg11 arg12 harg12 arg13 harg13 arg14 harg14 arg15 harg15 arg16 harg16 v207 v211 f3 f4 f5 s ⟨K, hK⟩
    rw [this]
    exact inv_step (k := ⟨K, hK⟩) i harg3 harg4 harg5 arg6 harg6 harg7 harg8 harg9 harg10 harg11 harg12 harg13 harg14 harg15 harg16 v207 v211 hs (inv_iter hs h K (by omega))

end Cert.Kernel6Ideal.Att

end
-- ==== Proof.SampleAttStart.lean ====
/-
  Before the loop: the scores of the first four steps, their maxima, and no keys yet in the running maxima and
  accumulators.
-/
module

public import proofs.«01_k».proof.Proof.SampleAttInv
public import proofs.«01_k».proof.Proof.SampleAttBodyRun

@[expose] public section

set_option maxRecDepth 16384

noncomputable section

namespace Cert.Kernel6Ideal.Att

open Cert.Kernel6Ideal Cert.Kernel6Ideal.Gen
open Cert.KernelIdeal.Att (negInf scF mxF mF aF scL mxL scF_apply SlotAt MaxAt ScoreAt ValAt TopAt AccAt slotAt_store maxAt_store
  tM tA tM_at tA_at slot_load max_load top_load acc_load readCov_head topAt_row accAt_row)
open Idealize.ShloMosaic Idealize.ShloMosaic.TcCoe Idealize.ShloMosaic.Pointwise

section Loads
variable {F : FTy → Type} [FloatOps F] (c : Dev nD) (arg3 : Memref sig .tc .vmem S2x8x256x512 .bf16)
  (arg4 : Memref sig .tc .vmem S2x4096x256 .bf16) (f3 : Bf (F := F) c arg3) (f4 : Bf (F := F) c arg4)

theorem pK_inb (u w : ℕ) : ∀ a : Fin 3, ![0, 1024 * (u % 4) + 256 * (w % 4), 0] a + S1x256x256.size a ≤ S2x4096x256.size a
  | 0 => show 0 + 1 ≤ 2 by omega
  | 1 => show 1024 * (u % 4) + 256 * (w % 4) + 256 ≤ 4096 by omega
  | 2 => le_refl 256

/-- The loads of step `u` before the loop: a block of keys and the queries. -/
abbrev pK (u w : ℕ) : Vec F S1x256x256 .bf16 :=
  View.readAt (Elt F) arg4.view (Rect.unit (s := S2x4096x256) ![0, 1024 * (u % 4) + 256 * (w % 4), 0] S1x256x256.size (pK_inb u w)).toLoadRect f4
abbrev pQ : Vec F S1x1x256x512 .bf16 :=
  View.readAt (Elt F) arg3.view (Rect.unit (s := S2x8x256x512) ![0, 0, 0, 0] S1x1x256x512.size inb_S2x8x256x512_S1x1x256x512_0_0_0_0).toLoadRect f3

theorem pro_sc0 : bodyRun.sl.H7_4 c arg3 arg4 f3 f4 = scL (pK c arg4 f4 0 0) (pK c arg4 f4 0 1) (pK c arg4 f4 0 2) (pK c arg4 f4 0 3) (pQ c arg3 f3) := rfl
theorem pro_mx0 : bodyRun.sl.H11_1 c arg3 arg4 f3 f4 = mxL (pK c arg4 f4 0 0) (pK c arg4 f4 0 1) (pK c arg4 f4 0 2) (pK c arg4 f4 0 3) (pQ c arg3 f3) := rfl
theorem pro_sc1 : bodyRun.sl.H8_4 c arg3 arg4 f3 f4 = scL (pK c arg4 f4 1 0) (pK c arg4 f4 1 1) (pK c arg4 f4 1 2) (pK c arg4 f4 1 3) (pQ c arg3 f3) := rfl
theorem pro_mx1 : bodyRun.sl.H12_1 c arg3 arg4 f3 f4 = mxL (pK c arg4 f4 1 0) (pK c arg4 f4 1 1) (pK c arg4 f4 1 2) (pK c arg4 f4 1 3) (pQ c arg3 f3) := rfl
theorem pro_sc2 : bodyRun.sl.H9_4 c arg3 arg4 f3 f4 = scL (pK c arg4 f4 2 0) (pK c arg4 f4 2 1) (pK c arg4 f4 2 2) (pK c arg4 f4 2 3) (pQ c arg3 f3) := rfl
theorem pro_mx2 : bodyRun.sl.H13_1 c arg3 arg4 f3 f4 = mxL (pK c arg4 f4 2 0) (pK c arg4 f4 2 1) (pK c arg4 f4 2 2) (pK c arg4 f4 2 3) (pQ c arg3 f3) := rfl
theorem pro_sc3 : bodyRun.sl.H10_4 c arg3 arg4 f3 f4 = scL (pK c arg4 f4 3 0) (pK c arg4 f4 3 1) (pK c arg4 f4 3 2) (pK c arg4 f4 3 3) (pQ c arg3 f3) := rfl
theorem pro_mx3 : bodyRun.sl.H14_1 c arg3 arg4 f3 f4 = mxL (pK c arg4 f4 3 0) (pK c arg4 f4 3 1) (pK c arg4 f4 3 2) (pK c arg4 f4 3 3) (pQ c arg3 f3) := rfl

end Loads

variable (c : Dev nD) (arg3 : Memref sig .tc .vmem S2x8x256x512 .bf16)
  (arg4 : Memref sig .tc .vmem S2x4096x256 .bf16) (f3 : Bf (F := Ideal) c arg3) (f4 : Bf (F := Ideal) c arg4)

theorem pK_ok (u w : ℕ) (hu : u < 4) (hw : w < 4) : KeyOk (arg4.view.read (Elt Ideal) f4) (pK c arg4 f4 u w) u w :=
  keyOk_load _ _ _ (by omega) hw (by rw [Nat.mod_eq_of_lt hw, Nat.div_eq_of_lt hu])

theorem pQ_ok (u : ℕ) (hu : u < 4) : QryOk (arg3.view.read (Elt Ideal) f3) (pQ c arg3 f3) u :=
  qryOk_load _ _ _ (by omega) (by rw [show u / 4 = 0 by omega])

theorem pro_top (v : View sig .tc .vmem S16x1x512 .f32) (f : v.ty.Contents (Elt Ideal)) (X3 X4) :
    TopOk X3 X4 (v.read (Elt Ideal) (v.writes (Elt Ideal) f (bodyRun.sl.H15_1 (F := Ideal)))) 0 := by
  intro row r
  unfold bodyRun.sl.H15_1
  rw [View.read_writes_cons_hit_of_coords v f _ _ _ (ix3 row 0 r) (ix3 row 0 r) ?_]
  · rw [show 1024 * min (0 - 4 * row.val) 4 = 0 by omega]
    pointwise [k0_pay86]
    rw [negInf]
    rfl
  · intro a
    match a with
    | 0 => show row.val = 0 + 1 * row.val; omega
    | 1 => rfl
    | 2 => show r.val = 0 + 1 * r.val; omega

theorem pro_acc (v : View sig .tc .vmem S16x144x512 .f32) (f : v.ty.Contents (Elt Ideal)) (X3 X4 X5) :
    AccOk X3 X4 X5 (v.read (Elt Ideal) (v.writes (Elt Ideal) f (bodyRun.sl.H16_1 (F := Ideal)))) 0 := by
  intro row e r
  unfold bodyRun.sl.H16_1
  rw [View.read_writes_cons_hit_of_coords v f _ _ _ (ix3 row e r) (ix3 row e r) ?_]
  · rw [show 1024 * min (0 - 4 * row.val) 4 = 0 by omega]
    pointwise [k0_pay87]
    simp [Online.acc, Ideal.ofBits, Ideal.ieee]
  · intro a
    match a with
    | 0 => show row.val = 0 + 1 * row.val; omega
    | 1 => show e.val = 0 + 1 * e.val; omega
    | 2 => show r.val = 0 + 1 * r.val; omega

end Cert.Kernel6Ideal.Att

end
-- ==== Proof.SampleAttTail.lean ====
/-
  After the loop: the last four steps, in the last row, and the output tiles.
-/
module

public import proofs.«01_k».proof.Proof.SampleAttStart
public import proofs.«01_k».proof.Proof.Tail

@[expose] public section

set_option maxRecDepth 16384

noncomputable section

namespace Cert.Kernel6Ideal.Att

open Cert.Kernel6Ideal Cert.Kernel6Ideal.Gen
open Cert.KernelIdeal.Att (negInf scF mxF mF aF scL mxL scF_apply SlotAt MaxAt ScoreAt ValAt TopAt AccAt slotAt_store maxAt_store
  tM tA tM_at tA_at slot_load max_load top_load acc_load readCov_head topAt_row accAt_row outF outF_apply)
open Idealize.ShloMosaic Idealize.ShloMosaic.TcCoe Idealize.ShloMosaic.Pointwise

section Tiles
variable {F : FTy → Type} [FloatOps F]

theorem tile_inb {n : ℕ} (h : n < 16) : ∀ a : Fin 2, ![512 * (n % 8), 128 * (n / 8)] a + S512x128.size a ≤ S4096x256.size a
  | 0 => show 512 * (n % 8) + 512 ≤ 4096 by omega
  | 1 => show 128 * (n / 8) + 128 ≤ 256 by omega

/-- The stores of the first `n` output tiles, newest first. -/
def outL (x : ℕ → Vec F S512x128 .bf16) : (n : ℕ) → n ≤ 16 → List (View.Piece (Elt F) S4096x256 .bf16)
  | 0, _ => []
  | n + 1, h => ⟨Rect.unit (s := S4096x256) ![512 * (n % 8), 128 * (n / 8)] S512x128.size (tile_inb h), x n⟩ :: outL x n (Nat.le_of_succ_le h)

theorem outL_apply (x : ℕ → Vec F S512x128 .bf16) (q : ℕ) (r : Fin 512) (e : Fin 128) : ∀ (n : ℕ) (h : n ≤ 16) (hq : q < n),
    View.canon (outL x n h) (ix2 (⟨512 * (q % 8) + r.val, by omega⟩ : Fin 4096) (⟨128 * (q / 8) + e.val, by omega⟩ : Fin 256)) = x q (ix2 r e)
  | n + 1, h, hq => by
    unfold outL
    by_cases hn : q = n
    · subst hn
      have he : (ix2 (⟨512 * (q % 8) + r.val, by omega⟩ : Fin 4096) (⟨128 * (q / 8) + e.val, by omega⟩ : Fin 256))
          = (Rect.unit (s := S4096x256) ![512 * (q % 8), 128 * (q / 8)] S512x128.size (tile_inb h)).emb (ix2 r e) := by
        funext a
        refine Fin.ext ?_
        match a with
        | 0 => show 512 * (q % 8) + r.val = 512 * (q % 8) + 1 * r.val; omega
        | 1 => show 128 * (q / 8) + e.val = 128 * (q / 8) + 1 * e.val; omega
      rw [he, View.canon_cons_emb]
    · rw [View.canon_cons_of_not_mem, outL_apply x q r e n _ (by omega)]
      by_cases hc : q / 8 = n / 8
      · refine Rect.not_mem_set_of_axis _ _ 0 (512 * (n % 8)) 512 rfl rfl rfl (.inl ?_)
        show 512 * (q % 8) + r.val < 512 * (n % 8)
        omega
      · refine Rect.not_mem_set_of_axis _ _ 1 (128 * (n / 8)) 128 rfl rfl rfl (.inl ?_)
        show 128 * (q / 8) + e.val < 128 * (n / 8)
        omega
end Tiles

section Values
variable {F : FTy → Type} [FloatOps F]
variable (c : Dev nD) (i : grid0.Coords) (arg3 : Memref sig .tc .vmem S2x8x256x512 .bf16) (harg3 : arg3.IsWhole) (arg4 : Memref sig .tc .vmem S2x4096x256 .bf16) (harg4 : arg4.IsWhole) (arg5 : Memref sig .tc .vmem S2x8x144x512 .bf16) (harg5 : arg5.IsWhole) (arg6 : Memref sig .tc .vmem S4096x256 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S8x512 .f32) (harg13 : arg13.IsWhole) (arg14 : Memref sig .tc .vmem S8x512 .f32) (harg14 : arg14.IsWhole) (arg15 : Memref sig .tc .vmem S16x1x512 .f32) (harg15 : arg15.IsWhole) (arg16 : Memref sig .tc .vmem S16x144x512 .f32) (harg16 : arg16.IsWhole)
  (f3 : Bf (F := F) c arg3) (f4 : Bf (F := F) c arg4) (f5 : Bf (F := F) c arg5)

/-- The scratch buffers before the loop and after it. -/
abbrev ini : St (F := F) c arg7 arg8 arg9 arg10 arg11 arg12 arg13 arg14 arg15 arg16 :=
  ⟨arg7.view.writes (Elt F) arg7.view.junk (bodyRun.sl.H7_4 c arg3 arg4 f3 f4),
   arg8.view.writes (Elt F) arg8.view.junk (bodyRun.sl.H8_4 c arg3 arg4 f3 f4),
   arg9.view.writes (Elt F) arg9.view.junk (bodyRun.sl.H9_4 c arg3 arg4 f3 f4),
   arg10.view.writes (Elt F) arg10.view.junk (bodyRun.sl.H10_4 c arg3 arg4 f3 f4),
   arg11.view.writes (Elt F) arg11.view.junk (bodyRun.sl.H11_1 c arg3 arg4 f3 f4),
   arg12.view.writes (Elt F) arg12.view.junk (bodyRun.sl.H12_1 c arg3 arg4 f3 f4),
   arg13.view.writes (Elt F) arg13.view.junk (bodyRun.sl.H13_1 c arg3 arg4 f3 f4),
   arg14.view.writes (Elt F) arg14.view.junk (bodyRun.sl.H14_1 c arg3 arg4 f3 f4),
   arg15.view.writes (Elt F) arg15.view.junk bodyRun.sl.H15_1, arg16.view.writes (Elt F) arg16.view.junk bodyRun.sl.H16_1⟩
abbrev fin : St (F := F) c arg7 arg8 arg9 arg10 arg11 arg12 arg13 arg14 arg15 arg16 :=
  iter c i arg3 harg3 arg4 harg4 arg5 harg5 arg6 harg6 arg7 harg7 arg8 harg8 arg9 harg9 arg10 harg10 arg11 harg11 arg12 harg12 arg13 harg13 arg14 harg14 arg15 harg15 arg16 harg16 (bodyRun.sl.r_9 c arg3 arg4 f3 f4) (bodyRun.sl.r_10 c arg4 f4) f3 f4 f5
    (ini c arg3 arg4 arg7 arg8 arg9 arg10 arg11 arg12 arg13 arg14 arg15 arg16 f3 f4) (14 + 1)

theorem tV_inb (u w : ℕ) : ∀ a : Fin 4, ![1, 2 * ((60 + u) % 4) + w % 2, 0, 0] a + S1x1x144x512.size a ≤ S2x8x144x512.size a
  | 0 => le_refl 2
  | 1 => show 2 * ((60 + u) % 4) + w % 2 + 1 ≤ 8 by omega
  | 2 => le_refl 144
  | 3 => le_refl 512

/-- The loads of the last four steps' values. -/
abbrev tV (u w : ℕ) : Vec F S1x1x144x512 .bf16 :=
  View.readAt (Elt F) arg5.view (Rect.unit (s := S2x8x144x512) ![1, 2 * ((60 + u) % 4) + w % 2, 0, 0] S1x1x144x512.size (tV_inb u w)).toLoadRect f5

theorem row_inb (q : ℕ) : ∀ a : Fin 3, ![q % 16, 0, 0] a + S1x144x512.size a ≤ S16x144x512.size a
  | 0 => show q % 16 + 1 ≤ 16 by omega
  | 1 => le_refl 144
  | 2 => le_refl 512

/-- The last row's maximum and accumulator after `u` of the last four steps. -/
abbrev lastM : ℕ → Vec F S1x1x512 .f32 :=
  tM (View.readAt (Elt F) arg15.view (Rect.unit (s := S16x1x512) ![15, 0, 0] S1x1x512.size inb_S16x1x512_S1x1x512_15_0_0).toLoadRect (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s15)
    (ldXs c arg7 arg8 arg9 arg10 arg11 arg12 arg13 arg14 arg15 arg16 (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5))
abbrev lastA : ℕ → Vec F S1x144x512 .f32 :=
  tA (View.readAt (Elt F) arg15.view (Rect.unit (s := S16x1x512) ![15, 0, 0] S1x1x512.size inb_S16x1x512_S1x1x512_15_0_0).toLoadRect (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s15)
    (ldXs c arg7 arg8 arg9 arg10 arg11 arg12 arg13 arg14 arg15 arg16 (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5))
    (View.readAt (Elt F) arg16.view (Rect.unit (s := S16x144x512) ![15 % 16, 0, 0] S1x144x512.size (row_inb 15)).toLoadRect (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s16)
    (tV c arg5 f5) (ldSs c arg7 arg8 arg9 arg10 arg11 arg12 arg13 arg14 arg15 arg16 (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5))

theorem last_top1 : bodyRun.sl.v280 c i arg3 harg3 arg4 harg4 arg5 harg5 arg6 harg6 arg7 harg7 arg8 harg8 arg9 harg9 arg10 harg10 arg11 harg11 arg12 harg12 arg13 harg13 arg14 harg14 arg15 harg15 arg16 harg16 f3 f4 f5 = lastM c i arg3 harg3 arg4 harg4 arg5 harg5 arg6 harg6 arg7 harg7 arg8 harg8 arg9 harg9 arg10 harg10 arg11 harg11 arg12 harg12 arg13 harg13 arg14 harg14 arg15 harg15 arg16 harg16 f3 f4 f5 1 := by
  unfold bodyRun.sl.v280 bodyRun.sl.H15_1_1
  rw [View.readCov_cons_toLoadRect]
  rfl
theorem last_top2 : bodyRun.sl.v335 c i arg3 harg3 arg4 harg4 arg5 harg5 arg6 harg6 arg7 harg7 arg8 harg8 arg9 harg9 arg10 harg10 arg11 harg11 arg12 harg12 arg13 harg13 arg14 harg14 arg15 harg15 arg16 harg16 f3 f4 f5 = lastM c i arg3 harg3 arg4 harg4 arg5 harg5 arg6 harg6 arg7 harg7 arg8 harg8 arg9 harg9 arg10 harg10 arg11 harg11 arg12 harg12 arg13 harg13 arg14 harg14 arg15 harg15 arg16 harg16 f3 f4 f5 2 := by
  unfold bodyRun.sl.v335 bodyRun.sl.H15_2
  rw [View.readCov_cons_toLoadRect, last_top1]
  rfl
theorem last_top3 : bodyRun.sl.v390 c i arg3 harg3 arg4 harg4 arg5 harg5 arg6 harg6 arg7 harg7 arg8 harg8 arg9 harg9 arg10 harg10 arg11 harg11 arg12 harg12 arg13 harg13 arg14 harg14 arg15 harg15 arg16 harg16 f3 f4 f5 = lastM c i arg3 harg3 arg4 harg4 arg5 harg5 arg6 harg6 arg7 harg7 arg8 harg8 arg9 harg9 arg10 harg10 arg11 harg11 arg12 harg12 arg13 harg13 arg14 harg14 arg15 harg15 arg16 harg16 f3 f4 f5 3 := by
  unfold bodyRun.sl.v390 bodyRun.sl.H15_3
  rw [View.readCov_cons_toLoadRect, last_top2]
  rfl

theorem last_acc1 : bodyRun.sl.v291 c i arg3 harg3 arg4 harg4 arg5 harg5 arg6 harg6 arg7 harg7 arg8 harg8 arg9 harg9 arg10 harg10 arg11 harg11 arg12 harg12 arg13 harg13 arg14 harg14 arg15 harg15 arg16 harg16 f3 f4 f5 = lastA c i arg3 harg3 arg4 harg4 arg5 harg5 arg6 harg6 arg7 harg7 arg8 harg8 arg9 harg9 arg10 harg10 arg11 harg11 arg12 harg12 arg13 harg13 arg14 harg14 arg15 harg15 arg16 harg16 f3 f4 f5 1 := by
  unfold bodyRun.sl.v291 bodyRun.sl.H16_1_1
  rw [View.readCov_cons_toLoadRect]
  rfl
theorem last_acc2 : bodyRun.sl.v346 c i arg3 harg3 arg4 harg4 arg5 harg5 arg6 harg6 arg7 harg7 arg8 harg8 arg9 harg9 arg10 harg10 arg11 harg11 arg12 harg12 arg13 harg13 arg14 harg14 arg15 harg15 arg16 harg16 f3 f4 f5 = lastA c i arg3 harg3 arg4 harg4 arg5 harg5 arg6 harg6 arg7 harg7 arg8 harg8 arg9 harg9 arg10 harg10 arg11 harg11 arg12 harg12 arg13 harg13 arg14 harg14 arg15 harg15 arg16 harg16 f3 f4 f5 2 := by
  unfold bodyRun.sl.v346 bodyRun.sl.H16_2
  rw [View.readCov_cons_toLoadRect]
  show aF (bodyRun.sl.v280 c i arg3 harg3 arg4 harg4 arg5 harg5 arg6 harg6 arg7 harg7 arg8 harg8 arg9 harg9 arg10 harg10 arg11 harg11 arg12 harg12 arg13 harg13 arg14 harg14 arg15 harg15 arg16 harg16 f3 f4 f5) (ldX c (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s12) (bodyRun.sl.v291 c i arg3 harg3 arg4 harg4 arg5 harg5 arg6 harg6 arg7 harg7 arg8 harg8 arg9 harg9 arg10 harg10 arg11 harg11 arg12 harg12 arg13 harg13 arg14 harg14 arg15 harg15 arg16 harg16 f3 f4 f5) (tV c arg5 f5 1 0) (tV c arg5 f5 1 1)
    (ldS c (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s8 0) (ldS c (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s8 1) (ldS c (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s8 2) (ldS c (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s8 3) = _
  rw [last_top1, last_acc1]
  rfl
theorem last_acc3 : bodyRun.sl.v401 c i arg3 harg3 arg4 harg4 arg5 harg5 arg6 harg6 arg7 harg7 arg8 harg8 arg9 harg9 arg10 harg10 arg11 harg11 arg12 harg12 arg13 harg13 arg14 harg14 arg15 harg15 arg16 harg16 f3 f4 f5 = lastA c i arg3 harg3 arg4 harg4 arg5 harg5 arg6 harg6 arg7 harg7 arg8 harg8 arg9 harg9 arg10 harg10 arg11 harg11 arg12 harg12 arg13 harg13 arg14 harg14 arg15 harg15 arg16 harg16 f3 f4 f5 3 := by
  unfold bodyRun.sl.v401 bodyRun.sl.H16_3
  rw [View.readCov_cons_toLoadRect]
  show aF (bodyRun.sl.v335 c i arg3 harg3 arg4 harg4 arg5 harg5 arg6 harg6 arg7 harg7 arg8 harg8 arg9 harg9 arg10 harg10 arg11 harg11 arg12 harg12 arg13 harg13 arg14 harg14 arg15 harg15 arg16 harg16 f3 f4 f5) (ldX c (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s13) (bodyRun.sl.v346 c i arg3 harg3 arg4 harg4 arg5 harg5 arg6 harg6 arg7 harg7 arg8 harg8 arg9 harg9 arg10 harg10 arg11 harg11 arg12 harg12 arg13 harg13 arg14 harg14 arg15 harg15 arg16 harg16 f3 f4 f5) (tV c arg5 f5 2 0) (tV c arg5 f5 2 1)
    (ldS c (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s9 0) (ldS c (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s9 1) (ldS c (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s9 2) (ldS c (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s9 3) = _
  rw [last_top2, last_acc2]
  rfl
theorem last_acc4 : bodyRun.sl.v580 c i arg3 harg3 arg4 harg4 arg5 harg5 arg6 harg6 arg7 harg7 arg8 harg8 arg9 harg9 arg10 harg10 arg11 harg11 arg12 harg12 arg13 harg13 arg14 harg14 arg15 harg15 arg16 harg16 f3 f4 f5 = lastA c i arg3 harg3 arg4 harg4 arg5 harg5 arg6 harg6 arg7 harg7 arg8 harg8 arg9 harg9 arg10 harg10 arg11 harg11 arg12 harg12 arg13 harg13 arg14 harg14 arg15 harg15 arg16 harg16 f3 f4 f5 4 := by
  unfold bodyRun.sl.v580 bodyRun.sl.H16_4
  rw [View.readCov_cons_toLoadRect]
  show aF (bodyRun.sl.v390 c i arg3 harg3 arg4 harg4 arg5 harg5 arg6 harg6 arg7 harg7 arg8 harg8 arg9 harg9 arg10 harg10 arg11 harg11 arg12 harg12 arg13 harg13 arg14 harg14 arg15 harg15 arg16 harg16 f3 f4 f5) (ldX c (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s14) (bodyRun.sl.v401 c i arg3 harg3 arg4 harg4 arg5 harg5 arg6 harg6 arg7 harg7 arg8 harg8 arg9 harg9 arg10 harg10 arg11 harg11 arg12 harg12 arg13 harg13 arg14 harg14 arg15 harg15 arg16 harg16 f3 f4 f5) (tV c arg5 f5 3 0) (tV c arg5 f5 3 1)
    (ldS c (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s10 0) (ldS c (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s10 1) (ldS c (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s10 2) (ldS c (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s10 3) = _
  rw [last_top3, last_acc3]
  rfl

/-- The accumulators of row `q` at the end. -/
abbrev rowEnd : ℕ → Vec F S1x144x512 .f32
  | 15 => lastA c i arg3 harg3 arg4 harg4 arg5 harg5 arg6 harg6 arg7 harg7 arg8 harg8 arg9 harg9 arg10 harg10 arg11 harg11 arg12 harg12 arg13 harg13 arg14 harg14 arg15 harg15 arg16 harg16 f3 f4 f5 4
  | q => View.readAt (Elt F) arg16.view (Rect.unit (s := S16x144x512) ![q % 16, 0, 0] S1x144x512.size (row_inb q)).toLoadRect (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s16

/-- The body's stores: the sixteen rows' output tiles. -/
theorem bodyRun_eq : (bodyRun c i arg3 harg3 arg4 harg4 arg5 harg5 arg6 harg6 arg7 harg7 arg8 harg8 arg9 harg9 arg10 harg10 arg11 harg11 arg12 harg12 arg13 harg13 arg14 harg14 arg15 harg15 arg16 harg16 f3 f4 f5).1 = outL (fun q => outF (rowEnd c i arg3 harg3 arg4 harg4 arg5 harg5 arg6 harg6 arg7 harg7 arg8 harg8 arg9 harg9 arg10 harg10 arg11 harg11 arg12 harg12 arg13 harg13 arg14 harg14 arg15 harg15 arg16 harg16 f3 f4 f5 q)) 16 le_rfl := by
  have h15 : outF (bodyRun.sl.v580 c i arg3 harg3 arg4 harg4 arg5 harg5 arg6 harg6 arg7 harg7 arg8 harg8 arg9 harg9 arg10 harg10 arg11 harg11 arg12 harg12 arg13 harg13 arg14 harg14 arg15 harg15 arg16 harg16 f3 f4 f5) = outF (lastA c i arg3 harg3 arg4 harg4 arg5 harg5 arg6 harg6 arg7 harg7 arg8 harg8 arg9 harg9 arg10 harg10 arg11 harg11 arg12 harg12 arg13 harg13 arg14 harg14 arg15 harg15 arg16 harg16 f3 f4 f5 4) := congrArg _ (last_acc4 c i arg3 harg3 arg4 harg4 arg5 harg5 arg6 harg6 arg7 harg7 arg8 harg8 arg9 harg9 arg10 harg10 arg11 harg11 arg12 harg12 arg13 harg13 arg14 harg14 arg15 harg15 arg16 harg16 f3 f4 f5)
  unfold bodyRun
  dsimp only
  show (⟨Rect.unit (s := S4096x256) ![512 * (15 % 8), 128 * (15 / 8)] S512x128.size (tile_inb (by omega)), outF (bodyRun.sl.v580 c i arg3 harg3 arg4 harg4 arg5 harg5 arg6 harg6 arg7 harg7 arg8 harg8 arg9 harg9 arg10 harg10 arg11 harg11 arg12 harg12 arg13 harg13 arg14 harg14 arg15 harg15 arg16 harg16 f3 f4 f5)⟩ : View.Piece (Elt F) S4096x256 .bf16)
    :: outL (fun q => outF (rowEnd c i arg3 harg3 arg4 harg4 arg5 harg5 arg6 harg6 arg7 harg7 arg8 harg8 arg9 harg9 arg10 harg10 arg11 harg11 arg12 harg12 arg13 harg13 arg14 harg14 arg15 harg15 arg16 harg16 f3 f4 f5 q)) 15 (by omega) = _
  rw [h15]
  rfl

end Values

end Cert.Kernel6Ideal.Att

end
-- ==== Proof.SampleAttBodyVal.lean ====
/-
  What the body stores over the reals, for the sample batch: each query's values weighted by two to its scores, over the sum of the weights.
-/
module

public import proofs.«01_k».proof.Proof.SampleAttTail

@[expose] public section

set_option maxRecDepth 16384

noncomputable section

namespace Cert.Kernel6Ideal.Att

open Cert.Kernel6Ideal Cert.Kernel6Ideal.Gen
open Cert.KernelIdeal.Att (negInf scF mxF mF aF scL mxL scF_apply SlotAt MaxAt ScoreAt ValAt TopAt AccAt slotAt_store maxAt_store
  tM tA tM_at tA_at slot_load max_load top_load acc_load readCov_head topAt_row accAt_row outF outF_apply)
open Idealize.ShloMosaic Idealize.ShloMosaic.TcCoe Idealize.ShloMosaic.Pointwise

variable (c : Dev nD) (i : grid0.Coords) (arg3 : Memref sig .tc .vmem S2x8x256x512 .bf16) (harg3 : arg3.IsWhole) (arg4 : Memref sig .tc .vmem S2x4096x256 .bf16) (harg4 : arg4.IsWhole) (arg5 : Memref sig .tc .vmem S2x8x144x512 .bf16) (harg5 : arg5.IsWhole) (arg6 : Memref sig .tc .vmem S4096x256 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S8x512 .f32) (harg13 : arg13.IsWhole) (arg14 : Memref sig .tc .vmem S8x512 .f32) (harg14 : arg14.IsWhole) (arg15 : Memref sig .tc .vmem S16x1x512 .f32) (harg15 : arg15.IsWhole) (arg16 : Memref sig .tc .vmem S16x144x512 .f32) (harg16 : arg16.IsWhole)
  (f3 : Bf (F := Ideal) c arg3) (f4 : Bf (F := Ideal) c arg4) (f5 : Bf (F := Ideal) c arg5)

/-- The invariant before the loop. -/
theorem inv_ini : Inv c arg3 arg4 arg5 arg7 arg8 arg9 arg10 arg11 arg12 arg13 arg14 arg15 arg16 f3 f4 f5 0
    (ini c arg3 arg4 arg7 arg8 arg9 arg10 arg11 arg12 arg13 arg14 arg15 arg16 f3 f4) where
  h7 := by
    dsimp only [ini]
    rw [pro_sc0]
    exact slotAt_store _ _ (scF_ok (pK_ok c arg4 f4 0 0 (by omega) (by omega)) (pQ_ok c arg3 f3 0 (by omega))) (scF_ok (pK_ok c arg4 f4 0 1 (by omega) (by omega)) (pQ_ok c arg3 f3 0 (by omega))) (scF_ok (pK_ok c arg4 f4 0 2 (by omega) (by omega)) (pQ_ok c arg3 f3 0 (by omega))) (scF_ok (pK_ok c arg4 f4 0 3 (by omega) (by omega)) (pQ_ok c arg3 f3 0 (by omega)))
  h8 := by
    dsimp only [ini]
    rw [pro_sc1]
    exact slotAt_store _ _ (scF_ok (pK_ok c arg4 f4 1 0 (by omega) (by omega)) (pQ_ok c arg3 f3 1 (by omega))) (scF_ok (pK_ok c arg4 f4 1 1 (by omega) (by omega)) (pQ_ok c arg3 f3 1 (by omega))) (scF_ok (pK_ok c arg4 f4 1 2 (by omega) (by omega)) (pQ_ok c arg3 f3 1 (by omega))) (scF_ok (pK_ok c arg4 f4 1 3 (by omega) (by omega)) (pQ_ok c arg3 f3 1 (by omega)))
  h9 := by
    dsimp only [ini]
    rw [pro_sc2]
    exact slotAt_store _ _ (scF_ok (pK_ok c arg4 f4 2 0 (by omega) (by omega)) (pQ_ok c arg3 f3 2 (by omega))) (scF_ok (pK_ok c arg4 f4 2 1 (by omega) (by omega)) (pQ_ok c arg3 f3 2 (by omega))) (scF_ok (pK_ok c arg4 f4 2 2 (by omega) (by omega)) (pQ_ok c arg3 f3 2 (by omega))) (scF_ok (pK_ok c arg4 f4 2 3 (by omega) (by omega)) (pQ_ok c arg3 f3 2 (by omega)))
  h10 := by
    dsimp only [ini]
    rw [pro_sc3]
    exact slotAt_store _ _ (scF_ok (pK_ok c arg4 f4 3 0 (by omega) (by omega)) (pQ_ok c arg3 f3 3 (by omega))) (scF_ok (pK_ok c arg4 f4 3 1 (by omega) (by omega)) (pQ_ok c arg3 f3 3 (by omega))) (scF_ok (pK_ok c arg4 f4 3 2 (by omega) (by omega)) (pQ_ok c arg3 f3 3 (by omega))) (scF_ok (pK_ok c arg4 f4 3 3 (by omega) (by omega)) (pQ_ok c arg3 f3 3 (by omega)))
  h11 := by
    dsimp only [ini]
    rw [pro_mx0]
    exact maxAt_store _ _ (scF_ok (pK_ok c arg4 f4 0 0 (by omega) (by omega)) (pQ_ok c arg3 f3 0 (by omega))) (scF_ok (pK_ok c arg4 f4 0 1 (by omega) (by omega)) (pQ_ok c arg3 f3 0 (by omega))) (scF_ok (pK_ok c arg4 f4 0 2 (by omega) (by omega)) (pQ_ok c arg3 f3 0 (by omega))) (scF_ok (pK_ok c arg4 f4 0 3 (by omega) (by omega)) (pQ_ok c arg3 f3 0 (by omega)))
  h12 := by
    dsimp only [ini]
    rw [pro_mx1]
    exact maxAt_store _ _ (scF_ok (pK_ok c arg4 f4 1 0 (by omega) (by omega)) (pQ_ok c arg3 f3 1 (by omega))) (scF_ok (pK_ok c arg4 f4 1 1 (by omega) (by omega)) (pQ_ok c arg3 f3 1 (by omega))) (scF_ok (pK_ok c arg4 f4 1 2 (by omega) (by omega)) (pQ_ok c arg3 f3 1 (by omega))) (scF_ok (pK_ok c arg4 f4 1 3 (by omega) (by omega)) (pQ_ok c arg3 f3 1 (by omega)))
  h13 := by
    dsimp only [ini]
    rw [pro_mx2]
    exact maxAt_store _ _ (scF_ok (pK_ok c arg4 f4 2 0 (by omega) (by omega)) (pQ_ok c arg3 f3 2 (by omega))) (scF_ok (pK_ok c arg4 f4 2 1 (by omega) (by omega)) (pQ_ok c arg3 f3 2 (by omega))) (scF_ok (pK_ok c arg4 f4 2 2 (by omega) (by omega)) (pQ_ok c arg3 f3 2 (by omega))) (scF_ok (pK_ok c arg4 f4 2 3 (by omega) (by omega)) (pQ_ok c arg3 f3 2 (by omega)))
  h14 := by
    dsimp only [ini]
    rw [pro_mx3]
    exact maxAt_store _ _ (scF_ok (pK_ok c arg4 f4 3 0 (by omega) (by omega)) (pQ_ok c arg3 f3 3 (by omega))) (scF_ok (pK_ok c arg4 f4 3 1 (by omega) (by omega)) (pQ_ok c arg3 f3 3 (by omega))) (scF_ok (pK_ok c arg4 f4 3 2 (by omega) (by omega)) (pQ_ok c arg3 f3 3 (by omega))) (scF_ok (pK_ok c arg4 f4 3 3 (by omega) (by omega)) (pQ_ok c arg3 f3 3 (by omega)))
  h15 := pro_top _ _ _ _
  h16 := pro_acc _ _ _ _ _

variable (hs : ∀ row r j, ∃ y : ℝ, sN (arg3.view.read (Elt Ideal) f3) (arg4.view.read (Elt Ideal) f4) row r j = y)
include hs

/-- So after it. -/
theorem inv_fin : Inv c arg3 arg4 arg5 arg7 arg8 arg9 arg10 arg11 arg12 arg13 arg14 arg15 arg16 f3 f4 f5 15
    (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5) :=
  inv_iter i harg3 harg4 harg5 arg6 harg6 harg7 harg8 harg9 harg10 harg11 harg12 harg13 harg14 harg15 harg16 (bodyRun.sl.r_9 c arg3 arg4 f3 f4) (bodyRun.sl.r_10 c arg4 f4) hs
    (inv_ini c arg3 arg4 arg5 arg7 arg8 arg9 arg10 arg11 arg12 arg13 arg14 arg15 arg16 f3 f4 f5) 15 le_rfl

/-- The accumulators at the end: over all keys. -/
theorem rowEnd_ok (q : ℕ) (hq : q < 16) (e : Fin 144) (r : Fin 512) : rowEnd c i arg3 harg3 arg4 harg4 arg5 harg5 arg6 harg6 arg7 harg7 arg8 harg8 arg9 harg9 arg10 harg10 arg11 harg11 arg12 harg12 arg13 harg13 arg14 harg14 arg15 harg15 arg16 harg16 f3 f4 f5 q (ix3 0 e r)
    = Online.acc (sN (arg3.view.read (Elt Ideal) f3) (arg4.view.read (Elt Ideal) f4) q r) (vN (arg5.view.read (Elt Ideal) f5) q e) 4096 := by
  have h := inv_fin c i arg3 harg3 arg4 harg4 arg5 harg5 arg6 harg6 arg7 harg7 arg8 harg8 arg9 harg9 arg10 harg10 arg11 harg11 arg12 harg12 arg13 harg13 arg14 harg14 arg15 harg15 arg16 harg16 f3 f4 f5 hs
  by_cases h15 : q = 15
  · subst h15
    show lastA c i arg3 harg3 arg4 harg4 arg5 harg5 arg6 harg6 arg7 harg7 arg8 harg8 arg9 harg9 arg10 harg10 arg11 harg11 arg12 harg12 arg13 harg13 arg14 harg14 arg15 harg15 arg16 harg16 f3 f4 f5 4 (ix3 0 e r) = _
    have hm : ∀ r' : Fin 512, View.readAt (Elt Ideal) arg15.view (Rect.unit (s := S16x1x512) ![15, 0, 0] S1x1x512.size inb_S16x1x512_S1x1x512_15_0_0).toLoadRect (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s15 (ix3 0 0 r')
        = Online.top (sN (arg3.view.read (Elt Ideal) f3) (arg4.view.read (Elt Ideal) f4) (60 / 4) r') (1024 * (60 % 4)) :=
      fun r' => (top_load arg15.view _ _ 15 rfl r').trans (h.h15 15 r')
    have ha : View.readAt (Elt Ideal) arg16.view (Rect.unit (s := S16x144x512) ![15 % 16, 0, 0] S1x144x512.size (row_inb 15)).toLoadRect (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s16 (ix3 0 e r)
        = Online.acc (sN (arg3.view.read (Elt Ideal) f3) (arg4.view.read (Elt Ideal) f4) (60 / 4) r) (vN (arg5.view.read (Elt Ideal) f5) (60 / 4) e) (1024 * (60 % 4)) :=
      (acc_load arg16.view _ _ 15 rfl e r).trans (h.h16 15 e r)
    have hv : ∀ u < 4, ∀ w < 2, ValOk (arg5.view.read (Elt Ideal) f5) (tV c arg5 f5 u w) (60 + u) w := by
      intro u hu w hw
      refine valOk_load _ _ _ (by omega) hw ?_
      have e : (60 + u) / 4 / 8 = 1 := by omega
      rw [e, Nat.mod_eq_of_lt hw]
    have hx := ldXs_ok h
    have hsc := ldSs_ok h r
    simp only [Nat.reduceMul] at hx hsc
    refine Eq.trans (tA_at (t := 60) (row_step (by norm_num)) hs e r (hm r) hx ha hv hsc 4 le_rfl) ?_
    norm_num
  · have hl : rowEnd c i arg3 harg3 arg4 harg4 arg5 harg5 arg6 harg6 arg7 harg7 arg8 harg8 arg9 harg9 arg10 harg10 arg11 harg11 arg12 harg12 arg13 harg13 arg14 harg14 arg15 harg15 arg16 harg16 f3 f4 f5 q (ix3 0 e r)
        = View.readAt (Elt Ideal) arg16.view (Rect.unit (s := S16x144x512) ![q % 16, 0, 0] S1x144x512.size (row_inb q)).toLoadRect (fin c i arg3 harg3 arg4 harg4 arg5 harg5 arg6 harg6 arg7 harg7 arg8 harg8 arg9 harg9 arg10 harg10 arg11 harg11 arg12 harg12 arg13 harg13 arg14 harg14 arg15 harg15 arg16 harg16 f3 f4 f5).s16 (ix3 0 e r) := by
      rw [rowEnd]
      exact h15
    rw [hl]
    refine (acc_load arg16.view _ _ ⟨q, hq⟩ (by rw [Nat.mod_eq_of_lt hq]) e r).trans ((h.h16 ⟨q, hq⟩ e r).trans ?_)
    exact congrArg _ (by show 1024 * min (4 * 15 - 4 * q) 4 = 4096; omega)

/-- The output block. -/
theorem body_out (q : ℕ) (hq : q < 16) (r : Fin 512) (e : Fin 128) :
    View.canon (bodyRun c i arg3 harg3 arg4 harg4 arg5 harg5 arg6 harg6 arg7 harg7 arg8 harg8 arg9 harg9 arg10 harg10 arg11 harg11 arg12 harg12 arg13 harg13 arg14 harg14 arg15 harg15 arg16 harg16 f3 f4 f5).1 (ix2 (⟨512 * (q % 8) + r.val, by omega⟩ : Fin 4096) (⟨128 * (q / 8) + e.val, by omega⟩ : Fin 256))
      = Ideal.div
          (Online.acc (sN (arg3.view.read (Elt Ideal) f3) (arg4.view.read (Elt Ideal) f4) q r) (vN (arg5.view.read (Elt Ideal) f5) q ⟨e.val, by omega⟩) 4096)
          (Online.acc (sN (arg3.view.read (Elt Ideal) f3) (arg4.view.read (Elt Ideal) f4) q r) (vN (arg5.view.read (Elt Ideal) f5) q ⟨128, by omega⟩) 4096) := by
  rw [bodyRun_eq, outL_apply _ q r e 16 le_rfl hq, outF_apply, rowEnd_ok c i arg3 harg3 arg4 harg4 arg5 harg5 arg6 harg6 arg7 harg7 arg8 harg8 arg9 harg9 arg10 harg10 arg11 harg11 arg12 harg12 arg13 harg13 arg14 harg14 arg15 harg15 arg16 harg16 f3 f4 f5 hs q hq, rowEnd_ok c i arg3 harg3 arg4 harg4 arg5 harg5 arg6 harg6 arg7 harg7 arg8 harg8 arg9 harg9 arg10 harg10 arg11 harg11 arg12 harg12 arg13 harg13 arg14 harg14 arg15 harg15 arg16 harg16 f3 f4 f5 hs q hq]

end Cert.Kernel6Ideal.Att

end
-- ==== Proof.SampleAttFinal.lean ====
/-
  The result array over the reals, for the sample batch, from the blocks of the 64 grid points.
-/
module

public import proofs.«01_k».proof.Proof.SampleAttBodyVal
public import proofs.«01_k».proof.Proof.SampleAttRun
public import Idealize.ShloMosaic.Lib.Pipeline.ValueKit.Geometry

@[expose] public section

set_option maxRecDepth 16384

noncomputable section

namespace Cert.Kernel6Ideal.Att

open Cert.Kernel6Ideal Cert.Kernel6Ideal.Gen
open Idealize.ShloMosaic Idealize.ShloMosaic.TcCoe Idealize.ShloMosaic.Pointwise Idealize.ShloMosaic.Pipeline

variable (Q : S8x128x256x512.Idx → EReal) (K : S8x65536x256.Idx → EReal) (W : S8x128x144x512.Idx → EReal)

/-- The score of key `j` for query `n` of head `h` in sequence `b`. -/
def score (b : Fin 16) (h : Fin 8) (n : Fin 4096) (j : ℕ) : EReal :=
  ∑ d : Fin 256, K (ix3 h ⟨4096 * b.val + j % 4096, by omega⟩ d)
    * Q (ix4 h ⟨8 * b.val + n.val / 512, by omega⟩ d ⟨n.val % 512, Nat.mod_lt _ (by norm_num)⟩)

/-- Entry `e` of key `j`'s value. -/
def value (b : Fin 16) (h : Fin 8) (e : Fin 144) (j : ℕ) : EReal :=
  W (ix4 h ⟨8 * b.val + j / 512 % 8, by omega⟩ e ⟨j % 512, Nat.mod_lt _ (by norm_num)⟩)

/-- The attention of query `n` in head `h` of sequence `b`. -/
def att (b : Fin 16) (h : Fin 8) (n : Fin 4096) (e : Fin 128) : EReal :=
  Ideal.div (Online.acc (score Q K b h n) (value W b h ⟨e.val, by omega⟩) 4096) (Online.acc (score Q K b h n) (value W b h ⟨128, by omega⟩) 4096)

/-- The whole result. -/
def attAll (y : S65536x1024.Idx) : EReal :=
  att Q K W ⟨(y 0).val / 4096, by have : (y 0).val < 65536 := (y 0).isLt; omega⟩ ⟨(y 1).val / 128, by have : (y 1).val < 1024 := (y 1).isLt; omega⟩
    ⟨(y 0).val % 4096, Nat.mod_lt _ (by norm_num)⟩ ⟨(y 1).val % 128, Nat.mod_lt _ (by norm_num)⟩

variable {Q K W}

theorem score_real (hQ : ∀ i, ∃ x : ℝ, Q i = x) (hK : ∀ i, ∃ x : ℝ, K i = x) (b : Fin 16) (h : Fin 8) (n : Fin 4096) (j : ℕ) :
    ∃ y : ℝ, score Q K b h n j = y := by
  choose q hq using hQ
  choose k hk using hK
  refine ⟨∑ d : Fin 256, k (ix3 h ⟨4096 * b.val + j % 4096, by omega⟩ d) * q (ix4 h ⟨8 * b.val + n.val / 512, by omega⟩ d ⟨n.val % 512, Nat.mod_lt _ (by norm_num)⟩), ?_⟩
  unfold score
  simp only [hq, hk]
  push_cast
  rfl

theorem index0 : ∀ t : Fin cfg0.N, win0_0.index t = ![t.val % 4, t.val / 4, 0, 0] := (by decide +kernel : ∀ t : Fin grid0.N, _)
theorem index1 : ∀ t : Fin cfg0.N, win0_1.index t = ![t.val % 4, t.val / 4, 0] := (by decide +kernel : ∀ t : Fin grid0.N, _)
theorem index2 : ∀ t : Fin cfg0.N, win0_2.index t = ![t.val % 4, t.val / 4, 0, 0] := (by decide +kernel : ∀ t : Fin grid0.N, _)
theorem index3 : ∀ t : Fin cfg0.N, win0_3.index t = ![t.val / 4, t.val % 4] := (by decide +kernel : ∀ t : Fin grid0.N, _)

variable (m : (ℓ : Loc nD τ sig) → Buf (Elt Ideal) ℓ) (c : Dev nD)

theorem point_lt (t : Fin cfg0.N) : t.val < 64 := t.isLt

/-- A point's scores and values are the arrays'. -/
theorem sN_point (t : Fin cfg0.N) (q : ℕ) (hq : q < 16) (r : Fin 512) :
    sN (iblk m c 0 t) (iblk m c 1 t) q r
      = score (m ((c : Thread nD τ).loc main_arg0)) (m ((c : Thread nD τ).loc main_arg1)) ⟨t.val / 4, by have := point_lt t; omega⟩
          ⟨2 * (t.val % 4) + q / 8, by omega⟩ ⟨512 * (q % 8) + r.val, by omega⟩ := by
  funext j
  unfold sN score
  refine Finset.sum_congr rfl fun d _ => congrArg₂ (· * ·) ?_ ?_
  · blk_simp [iblk]
    refine congrArg (m ((c : Thread nD τ).loc main_arg1)) ?_
    blk_ext [index1]
  · blk_simp [iblk]
    refine congrArg (m ((c : Thread nD τ).loc main_arg0)) ?_
    blk_ext [index0]

theorem vN_point (t : Fin cfg0.N) (q : ℕ) (hq : q < 16) (e : Fin 144) :
    vN (iblk m c 2 t) q e = value (m ((c : Thread nD τ).loc main_arg2)) ⟨t.val / 4, by have := point_lt t; omega⟩ ⟨2 * (t.val % 4) + q / 8, by omega⟩ e := by
  funext j
  unfold vN value
  blk_simp [iblk]
  refine congrArg (m ((c : Thread nD τ).loc main_arg2)) ?_
  blk_ext [index2]

/-- The arrays as launched. -/
abbrev aQ : S8x128x256x512.Idx → EReal := m ((c : Thread nD τ).loc main_arg0)
abbrev aK : S8x65536x256.Idx → EReal := m ((c : Thread nD τ).loc main_arg1)
abbrev aW : S8x128x144x512.Idx → EReal := m ((c : Thread nD τ).loc main_arg2)

variable (hQ : ∀ i, ∃ x : ℝ, aQ m c i = x) (hK : ∀ i, ∃ x : ℝ, aK m c i = x)
include hQ hK

/-- The scores of a point are real. -/
theorem point_real (t : Fin cfg0.N) (row : ℕ) (r : Fin 512) (j : ℕ) : ∃ y : ℝ, sN (iblk m c 0 t) (iblk m c 1 t) row r j = y := by
  have h : sN (iblk m c 0 t) (iblk m c 1 t) row r j = sN (iblk m c 0 t) (iblk m c 1 t) (row % 16) r j := by
    unfold sN
    have e1 : row % 16 / 8 % 2 = row / 8 % 2 := by omega
    have e2 : row % 16 % 8 = row % 8 := by omega
    simp only [e1, e2]
  rw [h, sN_point m c t (row % 16) (by omega) r]
  exact score_real hQ hK _ _ _ _

/-- The output block of a point. -/
theorem block_out (t : Fin cfg0.N) (y : S4096x256.Idx) : View.canon (outRun m c t).1 y
    = att (aQ m c) (aK m c) (aW m c) ⟨t.val / 4, by have := point_lt t; omega⟩
        ⟨2 * (t.val % 4) + (y 1).val / 128, by have : (y 1).val < 256 := (y 1).isLt; omega⟩
        ⟨(y 0).val, (y 0).isLt⟩ ⟨(y 1).val % 128, Nat.mod_lt _ (by norm_num)⟩ := by
  obtain ⟨a, e, rfl⟩ : ∃ (a : Fin 4096) (e : Fin 256), y = ix2 a e := ⟨y 0, y 1, by funext b; match b with | 0 => rfl | 1 => rfl⟩
  obtain ⟨q, hq⟩ : ∃ q : ℕ, q = 8 * (e.val / 128) + a.val / 512 := ⟨_, rfl⟩
  have hq8 : q % 8 = a.val / 512 := by omega
  have hqd : q / 8 = e.val / 128 := by omega
  have hq16 : q < 16 := by omega
  have ha : (ix2 a e : S4096x256.Idx) = ix2 (⟨512 * (q % 8) + (⟨a.val % 512, by omega⟩ : Fin 512).val, by dsimp only; omega⟩ : Fin 4096)
      (⟨128 * (q / 8) + (⟨e.val % 128, by omega⟩ : Fin 128).val, by dsimp only; omega⟩ : Fin 256) := by
    congr 1
    · exact Fin.ext (by dsimp only; omega)
    · exact Fin.ext (by dsimp only; omega)
  have e0 : (st0_0 t).view.read (Elt Ideal) (Memref.IsWhole.unread (m := st0_0 t) (hstage0_0 ((cfg0.slots t 0).cast nbuf0_0)) (iblk m c 0 t)) = iblk m c 0 t :=
    (hstage0_0 ((cfg0.slots t 0).cast nbuf0_0)).read_unread (iblk m c 0 t)
  have e1 : (st0_1 t).view.read (Elt Ideal) (Memref.IsWhole.unread (m := st0_1 t) (hstage0_1 ((cfg0.slots t 1).cast nbuf0_1)) (iblk m c 1 t)) = iblk m c 1 t :=
    (hstage0_1 ((cfg0.slots t 1).cast nbuf0_1)).read_unread (iblk m c 1 t)
  have e2 : (st0_2 t).view.read (Elt Ideal) (Memref.IsWhole.unread (m := st0_2 t) (hstage0_2 ((cfg0.slots t 2).cast nbuf0_2)) (iblk m c 2 t)) = iblk m c 2 t :=
    (hstage0_2 ((cfg0.slots t 2).cast nbuf0_2)).read_unread (iblk m c 2 t)
  rw [ha]
  unfold outRun
  rw [body_out _ _ _ _ _ _ _ _ _ _ _ _ _ _ _ _ _ _ _ _ _ _ _ _ _ _ _ _ _ _ _ _ _ ?hs q hq16 ⟨a.val % 512, by omega⟩ ⟨e.val % 128, by omega⟩, e0, e1, e2,
    sN_point m c t q hq16, vN_point m c t q hq16, vN_point m c t q hq16]
  case hs =>
    rw [e0, e1]
    exact point_real m c hQ hK t
  unfold att
  have hn : ∀ hh hh', (⟨512 * (q % 8) + (⟨a.val % 512, hh⟩ : Fin 512).val, hh'⟩ : Fin 4096) = a := fun _ _ => Fin.ext (by dsimp only; omega)
  have hh : ∀ hh, (⟨2 * (t.val % 4) + q / 8, hh⟩ : Fin 8) = ⟨2 * (t.val % 4) + e.val / 128, by omega⟩ := fun _ => Fin.ext (by dsimp only; omega)
  have hm : ∀ hh, (⟨(128 * (q / 8) + e.val % 128) % 128, hh⟩ : Fin 144) = ⟨e.val % 128, by omega⟩ := fun _ => Fin.ext (by dsimp only; omega)
  have hk : ∀ hh, (⟨2 * (t.val % 4) + (128 * (q / 8) + e.val % 128) / 128, hh⟩ : Fin 8) = ⟨2 * (t.val % 4) + e.val / 128, by omega⟩ := fun _ => Fin.ext (by dsimp only; omega)
  simp only [ix2_0, ix2_1, hn, hh, hm, hk]

/-- The whole result array. -/
theorem final : (dats m 0 c).arrAt 3 cfg0.N = attAll (aQ m c) (aK m c) (aW m c) := by
  refine (dats m 0 c).arrAt_eq_of_covers 3 _ (by decide +kernel) fun t hf y => ?_
  blk_simp
  refine (block_out m c hQ hK t y).trans ?_
  have ht := point_lt t
  have h0 : (y 0).val < 4096 := (y 0).isLt
  have h1 : (y 1).val < 256 := (y 1).isLt
  unfold attAll
  congr 1
  · refine Fin.ext ?_
    blk_simp [index3]
    dsimp only
    omega
  · refine Fin.ext ?_
    blk_simp [index3]
    dsimp only
    omega
  · refine Fin.ext ?_
    blk_simp [index3]
    dsimp only
    omega
  · refine Fin.ext ?_
    blk_simp [index3]
    dsimp only
    omega

end Cert.Kernel6Ideal.Att

end
-- ==== Proof.SampleAttRef.lean ====
/-
  The reference's result over the reals for the sample batch: the same attention, entry by entry.
-/
module

public import proofs.«01_k».proof.Defs
public import proofs.«01_k».proof.Proof.Gen.Reference6Ideal
public import proofs.«01_k».proof.Proof.Gen.Reference6Ideal.Run
public import proofs.«01_k».proof.Proof.Gen.Reference6Ideal.Read
public import proofs.«01_k».proof.Proof.SampleAttFinal
public import proofs.«01_k».proof.Proof.Softmax
public import Idealize.ShloMosaic.Lib.Claim
public import Idealize.ShloMosaic.Lib.Pointwise

@[expose] public section

set_option maxRecDepth 16384

noncomputable section

namespace Cert.Reference6Ideal.Att

open Cert.Reference6Ideal Cert.Reference6Ideal.Read
open Idealize.ShloMosaic Idealize.ShloMosaic.TcCoe Idealize.ShloMosaic.Pointwise
open Cert.Kernel6Ideal.Att (score value att attAll score_real)

variable (Q : S8x128x256x512.Idx → EReal) (K : S8x65536x256.Idx → EReal) (W : S8x128x144x512.Idx → EReal)

theorem query (i : S16x4096x8x256.Idx) :
    val_main_v2 (F := Ideal) Q i
      = Q (ix4 ⟨(i 2).val, (i 2).isLt⟩ ⟨8 * (i 0).val + (i 1).val / 512, by have : (i 0).val < 16 := (i 0).isLt; have : (i 1).val < 4096 := (i 1).isLt; omega⟩
          ⟨(i 3).val, (i 3).isLt⟩ ⟨(i 1).val % 512, Nat.mod_lt _ (by norm_num)⟩) := by
  rw [val_main_v2_apply, val_main_v1_apply, val_main_v0_apply]
  have h0 : (i 0).val < 16 := (i 0).isLt
  have h1 : (i 1).val < 4096 := (i 1).isLt
  have h2 : (i 2).val < 8 := (i 2).isLt
  have h3 : (i 3).val < 256 := (i 3).isLt
  refine congrArg Q (funext fun a => Fin.ext ?_)
  match a with
  | ⟨0, _⟩ => show ((((i 0).val * 4096 + (i 1).val) * 8 + (i 2).val) * 256 + (i 3).val) / 256 % 8 = (i 2).val; omega
  | ⟨1, _⟩ => show ((((i 0).val * 4096 + (i 1).val) * 8 + (i 2).val) * 256 + (i 3).val) / 1048576 = 8 * (i 0).val + (i 1).val / 512; omega
  | ⟨2, _⟩ => show ((((i 0).val * 4096 + (i 1).val) * 8 + (i 2).val) * 256 + (i 3).val) % 256 = (i 3).val; omega
  | ⟨3, _⟩ => show ((((i 0).val * 4096 + (i 1).val) * 8 + (i 2).val) * 256 + (i 3).val) / 2048 % 512 = (i 1).val % 512; omega

theorem key (i : S8x16x4096x256.Idx) :
    val_main_v4 (F := Ideal) K i
      = K (ix3 ⟨(i 0).val, (i 0).isLt⟩ ⟨4096 * (i 1).val + (i 2).val % 4096, by have : (i 1).val < 16 := (i 1).isLt; omega⟩ ⟨(i 3).val, (i 3).isLt⟩) := by
  rw [val_main_v4_apply, val_main_v3_apply]
  have h0 : (i 0).val < 8 := (i 0).isLt
  have h1 : (i 1).val < 16 := (i 1).isLt
  have h2 : (i 2).val < 4096 := (i 2).isLt
  have h3 : (i 3).val < 256 := (i 3).isLt
  refine congrArg K (funext fun a => Fin.ext ?_)
  match a with
  | ⟨0, _⟩ => show ((((i 0).val * 16 + (i 1).val) * 4096 + (i 2).val) * 256 + (i 3).val) / 16777216 = (i 0).val; omega
  | ⟨1, _⟩ => show ((((i 0).val * 16 + (i 1).val) * 4096 + (i 2).val) * 256 + (i 3).val) / 256 % 65536 = 4096 * (i 1).val + (i 2).val % 4096; omega
  | ⟨2, _⟩ => show ((((i 0).val * 16 + (i 1).val) * 4096 + (i 2).val) * 256 + (i 3).val) % 256 = (i 3).val; omega

theorem val (i : S16x4096x8x128.Idx) :
    val_main_v8 (F := Ideal) W i
      = W (ix4 ⟨(i 2).val, (i 2).isLt⟩ ⟨8 * (i 0).val + (i 1).val / 512, by have : (i 0).val < 16 := (i 0).isLt; have : (i 1).val < 4096 := (i 1).isLt; omega⟩
          ⟨(i 3).val, by have : (i 3).val < 128 := (i 3).isLt; omega⟩ ⟨(i 1).val % 512, Nat.mod_lt _ (by norm_num)⟩) := by
  rw [val_main_v8_apply, val_main_v7_apply, val_main_v6_apply, val_main_v5_apply]
  have h0 : (i 0).val < 16 := (i 0).isLt
  have h1 : (i 1).val < 4096 := (i 1).isLt
  have h2 : (i 2).val < 8 := (i 2).isLt
  have h3 : (i 3).val < 128 := (i 3).isLt
  refine congrArg W (funext fun a => Fin.ext ?_)
  match a with
  | ⟨0, _⟩ => show ((((i 0).val * 4096 + (i 1).val) * 8 + (i 2).val) * 128 + (i 3).val) / 128 % 8 = (i 2).val; omega
  | ⟨1, _⟩ => show ((((i 0).val * 4096 + (i 1).val) * 8 + (i 2).val) * 128 + (i 3).val) / 524288 = 8 * (i 0).val + (i 1).val / 512; omega
  | ⟨2, _⟩ => show ((((i 0).val * 4096 + (i 1).val) * 8 + (i 2).val) * 128 + (i 3).val) % 128 = (i 3).val; omega
  | ⟨3, _⟩ => show ((((i 0).val * 4096 + (i 1).val) * 8 + (i 2).val) * 128 + (i 3).val) / 1024 % 512 = (i 1).val % 512; omega

/-- A score, in the natural units. -/
theorem scores (b : Fin 16) (h : Fin 8) (n j : Fin 4096) :
    val_main_v12 (F := Ideal) Q K (ix4 b h n j) = score Q K b h n j * (Real.log 2 : ℝ) := by
  rw [val_main_v12_apply, val_main_v11_apply, val_main_v10_apply, val_main_cst_apply, val_main_v9_apply]
  have e2 : (FloatOps.ofBits (F := Ideal) .f32 0x40000000#32 : EReal) = ((2 : ℝ) : EReal) := by
    simp [Ideal.ofBits, Ideal.ieee, -EReal.coe_mul]; norm_num
  have el : (FloatOps.hostUnary (F := Ideal) (φ := .f32) .log (FloatOps.ofBits .f32 0x40000000#32) : EReal) = (Real.log 2 : ℝ) := by
    rw [e2]
    exact (Ideal.log_coe 2).trans (if_neg (by norm_num))
  rw [el]
  refine congrArg (· * ((Real.log 2 : ℝ) : EReal)) (Finset.sum_congr rfl fun d _ => ?_)
  rw [query, key, mul_comm]
  rfl

/-- The reference's maximum is finite. -/
theorem max_real (hQ : ∀ i, ∃ x : ℝ, Q i = x) (hK : ∀ i, ∃ x : ℝ, K i = x) (b : Fin 16) (h : Fin 8) (n : Fin 4096) :
    ∃ M : ℝ, val_main_v15 (F := Ideal) Q K (ix3 b h n) = M := by
  have hb : (FloatOps.ofBits (F := Ideal) .f32 0xFF800000#32 : EReal) = ⊥ := by
    simp [Ideal.ofBits, Ideal.ieee]
  have e : val_main_v13 (F := Ideal) Q K (ix3 b h n) = Finset.univ.fold max ⊥ (fun j : Fin 4096 => val_main_v12 (F := Ideal) Q K (ix4 b h n j)) := by
    unfold val_main_v13 val_main_cst_0
    generalize val_main_v12 (F := Ideal) Q K = y
    pointwise
    exact congrArg (fun z => Finset.univ.fold max z _) hb
  rw [val_main_v15_apply, val_main_v14_apply, val_main_cst_1_apply, e]
  obtain ⟨M, hM⟩ := Online.fold_coe (n := 4096) (by norm_num) (f := fun j : Fin 4096 => val_main_v12 (F := Ideal) Q K (ix4 b h n j)) fun j => by
    obtain ⟨x, hx⟩ := score_real hQ hK b h n j
    exact ⟨x * Real.log 2, by rw [scores, hx, EReal.coe_mul]⟩
  refine ⟨M, ?_⟩
  rw [hM, hb]
  exact max_eq_right bot_le

/-- Key `j`'s weight before it is divided. -/
theorem weight {b : Fin 16} {h : Fin 8} {n : Fin 4096} {M : ℝ} (hM : val_main_v15 (F := Ideal) Q K (ix3 b h n) = M) (j : Fin 4096) :
    val_main_v19 (F := Ideal) Q K (ix4 b h n j) = Ideal.exp (score Q K b h n j * (Real.log 2 : ℝ) - M) := by
  rw [val_main_v19_apply, val_main_v18_apply, val_main_v17_apply, val_main_v16_apply, scores, ← hM]
  refine congrArg (fun x => Ideal.exp (score Q K b h n j * (Real.log 2 : ℝ) - val_main_v15 (F := Ideal) Q K x)) (funext fun a => ?_)
  match a with
  | ⟨0, _⟩ => rfl
  | ⟨1, _⟩ => rfl
  | ⟨2, _⟩ => rfl

/-- The sum of the weights. -/
theorem total {b : Fin 16} {h : Fin 8} {n : Fin 4096} {M : ℝ} (hM : val_main_v15 (F := Ideal) Q K (ix3 b h n) = M) :
    val_main_v20 (F := Ideal) Q K (ix3 b h n) = 0 + ∑ k : Fin 4096, Ideal.exp (score Q K b h n k * (Real.log 2 : ℝ) - M) := by
  have hb : (FloatOps.ofBits (F := Ideal) .f32 0x00000000#32 : EReal) = 0 := by
    simp [Ideal.ofBits, Ideal.ieee]
  rw [val_main_v20_apply, val_main_cst_2_apply, hb]
  refine congrArg (0 + ·) (Finset.sum_congr rfl fun k _ => ?_)
  rw [← weight Q K hM k]
  refine congrArg (val_main_v19 (F := Ideal) Q K) (funext fun a => ?_)
  match a with
  | ⟨0, _⟩ => rfl
  | ⟨1, _⟩ => rfl
  | ⟨2, _⟩ => rfl
  | ⟨3, _⟩ => rfl

/-- A weight, divided. -/
theorem share {b : Fin 16} {h : Fin 8} {n : Fin 4096} {M : ℝ} (hM : val_main_v15 (F := Ideal) Q K (ix3 b h n) = M) (j : Fin 4096) :
    val_main_v23 (F := Ideal) Q K (ix4 b h n j)
      = Ideal.div (Ideal.exp (score Q K b h n j * (Real.log 2 : ℝ) - M))
          (0 + ∑ k : Fin 4096, Ideal.exp (score Q K b h n k * (Real.log 2 : ℝ) - M)) := by
  rw [val_main_v23_apply, val_main_v22_apply, val_main_v21_apply, weight Q K hM, ← total Q K hM]
  refine congrArg (fun x => Ideal.div _ (val_main_v20 (F := Ideal) Q K x)) (funext fun a => ?_)
  match a with
  | ⟨0, _⟩ => rfl
  | ⟨1, _⟩ => rfl
  | ⟨2, _⟩ => rfl

/-- The reference's result is the attention. -/
theorem result (hQ : ∀ i, ∃ x : ℝ, Q i = x) (hK : ∀ i, ∃ x : ℝ, K i = x)
    (hW : ∀ (h : Fin 8) (b : Fin 128) (l : Fin 512), W (ix4 h b 128 l) = 1) :
    val_main_v27 (F := Ideal) Q K W = attAll Q K W := by
  funext y
  have h0 : (y 0).val < 65536 := (y 0).isLt
  have h1 : (y 1).val < 1024 := (y 1).isLt
  rw [val_main_v27_apply, val_main_v26_apply, val_main_v25_apply, val_main_v24_apply]
  obtain ⟨M, hM⟩ := max_real Q K hQ hK ⟨(y 0).val / 4096, by omega⟩ ⟨(y 1).val / 128, by omega⟩ ⟨(y 0).val % 4096, by omega⟩
  have hw : ∀ j, value W ⟨(y 0).val / 4096, by omega⟩ ⟨(y 1).val / 128, by omega⟩ ⟨128, by omega⟩ j = 1 := fun j => hW _ _ _
  have key := Online.softmax_eq (N := 4096) (v := value W ⟨(y 0).val / 4096, by omega⟩ ⟨(y 1).val / 128, by omega⟩ ⟨(y 1).val % 128, by omega⟩)
    (by norm_num) (score_real hQ hK ⟨(y 0).val / 4096, by omega⟩ ⟨(y 1).val / 128, by omega⟩ ⟨(y 0).val % 4096, by omega⟩) hw M
  refine Eq.trans ?_ key.symm
  show (∑ k : Fin 4096, _) = _
  refine Finset.sum_congr rfl fun j _ => ?_
  rw [← share Q K hM j, val]
  have hj : j.val < 4096 := j.isLt
  refine congrArg₂ (· * ·) (congrArg W (funext fun a => Fin.ext ?_)) (congrArg (val_main_v23 (F := Ideal) Q K) (funext fun a => Fin.ext ?_))
  · match a with
    | ⟨0, _⟩ => show ((y 0).val * 1024 + (y 1).val) / 128 % 8 = (y 1).val / 128; omega
    | ⟨1, _⟩ => show 8 * (((y 0).val * 1024 + (y 1).val) / 4194304) + j.val / 512 = 8 * ((y 0).val / 4096) + j.val / 512 % 8; omega
    | ⟨2, _⟩ => show ((y 0).val * 1024 + (y 1).val) % 128 = (y 1).val % 128; omega
    | ⟨3, _⟩ => rfl
  · match a with
    | ⟨0, _⟩ => show ((y 0).val * 1024 + (y 1).val) / 4194304 = (y 0).val / 4096; omega
    | ⟨1, _⟩ => show ((y 0).val * 1024 + (y 1).val) / 128 % 8 = (y 1).val / 128; omega
    | ⟨2, _⟩ => show ((y 0).val * 1024 + (y 1).val) / 1024 % 4096 = (y 0).val % 4096; omega
    | ⟨3, _⟩ => rfl

end Cert.Reference6Ideal.Att

end
-- ==== Proof.SampleAttPre.lean ====
/-
  What the precondition of the sample batch says over the reals: the queries and the keys are finite, the values' row 128 is one.
-/
module

public import proofs.«01_k».proof.Proof.Pre
public import proofs.«01_k».proof.Proof.Gen.Pre_finite_and_ones6
public import Idealize.ShloMosaic.Lib.ReduceAll
public import Idealize.ShloMosaic.Lib.Pointwise

@[expose] public section

set_option maxRecDepth 16384

noncomputable section

namespace Cert.Pre_finite_and_ones6.Att

open Cert.Pre_finite_and_ones6
open Idealize.ShloMosaic Idealize.ShloMosaic.TcCoe Idealize.ShloMosaic.Pointwise

variable [Facts] {Q : S8x128x256x512.Idx → EReal} {K : S8x65536x256.Idx → EReal} {W : S8x128x144x512.Idx → EReal}

theorem facts (h : fn (F := Ideal) Q K W = fun _ => 1#1) :
    (∀ i, ∃ x : ℝ, Q i = x) ∧ (∀ i, ∃ x : ℝ, K i = x)
      ∧ ∀ (h : Fin 8) (b : Fin 128) (l : Fin 512), W (ix4 h b 128 l) = 1 := by
  have h' := congrFun h (Shape.Idx.first Facts.h_S_)
  unfold fn at h'
  obtain ⟨h1, h3⟩ := IntOp.andi_eq_one.1 h'
  obtain ⟨h1, h2⟩ := IntOp.andi_eq_one.1 h1
  have : Subsingleton S_.Idx := ⟨fun a b => funext fun i => i.elim0⟩
  have g1 := Host.reduce_andi_all _ _ _ _ _ h1
  have g2 := Host.reduce_andi_all _ _ _ _ _ h2
  have g3 := Host.reduce_andi_all _ _ _ _ _ h3
  refine ⟨fun i => Cert.Pre_finite_and_ones.Att.real_of_abs (g1 i), fun i => Cert.Pre_finite_and_ones.Att.real_of_abs (g2 i), fun h b l => ?_⟩
  have := g3 (ix3 h b l)
  pointwise at this
  by_contra hne
  rw [decide_eq_false hne] at this
  exact absurd this (by decide)

end Cert.Pre_finite_and_ones6.Att

end
-- ==== Proof.SampleAttAlg.lean ====
/-
  For the sample batch, the attention and its reference end with the same array over the reals.
-/
module

public import proofs.«01_k».proof.Defs
public import proofs.«01_k».proof.Proof.SampleAttRef
public import proofs.«01_k».proof.Proof.SampleAttPre
public import Idealize.ShloMosaic.Lib.Claim

@[expose] public section

set_option maxRecDepth 16384

noncomputable section

open Idealize.ShloMosaic Idealize.ShloMosaic.TcCoe

namespace Cert

open Cert.Kernel6Ideal.Att (aQ aK aW attAll)

theorem algebraic6 :
    algebraic_Kernel6Ideal_Reference6Ideal_pre_finite_and_ones6 (hKernel6Ideal := Cert.Kernel6Ideal.Gen.facts)
      (hReference6Ideal := Cert.Reference6Ideal.Gen.facts) (hPre_finite_and_ones6 := Cert.Pre_finite_and_ones6.Gen.facts) := by
  intro m g m' g' hpre hargs
  refine ⟨fun c => attAll (aQ m c) (aK m c) (aW m c), ?_, ?_⟩
  · refine (θ_run _ _ _).mono (fun r h c => ?_) (Cert.Kernel6Ideal.Att.run_main m g)
    obtain ⟨hQ, hK, _⟩ := Cert.Pre_finite_and_ones6.Att.facts (hpre c)
    exact ⟨((h.1 c).1 3).trans (Cert.Kernel6Ideal.Att.final m c hQ hK),
      ((h.1 c).1 0).trans (((Cert.Kernel6Ideal.Att.dats m 0 c).arrAt_in 0 rfl _).trans (Cert.Kernel6Ideal.Att.A_eq m c 0)),
      ((h.1 c).1 1).trans (((Cert.Kernel6Ideal.Att.dats m 0 c).arrAt_in 1 rfl _).trans (Cert.Kernel6Ideal.Att.A_eq m c 1)),
      ((h.1 c).1 2).trans (((Cert.Kernel6Ideal.Att.dats m 0 c).arrAt_in 2 rfl _).trans (Cert.Kernel6Ideal.Att.A_eq m c 2))⟩
  · refine (θ_run _ _ _).mono (fun r h c => ?_) (Cert.Reference6Ideal.Value.run (F := Ideal) m' g')
    obtain ⟨hQ, hK, hW⟩ := Cert.Pre_finite_and_ones6.Att.facts (hpre c)
    obtain ⟨e0, e1, e2⟩ := hargs c
    refine ⟨(h c).1.trans ((Cert.Reference6Ideal.Read.val_main_v27_eq _ _ _).trans ?_), (h c).2⟩
    rw [e0, e1, e2]
    exact Cert.Reference6Ideal.Att.result (aQ m c) (aK m c) (aW m c) hQ hK hW

end Cert

end
-- ==== Proof.RefFrame.lean ====
module

public import proofs.«01_k».proof.Defs
public import proofs.«01_k».proof.Proof.Gen.ReferenceIdeal
public import proofs.«01_k».proof.Proof.Gen.Reference2Ideal
public import proofs.«01_k».proof.Proof.Gen.Reference3Ideal
public import proofs.«01_k».proof.Proof.Gen.Reference4Ideal
public import proofs.«01_k».proof.Proof.Gen.Reference5Ideal
public import proofs.«01_k».proof.Proof.Gen.Reference6Ideal
public import Idealize.ShloMosaic.Lib.Claim
public import Idealize.ShloMosaic.Lib.Quiescent

@[expose] public section

noncomputable section

open Idealize.ShloMosaic Idealize.ShloMosaic.TcCoe
namespace Cert

/-- The reference consists of host operations only, so it runs to its end and leaves its arguments. -/
theorem quiescent_referenceIdeal :
    quiescent_ReferenceIdeal (hReferenceIdeal := Cert.ReferenceIdeal.Gen.facts) := by
  intro m g _
  have h : θ_run (Cert.ReferenceIdeal.defs (F := Ideal)) (onTc (τ := Cert.ReferenceIdeal.τ) (Cert.ReferenceIdeal.main (F := Ideal)))
      ⟨m, fun _ => 0, g⟩ (fun _ => True) := by hlo_run
  refine θ_run_and (Q₁ := fun r => ∀ c : Dev Cert.ReferenceIdeal.nD, _) (Q₂ := fun r => r.2.sem = fun _ => 0) ?_ ?_
  · hlo_run
  · exact (θ_run _ _ _).mono (fun r _ => sem_eq_zero_of_no_sems rfl r.2)
      h

/-- So does the reference of the call after the attention. -/
theorem quiescent_reference2Ideal :
    quiescent_Reference2Ideal (hReference2Ideal := Cert.Reference2Ideal.Gen.facts) := by
  intro m g _
  have h : θ_run (Cert.Reference2Ideal.defs (F := Ideal)) (onTc (τ := Cert.Reference2Ideal.τ) (Cert.Reference2Ideal.main (F := Ideal)))
      ⟨m, fun _ => 0, g⟩ (fun _ => True) := by hlo_run
  refine θ_run_and (Q₁ := fun r => ∀ c : Dev Cert.Reference2Ideal.nD, _) (Q₂ := fun r => r.2.sem = fun _ => 0) ?_ ?_
  · hlo_run
  · exact (θ_run _ _ _).mono (fun r _ => sem_eq_zero_of_no_sems rfl r.2)
      h

/-- So does the reference of the call before the attention. -/
theorem quiescent_reference3Ideal :
    quiescent_Reference3Ideal (hReference3Ideal := Cert.Reference3Ideal.Gen.facts) := by
  intro m g _
  have h : θ_run (Cert.Reference3Ideal.defs (F := Ideal)) (onTc (τ := Cert.Reference3Ideal.τ) (Cert.Reference3Ideal.main (F := Ideal)))
      ⟨m, fun _ => 0, g⟩ (fun _ => True) := by hlo_run
  refine θ_run_and (Q₁ := fun r => ∀ c : Dev Cert.Reference3Ideal.nD, _) (Q₂ := fun r => r.2.sem = fun _ => 0) ?_ ?_
  · hlo_run
  · exact (θ_run _ _ _).mono (fun r _ => sem_eq_zero_of_no_sems rfl r.2)
      h

/-- So does the reference of the call after the attention for the sample batch. -/
theorem quiescent_reference4Ideal :
    quiescent_Reference4Ideal (hReference4Ideal := Cert.Reference4Ideal.Gen.facts) := by
  intro m g _
  have h : θ_run (Cert.Reference4Ideal.defs (F := Ideal)) (onTc (τ := Cert.Reference4Ideal.τ) (Cert.Reference4Ideal.main (F := Ideal)))
      ⟨m, fun _ => 0, g⟩ (fun _ => True) := by hlo_run
  refine θ_run_and (Q₁ := fun r => ∀ c : Dev Cert.Reference4Ideal.nD, _) (Q₂ := fun r => r.2.sem = fun _ => 0) ?_ ?_
  · hlo_run
  · exact (θ_run _ _ _).mono (fun r _ => sem_eq_zero_of_no_sems rfl r.2)
      h

set_option maxHeartbeats 4000000 in
/-- So does the reference of the call before the attention for the sample batch. -/
theorem quiescent_reference5Ideal :
    quiescent_Reference5Ideal (hReference5Ideal := Cert.Reference5Ideal.Gen.facts) := by
  intro m g _
  have h : θ_run (Cert.Reference5Ideal.defs (F := Ideal)) (onTc (τ := Cert.Reference5Ideal.τ) (Cert.Reference5Ideal.main (F := Ideal)))
      ⟨m, fun _ => 0, g⟩ (fun _ => True) := by hlo_run
  refine θ_run_and (Q₁ := fun r => ∀ c : Dev Cert.Reference5Ideal.nD, _) (Q₂ := fun r => r.2.sem = fun _ => 0) ?_ ?_
  · hlo_run
  · exact (θ_run _ _ _).mono (fun r _ => sem_eq_zero_of_no_sems rfl r.2)
      h

/-- So does the reference of the attention of the sample batch. -/
theorem quiescent_reference6Ideal :
    quiescent_Reference6Ideal (hReference6Ideal := Cert.Reference6Ideal.Gen.facts) := by
  intro m g _
  have h : θ_run (Cert.Reference6Ideal.defs (F := Ideal)) (onTc (τ := Cert.Reference6Ideal.τ) (Cert.Reference6Ideal.main (F := Ideal)))
      ⟨m, fun _ => 0, g⟩ (fun _ => True) := by hlo_run
  refine θ_run_and (Q₁ := fun r => ∀ c : Dev Cert.Reference6Ideal.nD, _) (Q₂ := fun r => r.2.sem = fun _ => 0) ?_ ?_
  · hlo_run
  · exact (θ_run _ _ _).mono (fun r _ => sem_eq_zero_of_no_sems rfl r.2)
      h

end Cert
end
-- ==== Proof.lean ====
module

public import proofs.«01_k».proof.Defs
public import proofs.«01_k».proof.Proof.Twin
public import proofs.«01_k».proof.Proof.Algebraic
public import proofs.«01_k».proof.Proof.PostAlg
public import proofs.«01_k».proof.Proof.PreAlg
public import proofs.«01_k».proof.Proof.SamplePost
public import proofs.«01_k».proof.Proof.SampleAlg
public import proofs.«01_k».proof.Proof.SampleAttTwin
public import proofs.«01_k».proof.Proof.SampleAttAlg
public import proofs.«01_k».proof.Proof.RefFrame

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_finite_and_ones.Gen.facts, Cert.Pre_finite_and_ones6.Gen.facts,
    quiescent_kernel, quiescent_kernelIdeal, fun m g _ => quiescent_kernelIdeal m g trivial, quiescent_referenceIdeal,
    fun m g _ => quiescent_referenceIdeal m g trivial, fun m g _ => Cert.Kernel2.Gen.frame m g, fun m g _ => Cert.Kernel2Ideal.Gen.frame m g,
    quiescent_reference2Ideal, fun m g _ => Cert.Kernel3.Gen.frame m g, fun m g _ => Cert.Kernel3Ideal.Gen.frame m g, quiescent_reference3Ideal,
    fun m g _ => Cert.Kernel4.Gen.frame m g, fun m g _ => Cert.Kernel4Ideal.Gen.frame m g, quiescent_reference4Ideal,
    fun m g _ => Cert.Kernel5.Gen.frame m g, fun m g _ => Cert.Kernel5Ideal.Gen.frame m g, quiescent_reference5Ideal,
    quiescent_kernel6, quiescent_kernel6Ideal, fun m g _ => quiescent_kernel6Ideal m g trivial, quiescent_reference6Ideal,
    fun m g _ => quiescent_reference6Ideal m g trivial,
    trivial, algebraic, trivial, algebraic2, preserves3, algebraic3, trivial, algebraic4, preserves5, algebraic5,
    trivial, algebraic6⟩

end Cert.Proof

end
